-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_arguments [hPre_finite_arguments : Cert.Pre_finite_arguments.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_arguments.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_arguments [hPre_finite_arguments : Cert.Pre_finite_arguments.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_arguments.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_arguments [hKernel4Ideal : Cert.Kernel4Ideal.Facts] [hPre_finite_arguments : Cert.Pre_finite_arguments.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_arguments m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_arguments [hReference4Ideal : Cert.Reference4Ideal.Facts] [hPre_finite_arguments : Cert.Pre_finite_arguments.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_arguments m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "scale" .f32 0x3D8293EE#32 (((Real.sqrt 512)⁻¹ * (Real.log 2)⁻¹ : ℝ) : EReal)

def algebraic_Kernel4Ideal_Reference4Ideal_pre_finite_arguments [hKernel4Ideal : Cert.Kernel4Ideal.Facts] [hReference4Ideal : Cert.Reference4Ideal.Facts] [hPre_finite_arguments : Cert.Pre_finite_arguments.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_arguments m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_arguments : Cert.Pre_finite_arguments.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_arguments (hKernel4Ideal := hKernel4Ideal) (hPre_finite_arguments := hPre_finite_arguments)
    ∧ quiescent_Reference4Ideal (hReference4Ideal := hReference4Ideal)
    ∧ quiescent_Reference4Ideal_pre_finite_arguments (hReference4Ideal := hReference4Ideal) (hPre_finite_arguments := hPre_finite_arguments)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_arguments (hKernel4Ideal := hKernel4Ideal) (hReference4Ideal := hReference4Ideal) (hPre_finite_arguments := hPre_finite_arguments)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_arguments.lean ====
abbrev S8192x1024 : Shape := ⟨2, ![8192, 1024]⟩
abbrev S2048x2048 : Shape := ⟨2, ![2048, 2048]⟩
abbrev S2048 : Shape := ⟨1, ![2048]⟩
abbrev S1024x4096 : Shape := ⟨2, ![1024, 4096]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x4096 : S_.BroadcastsInDim S1024x4096 (![] : Fin 0 → Fin S1024x4096.rank)
  reducesTo_S1024x4096_S_d0_1 : S1024x4096.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S2048x2048 .f32) (main_arg5 : FVec F S1024x4096 .bf16) (main_arg7 : FVec F S8192x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1024x4096 .bf16 := Host.absf main_arg5
  let main_cst_8 : FVec F S_ .bf16 := constant S_ .bf16 0x7F80#16
  let main_v25 : FVec F S1024x4096 .bf16 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S8192x2048 .f32 := Host.absf main_arg7
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  main_v33

def fn {F : FTy → Type} [FloatOps F] (main_arg0 : FVec F S8192x1024 .bf16) (main_arg1 : FVec F S8192x1024 .bf16) (main_arg2 : FVec F S2048x2048 .f32) (main_arg3 : FVec F S2048 .f32) (main_arg4 : FVec F S2048x2048 .f32) (main_arg5 : FVec F S1024x4096 .bf16) (main_arg6 : FVec F S2048x2048 .f32) (main_arg7 : FVec F S8192x2048 .f32) (main_arg8 : FVec F S2048 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg7 main_v13 main_v16
-- ==== Kernel.lean ====
abbrev S8192x2048 : Shape := ⟨2, ![8192, 2048]⟩
abbrev S2048x8192 : Shape := ⟨2, ![2048, 8192]⟩
abbrev S2048 : Shape := ⟨1, ![2048]⟩
abbrev S2048x8x1024 : Shape := ⟨3, ![2048, 8, 1024]⟩
abbrev S8x2048x1024 : Shape := ⟨3, ![8, 2048, 1024]⟩
abbrev S1x2048 : Shape := ⟨2, ![1, 2048]⟩
abbrev S2x512x2048 : Shape := ⟨3, ![2, 512, 2048]⟩
abbrev S2 : Shape := ⟨1, ![2]⟩
abbrev S3x2048x1024 : Shape := ⟨3, ![3, 2048, 1024]⟩
abbrev S3 : Shape := ⟨1, ![3]⟩
abbrev S3x1024x2048 : Shape := ⟨3, ![3, 1024, 2048]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S8192x2048, .bf16⟩
  | .hbm, ⟨9, _⟩ => ⟨S1x2048, .f32⟩
  | .hbm, ⟨10, _⟩ => ⟨S8192x2048, .f32⟩
  | .hbm, ⟨11, _⟩ => ⟨S8192x2048, .f32⟩
  | .local _ .vmem, ⟨0, _⟩ => ⟨S2x512x2048, .bf16⟩
  | .local _ .vmem, ⟨1, _⟩ => ⟨S3x2048x1024, .bf16⟩
  | .local _ .vmem, ⟨2, _⟩ => ⟨S3x1024x2048, .bf16⟩
  | .local _ .vmem, ⟨3, _⟩ => ⟨S2x512x2048, .f32⟩
  | .local _ .vmem, ⟨4, _⟩ => ⟨S1x2048, .f32⟩
  | .local _ .vmem, ⟨5, _⟩ => ⟨S2x512x2048, .f32⟩
  | .local _ .vmem, ⟨6, _⟩ => ⟨S2x512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped9 : Ref sig .tc := ⟨.vmem, 5, rfl⟩
abbrev cc0_scoped11 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c2_i32_r0 : BitVec 32 := 2#32
  let v42_r0 : BitVec 32 := Scalar.remui c0_i32_38_r0 c2_i32_r0
  ![v42_r0.toNat]
def k0_off2 : Fin 3 → Nat :=
  let c0_i32_38_r0 : BitVec 32 := 0#32
  let c2_i32_r0 : BitVec 32 := 2#32
  let v42_r0 : BitVec 32 := Scalar.remui c0_i32_38_r0 c2_i32_r0
  let c0_i32_39_r0 : BitVec 32 := 0#32
  let c0_i32_40_r0 : BitVec 32 := 0#32
  ![v42_r0.toNat, 0, 0]
def k0_off3 : Fin 1 → Nat :=
  let c0_i32_45_r0 : BitVec 32 := 0#32
  let c3_i32_r0 : BitVec 32 := 3#32
  let v49_r0 : BitVec 32 := Scalar.remui c0_i32_45_r0 c3_i32_r0
  ![v49_r0.toNat]
def k0_off4 : Fin 3 → Nat :=
  let c0_i32_45_r0 : BitVec 32 := 0#32
  let c3_i32_r0 : BitVec 32 := 3#32
  let v49_r0 : BitVec 32 := Scalar.remui c0_i32_45_r0 c3_i32_r0
  let c0_i32_47_r0 : BitVec 32 := 0#32
  let c0_i32_48_r0 : BitVec 32 := 0#32
  ![v49_r0.toNat, 0, 0]
def k0_off5 : Fin 3 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  ![v57_r0.toNat, 0, 0]
def k0_cond1 : BitVec 1 :=
  let true_70_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_69_r0 : BitVec 32 := 0#32
  let v71_r0 : BitVec 1 := Scalar.cmpi .ne v21_r0 c0_i32_69_r0
  let v72_r0 : BitVec 1 := Scalar.andi true_70_r0 v71_r0
  let true_71_r0 : BitVec 1 := 1#1
  let v73_r0 : BitVec 1 := Scalar.andi v72_r0 true_71_r0
  let v74_r0 : BitVec 32 := Scalar.extui v73_r0
  let c0_i32_72_r0 : BitVec 32 := 0#32
  let v75_r0 : BitVec 1 := Scalar.cmpi .ne v74_r0 c0_i32_72_r0
  v75_r0

def k0_off6 : Fin 1 → Nat :=
  let c0_i32_51_r0 : BitVec 32 := 0#32
  let c1_i32_52_r0 : BitVec 32 := 1#32
  let v56_r0 : BitVec 32 := Scalar.addi c0_i32_51_r0 c1_i32_52_r0
  let c3_i32_148_r0 : BitVec 32 := 3#32
  let v151_r0 : BitVec 32 := Scalar.remui v56_r0 c3_i32_148_r0
  ![v151_r0.toNat]
def k0_off7 : Fin 3 → Nat :=
  let c0_i32_51_r0 : BitVec 32 := 0#32
  let c1_i32_52_r0 : BitVec 32 := 1#32
  let v56_r0 : BitVec 32 := Scalar.addi c0_i32_51_r0 c1_i32_52_r0
  let c3_i32_148_r0 : BitVec 32 := 3#32
  let v151_r0 : BitVec 32 := Scalar.remui v56_r0 c3_i32_148_r0
  let c0_i32_149_r0 : BitVec 32 := 0#32
  let c0_i32_150_r0 : BitVec 32 := 0#32
  ![v151_r0.toNat, 0, 0]
def k0_off8 : Fin 3 → Nat :=
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_151_r0 : BitVec 32 := 0#32
  let c0_i32_152_r0 : BitVec 32 := 0#32
  ![v21_r0.toNat, 0, 0]
def k0_cond2 : BitVec 1 :=
  let true_75_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_74_r0 : BitVec 32 := 0#32
  let v78_r0 : BitVec 1 := Scalar.cmpi .ne v21_r0 c0_i32_74_r0
  let v79_r0 : BitVec 1 := Scalar.andi true_75_r0 v78_r0
  let true_76_r0 : BitVec 1 := 1#1
  let v80_r0 : BitVec 1 := Scalar.andi v79_r0 true_76_r0
  let v81_r0 : BitVec 32 := Scalar.extui v80_r0
  let c0_i32_77_r0 : BitVec 32 := 0#32
  let v82_r0 : BitVec 1 := Scalar.cmpi .ne v81_r0 c0_i32_77_r0
  v82_r0

def k0_off9 : Fin 1 → Nat :=
  let c0_i32_59_r0 : BitVec 32 := 0#32
  let c1_i32_60_r0 : BitVec 32 := 1#32
  let v63_r0 : BitVec 32 := Scalar.addi c0_i32_59_r0 c1_i32_60_r0
  let c3_i32_148_r0 : BitVec 32 := 3#32
  let v151_r0 : BitVec 32 := Scalar.remui v63_r0 c3_i32_148_r0
  ![v151_r0.toNat]
def k0_off10 : Fin 3 → Nat :=
  let c0_i32_59_r0 : BitVec 32 := 0#32
  let c1_i32_60_r0 : BitVec 32 := 1#32
  let v63_r0 : BitVec 32 := Scalar.addi c0_i32_59_r0 c1_i32_60_r0
  let c3_i32_148_r0 : BitVec 32 := 3#32
  let v151_r0 : BitVec 32 := Scalar.remui v63_r0 c3_i32_148_r0
  let c0_i32_149_r0 : BitVec 32 := 0#32
  let c0_i32_150_r0 : BitVec 32 := 0#32
  ![v151_r0.toNat, 0, 0]
def k0_off11 : Fin 2 → Nat :=
  let c1024_i32_r0 : BitVec 32 := 1024#32
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let v152_r0 : BitVec 32 := Scalar.muli c1024_i32_r0 v21_r0
  let c0_i32_151_r0 : BitVec 32 := 0#32
  ![v152_r0.toNat, 0]
@[reducible] def k0_t1_loop : Scf.Loop 32 :=
  let c0_i32_91_r0 : BitVec 32 := 0#32
  let c128_i32_r0 : BitVec 32 := 128#32
  let v85_r0 : BitVec 32 := Scalar.addi c0_i32_91_r0 c128_i32_r0
  let c1_i32_92_r0 : BitVec 32 := 1#32
  ⟨c0_i32_91_r0, v85_r0, c1_i32_92_r0⟩
def k0_off12 (arg8_r0 : BitVec 32) : Fin 1 → Nat :=
  let c2_i32_293_r0 : BitVec 32 := 2#32
  let v415_r0 : BitVec 32 := Scalar.remui arg8_r0 c2_i32_293_r0
  ![v415_r0.toNat]
def k0_cond3 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v195_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_187_r0 : BitVec 32 := 127#32
  let v196_r0 : BitVec 1 := Scalar.cmpi .sge arg7_r0 c127_i32_187_r0
  let true_188_r0 : BitVec 1 := 1#1
  let v197_r0 : BitVec 1 := Scalar.xori v196_r0 true_188_r0
  let v198_r0 : BitVec 1 := Scalar.andi v195_r0 v197_r0
  let true_189_r0 : BitVec 1 := 1#1
  let v199_r0 : BitVec 1 := Scalar.andi v198_r0 true_189_r0
  let v200_r0 : BitVec 32 := Scalar.extui v199_r0
  let c0_i32_190_r0 : BitVec 32 := 0#32
  let v201_r0 : BitVec 1 := Scalar.cmpi .ne v200_r0 c0_i32_190_r0
  v201_r0

def k0_off13 (arg8_r0 : BitVec 32) : Fin 3 → Nat :=
  let c2_i32_293_r0 : BitVec 32 := 2#32
  let v415_r0 : BitVec 32 := Scalar.remui arg8_r0 c2_i32_293_r0
  let c0_i32_295_r0 : BitVec 32 := 0#32
  let c0_i32_296_r0 : BitVec 32 := 0#32
  ![v415_r0.toNat, 0, 0]
def k0_off14 (arg21_r0 : BitVec 32) (arg22_r0 : BitVec 32) : Fin 2 → Nat :=
  let c512_i32_294_r0 : BitVec 32 := 512#32
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v416_r0 : BitVec 32 := Scalar.muli c512_i32_294_r0 v173_r0
  let c0_i32_297_r0 : BitVec 32 := 0#32
  ![v416_r0.toNat, 0]
def k0_off15 (arg10_r0 : BitVec 32) : Fin 1 → Nat :=
  let c3_i32_293_r0 : BitVec 32 := 3#32
  let v415_r0 : BitVec 32 := Scalar.remui arg10_r0 c3_i32_293_r0
  ![v415_r0.toNat]
def k0_cond4 (k0_t1 : Fin k0_t1_loop.trips) (arg22_r0 : BitVec 32) : BitVec 1 :=
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c0_i32_168_r0 : BitVec 32 := 0#32
  let v174_r0 : BitVec 32 := Scalar.addi v168_r0 c0_i32_168_r0
  let true_170_r0 : BitVec 1 := 1#1
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v205_r0 : BitVec 1 := Scalar.cmpi .ne v174_r0 v184_r0
  let c0_i32_91_r0 : BitVec 32 := 0#32
  let c1_i32_92_r0 : BitVec 32 := 1#32
  let arg7_r0 : BitVec 32 := Scf.iv c0_i32_91_r0 c1_i32_92_r0 k0_t1
  let c126_i32_r0 : BitVec 32 := 126#32
  let v206_r0 : BitVec 1 := Scalar.cmpi .sge arg7_r0 c126_i32_r0
  let true_193_r0 : BitVec 1 := 1#1
  let v207_r0 : BitVec 1 := Scalar.xori v206_r0 true_193_r0
  let v208_r0 : BitVec 1 := Scalar.andi v205_r0 v207_r0
  let true_194_r0 : BitVec 1 := 1#1
  let v209_r0 : BitVec 1 := Scalar.andi v208_r0 true_194_r0
  let v210_r0 : BitVec 32 := Scalar.extui v209_r0
  let c0_i32_195_r0 : BitVec 32 := 0#32
  let v211_r0 : BitVec 1 := Scalar.cmpi .ne v210_r0 c0_i32_195_r0
  v211_r0

def k0_off16 (arg10_r0 : BitVec 32) : Fin 3 → Nat :=
  let c3_i32_293_r0 : BitVec 32 := 3#32
  let v415_r0 : BitVec 32 := Scalar.remui arg10_r0 c3_i32_293_r0
  let c0_i32_294_r0 : BitVec 32 := 0#32
  let c0_i32_295_r0 : BitVec 32 := 0#32
  ![v415_r0.toNat, 0, 0]
def k0_off17 (arg22_r0 : BitVec 32) : Fin 3 → Nat :=
  let true_170_r0 : BitVec 1 := 1#1
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let c0_i32_296_r0 : BitVec 32 := 0#32
  let c0_i32_297_r0 : BitVec 32 := 0#32
  ![v184_r0.toNat, 0, 0]
def k0_off18 (arg12_r0 : BitVec 32) : Fin 1 → Nat :=
  let c3_i32_293_r0 : BitVec 32 := 3#32
  let v415_r0 : BitVec 32 := Scalar.remui arg12_r0 c3_i32_293_r0
  ![v415_r0.toNat]
def k0_cond5 (k0_t1 : Fin k0_t1_loop.trips) (arg22_r0 : BitVec 32) : BitVec 1 :=
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c0_i32_168_r0 : BitVec 32 := 0#32
  let v174_r0 : BitVec 32 := Scalar.addi v168_r0 c0_i32_168_r0
  let true_170_r0 : BitVec 1 := 1#1
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v215_r0 : BitVec 1 := Scalar.cmpi .ne v174_r0 v184_r0
  let c0_i32_91_r0 : BitVec 32 := 0#32
  let c1_i32_92_r0 : BitVec 32 := 1#32
  let arg7_r0 : BitVec 32 := Scf.iv c0_i32_91_r0 c1_i32_92_r0 k0_t1
  let c126_i32_198_r0 : BitVec 32 := 126#32
  let v216_r0 : BitVec 1 := Scalar.cmpi .sge arg7_r0 c126_i32_198_r0
  let true_199_r0 : BitVec 1 := 1#1
  let v217_r0 : BitVec 1 := Scalar.xori v216_r0 true_199_r0
  let v218_r0 : BitVec 1 := Scalar.andi v215_r0 v217_r0
  let true_200_r0 : BitVec 1 := 1#1
  let v219_r0 : BitVec 1 := Scalar.andi v218_r0 true_200_r0
  let v220_r0 : BitVec 32 := Scalar.extui v219_r0
  let c0_i32_201_r0 : BitVec 32 := 0#32
  let v221_r0 : BitVec 1 := Scalar.cmpi .ne v220_r0 c0_i32_201_r0
  v221_r0

def k0_off19 (arg12_r0 : BitVec 32) : Fin 3 → Nat :=
  let c3_i32_293_r0 : BitVec 32 := 3#32
  let v415_r0 : BitVec 32 := Scalar.remui arg12_r0 c3_i32_293_r0
  let c0_i32_294_r0 : BitVec 32 := 0#32
  let c0_i32_295_r0 : BitVec 32 := 0#32
  ![v415_r0.toNat, 0, 0]
def k0_off20 (arg22_r0 : BitVec 32) : Fin 2 → Nat :=
  let c1024_i32_r0 : BitVec 32 := 1024#32
  let true_170_r0 : BitVec 1 := 1#1
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v416_r0 : BitVec 32 := Scalar.muli c1024_i32_r0 v184_r0
  let c0_i32_296_r0 : BitVec 32 := 0#32
  ![v416_r0.toNat, 0]
def k0_off21 (arg14_r0 : BitVec 32) : Fin 1 → Nat :=
  let c2_i32_293_r0 : BitVec 32 := 2#32
  let v415_r0 : BitVec 32 := Scalar.remui arg14_r0 c2_i32_293_r0
  ![v415_r0.toNat]
def k0_cond6 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v225_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_204_r0 : BitVec 32 := 127#32
  let v226_r0 : BitVec 1 := Scalar.cmpi .sge arg7_r0 c127_i32_204_r0
  let true_205_r0 : BitVec 1 := 1#1
  let v227_r0 : BitVec 1 := Scalar.xori v226_r0 true_205_r0
  let v228_r0 : BitVec 1 := Scalar.andi v225_r0 v227_r0
  let true_206_r0 : BitVec 1 := 1#1
  let v229_r0 : BitVec 1 := Scalar.andi v228_r0 true_206_r0
  let v230_r0 : BitVec 32 := Scalar.extui v229_r0
  let c0_i32_207_r0 : BitVec 32 := 0#32
  let v231_r0 : BitVec 1 := Scalar.cmpi .ne v230_r0 c0_i32_207_r0
  v231_r0

def k0_off22 (arg14_r0 : BitVec 32) : Fin 3 → Nat :=
  let c2_i32_293_r0 : BitVec 32 := 2#32
  let v415_r0 : BitVec 32 := Scalar.remui arg14_r0 c2_i32_293_r0
  let c0_i32_295_r0 : BitVec 32 := 0#32
  let c0_i32_296_r0 : BitVec 32 := 0#32
  ![v415_r0.toNat, 0, 0]
def k0_off23 (arg21_r0 : BitVec 32) (arg22_r0 : BitVec 32) : Fin 2 → Nat :=
  let c512_i32_294_r0 : BitVec 32 := 512#32
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v416_r0 : BitVec 32 := Scalar.muli c512_i32_294_r0 v173_r0
  let c0_i32_297_r0 : BitVec 32 := 0#32
  ![v416_r0.toNat, 0]
def k0_off24 (arg9_r0 : BitVec 32) : Fin 1 → Nat :=
  let c2_i32_294_r0 : BitVec 32 := 2#32
  let v416_r0 : BitVec 32 := Scalar.remui arg9_r0 c2_i32_294_r0
  ![v416_r0.toNat]
def k0_cond7 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v243_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v244_r0 : BitVec 1 := Scalar.ori v243_r0 v151_r0
  let c0_i32_214_r0 : BitVec 32 := 0#32
  let v245_r0 : BitVec 1 := Scalar.cmpi .sge arg7_r0 c0_i32_214_r0
  let v246_r0 : BitVec 1 := Scalar.andi v244_r0 v245_r0
  let v247_r0 : BitVec 32 := Scalar.extui v246_r0
  let c0_i32_215_r0 : BitVec 32 := 0#32
  let v248_r0 : BitVec 1 := Scalar.cmpi .ne v247_r0 c0_i32_215_r0
  v248_r0

def k0_off25 (arg9_r0 : BitVec 32) : Fin 3 → Nat :=
  let c2_i32_294_r0 : BitVec 32 := 2#32
  let v416_r0 : BitVec 32 := Scalar.remui arg9_r0 c2_i32_294_r0
  let c0_i32_295_r0 : BitVec 32 := 0#32
  let c0_i32_296_r0 : BitVec 32 := 0#32
  ![v416_r0.toNat, 0, 0]
def k0_off26 (arg21_r0 : BitVec 32) : Fin 2 → Nat :=
  let c512_i32_293_r0 : BitVec 32 := 512#32
  let c0_i32_149_r0 : BitVec 32 := 0#32
  let v153_r0 : BitVec 32 := Scalar.addi arg21_r0 c0_i32_149_r0
  let v415_r0 : BitVec 32 := Scalar.muli c512_i32_293_r0 v153_r0
  let c0_i32_297_r0 : BitVec 32 := 0#32
  ![v415_r0.toNat, 0]
def k0_off27 (arg11_r0 : BitVec 32) : Fin 1 → Nat :=
  let c3_i32_293_r0 : BitVec 32 := 3#32
  let v415_r0 : BitVec 32 := Scalar.remui arg11_r0 c3_i32_293_r0
  ![v415_r0.toNat]
def k0_cond8 (k0_t1 : Fin k0_t1_loop.trips) (arg22_r0 : BitVec 32) : BitVec 1 :=
  let c0_i32_150_r0 : BitVec 32 := 0#32
  let v154_r0 : BitVec 32 := Scalar.addi arg22_r0 c0_i32_150_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c7_i32_154_r0 : BitVec 32 := 7#32
  let v158_r0 : BitVec 32 := Scalar.select v157_r0 c7_i32_154_r0 v156_r0
  let c0_i32_159_r0 : BitVec 32 := 0#32
  let v164_r0 : BitVec 32 := Scalar.addi v158_r0 c0_i32_159_r0
  let v249_r0 : BitVec 1 := Scalar.cmpi .ne v154_r0 v164_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v250_r0 : BitVec 1 := Scalar.ori v249_r0 v151_r0
  let c0_i32_216_r0 : BitVec 32 := 0#32
  let v251_r0 : BitVec 1 := Scalar.cmpi .sge arg7_r0 c0_i32_216_r0
  let v252_r0 : BitVec 1 := Scalar.andi v250_r0 v251_r0
  let v253_r0 : BitVec 32 := Scalar.extui v252_r0
  let c0_i32_217_r0 : BitVec 32 := 0#32
  let v254_r0 : BitVec 1 := Scalar.cmpi .ne v253_r0 c0_i32_217_r0
  v254_r0

def k0_off28 (arg11_r0 : BitVec 32) : Fin 3 → Nat :=
  let c3_i32_293_r0 : BitVec 32 := 3#32
  let v415_r0 : BitVec 32 := Scalar.remui arg11_r0 c3_i32_293_r0
  let c0_i32_294_r0 : BitVec 32 := 0#32
  let c0_i32_295_r0 : BitVec 32 := 0#32
  ![v415_r0.toNat, 0, 0]
def k0_off29 (arg22_r0 : BitVec 32) : Fin 3 → Nat :=
  let c0_i32_150_r0 : BitVec 32 := 0#32
  let v154_r0 : BitVec 32 := Scalar.addi arg22_r0 c0_i32_150_r0
  let c0_i32_296_r0 : BitVec 32 := 0#32
  let c0_i32_297_r0 : BitVec 32 := 0#32
  ![v154_r0.toNat, 0, 0]
def k0_off30 (arg13_r0 : BitVec 32) : Fin 1 → Nat :=
  let c3_i32_293_r0 : BitVec 32 := 3#32
  let v416_r0 : BitVec 32 := Scalar.remui arg13_r0 c3_i32_293_r0
  ![v416_r0.toNat]
def k0_cond9 (k0_t1 : Fin k0_t1_loop.trips) (arg22_r0 : BitVec 32) : BitVec 1 :=
  let c0_i32_150_r0 : BitVec 32 := 0#32
  let v154_r0 : BitVec 32 := Scalar.addi arg22_r0 c0_i32_150_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c7_i32_154_r0 : BitVec 32 := 7#32
  let v158_r0 : BitVec 32 := Scalar.select v157_r0 c7_i32_154_r0 v156_r0
  let c0_i32_159_r0 : BitVec 32 := 0#32
  let v164_r0 : BitVec 32 := Scalar.addi v158_r0 c0_i32_159_r0
  let v255_r0 : BitVec 1 := Scalar.cmpi .ne v154_r0 v164_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v256_r0 : BitVec 1 := Scalar.ori v255_r0 v151_r0
  let c0_i32_218_r0 : BitVec 32 := 0#32
  let v257_r0 : BitVec 1 := Scalar.cmpi .sge arg7_r0 c0_i32_218_r0
  let v258_r0 : BitVec 1 := Scalar.andi v256_r0 v257_r0
  let v259_r0 : BitVec 32 := Scalar.extui v258_r0
  let c0_i32_219_r0 : BitVec 32 := 0#32
  let v260_r0 : BitVec 1 := Scalar.cmpi .ne v259_r0 c0_i32_219_r0
  v260_r0

def k0_off31 (arg13_r0 : BitVec 32) : Fin 3 → Nat :=
  let c3_i32_293_r0 : BitVec 32 := 3#32
  let v416_r0 : BitVec 32 := Scalar.remui arg13_r0 c3_i32_293_r0
  let c0_i32_294_r0 : BitVec 32 := 0#32
  let c0_i32_295_r0 : BitVec 32 := 0#32
  ![v416_r0.toNat, 0, 0]
def k0_off32 (arg22_r0 : BitVec 32) : Fin 2 → Nat :=
  let c1024_i32_r0 : BitVec 32 := 1024#32
  let c0_i32_150_r0 : BitVec 32 := 0#32
  let v154_r0 : BitVec 32 := Scalar.addi arg22_r0 c0_i32_150_r0
  let v415_r0 : BitVec 32 := Scalar.muli c1024_i32_r0 v154_r0
  let c0_i32_296_r0 : BitVec 32 := 0#32
  ![v415_r0.toNat, 0]
def k0_off33 (arg15_r0 : BitVec 32) : Fin 1 → Nat :=
  let c2_i32_294_r0 : BitVec 32 := 2#32
  let v416_r0 : BitVec 32 := Scalar.remui arg15_r0 c2_i32_294_r0
  ![v416_r0.toNat]
def k0_cond10 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v261_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v262_r0 : BitVec 1 := Scalar.ori v261_r0 v151_r0
  let c0_i32_220_r0 : BitVec 32 := 0#32
  let v263_r0 : BitVec 1 := Scalar.cmpi .sge arg7_r0 c0_i32_220_r0
  let v264_r0 : BitVec 1 := Scalar.andi v262_r0 v263_r0
  let v265_r0 : BitVec 32 := Scalar.extui v264_r0
  let c0_i32_221_r0 : BitVec 32 := 0#32
  let v266_r0 : BitVec 1 := Scalar.cmpi .ne v265_r0 c0_i32_221_r0
  v266_r0

def k0_off34 (arg15_r0 : BitVec 32) : Fin 3 → Nat :=
  let c2_i32_294_r0 : BitVec 32 := 2#32
  let v416_r0 : BitVec 32 := Scalar.remui arg15_r0 c2_i32_294_r0
  let c0_i32_295_r0 : BitVec 32 := 0#32
  let c0_i32_296_r0 : BitVec 32 := 0#32
  ![v416_r0.toNat, 0, 0]
def k0_off35 (arg21_r0 : BitVec 32) : Fin 2 → Nat :=
  let c512_i32_293_r0 : BitVec 32 := 512#32
  let c0_i32_149_r0 : BitVec 32 := 0#32
  let v153_r0 : BitVec 32 := Scalar.addi arg21_r0 c0_i32_149_r0
  let v415_r0 : BitVec 32 := Scalar.muli c512_i32_293_r0 v153_r0
  let c0_i32_297_r0 : BitVec 32 := 0#32
  ![v415_r0.toNat, 0]
def k0_off36 (arg15_r0 : BitVec 32) : Fin 3 → Nat :=
  let c2_i32_229_r0 : BitVec 32 := 2#32
  let v282_r0 : BitVec 32 := Scalar.remui arg15_r0 c2_i32_229_r0
  let v415_r0 : Index := Scalar.indexCast v282_r0
  let c0_293_r0 : Index := 0#32
  let c0_294_r0 : Index := 0#32
  ![v415_r0.toNat, 0, 0]
def k0_cond13 (arg22_r0 : BitVec 32) : BitVec 1 :=
  let c0_i32_150_r0 : BitVec 32 := 0#32
  let v154_r0 : BitVec 32 := Scalar.addi arg22_r0 c0_i32_150_r0
  let c0_i32_232_r0 : BitVec 32 := 0#32
  let v285_r0 : BitVec 1 := Scalar.cmpi .eq v154_r0 c0_i32_232_r0
  let v286_r0 : BitVec 32 := Scalar.extui v285_r0
  let c0_i32_233_r0 : BitVec 32 := 0#32
  let v287_r0 : BitVec 1 := Scalar.cmpi .ne v286_r0 c0_i32_233_r0
  v287_r0

def k0_off37 (arg17_r0 : BitVec 32) : Fin 3 → Nat :=
  let c2_i32_230_r0 : BitVec 32 := 2#32
  let v283_r0 : BitVec 32 := Scalar.remui arg17_r0 c2_i32_230_r0
  let v418_r0 : Index := Scalar.indexCast v283_r0
  let c0_295_r0 : Index := 0#32
  let c0_296_r0 : Index := 0#32
  ![v418_r0.toNat, 0, 0]
def k0_off38 (arg9_r0 : BitVec 32) : Fin 3 → Nat :=
  let c2_i32_226_r0 : BitVec 32 := 2#32
  let v279_r0 : BitVec 32 := Scalar.remui arg9_r0 c2_i32_226_r0
  let v288_r0 : Index := Scalar.indexCast v279_r0
  let c0_r0 : Index := 0#32
  let c0_234_r0 : Index := 0#32
  ![v288_r0.toNat, 0, 0]

def k0_chk2 (arg9_r0 : BitVec 32) : Prop :=
  (∀ a, (k0_off38 arg9_r0) a + S1x512x2048.size a ≤ S2x512x2048.size a)
theorem k0_off38_inb : ∀ (arg9_r0 : BitVec 32) (k0_hw2 : k0_chk2 arg9_r0), ∀ a, (k0_off38 arg9_r0) a + S1x512x2048.size a ≤ S2x512x2048.size a := fun arg9_r0 k0_hw2 => k0_hw2

def k0_off39 (arg11_r0 : BitVec 32) : Fin 3 → Nat :=
  let c3_i32_227_r0 : BitVec 32 := 3#32
  let v280_r0 : BitVec 32 := Scalar.remui arg11_r0 c3_i32_227_r0
  let v291_r0 : Index := Scalar.indexCast v280_r0
  let c0_235_r0 : Index := 0#32
  let c0_236_r0 : Index := 0#32
  ![v291_r0.toNat, 0, 0]

def k0_chk3 (arg11_r0 : BitVec 32) : Prop :=
  (∀ a, (k0_off39 arg11_r0) a + S1x2048x1024.size a ≤ S3x2048x1024.size a)
theorem k0_off39_inb : ∀ (arg11_r0 : BitVec 32) (k0_hw3 : k0_chk3 arg11_r0), ∀ a, (k0_off39 arg11_r0) a + S1x2048x1024.size a ≤ S3x2048x1024.size a := fun arg11_r0 k0_hw3 => k0_hw3

def k0_off40 (arg17_r0 : BitVec 32) : Fin 3 → Nat :=
  let c2_i32_230_r0 : BitVec 32 := 2#32
  let v283_r0 : BitVec 32 := Scalar.remui arg17_r0 c2_i32_230_r0
  let v299_r0 : Index := Scalar.indexCast v283_r0
  let c0_238_r0 : Index := 0#32
  let c0_239_r0 : Index := 0#32
  ![v299_r0.toNat, 0, 0]

def k0_chk4 (arg17_r0 : BitVec 32) : Prop :=
  (∀ a, (k0_off40 arg17_r0) a + S1x512x2048.size a ≤ S2x512x2048.size a)
theorem k0_off40_inb : ∀ (arg17_r0 : BitVec 32) (k0_hw4 : k0_chk4 arg17_r0), ∀ a, (k0_off40 arg17_r0) a + S1x512x2048.size a ≤ S2x512x2048.size a := fun arg17_r0 k0_hw4 => k0_hw4

def k0_off41 (arg13_r0 : BitVec 32) : Fin 3 → Nat :=
  let c3_i32_228_r0 : BitVec 32 := 3#32
  let v281_r0 : BitVec 32 := Scalar.remui arg13_r0 c3_i32_228_r0
  let v302_r0 : Index := Scalar.indexCast v281_r0
  let c0_240_r0 : Index := 0#32
  let c0_241_r0 : Index := 0#32
  ![v302_r0.toNat, 0, 0]

def k0_chk5 (arg13_r0 : BitVec 32) : Prop :=
  (∀ a, (k0_off41 arg13_r0) a + S1x1024x2048.size a ≤ S3x1024x2048.size a)
theorem k0_off41_inb : ∀ (arg13_r0 : BitVec 32) (k0_hw5 : k0_chk5 arg13_r0), ∀ a, (k0_off41 arg13_r0) a + S1x1024x2048.size a ≤ S3x1024x2048.size a := fun arg13_r0 k0_hw5 => k0_hw5

def k0_off42 (arg17_r0 : BitVec 32) : Fin 3 → Nat :=
  let c2_i32_230_r0 : BitVec 32 := 2#32
  let v283_r0 : BitVec 32 := Scalar.remui arg17_r0 c2_i32_230_r0
  let v415_r0 : Index := Scalar.indexCast v283_r0
  let c0_293_r0 : Index := 0#32
  let c0_294_r0 : Index := 0#32
  ![v415_r0.toNat, 0, 0]
def k0_cond14 (arg22_r0 : BitVec 32) : BitVec 1 :=
  let c0_i32_150_r0 : BitVec 32 := 0#32
  let v154_r0 : BitVec 32 := Scalar.addi arg22_r0 c0_i32_150_r0
  let c7_i32_245_r0 : BitVec 32 := 7#32
  let v311_r0 : BitVec 1 := Scalar.cmpi .eq v154_r0 c7_i32_245_r0
  let v312_r0 : BitVec 32 := Scalar.extui v311_r0
  let c0_i32_246_r0 : BitVec 32 := 0#32
  let v313_r0 : BitVec 1 := Scalar.cmpi .ne v312_r0 c0_i32_246_r0
  v313_r0

def k0_off43 (arg19_r0 : BitVec 32) : Fin 3 → Nat :=
  let c2_i32_231_r0 : BitVec 32 := 2#32
  let v284_r0 : BitVec 32 := Scalar.remui arg19_r0 c2_i32_231_r0
  let v432_r0 : Index := Scalar.indexCast v284_r0
  let c0_300_r0 : Index := 0#32
  let c0_301_r0 : Index := 0#32
  ![v432_r0.toNat, 0, 0]
def k0_off44 (arg17_r0 : BitVec 32) : Fin 1 → Nat :=
  let c2_i32_293_r0 : BitVec 32 := 2#32
  let v415_r0 : BitVec 32 := Scalar.remui arg17_r0 c2_i32_293_r0
  ![v415_r0.toNat]
def k0_cond19 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v334_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_r0 : BitVec 32 := 127#32
  let v152_r0 : BitVec 1 := Scalar.cmpi .eq arg7_r0 c127_i32_r0
  let v335_r0 : BitVec 1 := Scalar.ori v334_r0 v152_r0
  let v336_r0 : BitVec 32 := Scalar.extui v335_r0
  let c0_i32_254_r0 : BitVec 32 := 0#32
  let v337_r0 : BitVec 1 := Scalar.cmpi .ne v336_r0 c0_i32_254_r0
  v337_r0

def k0_off45 (arg21_r0 : BitVec 32) : Fin 2 → Nat :=
  let c512_i32_294_r0 : BitVec 32 := 512#32
  let c0_i32_149_r0 : BitVec 32 := 0#32
  let v153_r0 : BitVec 32 := Scalar.addi arg21_r0 c0_i32_149_r0
  let v416_r0 : BitVec 32 := Scalar.muli c512_i32_294_r0 v153_r0
  let c0_i32_295_r0 : BitVec 32 := 0#32
  ![v416_r0.toNat, 0]
def k0_off46 (arg17_r0 : BitVec 32) : Fin 3 → Nat :=
  let c2_i32_293_r0 : BitVec 32 := 2#32
  let v415_r0 : BitVec 32 := Scalar.remui arg17_r0 c2_i32_293_r0
  let c0_i32_296_r0 : BitVec 32 := 0#32
  let c0_i32_297_r0 : BitVec 32 := 0#32
  ![v415_r0.toNat, 0, 0]
def k0_off47 (arg19_r0 : BitVec 32) : Fin 1 → Nat :=
  let c2_i32_293_r0 : BitVec 32 := 2#32
  let v415_r0 : BitVec 32 := Scalar.remui arg19_r0 c2_i32_293_r0
  ![v415_r0.toNat]
def k0_cond20 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v341_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_r0 : BitVec 32 := 127#32
  let v152_r0 : BitVec 1 := Scalar.cmpi .eq arg7_r0 c127_i32_r0
  let v342_r0 : BitVec 1 := Scalar.ori v341_r0 v152_r0
  let v343_r0 : BitVec 32 := Scalar.extui v342_r0
  let c0_i32_257_r0 : BitVec 32 := 0#32
  let v344_r0 : BitVec 1 := Scalar.cmpi .ne v343_r0 c0_i32_257_r0
  v344_r0

def k0_off48 (arg21_r0 : BitVec 32) : Fin 2 → Nat :=
  let c512_i32_294_r0 : BitVec 32 := 512#32
  let c0_i32_149_r0 : BitVec 32 := 0#32
  let v153_r0 : BitVec 32 := Scalar.addi arg21_r0 c0_i32_149_r0
  let v416_r0 : BitVec 32 := Scalar.muli c512_i32_294_r0 v153_r0
  let c0_i32_295_r0 : BitVec 32 := 0#32
  ![v416_r0.toNat, 0]
def k0_off49 (arg19_r0 : BitVec 32) : Fin 3 → Nat :=
  let c2_i32_293_r0 : BitVec 32 := 2#32
  let v415_r0 : BitVec 32 := Scalar.remui arg19_r0 c2_i32_293_r0
  let c0_i32_296_r0 : BitVec 32 := 0#32
  let c0_i32_297_r0 : BitVec 32 := 0#32
  ![v415_r0.toNat, 0, 0]
def k0_off50 (arg18_r0 : BitVec 32) : Fin 1 → Nat :=
  let c2_i32_293_r0 : BitVec 32 := 2#32
  let v415_r0 : BitVec 32 := Scalar.remui arg18_r0 c2_i32_293_r0
  ![v415_r0.toNat]
def k0_cond25 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v372_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let true_272_r0 : BitVec 1 := 1#1
  let v373_r0 : BitVec 1 := Scalar.xori v151_r0 true_272_r0
  let v374_r0 : BitVec 1 := Scalar.andi v372_r0 v373_r0
  let v375_r0 : BitVec 32 := Scalar.extui v374_r0
  let c0_i32_273_r0 : BitVec 32 := 0#32
  let v376_r0 : BitVec 1 := Scalar.cmpi .ne v375_r0 c0_i32_273_r0
  v376_r0

def k0_off51 (arg21_r0 : BitVec 32) (arg22_r0 : BitVec 32) : Fin 2 → Nat :=
  let c512_i32_294_r0 : BitVec 32 := 512#32
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v416_r0 : BitVec 32 := Scalar.muli c512_i32_294_r0 v163_r0
  let c0_i32_295_r0 : BitVec 32 := 0#32
  ![v416_r0.toNat, 0]
def k0_off52 (arg18_r0 : BitVec 32) : Fin 3 → Nat :=
  let c2_i32_293_r0 : BitVec 32 := 2#32
  let v415_r0 : BitVec 32 := Scalar.remui arg18_r0 c2_i32_293_r0
  let c0_i32_296_r0 : BitVec 32 := 0#32
  let c0_i32_297_r0 : BitVec 32 := 0#32
  ![v415_r0.toNat, 0, 0]
def k0_off53 (arg20_r0 : BitVec 32) : Fin 1 → Nat :=
  let c2_i32_293_r0 : BitVec 32 := 2#32
  let v415_r0 : BitVec 32 := Scalar.remui arg20_r0 c2_i32_293_r0
  ![v415_r0.toNat]
def k0_cond26 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v380_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let true_276_r0 : BitVec 1 := 1#1
  let v381_r0 : BitVec 1 := Scalar.xori v151_r0 true_276_r0
  let v382_r0 : BitVec 1 := Scalar.andi v380_r0 v381_r0
  let v383_r0 : BitVec 32 := Scalar.extui v382_r0
  let c0_i32_277_r0 : BitVec 32 := 0#32
  let v384_r0 : BitVec 1 := Scalar.cmpi .ne v383_r0 c0_i32_277_r0
  v384_r0

def k0_off54 (arg21_r0 : BitVec 32) (arg22_r0 : BitVec 32) : Fin 2 → Nat :=
  let c512_i32_294_r0 : BitVec 32 := 512#32
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v416_r0 : BitVec 32 := Scalar.muli c512_i32_294_r0 v163_r0
  let c0_i32_295_r0 : BitVec 32 := 0#32
  ![v416_r0.toNat, 0]
def k0_off55 (arg20_r0 : BitVec 32) : Fin 3 → Nat :=
  let c2_i32_293_r0 : BitVec 32 := 2#32
  let v415_r0 : BitVec 32 := Scalar.remui arg20_r0 c2_i32_293_r0
  let c0_i32_296_r0 : BitVec 32 := 0#32
  let c0_i32_297_r0 : BitVec 32 := 0#32
  ![v415_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h3 : k0_cond3 k0_t1 arg21_r0 arg22_r0 = 1#1), ∀ a, (k0_off12 arg8_r0) a + S1.size a ≤ S2.size a) ∧
  (∀ (k0_h3 : k0_cond3 k0_t1 arg21_r0 arg22_r0 = 1#1), ∀ a, (k0_off13 arg8_r0) a + S1x512x2048.size a ≤ S2x512x2048.size a) ∧
  (∀ (k0_h3 : k0_cond3 k0_t1 arg21_r0 arg22_r0 = 1#1), ∀ a, (k0_off14 arg21_r0 arg22_r0) a + S512x2048.size a ≤ S8192x2048.size a) ∧
  (∀ (k0_h3 : k0_cond3 k0_t1 arg21_r0 arg22_r0 = 1#1), ∀ (hinb : ∀ a, (k0_off14 arg21_r0 arg22_r0) a + S512x2048.size a ≤ S8192x2048.size a), (Rect.unit (s := S8192x2048) (k0_off14 arg21_r0 arg22_r0) S512x2048.size hinb).WholeWords (EltTy.packing .bf16)) ∧
  (∀ (k0_h3 : k0_cond3 k0_t1 arg21_r0 arg22_r0 = 1#1), ∀ (hinb : ∀ a, (k0_off13 arg8_r0) a + S1x512x2048.size a ≤ S2x512x2048.size a), (Rect.unit (s := S2x512x2048) (k0_off13 arg8_r0) S1x512x2048.size hinb).WholeWords (EltTy.packing .bf16)) ∧
  (∀ (k0_h4 : k0_cond4 k0_t1 arg22_r0 = 1#1), ∀ a, (k0_off15 arg10_r0) a + S1.size a ≤ S3.size a) ∧
  (∀ (k0_h4 : k0_cond4 k0_t1 arg22_r0 = 1#1), ∀ a, (k0_off16 arg10_r0) a + S1x2048x1024.size a ≤ S3x2048x1024.size a) ∧
  (∀ (k0_h4 : k0_cond4 k0_t1 arg22_r0 = 1#1), ∀ a, (k0_off17 arg22_r0) a + S1x2048x1024.size a ≤ S8x2048x1024.size a) ∧
  (∀ (k0_h4 : k0_cond4 k0_t1 arg22_r0 = 1#1), ∀ (hinb : ∀ a, (k0_off17 arg22_r0) a + S1x2048x1024.size a ≤ S8x2048x1024.size a), (Rect.unit (s := S8x2048x1024) (k0_off17 arg22_r0) S1x2048x1024.size hinb).WholeWords (EltTy.packing .bf16)) ∧
  (∀ (k0_h4 : k0_cond4 k0_t1 arg22_r0 = 1#1), ∀ (hinb : ∀ a, (k0_off16 arg10_r0) a + S1x2048x1024.size a ≤ S3x2048x1024.size a), (Rect.unit (s := S3x2048x1024) (k0_off16 arg10_r0) S1x2048x1024.size hinb).WholeWords (EltTy.packing .bf16)) ∧
  (∀ (k0_h5 : k0_cond5 k0_t1 arg22_r0 = 1#1), ∀ a, (k0_off18 arg12_r0) a + S1.size a ≤ S3.size a) ∧
  (∀ (k0_h5 : k0_cond5 k0_t1 arg22_r0 = 1#1), ∀ a, (k0_off19 arg12_r0) a + S1x1024x2048.size a ≤ S3x1024x2048.size a) ∧
  (∀ (k0_h5 : k0_cond5 k0_t1 arg22_r0 = 1#1), ∀ a, (k0_off20 arg22_r0) a + S1024x2048.size a ≤ S8192x2048.size a) ∧
  (∀ (k0_h5 : k0_cond5 k0_t1 arg22_r0 = 1#1), ∀ (hinb : ∀ a, (k0_off20 arg22_r0) a + S1024x2048.size a ≤ S8192x2048.size a), (Rect.unit (s := S8192x2048) (k0_off20 arg22_r0) S1024x2048.size hinb).WholeWords (EltTy.packing .bf16)) ∧
  (∀ (k0_h5 : k0_cond5 k0_t1 arg22_r0 = 1#1), ∀ (hinb : ∀ a, (k0_off19 arg12_r0) a + S1x1024x2048.size a ≤ S3x1024x2048.size a), (Rect.unit (s := S3x1024x2048) (k0_off19 arg12_r0) S1x1024x2048.size hinb).WholeWords (EltTy.packing .bf16)) ∧
  (∀ (k0_h6 : k0_cond6 k0_t1 arg21_r0 arg22_r0 = 1#1), ∀ a, (k0_off21 arg14_r0) a + S1.size a ≤ S2.size a) ∧
  (∀ (k0_h6 : k0_cond6 k0_t1 arg21_r0 arg22_r0 = 1#1), ∀ a, (k0_off22 arg14_r0) a + S1x512x2048.size a ≤ S2x512x2048.size a) ∧
  (∀ (k0_h6 : k0_cond6 k0_t1 arg21_r0 arg22_r0 = 1#1), ∀ a, (k0_off23 arg21_r0 arg22_r0) a + S512x2048.size a ≤ S8192x2048.size a) ∧
  (∀ (k0_h7 : k0_cond7 k0_t1 arg21_r0 arg22_r0 = 1#1), ∀ a, (k0_off24 arg9_r0) a + S1.size a ≤ S2.size a) ∧
  (∀ (k0_h7 : k0_cond7 k0_t1 arg21_r0 arg22_r0 = 1#1), ∀ a, (k0_off25 arg9_r0) a + S1x512x2048.size a ≤ S2x512x2048.size a) ∧
  (∀ (k0_h7 : k0_cond7 k0_t1 arg21_r0 arg22_r0 = 1#1), ∀ a, (k0_off26 arg21_r0) a + S512x2048.size a ≤ S8192x2048.size a) ∧
  (∀ (k0_h7 : k0_cond7 k0_t1 arg21_r0 arg22_r0 = 1#1), ∀ (hinb : ∀ a, (k0_off26 arg21_r0) a + S512x2048.size a ≤ S8192x2048.size a), (Rect.unit (s := S8192x2048) (k0_off26 arg21_r0) S512x2048.size hinb).WholeWords (EltTy.packing .bf16)) ∧
  (∀ (k0_h7 : k0_cond7 k0_t1 arg21_r0 arg22_r0 = 1#1), ∀ (hinb : ∀ a, (k0_off25 arg9_r0) a + S1x512x2048.size a ≤ S2x512x2048.size a), (Rect.unit (s := S2x512x2048) (k0_off25 arg9_r0) S1x512x2048.size hinb).WholeWords (EltTy.packing .bf16)) ∧
  (∀ (k0_h8 : k0_cond8 k0_t1 arg22_r0 = 1#1), ∀ a, (k0_off27 arg11_r0) a + S1.size a ≤ S3.size a) ∧
  (∀ (k0_h8 : k0_cond8 k0_t1 arg22_r0 = 1#1), ∀ a, (k0_off28 arg11_r0) a + S1x2048x1024.size a ≤ S3x2048x1024.size a) ∧
  (∀ (k0_h8 : k0_cond8 k0_t1 arg22_r0 = 1#1), ∀ a, (k0_off29 arg22_r0) a + S1x2048x1024.size a ≤ S8x2048x1024.size a) ∧
  (∀ (k0_h8 : k0_cond8 k0_t1 arg22_r0 = 1#1), ∀ (hinb : ∀ a, (k0_off29 arg22_r0) a + S1x2048x1024.size a ≤ S8x2048x1024.size a), (Rect.unit (s := S8x2048x1024) (k0_off29 arg22_r0) S1x2048x1024.size hinb).WholeWords (EltTy.packing .bf16)) ∧
  (∀ (k0_h8 : k0_cond8 k0_t1 arg22_r0 = 1#1), ∀ (hinb : ∀ a, (k0_off28 arg11_r0) a + S1x2048x1024.size a ≤ S3x2048x1024.size a), (Rect.unit (s := S3x2048x1024) (k0_off28 arg11_r0) S1x2048x1024.size hinb).WholeWords (EltTy.packing .bf16)) ∧
  (∀ (k0_h9 : k0_cond9 k0_t1 arg22_r0 = 1#1), ∀ a, (k0_off30 arg13_r0) a + S1.size a ≤ S3.size a) ∧
  (∀ (k0_h9 : k0_cond9 k0_t1 arg22_r0 = 1#1), ∀ a, (k0_off31 arg13_r0) a + S1x1024x2048.size a ≤ S3x1024x2048.size a) ∧
  (∀ (k0_h9 : k0_cond9 k0_t1 arg22_r0 = 1#1), ∀ a, (k0_off32 arg22_r0) a + S1024x2048.size a ≤ S8192x2048.size a) ∧
  (∀ (k0_h9 : k0_cond9 k0_t1 arg22_r0 = 1#1), ∀ (hinb : ∀ a, (k0_off32 arg22_r0) a + S1024x2048.size a ≤ S8192x2048.size a), (Rect.unit (s := S8192x2048) (k0_off32 arg22_r0) S1024x2048.size hinb).WholeWords (EltTy.packing .bf16))
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h9 : k0_cond9 k0_t1 arg22_r0 = 1#1), ∀ (hinb : ∀ a, (k0_off31 arg13_r0) a + S1x1024x2048.size a ≤ S3x1024x2048.size a), (Rect.unit (s := S3x1024x2048) (k0_off31 arg13_r0) S1x1024x2048.size hinb).WholeWords (EltTy.packing .bf16)) ∧
  (∀ (k0_h10 : k0_cond10 k0_t1 arg21_r0 arg22_r0 = 1#1), ∀ a, (k0_off33 arg15_r0) a + S1.size a ≤ S2.size a) ∧
  (∀ (k0_h10 : k0_cond10 k0_t1 arg21_r0 arg22_r0 = 1#1), ∀ a, (k0_off34 arg15_r0) a + S1x512x2048.size a ≤ S2x512x2048.size a) ∧
  (∀ (k0_h10 : k0_cond10 k0_t1 arg21_r0 arg22_r0 = 1#1), ∀ a, (k0_off35 arg21_r0) a + S512x2048.size a ≤ S8192x2048.size a) ∧
  (∀ (k0_h13 : k0_cond13 arg22_r0 = 1#1), ∀ a, (k0_off36 arg15_r0) a + S1x512x2048.size a ≤ S2x512x2048.size a) ∧
  (∀ (k0_h13 : k0_cond13 arg22_r0 = 1#1), ∀ a, (k0_off37 arg17_r0) a + S1x512x2048.size a ≤ S2x512x2048.size a) ∧
  (∀ (k0_h14 : k0_cond14 arg22_r0 = 1#1), ∀ a, (k0_off42 arg17_r0) a + S1x512x2048.size a ≤ S2x512x2048.size a) ∧
  (∀ (k0_h14 : k0_cond14 arg22_r0 = 1#1), ∀ a, (k0_off43 arg19_r0) a + S1x512x2048.size a ≤ S2x512x2048.size a) ∧
  (∀ (k0_h19 : k0_cond19 k0_t1 arg21_r0 arg22_r0 = 1#1), ∀ a, (k0_off44 arg17_r0) a + S1.size a ≤ S2.size a) ∧
  (∀ (k0_h19 : k0_cond19 k0_t1 arg21_r0 arg22_r0 = 1#1), ∀ a, (k0_off45 arg21_r0) a + S512x2048.size a ≤ S8192x2048.size a) ∧
  (∀ (k0_h19 : k0_cond19 k0_t1 arg21_r0 arg22_r0 = 1#1), ∀ a, (k0_off46 arg17_r0) a + S1x512x2048.size a ≤ S2x512x2048.size a) ∧
  (∀ (k0_h20 : k0_cond20 k0_t1 arg21_r0 arg22_r0 = 1#1), ∀ a, (k0_off47 arg19_r0) a + S1.size a ≤ S2.size a) ∧
  (∀ (k0_h20 : k0_cond20 k0_t1 arg21_r0 arg22_r0 = 1#1), ∀ a, (k0_off48 arg21_r0) a + S512x2048.size a ≤ S8192x2048.size a) ∧
  (∀ (k0_h20 : k0_cond20 k0_t1 arg21_r0 arg22_r0 = 1#1), ∀ a, (k0_off49 arg19_r0) a + S1x512x2048.size a ≤ S2x512x2048.size a) ∧
  (∀ (k0_h25 : k0_cond25 k0_t1 arg21_r0 arg22_r0 = 1#1), ∀ a, (k0_off50 arg18_r0) a + S1.size a ≤ S2.size a) ∧
  (∀ (k0_h25 : k0_cond25 k0_t1 arg21_r0 arg22_r0 = 1#1), ∀ a, (k0_off51 arg21_r0 arg22_r0) a + S512x2048.size a ≤ S8192x2048.size a) ∧
  (∀ (k0_h25 : k0_cond25 k0_t1 arg21_r0 arg22_r0 = 1#1), ∀ a, (k0_off52 arg18_r0) a + S1x512x2048.size a ≤ S2x512x2048.size a) ∧
  (∀ (k0_h26 : k0_cond26 k0_t1 arg21_r0 arg22_r0 = 1#1), ∀ a, (k0_off53 arg20_r0) a + S1.size a ≤ S2.size a) ∧
  (∀ (k0_h26 : k0_cond26 k0_t1 arg21_r0 arg22_r0 = 1#1), ∀ a, (k0_off54 arg21_r0 arg22_r0) a + S512x2048.size a ≤ S8192x2048.size a) ∧
  (∀ (k0_h26 : k0_cond26 k0_t1 arg21_r0 arg22_r0 = 1#1), ∀ a, (k0_off55 arg20_r0) a + S1x512x2048.size a ≤ S2x512x2048.size a)
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  k0_chk1_0 k0_t1 arg8_r0 arg9_r0 arg10_r0 arg11_r0 arg12_r0 arg13_r0 arg14_r0 arg15_r0 arg17_r0 arg18_r0 arg19_r0 arg20_r0 arg21_r0 arg22_r0 ∧
  k0_chk1_1 k0_t1 arg8_r0 arg9_r0 arg10_r0 arg11_r0 arg12_r0 arg13_r0 arg14_r0 arg15_r0 arg17_r0 arg18_r0 arg19_r0 arg20_r0 arg21_r0 arg22_r0
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off12 arg8_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.1 k0_h3
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off13 arg8_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.1 k0_h3
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off14 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.1 k0_h3
theorem k0_off14_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), (Rect.unit (s := S8192x2048) (k0_off14 arg21_r0 arg22_r0) S512x2048.size (k0_off14_inb k0_t1 arg8_r0 arg9_r0 arg10_r0 arg11_r0 arg12_r0 arg13_r0 arg14_r0 arg15_r0 arg17_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.2.1 k0_h3 (k0_off14_inb k0_t1 arg8_r0 arg9_r0 arg10_r0 arg11_r0 arg12_r0 arg13_r0 arg14_r0 arg15_r0 arg17_r0 arg18_r0 arg19_r0 arg20_r0 arg21_r0 arg22_r0 k0_hw1 k0_h3)
theorem k0_off13_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), (Rect.unit (s := S2x512x2048) (k0_off13 arg8_r0) S1x512x2048.size (k0_off13_inb k0_t1 arg8_r0 arg9_r0 arg10_r0 arg11_r0 arg12_r0 arg13_r0 arg14_r0 arg15_r0 arg17_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.2.2.1 k0_h3 (k0_off13_inb k0_t1 arg8_r0 arg9_r0 arg10_r0 arg11_r0 arg12_r0 arg13_r0 arg14_r0 arg15_r0 arg17_r0 arg18_r0 arg19_r0 arg20_r0 arg21_r0 arg22_r0 k0_hw1 k0_h3)
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off15 arg10_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.1 k0_h4
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off16 arg10_r0) a + S1x2048x1024.size a ≤ S3x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.1 k0_h4
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off17 arg22_r0) a + S1x2048x1024.size a ≤ S8x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.1 k0_h4
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), (Rect.unit (s := S8x2048x1024) (k0_off17 arg22_r0) S1x2048x1024.size (k0_off17_inb k0_t1 arg8_r0 arg9_r0 arg10_r0 arg11_r0 arg12_r0 arg13_r0 arg14_r0 arg15_r0 arg17_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.2.1 k0_h4 (k0_off17_inb k0_t1 arg8_r0 arg9_r0 arg10_r0 arg11_r0 arg12_r0 arg13_r0 arg14_r0 arg15_r0 arg17_r0 arg18_r0 arg19_r0 arg20_r0 arg21_r0 arg22_r0 k0_hw1 k0_h4)
theorem k0_off16_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), (Rect.unit (s := S3x2048x1024) (k0_off16 arg10_r0) S1x2048x1024.size (k0_off16_inb k0_t1 arg8_r0 arg9_r0 arg10_r0 arg11_r0 arg12_r0 arg13_r0 arg14_r0 arg15_r0 arg17_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.2.2.1 k0_h4 (k0_off16_inb k0_t1 arg8_r0 arg9_r0 arg10_r0 arg11_r0 arg12_r0 arg13_r0 arg14_r0 arg15_r0 arg17_r0 arg18_r0 arg19_r0 arg20_r0 arg21_r0 arg22_r0 k0_hw1 k0_h4)
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off18 arg12_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.1 k0_h5
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off19 arg12_r0) a + S1x1024x2048.size a ≤ S3x1024x2048.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.1 k0_h5
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off20 arg22_r0) a + S1024x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.1 k0_h5
theorem k0_off20_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), (Rect.unit (s := S8192x2048) (k0_off20 arg22_r0) S1024x2048.size (k0_off20_inb k0_t1 arg8_r0 arg9_r0 arg10_r0 arg11_r0 arg12_r0 arg13_r0 arg14_r0 arg15_r0 arg17_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.2.1 k0_h5 (k0_off20_inb k0_t1 arg8_r0 arg9_r0 arg10_r0 arg11_r0 arg12_r0 arg13_r0 arg14_r0 arg15_r0 arg17_r0 arg18_r0 arg19_r0 arg20_r0 arg21_r0 arg22_r0 k0_hw1 k0_h5)
theorem k0_off19_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), (Rect.unit (s := S3x1024x2048) (k0_off19 arg12_r0) S1x1024x2048.size (k0_off19_inb k0_t1 arg8_r0 arg9_r0 arg10_r0 arg11_r0 arg12_r0 arg13_r0 arg14_r0 arg15_r0 arg17_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.2.2.1 k0_h5 (k0_off19_inb k0_t1 arg8_r0 arg9_r0 arg10_r0 arg11_r0 arg12_r0 arg13_r0 arg14_r0 arg15_r0 arg17_r0 arg18_r0 arg19_r0 arg20_r0 arg21_r0 arg22_r0 k0_hw1 k0_h5)
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off21 arg14_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.1 k0_h6
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off22 arg14_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.2.1 k0_h6
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off23 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.2.2.1 k0_h6
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off24 arg9_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.1 k0_h7
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off25 arg9_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.1 k0_h7
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off26 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.1 k0_h7
theorem k0_off26_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), (Rect.unit (s := S8192x2048) (k0_off26 arg21_r0) S512x2048.size (k0_off26_inb k0_t1 arg8_r0 arg9_r0 arg10_r0 arg11_r0 arg12_r0 arg13_r0 arg14_r0 arg15_r0 arg17_r0 arg18_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.2.1 k0_h7 (k0_off26_inb k0_t1 arg8_r0 arg9_r0 arg10_r0 arg11_r0 arg12_r0 arg13_r0 arg14_r0 arg15_r0 arg17_r0 arg18_r0 arg19_r0 arg20_r0 arg21_r0 arg22_r0 k0_hw1 k0_h7)
theorem k0_off25_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), (Rect.unit (s := S2x512x2048) (k0_off25 arg9_r0) S1x512x2048.size (k0_off25_inb k0_t1 arg8_r0 arg9_r0 arg10_r0 arg11_r0 arg12_r0 arg13_r0 arg14_r0 arg15_r0 arg17_r0 arg18_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.2.2.1 k0_h7 (k0_off25_inb k0_t1 arg8_r0 arg9_r0 arg10_r0 arg11_r0 arg12_r0 arg13_r0 arg14_r0 arg15_r0 arg17_r0 arg18_r0 arg19_r0 arg20_r0 arg21_r0 arg22_r0 k0_hw1 k0_h7)
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off27 arg11_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.1 k0_h8
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off28 arg11_r0) a + S1x2048x1024.size a ≤ S3x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.1 k0_h8
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off29 arg22_r0) a + S1x2048x1024.size a ≤ S8x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.1 k0_h8
theorem k0_off29_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), (Rect.unit (s := S8x2048x1024) (k0_off29 arg22_r0) S1x2048x1024.size (k0_off29_inb k0_t1 arg8_r0 arg9_r0 arg10_r0 arg11_r0 arg12_r0 arg13_r0 arg14_r0 arg15_r0 arg17_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.2.1 k0_h8 (k0_off29_inb k0_t1 arg8_r0 arg9_r0 arg10_r0 arg11_r0 arg12_r0 arg13_r0 arg14_r0 arg15_r0 arg17_r0 arg18_r0 arg19_r0 arg20_r0 arg21_r0 arg22_r0 k0_hw1 k0_h8)
theorem k0_off28_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), (Rect.unit (s := S3x2048x1024) (k0_off28 arg11_r0) S1x2048x1024.size (k0_off28_inb k0_t1 arg8_r0 arg9_r0 arg10_r0 arg11_r0 arg12_r0 arg13_r0 arg14_r0 arg15_r0 arg17_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.2.2.1 k0_h8 (k0_off28_inb k0_t1 arg8_r0 arg9_r0 arg10_r0 arg11_r0 arg12_r0 arg13_r0 arg14_r0 arg15_r0 arg17_r0 arg18_r0 arg19_r0 arg20_r0 arg21_r0 arg22_r0 k0_hw1 k0_h8)
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off30 arg13_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.1 k0_h9
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off31 arg13_r0) a + S1x1024x2048.size a ≤ S3x1024x2048.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.1 k0_h9
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off32 arg22_r0) a + S1024x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.2.1 k0_h9
theorem k0_off32_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), (Rect.unit (s := S8192x2048) (k0_off32 arg22_r0) S1024x2048.size (k0_off32_inb k0_t1 arg8_r0 arg9_r0 arg10_r0 arg11_r0 arg12_r0 arg13_r0 arg14_r0 arg15_r0 arg17_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.2.2 k0_h9 (k0_off32_inb k0_t1 arg8_r0 arg9_r0 arg10_r0 arg11_r0 arg12_r0 arg13_r0 arg14_r0 arg15_r0 arg17_r0 arg18_r0 arg19_r0 arg20_r0 arg21_r0 arg22_r0 k0_hw1 k0_h9)
theorem k0_off31_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), (Rect.unit (s := S3x1024x2048) (k0_off31 arg13_r0) S1x1024x2048.size (k0_off31_inb k0_t1 arg8_r0 arg9_r0 arg10_r0 arg11_r0 arg12_r0 arg13_r0 arg14_r0 arg15_r0 arg17_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.2.1 k0_h9 (k0_off31_inb k0_t1 arg8_r0 arg9_r0 arg10_r0 arg11_r0 arg12_r0 arg13_r0 arg14_r0 arg15_r0 arg17_r0 arg18_r0 arg19_r0 arg20_r0 arg21_r0 arg22_r0 k0_hw1 k0_h9)
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off33 arg15_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.1 k0_h10
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off34 arg15_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.2.1 k0_h10
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off35 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.2.2.1 k0_h10
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h13 : k0_cond13 arg22_r0 = 1#1), ∀ a, (k0_off36 arg15_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h13 => k0_hw1.2.2.2.2.2.1 k0_h13
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h13 : k0_cond13 arg22_r0 = 1#1), ∀ a, (k0_off37 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h13 => k0_hw1.2.2.2.2.2.2.1 k0_h13
theorem k0_off42_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h14 : k0_cond14 arg22_r0 = 1#1), ∀ a, (k0_off42 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h14 => k0_hw1.2.2.2.2.2.2.2.1 k0_h14
theorem k0_off43_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h14 : k0_cond14 arg22_r0 = 1#1), ∀ a, (k0_off43 arg19_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h14 => k0_hw1.2.2.2.2.2.2.2.2.1 k0_h14
theorem k0_off44_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off44 arg17_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.1 k0_h19
theorem k0_off45_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off45 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.2.1 k0_h19
theorem k0_off46_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off46 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.2.2.1 k0_h19
theorem k0_off47_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off47 arg19_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.1 k0_h20
theorem k0_off48_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off48 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.1 k0_h20
theorem k0_off49_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off49 arg19_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.2.1 k0_h20
theorem k0_off50_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off50 arg18_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.1 k0_h25
theorem k0_off51_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off51 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.2.1 k0_h25
theorem k0_off52_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off52 arg18_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.2.2.1 k0_h25
theorem k0_off53_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off53 arg20_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.1 k0_h26
theorem k0_off54_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off54 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.1 k0_h26
theorem k0_off55_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off55 arg20_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2 k0_h26

def k0_off56 (v86_10_r0 : BitVec 32) : Fin 1 → Nat :=
  let c2_i32_139_r0 : BitVec 32 := 2#32
  let v137_r0 : BitVec 32 := Scalar.remui v86_10_r0 c2_i32_139_r0
  ![v137_r0.toNat]

def k0_off57 (v86_14_r0 : BitVec 32) (v86_13_r0 : BitVec 32) : Fin 2 → Nat :=
  let c512_i32_r0 : BitVec 32 := 512#32
  let true_95_r0 : BitVec 1 := 1#1
  let c1_i32_94_r0 : BitVec 32 := 1#32
  let v87_r0 : BitVec 32 := Scalar.subi v86_14_r0 c1_i32_94_r0
  let v88_r0 : BitVec 32 := Scalar.select true_95_r0 v87_r0 v86_14_r0
  let c_m1_i32_96_r0 : BitVec 32 := 4294967295#32
  let v89_r0 : BitVec 1 := Scalar.cmpi .eq v88_r0 c_m1_i32_96_r0
  let c1_i32_98_r0 : BitVec 32 := 1#32
  let v91_r0 : BitVec 32 := Scalar.subi v86_13_r0 c1_i32_98_r0
  let v92_r0 : BitVec 32 := Scalar.select v89_r0 v91_r0 v86_13_r0
  let c_m1_i32_99_r0 : BitVec 32 := 4294967295#32
  let v93_r0 : BitVec 1 := Scalar.cmpi .eq v92_r0 c_m1_i32_99_r0
  let c15_i32_100_r0 : BitVec 32 := 15#32
  let v94_r0 : BitVec 32 := Scalar.select v93_r0 c15_i32_100_r0 v92_r0
  let c0_i32_101_r0 : BitVec 32 := 0#32
  let v95_r0 : BitVec 32 := Scalar.addi v94_r0 c0_i32_101_r0
  let v138_r0 : BitVec 32 := Scalar.muli c512_i32_r0 v95_r0
  let c0_i32_140_r0 : BitVec 32 := 0#32
  ![v138_r0.toNat, 0]

def k0_off58 (v86_10_r0 : BitVec 32) : Fin 3 → Nat :=
  let c2_i32_139_r0 : BitVec 32 := 2#32
  let v137_r0 : BitVec 32 := Scalar.remui v86_10_r0 c2_i32_139_r0
  let c0_i32_141_r0 : BitVec 32 := 0#32
  let c0_i32_142_r0 : BitVec 32 := 0#32
  ![v137_r0.toNat, 0, 0]

def k0_chk6 (v86_10_r0 : BitVec 32) : Prop :=
  (∀ a, (k0_off56 v86_10_r0) a + S1.size a ≤ S2.size a) ∧
  (∀ a, (k0_off58 v86_10_r0) a + S1x512x2048.size a ≤ S2x512x2048.size a)
theorem k0_off56_inb : ∀ (v86_10_r0 : BitVec 32) (k0_hw6 : k0_chk6 v86_10_r0), ∀ a, (k0_off56 v86_10_r0) a + S1.size a ≤ S2.size a := fun v86_10_r0 k0_hw6 => k0_hw6.1
theorem k0_off58_inb : ∀ (v86_10_r0 : BitVec 32) (k0_hw6 : k0_chk6 v86_10_r0), ∀ a, (k0_off58 v86_10_r0) a + S1x512x2048.size a ≤ S2x512x2048.size a := fun v86_10_r0 k0_hw6 => k0_hw6.2

def k0_off59 (v86_12_r0 : BitVec 32) : Fin 1 → Nat :=
  let c2_i32_143_r0 : BitVec 32 := 2#32
  let v144_r0 : BitVec 32 := Scalar.remui v86_12_r0 c2_i32_143_r0
  ![v144_r0.toNat]

def k0_off60 (v86_14_r0 : BitVec 32) (v86_13_r0 : BitVec 32) : Fin 2 → Nat :=
  let c512_i32_144_r0 : BitVec 32 := 512#32
  let true_95_r0 : BitVec 1 := 1#1
  let c1_i32_94_r0 : BitVec 32 := 1#32
  let v87_r0 : BitVec 32 := Scalar.subi v86_14_r0 c1_i32_94_r0
  let v88_r0 : BitVec 32 := Scalar.select true_95_r0 v87_r0 v86_14_r0
  let c_m1_i32_96_r0 : BitVec 32 := 4294967295#32
  let v89_r0 : BitVec 1 := Scalar.cmpi .eq v88_r0 c_m1_i32_96_r0
  let c1_i32_98_r0 : BitVec 32 := 1#32
  let v91_r0 : BitVec 32 := Scalar.subi v86_13_r0 c1_i32_98_r0
  let v92_r0 : BitVec 32 := Scalar.select v89_r0 v91_r0 v86_13_r0
  let c_m1_i32_99_r0 : BitVec 32 := 4294967295#32
  let v93_r0 : BitVec 1 := Scalar.cmpi .eq v92_r0 c_m1_i32_99_r0
  let c15_i32_100_r0 : BitVec 32 := 15#32
  let v94_r0 : BitVec 32 := Scalar.select v93_r0 c15_i32_100_r0 v92_r0
  let c0_i32_101_r0 : BitVec 32 := 0#32
  let v95_r0 : BitVec 32 := Scalar.addi v94_r0 c0_i32_101_r0
  let v145_r0 : BitVec 32 := Scalar.muli c512_i32_144_r0 v95_r0
  let c0_i32_145_r0 : BitVec 32 := 0#32
  ![v145_r0.toNat, 0]

def k0_chk7 (v86_14_r0 : BitVec 32) (v86_13_r0 : BitVec 32) : Prop :=
  (∀ a, (k0_off57 v86_14_r0 v86_13_r0) a + S512x2048.size a ≤ S8192x2048.size a) ∧
  (∀ a, (k0_off60 v86_14_r0 v86_13_r0) a + S512x2048.size a ≤ S8192x2048.size a)
theorem k0_off57_inb : ∀ (v86_14_r0 : BitVec 32) (v86_13_r0 : BitVec 32) (k0_hw7 : k0_chk7 v86_14_r0 v86_13_r0), ∀ a, (k0_off57 v86_14_r0 v86_13_r0) a + S512x2048.size a ≤ S8192x2048.size a := fun v86_14_r0 v86_13_r0 k0_hw7 => k0_hw7.1
theorem k0_off60_inb : ∀ (v86_14_r0 : BitVec 32) (v86_13_r0 : BitVec 32) (k0_hw7 : k0_chk7 v86_14_r0 v86_13_r0), ∀ a, (k0_off60 v86_14_r0 v86_13_r0) a + S512x2048.size a ≤ S8192x2048.size a := fun v86_14_r0 v86_13_r0 k0_hw7 => k0_hw7.2

def k0_off61 (v86_12_r0 : BitVec 32) : Fin 3 → Nat :=
  let c2_i32_143_r0 : BitVec 32 := 2#32
  let v144_r0 : BitVec 32 := Scalar.remui v86_12_r0 c2_i32_143_r0
  let c0_i32_146_r0 : BitVec 32 := 0#32
  let c0_i32_147_r0 : BitVec 32 := 0#32
  ![v144_r0.toNat, 0, 0]

def k0_chk8 (v86_12_r0 : BitVec 32) : Prop :=
  (∀ a, (k0_off59 v86_12_r0) a + S1.size a ≤ S2.size a) ∧
  (∀ a, (k0_off61 v86_12_r0) a + S1x512x2048.size a ≤ S2x512x2048.size a)
theorem k0_off59_inb : ∀ (v86_12_r0 : BitVec 32) (k0_hw8 : k0_chk8 v86_12_r0), ∀ a, (k0_off59 v86_12_r0) a + S1.size a ≤ S2.size a := fun v86_12_r0 k0_hw8 => k0_hw8.1
theorem k0_off61_inb : ∀ (v86_12_r0 : BitVec 32) (k0_hw8 : k0_chk8 v86_12_r0), ∀ a, (k0_off61 v86_12_r0) a + S1x512x2048.size a ≤ S2x512x2048.size a := fun v86_12_r0 k0_hw8 => k0_hw8.2
-- ==== ReferenceIdeal.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S8192x2048 : Shape := ⟨2, ![8192, 2048]⟩
abbrev S2x2048x6144 : Shape := ⟨3, ![2, 2048, 6144]⟩
abbrev S1x6144 : Shape := ⟨2, ![1, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S1x6144, .f32⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x6144, .f32⟩
  | .hbm, ⟨19, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel3.lean ====
abbrev S1024x2048 : Shape := ⟨2, ![1024, 2048]⟩
abbrev S2x2048x4096 : Shape := ⟨3, ![2, 2048, 4096]⟩
abbrev S1024x4096 : Shape := ⟨2, ![1024, 4096]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2x2048x4096, .f32⟩
  | .hbm, ⟨2, _⟩ => ⟨S1024x4096, .bf16⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S1024x2048 : Shape := ⟨2, ![1024, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x4096, .f32⟩
  | .hbm, ⟨2, _⟩ => ⟨S1024x2048, .f32⟩
  | .hbm, ⟨3, _⟩ => ⟨S1x2048x4096, .f32⟩
  | .hbm, ⟨4, _⟩ => ⟨S2048x4096, .f32⟩
  | .hbm, ⟨5, _⟩ => ⟨S1024x4096, .f32⟩
  | .hbm, ⟨6, _⟩ => ⟨S1024x4096, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S2048x2048 : Shape := ⟨2, ![2048, 2048]⟩
abbrev S2048 : Shape := ⟨1, ![2048]⟩
abbrev S1024x4096 : Shape := ⟨2, ![1024, 4096]⟩
abbrev S8192x2048 : Shape := ⟨2, ![8192, 2048]⟩
abbrev S4x2048x1024 : Shape := ⟨3, ![4, 2048, 1024]⟩
abbrev S4x1024x2048 : Shape := ⟨3, ![4, 1024, 2048]⟩
abbrev S1x2048 : Shape := ⟨2, ![1, 2048]⟩
abbrev S1x1024x256 : Shape := ⟨3, ![1, 1024, 256]⟩
abbrev S1024x2048 : Shape := ⟨2, ![1024, 2048]⟩
abbrev S256x2048 : Shape := ⟨2, ![256, 2048]⟩
abbrev S1024x256 : Shape := ⟨2, ![1024, 256]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 20
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1024x4096, .bf16⟩
  | .hbm, ⟨6, _⟩ => ⟨S2048x2048, .f32⟩
  | .hbm, ⟨7, _⟩ => ⟨S8192x2048, .f32⟩
  | .hbm, ⟨8, _⟩ => ⟨S2048, .f32⟩
  | .hbm, ⟨9, _⟩ => ⟨S4x2048x1024, .bf16⟩
  | .hbm, ⟨10, _⟩ => ⟨S4x1024x2048, .bf16⟩
  | .hbm, ⟨11, _⟩ => ⟨S4x2048x1024, .bf16⟩
  | .hbm, ⟨12, _⟩ => ⟨S4x1024x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S8192x2048, .f32⟩
  | .hbm, ⟨19, _⟩ => ⟨S8192x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2048x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F] [Named F]
def κ : String → Option EReal := fun
  | "scale" => some (((Real.sqrt 512)⁻¹ * (Real.log 2)⁻¹ : ℝ) : EReal)
  | _ => none
-- ==== Reference4Ideal.lean ====
abbrev S8192x1024 : Shape := ⟨2, ![8192, 1024]⟩
abbrev S2048x2048 : Shape := ⟨2, ![2048, 2048]⟩
abbrev S2048 : Shape := ⟨1, ![2048]⟩
abbrev S1024x4096 : Shape := ⟨2, ![1024, 4096]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x4x512 : Shape := ⟨4, ![4, 2048, 4, 512]⟩
abbrev S1024x2048 : Shape := ⟨2, ![1024, 2048]⟩
abbrev S4x256x4x512 : Shape := ⟨4, ![4, 256, 4, 512]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1024x4096, .bf16⟩
  | .hbm, ⟨6, _⟩ => ⟨S2048x2048, .f32⟩
  | .hbm, ⟨7, _⟩ => ⟨S8192x2048, .f32⟩
  | .hbm, ⟨8, _⟩ => ⟨S2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S4x2048x4x512, .f32⟩
  | .hbm, ⟨31, _⟩ => ⟨S1024x4096, .f32⟩
  | .hbm, ⟨32, _⟩ => ⟨S1024x2048, .f32⟩
  | .hbm, ⟨33, _⟩ => ⟨S1024x2048, .f32⟩
  | .hbm, ⟨34, _⟩ => ⟨S4x256x4x512, .f32⟩
  | .hbm, ⟨35, _⟩ => ⟨S4x256x4x512, .f32⟩
  | .hbm, ⟨36, _⟩ => ⟨S4x4x2048x256, .f32⟩
  | .hbm, ⟨37, _⟩ => ⟨S_, .f32⟩
  | .hbm, ⟨38, _⟩ => ⟨S_, .f32⟩
  | .hbm, ⟨39, _⟩ => ⟨S4x4x2048x256, .f32⟩
  | .hbm, ⟨40, _⟩ => ⟨S4x4x2048x256, .f32⟩
  | .hbm, ⟨41, _⟩ => ⟨S_, .f32⟩
  | .hbm, ⟨42, _⟩ => ⟨S4x4x2048, .f32⟩
  | .hbm, ⟨43, _⟩ => ⟨S_, .f32⟩
  | .hbm, ⟨44, _⟩ => ⟨S4x4x2048, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x256, .f32⟩
  | .hbm, ⟨50, _⟩ => ⟨S_, .f32⟩
  | .hbm, ⟨51, _⟩ => ⟨S4x4x2048, .f32⟩
  | .hbm, ⟨52, _⟩ => ⟨S4x4x2048x1, .f32⟩
  | .hbm, ⟨53, _⟩ => ⟨S4x4x2048x256, .f32⟩
  | .hbm, ⟨54, _⟩ => ⟨S4x4x2048x256, .f32⟩
  | .hbm, ⟨55, _⟩ => ⟨S4x4x512x2048, .f32⟩
  | .hbm, ⟨56, _⟩ => ⟨S4x2048x4x512, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S1024x2048 : Shape := ⟨2, ![1024, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | .hbm, ⟨18, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S2048 : Shape := ⟨1, ![2048]⟩
abbrev S2048x8x1024 : Shape := ⟨3, ![2048, 8, 1024]⟩
abbrev S8x2048x1024 : Shape := ⟨3, ![8, 2048, 1024]⟩
abbrev S1x2048 : Shape := ⟨2, ![1, 2048]⟩
abbrev S2x512x2048 : Shape := ⟨3, ![2, 512, 2048]⟩
abbrev S2 : Shape := ⟨1, ![2]⟩
abbrev S3x2048x1024 : Shape := ⟨3, ![3, 2048, 1024]⟩
abbrev S3 : Shape := ⟨1, ![3]⟩
abbrev S3x1024x2048 : Shape := ⟨3, ![3, 1024, 2048]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S2048x8x1024, .bf16⟩
  | .hbm, ⟨7, _⟩ => ⟨S8x2048x1024, .bf16⟩
  | .hbm, ⟨8, _⟩ => ⟨S8192x2048, .bf16⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S2x512x2048, .bf16⟩
  | .local _ .vmem, ⟨1, _⟩ => ⟨S3x2048x1024, .bf16⟩
  | .local _ .vmem, ⟨2, _⟩ => ⟨S3x1024x2048, .bf16⟩
  | .local _ .vmem, ⟨3, _⟩ => ⟨S2x512x2048, .f32⟩
  | .local _ .vmem, ⟨4, _⟩ => ⟨S1x2048, .f32⟩
  | .local _ .vmem, ⟨5, _⟩ => ⟨S2x512x2048, .f32⟩
  | .local _ .vmem, ⟨6, _⟩ => ⟨S2x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped9 : Ref sig .tc := ⟨.vmem, 5, rfl⟩
abbrev cc0_scoped11 : Ref sig .tc := ⟨.vmem, 6, rfl⟩

abbrev nD : Nat := 1
abbrev τ : Topo := Topo.v7x

variable {F : FTy → Type} [FloatOps F]

abbrev grid0 : Pipeline.Grid := .none

def k0_off1 : Fin 1 → Nat :=
  let c0_i32_38_r0 : BitVec 32 := 0#32
  let c2_i32_r0 : BitVec 32 := 2#32
  let v42_r0 : BitVec 32 := Scalar.remui c0_i32_38_r0 c2_i32_r0
  ![v42_r0.toNat]
def k0_off2 : Fin 3 → Nat :=
  let c0_i32_38_r0 : BitVec 32 := 0#32
  let c2_i32_r0 : BitVec 32 := 2#32
  let v42_r0 : BitVec 32 := Scalar.remui c0_i32_38_r0 c2_i32_r0
  let c0_i32_39_r0 : BitVec 32 := 0#32
  let c0_i32_40_r0 : BitVec 32 := 0#32
  ![v42_r0.toNat, 0, 0]
def k0_off3 : Fin 1 → Nat :=
  let c0_i32_45_r0 : BitVec 32 := 0#32
  let c3_i32_r0 : BitVec 32 := 3#32
  let v49_r0 : BitVec 32 := Scalar.remui c0_i32_45_r0 c3_i32_r0
  ![v49_r0.toNat]
def k0_off4 : Fin 3 → Nat :=
  let c0_i32_45_r0 : BitVec 32 := 0#32
  let c3_i32_r0 : BitVec 32 := 3#32
  let v49_r0 : BitVec 32 := Scalar.remui c0_i32_45_r0 c3_i32_r0
  let c0_i32_47_r0 : BitVec 32 := 0#32
  let c0_i32_48_r0 : BitVec 32 := 0#32
  ![v49_r0.toNat, 0, 0]
def k0_off5 : Fin 3 → Nat :=
  let c0_i32_53_r0 : BitVec 32 := 0#32
  let c3_i32_54_r0 : BitVec 32 := 3#32
  let v57_r0 : BitVec 32 := Scalar.remui c0_i32_53_r0 c3_i32_54_r0
  let c0_i32_55_r0 : BitVec 32 := 0#32
  let c0_i32_56_r0 : BitVec 32 := 0#32
  ![v57_r0.toNat, 0, 0]
def k0_cond1 : BitVec 1 :=
  let true_70_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_69_r0 : BitVec 32 := 0#32
  let v71_r0 : BitVec 1 := Scalar.cmpi .ne v21_r0 c0_i32_69_r0
  let v72_r0 : BitVec 1 := Scalar.andi true_70_r0 v71_r0
  let true_71_r0 : BitVec 1 := 1#1
  let v73_r0 : BitVec 1 := Scalar.andi v72_r0 true_71_r0
  let v74_r0 : BitVec 32 := Scalar.extui v73_r0
  let c0_i32_72_r0 : BitVec 32 := 0#32
  let v75_r0 : BitVec 1 := Scalar.cmpi .ne v74_r0 c0_i32_72_r0
  v75_r0

def k0_off6 : Fin 1 → Nat :=
  let c0_i32_51_r0 : BitVec 32 := 0#32
  let c1_i32_52_r0 : BitVec 32 := 1#32
  let v56_r0 : BitVec 32 := Scalar.addi c0_i32_51_r0 c1_i32_52_r0
  let c3_i32_148_r0 : BitVec 32 := 3#32
  let v151_r0 : BitVec 32 := Scalar.remui v56_r0 c3_i32_148_r0
  ![v151_r0.toNat]
def k0_off7 : Fin 3 → Nat :=
  let c0_i32_51_r0 : BitVec 32 := 0#32
  let c1_i32_52_r0 : BitVec 32 := 1#32
  let v56_r0 : BitVec 32 := Scalar.addi c0_i32_51_r0 c1_i32_52_r0
  let c3_i32_148_r0 : BitVec 32 := 3#32
  let v151_r0 : BitVec 32 := Scalar.remui v56_r0 c3_i32_148_r0
  let c0_i32_149_r0 : BitVec 32 := 0#32
  let c0_i32_150_r0 : BitVec 32 := 0#32
  ![v151_r0.toNat, 0, 0]
def k0_off8 : Fin 3 → Nat :=
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_151_r0 : BitVec 32 := 0#32
  let c0_i32_152_r0 : BitVec 32 := 0#32
  ![v21_r0.toNat, 0, 0]
def k0_cond2 : BitVec 1 :=
  let true_75_r0 : BitVec 1 := 1#1
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let c0_i32_74_r0 : BitVec 32 := 0#32
  let v78_r0 : BitVec 1 := Scalar.cmpi .ne v21_r0 c0_i32_74_r0
  let v79_r0 : BitVec 1 := Scalar.andi true_75_r0 v78_r0
  let true_76_r0 : BitVec 1 := 1#1
  let v80_r0 : BitVec 1 := Scalar.andi v79_r0 true_76_r0
  let v81_r0 : BitVec 32 := Scalar.extui v80_r0
  let c0_i32_77_r0 : BitVec 32 := 0#32
  let v82_r0 : BitVec 1 := Scalar.cmpi .ne v81_r0 c0_i32_77_r0
  v82_r0

def k0_off9 : Fin 1 → Nat :=
  let c0_i32_59_r0 : BitVec 32 := 0#32
  let c1_i32_60_r0 : BitVec 32 := 1#32
  let v63_r0 : BitVec 32 := Scalar.addi c0_i32_59_r0 c1_i32_60_r0
  let c3_i32_148_r0 : BitVec 32 := 3#32
  let v151_r0 : BitVec 32 := Scalar.remui v63_r0 c3_i32_148_r0
  ![v151_r0.toNat]
def k0_off10 : Fin 3 → Nat :=
  let c0_i32_59_r0 : BitVec 32 := 0#32
  let c1_i32_60_r0 : BitVec 32 := 1#32
  let v63_r0 : BitVec 32 := Scalar.addi c0_i32_59_r0 c1_i32_60_r0
  let c3_i32_148_r0 : BitVec 32 := 3#32
  let v151_r0 : BitVec 32 := Scalar.remui v63_r0 c3_i32_148_r0
  let c0_i32_149_r0 : BitVec 32 := 0#32
  let c0_i32_150_r0 : BitVec 32 := 0#32
  ![v151_r0.toNat, 0, 0]
def k0_off11 : Fin 2 → Nat :=
  let c1024_i32_r0 : BitVec 32 := 1024#32
  let true_12_r0 : BitVec 1 := 1#1
  let c1_i32_r0 : BitVec 32 := 1#32
  let c0_i32_13_r0 : BitVec 32 := 0#32
  let v14_r0 : BitVec 32 := Scalar.select true_12_r0 c1_i32_r0 c0_i32_13_r0
  let c8_i32_r0 : BitVec 32 := 8#32
  let v15_r0 : BitVec 1 := Scalar.cmpi .eq v14_r0 c8_i32_r0
  let c0_i32_14_r0 : BitVec 32 := 0#32
  let v16_r0 : BitVec 32 := Scalar.select v15_r0 c0_i32_14_r0 v14_r0
  let c0_i32_19_r0 : BitVec 32 := 0#32
  let v21_r0 : BitVec 32 := Scalar.addi v16_r0 c0_i32_19_r0
  let v152_r0 : BitVec 32 := Scalar.muli c1024_i32_r0 v21_r0
  let c0_i32_151_r0 : BitVec 32 := 0#32
  ![v152_r0.toNat, 0]
@[reducible] def k0_t1_loop : Scf.Loop 32 :=
  let c0_i32_91_r0 : BitVec 32 := 0#32
  let c128_i32_r0 : BitVec 32 := 128#32
  let v85_r0 : BitVec 32 := Scalar.addi c0_i32_91_r0 c128_i32_r0
  let c1_i32_92_r0 : BitVec 32 := 1#32
  ⟨c0_i32_91_r0, v85_r0, c1_i32_92_r0⟩
def k0_off12 (arg8_r0 : BitVec 32) : Fin 1 → Nat :=
  let c2_i32_293_r0 : BitVec 32 := 2#32
  let v415_r0 : BitVec 32 := Scalar.remui arg8_r0 c2_i32_293_r0
  ![v415_r0.toNat]
def k0_cond3 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v195_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_187_r0 : BitVec 32 := 127#32
  let v196_r0 : BitVec 1 := Scalar.cmpi .sge arg7_r0 c127_i32_187_r0
  let true_188_r0 : BitVec 1 := 1#1
  let v197_r0 : BitVec 1 := Scalar.xori v196_r0 true_188_r0
  let v198_r0 : BitVec 1 := Scalar.andi v195_r0 v197_r0
  let true_189_r0 : BitVec 1 := 1#1
  let v199_r0 : BitVec 1 := Scalar.andi v198_r0 true_189_r0
  let v200_r0 : BitVec 32 := Scalar.extui v199_r0
  let c0_i32_190_r0 : BitVec 32 := 0#32
  let v201_r0 : BitVec 1 := Scalar.cmpi .ne v200_r0 c0_i32_190_r0
  v201_r0

def k0_off13 (arg8_r0 : BitVec 32) : Fin 3 → Nat :=
  let c2_i32_293_r0 : BitVec 32 := 2#32
  let v415_r0 : BitVec 32 := Scalar.remui arg8_r0 c2_i32_293_r0
  let c0_i32_295_r0 : BitVec 32 := 0#32
  let c0_i32_296_r0 : BitVec 32 := 0#32
  ![v415_r0.toNat, 0, 0]
def k0_off14 (arg21_r0 : BitVec 32) (arg22_r0 : BitVec 32) : Fin 2 → Nat :=
  let c512_i32_294_r0 : BitVec 32 := 512#32
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v416_r0 : BitVec 32 := Scalar.muli c512_i32_294_r0 v173_r0
  let c0_i32_297_r0 : BitVec 32 := 0#32
  ![v416_r0.toNat, 0]
def k0_off15 (arg10_r0 : BitVec 32) : Fin 1 → Nat :=
  let c3_i32_293_r0 : BitVec 32 := 3#32
  let v415_r0 : BitVec 32 := Scalar.remui arg10_r0 c3_i32_293_r0
  ![v415_r0.toNat]
def k0_cond4 (k0_t1 : Fin k0_t1_loop.trips) (arg22_r0 : BitVec 32) : BitVec 1 :=
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c0_i32_168_r0 : BitVec 32 := 0#32
  let v174_r0 : BitVec 32 := Scalar.addi v168_r0 c0_i32_168_r0
  let true_170_r0 : BitVec 1 := 1#1
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v205_r0 : BitVec 1 := Scalar.cmpi .ne v174_r0 v184_r0
  let c0_i32_91_r0 : BitVec 32 := 0#32
  let c1_i32_92_r0 : BitVec 32 := 1#32
  let arg7_r0 : BitVec 32 := Scf.iv c0_i32_91_r0 c1_i32_92_r0 k0_t1
  let c126_i32_r0 : BitVec 32 := 126#32
  let v206_r0 : BitVec 1 := Scalar.cmpi .sge arg7_r0 c126_i32_r0
  let true_193_r0 : BitVec 1 := 1#1
  let v207_r0 : BitVec 1 := Scalar.xori v206_r0 true_193_r0
  let v208_r0 : BitVec 1 := Scalar.andi v205_r0 v207_r0
  let true_194_r0 : BitVec 1 := 1#1
  let v209_r0 : BitVec 1 := Scalar.andi v208_r0 true_194_r0
  let v210_r0 : BitVec 32 := Scalar.extui v209_r0
  let c0_i32_195_r0 : BitVec 32 := 0#32
  let v211_r0 : BitVec 1 := Scalar.cmpi .ne v210_r0 c0_i32_195_r0
  v211_r0

def k0_off16 (arg10_r0 : BitVec 32) : Fin 3 → Nat :=
  let c3_i32_293_r0 : BitVec 32 := 3#32
  let v415_r0 : BitVec 32 := Scalar.remui arg10_r0 c3_i32_293_r0
  let c0_i32_294_r0 : BitVec 32 := 0#32
  let c0_i32_295_r0 : BitVec 32 := 0#32
  ![v415_r0.toNat, 0, 0]
def k0_off17 (arg22_r0 : BitVec 32) : Fin 3 → Nat :=
  let true_170_r0 : BitVec 1 := 1#1
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let c0_i32_296_r0 : BitVec 32 := 0#32
  let c0_i32_297_r0 : BitVec 32 := 0#32
  ![v184_r0.toNat, 0, 0]
def k0_off18 (arg12_r0 : BitVec 32) : Fin 1 → Nat :=
  let c3_i32_293_r0 : BitVec 32 := 3#32
  let v415_r0 : BitVec 32 := Scalar.remui arg12_r0 c3_i32_293_r0
  ![v415_r0.toNat]
def k0_cond5 (k0_t1 : Fin k0_t1_loop.trips) (arg22_r0 : BitVec 32) : BitVec 1 :=
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c0_i32_168_r0 : BitVec 32 := 0#32
  let v174_r0 : BitVec 32 := Scalar.addi v168_r0 c0_i32_168_r0
  let true_170_r0 : BitVec 1 := 1#1
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v215_r0 : BitVec 1 := Scalar.cmpi .ne v174_r0 v184_r0
  let c0_i32_91_r0 : BitVec 32 := 0#32
  let c1_i32_92_r0 : BitVec 32 := 1#32
  let arg7_r0 : BitVec 32 := Scf.iv c0_i32_91_r0 c1_i32_92_r0 k0_t1
  let c126_i32_198_r0 : BitVec 32 := 126#32
  let v216_r0 : BitVec 1 := Scalar.cmpi .sge arg7_r0 c126_i32_198_r0
  let true_199_r0 : BitVec 1 := 1#1
  let v217_r0 : BitVec 1 := Scalar.xori v216_r0 true_199_r0
  let v218_r0 : BitVec 1 := Scalar.andi v215_r0 v217_r0
  let true_200_r0 : BitVec 1 := 1#1
  let v219_r0 : BitVec 1 := Scalar.andi v218_r0 true_200_r0
  let v220_r0 : BitVec 32 := Scalar.extui v219_r0
  let c0_i32_201_r0 : BitVec 32 := 0#32
  let v221_r0 : BitVec 1 := Scalar.cmpi .ne v220_r0 c0_i32_201_r0
  v221_r0

def k0_off19 (arg12_r0 : BitVec 32) : Fin 3 → Nat :=
  let c3_i32_293_r0 : BitVec 32 := 3#32
  let v415_r0 : BitVec 32 := Scalar.remui arg12_r0 c3_i32_293_r0
  let c0_i32_294_r0 : BitVec 32 := 0#32
  let c0_i32_295_r0 : BitVec 32 := 0#32
  ![v415_r0.toNat, 0, 0]
def k0_off20 (arg22_r0 : BitVec 32) : Fin 2 → Nat :=
  let c1024_i32_r0 : BitVec 32 := 1024#32
  let true_170_r0 : BitVec 1 := 1#1
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c0_i32_163_r0 : BitVec 32 := 0#32
  let v168_r0 : BitVec 32 := Scalar.select v167_r0 c0_i32_163_r0 v166_r0
  let c1_i32_169_r0 : BitVec 32 := 1#32
  let v175_r0 : BitVec 32 := Scalar.addi v168_r0 c1_i32_169_r0
  let v176_r0 : BitVec 32 := Scalar.select true_170_r0 v175_r0 v168_r0
  let c8_i32_171_r0 : BitVec 32 := 8#32
  let v177_r0 : BitVec 1 := Scalar.cmpi .eq v176_r0 c8_i32_171_r0
  let c0_i32_172_r0 : BitVec 32 := 0#32
  let v178_r0 : BitVec 32 := Scalar.select v177_r0 c0_i32_172_r0 v176_r0
  let c0_i32_177_r0 : BitVec 32 := 0#32
  let v184_r0 : BitVec 32 := Scalar.addi v178_r0 c0_i32_177_r0
  let v416_r0 : BitVec 32 := Scalar.muli c1024_i32_r0 v184_r0
  let c0_i32_296_r0 : BitVec 32 := 0#32
  ![v416_r0.toNat, 0]
def k0_off21 (arg14_r0 : BitVec 32) : Fin 1 → Nat :=
  let c2_i32_293_r0 : BitVec 32 := 2#32
  let v415_r0 : BitVec 32 := Scalar.remui arg14_r0 c2_i32_293_r0
  ![v415_r0.toNat]
def k0_cond6 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v225_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_204_r0 : BitVec 32 := 127#32
  let v226_r0 : BitVec 1 := Scalar.cmpi .sge arg7_r0 c127_i32_204_r0
  let true_205_r0 : BitVec 1 := 1#1
  let v227_r0 : BitVec 1 := Scalar.xori v226_r0 true_205_r0
  let v228_r0 : BitVec 1 := Scalar.andi v225_r0 v227_r0
  let true_206_r0 : BitVec 1 := 1#1
  let v229_r0 : BitVec 1 := Scalar.andi v228_r0 true_206_r0
  let v230_r0 : BitVec 32 := Scalar.extui v229_r0
  let c0_i32_207_r0 : BitVec 32 := 0#32
  let v231_r0 : BitVec 1 := Scalar.cmpi .ne v230_r0 c0_i32_207_r0
  v231_r0

def k0_off22 (arg14_r0 : BitVec 32) : Fin 3 → Nat :=
  let c2_i32_293_r0 : BitVec 32 := 2#32
  let v415_r0 : BitVec 32 := Scalar.remui arg14_r0 c2_i32_293_r0
  let c0_i32_295_r0 : BitVec 32 := 0#32
  let c0_i32_296_r0 : BitVec 32 := 0#32
  ![v415_r0.toNat, 0, 0]
def k0_off23 (arg21_r0 : BitVec 32) (arg22_r0 : BitVec 32) : Fin 2 → Nat :=
  let c512_i32_294_r0 : BitVec 32 := 512#32
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v416_r0 : BitVec 32 := Scalar.muli c512_i32_294_r0 v173_r0
  let c0_i32_297_r0 : BitVec 32 := 0#32
  ![v416_r0.toNat, 0]
def k0_off24 (arg9_r0 : BitVec 32) : Fin 1 → Nat :=
  let c2_i32_294_r0 : BitVec 32 := 2#32
  let v416_r0 : BitVec 32 := Scalar.remui arg9_r0 c2_i32_294_r0
  ![v416_r0.toNat]
def k0_cond7 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v243_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v244_r0 : BitVec 1 := Scalar.ori v243_r0 v151_r0
  let c0_i32_214_r0 : BitVec 32 := 0#32
  let v245_r0 : BitVec 1 := Scalar.cmpi .sge arg7_r0 c0_i32_214_r0
  let v246_r0 : BitVec 1 := Scalar.andi v244_r0 v245_r0
  let v247_r0 : BitVec 32 := Scalar.extui v246_r0
  let c0_i32_215_r0 : BitVec 32 := 0#32
  let v248_r0 : BitVec 1 := Scalar.cmpi .ne v247_r0 c0_i32_215_r0
  v248_r0

def k0_off25 (arg9_r0 : BitVec 32) : Fin 3 → Nat :=
  let c2_i32_294_r0 : BitVec 32 := 2#32
  let v416_r0 : BitVec 32 := Scalar.remui arg9_r0 c2_i32_294_r0
  let c0_i32_295_r0 : BitVec 32 := 0#32
  let c0_i32_296_r0 : BitVec 32 := 0#32
  ![v416_r0.toNat, 0, 0]
def k0_off26 (arg21_r0 : BitVec 32) : Fin 2 → Nat :=
  let c512_i32_293_r0 : BitVec 32 := 512#32
  let c0_i32_149_r0 : BitVec 32 := 0#32
  let v153_r0 : BitVec 32 := Scalar.addi arg21_r0 c0_i32_149_r0
  let v415_r0 : BitVec 32 := Scalar.muli c512_i32_293_r0 v153_r0
  let c0_i32_297_r0 : BitVec 32 := 0#32
  ![v415_r0.toNat, 0]
def k0_off27 (arg11_r0 : BitVec 32) : Fin 1 → Nat :=
  let c3_i32_293_r0 : BitVec 32 := 3#32
  let v415_r0 : BitVec 32 := Scalar.remui arg11_r0 c3_i32_293_r0
  ![v415_r0.toNat]
def k0_cond8 (k0_t1 : Fin k0_t1_loop.trips) (arg22_r0 : BitVec 32) : BitVec 1 :=
  let c0_i32_150_r0 : BitVec 32 := 0#32
  let v154_r0 : BitVec 32 := Scalar.addi arg22_r0 c0_i32_150_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c7_i32_154_r0 : BitVec 32 := 7#32
  let v158_r0 : BitVec 32 := Scalar.select v157_r0 c7_i32_154_r0 v156_r0
  let c0_i32_159_r0 : BitVec 32 := 0#32
  let v164_r0 : BitVec 32 := Scalar.addi v158_r0 c0_i32_159_r0
  let v249_r0 : BitVec 1 := Scalar.cmpi .ne v154_r0 v164_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v250_r0 : BitVec 1 := Scalar.ori v249_r0 v151_r0
  let c0_i32_216_r0 : BitVec 32 := 0#32
  let v251_r0 : BitVec 1 := Scalar.cmpi .sge arg7_r0 c0_i32_216_r0
  let v252_r0 : BitVec 1 := Scalar.andi v250_r0 v251_r0
  let v253_r0 : BitVec 32 := Scalar.extui v252_r0
  let c0_i32_217_r0 : BitVec 32 := 0#32
  let v254_r0 : BitVec 1 := Scalar.cmpi .ne v253_r0 c0_i32_217_r0
  v254_r0

def k0_off28 (arg11_r0 : BitVec 32) : Fin 3 → Nat :=
  let c3_i32_293_r0 : BitVec 32 := 3#32
  let v415_r0 : BitVec 32 := Scalar.remui arg11_r0 c3_i32_293_r0
  let c0_i32_294_r0 : BitVec 32 := 0#32
  let c0_i32_295_r0 : BitVec 32 := 0#32
  ![v415_r0.toNat, 0, 0]
def k0_off29 (arg22_r0 : BitVec 32) : Fin 3 → Nat :=
  let c0_i32_150_r0 : BitVec 32 := 0#32
  let v154_r0 : BitVec 32 := Scalar.addi arg22_r0 c0_i32_150_r0
  let c0_i32_296_r0 : BitVec 32 := 0#32
  let c0_i32_297_r0 : BitVec 32 := 0#32
  ![v154_r0.toNat, 0, 0]
def k0_off30 (arg13_r0 : BitVec 32) : Fin 1 → Nat :=
  let c3_i32_293_r0 : BitVec 32 := 3#32
  let v416_r0 : BitVec 32 := Scalar.remui arg13_r0 c3_i32_293_r0
  ![v416_r0.toNat]
def k0_cond9 (k0_t1 : Fin k0_t1_loop.trips) (arg22_r0 : BitVec 32) : BitVec 1 :=
  let c0_i32_150_r0 : BitVec 32 := 0#32
  let v154_r0 : BitVec 32 := Scalar.addi arg22_r0 c0_i32_150_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c7_i32_154_r0 : BitVec 32 := 7#32
  let v158_r0 : BitVec 32 := Scalar.select v157_r0 c7_i32_154_r0 v156_r0
  let c0_i32_159_r0 : BitVec 32 := 0#32
  let v164_r0 : BitVec 32 := Scalar.addi v158_r0 c0_i32_159_r0
  let v255_r0 : BitVec 1 := Scalar.cmpi .ne v154_r0 v164_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v256_r0 : BitVec 1 := Scalar.ori v255_r0 v151_r0
  let c0_i32_218_r0 : BitVec 32 := 0#32
  let v257_r0 : BitVec 1 := Scalar.cmpi .sge arg7_r0 c0_i32_218_r0
  let v258_r0 : BitVec 1 := Scalar.andi v256_r0 v257_r0
  let v259_r0 : BitVec 32 := Scalar.extui v258_r0
  let c0_i32_219_r0 : BitVec 32 := 0#32
  let v260_r0 : BitVec 1 := Scalar.cmpi .ne v259_r0 c0_i32_219_r0
  v260_r0

def k0_off31 (arg13_r0 : BitVec 32) : Fin 3 → Nat :=
  let c3_i32_293_r0 : BitVec 32 := 3#32
  let v416_r0 : BitVec 32 := Scalar.remui arg13_r0 c3_i32_293_r0
  let c0_i32_294_r0 : BitVec 32 := 0#32
  let c0_i32_295_r0 : BitVec 32 := 0#32
  ![v416_r0.toNat, 0, 0]
def k0_off32 (arg22_r0 : BitVec 32) : Fin 2 → Nat :=
  let c1024_i32_r0 : BitVec 32 := 1024#32
  let c0_i32_150_r0 : BitVec 32 := 0#32
  let v154_r0 : BitVec 32 := Scalar.addi arg22_r0 c0_i32_150_r0
  let v415_r0 : BitVec 32 := Scalar.muli c1024_i32_r0 v154_r0
  let c0_i32_296_r0 : BitVec 32 := 0#32
  ![v415_r0.toNat, 0]
def k0_off33 (arg15_r0 : BitVec 32) : Fin 1 → Nat :=
  let c2_i32_294_r0 : BitVec 32 := 2#32
  let v416_r0 : BitVec 32 := Scalar.remui arg15_r0 c2_i32_294_r0
  ![v416_r0.toNat]
def k0_cond10 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v261_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let v262_r0 : BitVec 1 := Scalar.ori v261_r0 v151_r0
  let c0_i32_220_r0 : BitVec 32 := 0#32
  let v263_r0 : BitVec 1 := Scalar.cmpi .sge arg7_r0 c0_i32_220_r0
  let v264_r0 : BitVec 1 := Scalar.andi v262_r0 v263_r0
  let v265_r0 : BitVec 32 := Scalar.extui v264_r0
  let c0_i32_221_r0 : BitVec 32 := 0#32
  let v266_r0 : BitVec 1 := Scalar.cmpi .ne v265_r0 c0_i32_221_r0
  v266_r0

def k0_off34 (arg15_r0 : BitVec 32) : Fin 3 → Nat :=
  let c2_i32_294_r0 : BitVec 32 := 2#32
  let v416_r0 : BitVec 32 := Scalar.remui arg15_r0 c2_i32_294_r0
  let c0_i32_295_r0 : BitVec 32 := 0#32
  let c0_i32_296_r0 : BitVec 32 := 0#32
  ![v416_r0.toNat, 0, 0]
def k0_off35 (arg21_r0 : BitVec 32) : Fin 2 → Nat :=
  let c512_i32_293_r0 : BitVec 32 := 512#32
  let c0_i32_149_r0 : BitVec 32 := 0#32
  let v153_r0 : BitVec 32 := Scalar.addi arg21_r0 c0_i32_149_r0
  let v415_r0 : BitVec 32 := Scalar.muli c512_i32_293_r0 v153_r0
  let c0_i32_297_r0 : BitVec 32 := 0#32
  ![v415_r0.toNat, 0]
def k0_off36 (arg15_r0 : BitVec 32) : Fin 3 → Nat :=
  let c2_i32_229_r0 : BitVec 32 := 2#32
  let v282_r0 : BitVec 32 := Scalar.remui arg15_r0 c2_i32_229_r0
  let v415_r0 : Index := Scalar.indexCast v282_r0
  let c0_293_r0 : Index := 0#32
  let c0_294_r0 : Index := 0#32
  ![v415_r0.toNat, 0, 0]
def k0_cond13 (arg22_r0 : BitVec 32) : BitVec 1 :=
  let c0_i32_150_r0 : BitVec 32 := 0#32
  let v154_r0 : BitVec 32 := Scalar.addi arg22_r0 c0_i32_150_r0
  let c0_i32_232_r0 : BitVec 32 := 0#32
  let v285_r0 : BitVec 1 := Scalar.cmpi .eq v154_r0 c0_i32_232_r0
  let v286_r0 : BitVec 32 := Scalar.extui v285_r0
  let c0_i32_233_r0 : BitVec 32 := 0#32
  let v287_r0 : BitVec 1 := Scalar.cmpi .ne v286_r0 c0_i32_233_r0
  v287_r0

def k0_off37 (arg17_r0 : BitVec 32) : Fin 3 → Nat :=
  let c2_i32_230_r0 : BitVec 32 := 2#32
  let v283_r0 : BitVec 32 := Scalar.remui arg17_r0 c2_i32_230_r0
  let v418_r0 : Index := Scalar.indexCast v283_r0
  let c0_295_r0 : Index := 0#32
  let c0_296_r0 : Index := 0#32
  ![v418_r0.toNat, 0, 0]
def k0_off38 (arg9_r0 : BitVec 32) : Fin 3 → Nat :=
  let c2_i32_226_r0 : BitVec 32 := 2#32
  let v279_r0 : BitVec 32 := Scalar.remui arg9_r0 c2_i32_226_r0
  let v288_r0 : Index := Scalar.indexCast v279_r0
  let c0_r0 : Index := 0#32
  let c0_234_r0 : Index := 0#32
  ![v288_r0.toNat, 0, 0]

def k0_chk2 (arg9_r0 : BitVec 32) : Prop :=
  (∀ a, (k0_off38 arg9_r0) a + S1x512x2048.size a ≤ S2x512x2048.size a)
theorem k0_off38_inb : ∀ (arg9_r0 : BitVec 32) (k0_hw2 : k0_chk2 arg9_r0), ∀ a, (k0_off38 arg9_r0) a + S1x512x2048.size a ≤ S2x512x2048.size a := fun arg9_r0 k0_hw2 => k0_hw2

def k0_off39 (arg11_r0 : BitVec 32) : Fin 3 → Nat :=
  let c3_i32_227_r0 : BitVec 32 := 3#32
  let v280_r0 : BitVec 32 := Scalar.remui arg11_r0 c3_i32_227_r0
  let v291_r0 : Index := Scalar.indexCast v280_r0
  let c0_235_r0 : Index := 0#32
  let c0_236_r0 : Index := 0#32
  ![v291_r0.toNat, 0, 0]

def k0_chk3 (arg11_r0 : BitVec 32) : Prop :=
  (∀ a, (k0_off39 arg11_r0) a + S1x2048x1024.size a ≤ S3x2048x1024.size a)
theorem k0_off39_inb : ∀ (arg11_r0 : BitVec 32) (k0_hw3 : k0_chk3 arg11_r0), ∀ a, (k0_off39 arg11_r0) a + S1x2048x1024.size a ≤ S3x2048x1024.size a := fun arg11_r0 k0_hw3 => k0_hw3

def k0_off40 (arg17_r0 : BitVec 32) : Fin 3 → Nat :=
  let c2_i32_230_r0 : BitVec 32 := 2#32
  let v283_r0 : BitVec 32 := Scalar.remui arg17_r0 c2_i32_230_r0
  let v299_r0 : Index := Scalar.indexCast v283_r0
  let c0_238_r0 : Index := 0#32
  let c0_239_r0 : Index := 0#32
  ![v299_r0.toNat, 0, 0]

def k0_chk4 (arg17_r0 : BitVec 32) : Prop :=
  (∀ a, (k0_off40 arg17_r0) a + S1x512x2048.size a ≤ S2x512x2048.size a)
theorem k0_off40_inb : ∀ (arg17_r0 : BitVec 32) (k0_hw4 : k0_chk4 arg17_r0), ∀ a, (k0_off40 arg17_r0) a + S1x512x2048.size a ≤ S2x512x2048.size a := fun arg17_r0 k0_hw4 => k0_hw4

def k0_off41 (arg13_r0 : BitVec 32) : Fin 3 → Nat :=
  let c3_i32_228_r0 : BitVec 32 := 3#32
  let v281_r0 : BitVec 32 := Scalar.remui arg13_r0 c3_i32_228_r0
  let v302_r0 : Index := Scalar.indexCast v281_r0
  let c0_240_r0 : Index := 0#32
  let c0_241_r0 : Index := 0#32
  ![v302_r0.toNat, 0, 0]

def k0_chk5 (arg13_r0 : BitVec 32) : Prop :=
  (∀ a, (k0_off41 arg13_r0) a + S1x1024x2048.size a ≤ S3x1024x2048.size a)
theorem k0_off41_inb : ∀ (arg13_r0 : BitVec 32) (k0_hw5 : k0_chk5 arg13_r0), ∀ a, (k0_off41 arg13_r0) a + S1x1024x2048.size a ≤ S3x1024x2048.size a := fun arg13_r0 k0_hw5 => k0_hw5

def k0_off42 (arg17_r0 : BitVec 32) : Fin 3 → Nat :=
  let c2_i32_230_r0 : BitVec 32 := 2#32
  let v283_r0 : BitVec 32 := Scalar.remui arg17_r0 c2_i32_230_r0
  let v415_r0 : Index := Scalar.indexCast v283_r0
  let c0_293_r0 : Index := 0#32
  let c0_294_r0 : Index := 0#32
  ![v415_r0.toNat, 0, 0]
def k0_cond14 (arg22_r0 : BitVec 32) : BitVec 1 :=
  let c0_i32_150_r0 : BitVec 32 := 0#32
  let v154_r0 : BitVec 32 := Scalar.addi arg22_r0 c0_i32_150_r0
  let c7_i32_245_r0 : BitVec 32 := 7#32
  let v311_r0 : BitVec 1 := Scalar.cmpi .eq v154_r0 c7_i32_245_r0
  let v312_r0 : BitVec 32 := Scalar.extui v311_r0
  let c0_i32_246_r0 : BitVec 32 := 0#32
  let v313_r0 : BitVec 1 := Scalar.cmpi .ne v312_r0 c0_i32_246_r0
  v313_r0

def k0_off43 (arg19_r0 : BitVec 32) : Fin 3 → Nat :=
  let c2_i32_231_r0 : BitVec 32 := 2#32
  let v284_r0 : BitVec 32 := Scalar.remui arg19_r0 c2_i32_231_r0
  let v433_r0 : Index := Scalar.indexCast v284_r0
  let c0_300_r0 : Index := 0#32
  let c0_301_r0 : Index := 0#32
  ![v433_r0.toNat, 0, 0]
def k0_off44 (arg17_r0 : BitVec 32) : Fin 1 → Nat :=
  let c2_i32_293_r0 : BitVec 32 := 2#32
  let v415_r0 : BitVec 32 := Scalar.remui arg17_r0 c2_i32_293_r0
  ![v415_r0.toNat]
def k0_cond19 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v334_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_r0 : BitVec 32 := 127#32
  let v152_r0 : BitVec 1 := Scalar.cmpi .eq arg7_r0 c127_i32_r0
  let v335_r0 : BitVec 1 := Scalar.ori v334_r0 v152_r0
  let v336_r0 : BitVec 32 := Scalar.extui v335_r0
  let c0_i32_254_r0 : BitVec 32 := 0#32
  let v337_r0 : BitVec 1 := Scalar.cmpi .ne v336_r0 c0_i32_254_r0
  v337_r0

def k0_off45 (arg21_r0 : BitVec 32) : Fin 2 → Nat :=
  let c512_i32_294_r0 : BitVec 32 := 512#32
  let c0_i32_149_r0 : BitVec 32 := 0#32
  let v153_r0 : BitVec 32 := Scalar.addi arg21_r0 c0_i32_149_r0
  let v416_r0 : BitVec 32 := Scalar.muli c512_i32_294_r0 v153_r0
  let c0_i32_295_r0 : BitVec 32 := 0#32
  ![v416_r0.toNat, 0]
def k0_off46 (arg17_r0 : BitVec 32) : Fin 3 → Nat :=
  let c2_i32_293_r0 : BitVec 32 := 2#32
  let v415_r0 : BitVec 32 := Scalar.remui arg17_r0 c2_i32_293_r0
  let c0_i32_296_r0 : BitVec 32 := 0#32
  let c0_i32_297_r0 : BitVec 32 := 0#32
  ![v415_r0.toNat, 0, 0]
def k0_off47 (arg19_r0 : BitVec 32) : Fin 1 → Nat :=
  let c2_i32_293_r0 : BitVec 32 := 2#32
  let v415_r0 : BitVec 32 := Scalar.remui arg19_r0 c2_i32_293_r0
  ![v415_r0.toNat]
def k0_cond20 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_161_r0 : BitVec 1 := 1#1
  let c1_i32_160_r0 : BitVec 32 := 1#32
  let v165_r0 : BitVec 32 := Scalar.addi arg22_r0 c1_i32_160_r0
  let v166_r0 : BitVec 32 := Scalar.select true_161_r0 v165_r0 arg22_r0
  let c8_i32_162_r0 : BitVec 32 := 8#32
  let v167_r0 : BitVec 1 := Scalar.cmpi .eq v166_r0 c8_i32_162_r0
  let c1_i32_164_r0 : BitVec 32 := 1#32
  let v169_r0 : BitVec 32 := Scalar.addi arg21_r0 c1_i32_164_r0
  let v170_r0 : BitVec 32 := Scalar.select v167_r0 v169_r0 arg21_r0
  let c16_i32_165_r0 : BitVec 32 := 16#32
  let v171_r0 : BitVec 1 := Scalar.cmpi .eq v170_r0 c16_i32_165_r0
  let c0_i32_166_r0 : BitVec 32 := 0#32
  let v172_r0 : BitVec 32 := Scalar.select v171_r0 c0_i32_166_r0 v170_r0
  let c0_i32_167_r0 : BitVec 32 := 0#32
  let v173_r0 : BitVec 32 := Scalar.addi v172_r0 c0_i32_167_r0
  let v341_r0 : BitVec 1 := Scalar.cmpi .ne v153_r0 v173_r0
  let c0_i32_91_r0 : BitVec 32 := 0#32
  let c1_i32_92_r0 : BitVec 32 := 1#32
  let arg7_r0 : BitVec 32 := Scf.iv c0_i32_91_r0 c1_i32_92_r0 k0_t1
  let c127_i32_r0 : BitVec 32 := 127#32
  let v152_r0 : BitVec 1 := Scalar.cmpi .eq arg7_r0 c127_i32_r0
  let v342_r0 : BitVec 1 := Scalar.ori v341_r0 v152_r0
  let v343_r0 : BitVec 32 := Scalar.extui v342_r0
  let c0_i32_257_r0 : BitVec 32 := 0#32
  let v344_r0 : BitVec 1 := Scalar.cmpi .ne v343_r0 c0_i32_257_r0
  v344_r0

def k0_off48 (arg21_r0 : BitVec 32) : Fin 2 → Nat :=
  let c512_i32_294_r0 : BitVec 32 := 512#32
  let c0_i32_149_r0 : BitVec 32 := 0#32
  let v153_r0 : BitVec 32 := Scalar.addi arg21_r0 c0_i32_149_r0
  let v416_r0 : BitVec 32 := Scalar.muli c512_i32_294_r0 v153_r0
  let c0_i32_295_r0 : BitVec 32 := 0#32
  ![v416_r0.toNat, 0]
def k0_off49 (arg19_r0 : BitVec 32) : Fin 3 → Nat :=
  let c2_i32_293_r0 : BitVec 32 := 2#32
  let v415_r0 : BitVec 32 := Scalar.remui arg19_r0 c2_i32_293_r0
  let c0_i32_296_r0 : BitVec 32 := 0#32
  let c0_i32_297_r0 : BitVec 32 := 0#32
  ![v415_r0.toNat, 0, 0]
def k0_off50 (arg18_r0 : BitVec 32) : Fin 1 → Nat :=
  let c2_i32_293_r0 : BitVec 32 := 2#32
  let v415_r0 : BitVec 32 := Scalar.remui arg18_r0 c2_i32_293_r0
  ![v415_r0.toNat]
def k0_cond25 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v372_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let true_272_r0 : BitVec 1 := 1#1
  let v373_r0 : BitVec 1 := Scalar.xori v151_r0 true_272_r0
  let v374_r0 : BitVec 1 := Scalar.andi v372_r0 v373_r0
  let v375_r0 : BitVec 32 := Scalar.extui v374_r0
  let c0_i32_273_r0 : BitVec 32 := 0#32
  let v376_r0 : BitVec 1 := Scalar.cmpi .ne v375_r0 c0_i32_273_r0
  v376_r0

def k0_off51 (arg21_r0 : BitVec 32) (arg22_r0 : BitVec 32) : Fin 2 → Nat :=
  let c512_i32_294_r0 : BitVec 32 := 512#32
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v416_r0 : BitVec 32 := Scalar.muli c512_i32_294_r0 v163_r0
  let c0_i32_295_r0 : BitVec 32 := 0#32
  ![v416_r0.toNat, 0]
def k0_off52 (arg18_r0 : BitVec 32) : Fin 3 → Nat :=
  let c2_i32_293_r0 : BitVec 32 := 2#32
  let v415_r0 : BitVec 32 := Scalar.remui arg18_r0 c2_i32_293_r0
  let c0_i32_296_r0 : BitVec 32 := 0#32
  let c0_i32_297_r0 : BitVec 32 := 0#32
  ![v415_r0.toNat, 0, 0]
def k0_off53 (arg20_r0 : BitVec 32) : Fin 1 → Nat :=
  let c2_i32_293_r0 : BitVec 32 := 2#32
  let v415_r0 : BitVec 32 := Scalar.remui arg20_r0 c2_i32_293_r0
  ![v415_r0.toNat]
def k0_cond26 (k0_t1 : Fin k0_t1_loop.trips) (arg21_r0 : BitVec 32) (arg22_r0 : BitVec 32) : BitVec 1 :=
  let c0_i32_149_r0 : BitVec 32 := 0#32
  let v153_r0 : BitVec 32 := Scalar.addi arg21_r0 c0_i32_149_r0
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v380_r0 : BitVec 1 := Scalar.cmpi .ne v153_r0 v163_r0
  let c0_i32_91_r0 : BitVec 32 := 0#32
  let c1_i32_92_r0 : BitVec 32 := 1#32
  let arg7_r0 : BitVec 32 := Scf.iv c0_i32_91_r0 c1_i32_92_r0 k0_t1
  let c0_i32_148_r0 : BitVec 32 := 0#32
  let v151_r0 : BitVec 1 := Scalar.cmpi .eq arg7_r0 c0_i32_148_r0
  let true_276_r0 : BitVec 1 := 1#1
  let v381_r0 : BitVec 1 := Scalar.xori v151_r0 true_276_r0
  let v382_r0 : BitVec 1 := Scalar.andi v380_r0 v381_r0
  let v383_r0 : BitVec 32 := Scalar.extui v382_r0
  let c0_i32_277_r0 : BitVec 32 := 0#32
  let v384_r0 : BitVec 1 := Scalar.cmpi .ne v383_r0 c0_i32_277_r0
  v384_r0

def k0_off54 (arg21_r0 : BitVec 32) (arg22_r0 : BitVec 32) : Fin 2 → Nat :=
  let c512_i32_294_r0 : BitVec 32 := 512#32
  let true_152_r0 : BitVec 1 := 1#1
  let c1_i32_151_r0 : BitVec 32 := 1#32
  let v155_r0 : BitVec 32 := Scalar.subi arg22_r0 c1_i32_151_r0
  let v156_r0 : BitVec 32 := Scalar.select true_152_r0 v155_r0 arg22_r0
  let c_m1_i32_153_r0 : BitVec 32 := 4294967295#32
  let v157_r0 : BitVec 1 := Scalar.cmpi .eq v156_r0 c_m1_i32_153_r0
  let c1_i32_155_r0 : BitVec 32 := 1#32
  let v159_r0 : BitVec 32 := Scalar.subi arg21_r0 c1_i32_155_r0
  let v160_r0 : BitVec 32 := Scalar.select v157_r0 v159_r0 arg21_r0
  let c_m1_i32_156_r0 : BitVec 32 := 4294967295#32
  let v161_r0 : BitVec 1 := Scalar.cmpi .eq v160_r0 c_m1_i32_156_r0
  let c15_i32_157_r0 : BitVec 32 := 15#32
  let v162_r0 : BitVec 32 := Scalar.select v161_r0 c15_i32_157_r0 v160_r0
  let c0_i32_158_r0 : BitVec 32 := 0#32
  let v163_r0 : BitVec 32 := Scalar.addi v162_r0 c0_i32_158_r0
  let v416_r0 : BitVec 32 := Scalar.muli c512_i32_294_r0 v163_r0
  let c0_i32_295_r0 : BitVec 32 := 0#32
  ![v416_r0.toNat, 0]
def k0_off55 (arg20_r0 : BitVec 32) : Fin 3 → Nat :=
  let c2_i32_293_r0 : BitVec 32 := 2#32
  let v415_r0 : BitVec 32 := Scalar.remui arg20_r0 c2_i32_293_r0
  let c0_i32_296_r0 : BitVec 32 := 0#32
  let c0_i32_297_r0 : BitVec 32 := 0#32
  ![v415_r0.toNat, 0, 0]

def k0_chk1_0 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h3 : k0_cond3 k0_t1 arg21_r0 arg22_r0 = 1#1), ∀ a, (k0_off12 arg8_r0) a + S1.size a ≤ S2.size a) ∧
  (∀ (k0_h3 : k0_cond3 k0_t1 arg21_r0 arg22_r0 = 1#1), ∀ a, (k0_off13 arg8_r0) a + S1x512x2048.size a ≤ S2x512x2048.size a) ∧
  (∀ (k0_h3 : k0_cond3 k0_t1 arg21_r0 arg22_r0 = 1#1), ∀ a, (k0_off14 arg21_r0 arg22_r0) a + S512x2048.size a ≤ S8192x2048.size a) ∧
  (∀ (k0_h3 : k0_cond3 k0_t1 arg21_r0 arg22_r0 = 1#1), ∀ (hinb : ∀ a, (k0_off14 arg21_r0 arg22_r0) a + S512x2048.size a ≤ S8192x2048.size a), (Rect.unit (s := S8192x2048) (k0_off14 arg21_r0 arg22_r0) S512x2048.size hinb).WholeWords (EltTy.packing .bf16)) ∧
  (∀ (k0_h3 : k0_cond3 k0_t1 arg21_r0 arg22_r0 = 1#1), ∀ (hinb : ∀ a, (k0_off13 arg8_r0) a + S1x512x2048.size a ≤ S2x512x2048.size a), (Rect.unit (s := S2x512x2048) (k0_off13 arg8_r0) S1x512x2048.size hinb).WholeWords (EltTy.packing .bf16)) ∧
  (∀ (k0_h4 : k0_cond4 k0_t1 arg22_r0 = 1#1), ∀ a, (k0_off15 arg10_r0) a + S1.size a ≤ S3.size a) ∧
  (∀ (k0_h4 : k0_cond4 k0_t1 arg22_r0 = 1#1), ∀ a, (k0_off16 arg10_r0) a + S1x2048x1024.size a ≤ S3x2048x1024.size a) ∧
  (∀ (k0_h4 : k0_cond4 k0_t1 arg22_r0 = 1#1), ∀ a, (k0_off17 arg22_r0) a + S1x2048x1024.size a ≤ S8x2048x1024.size a) ∧
  (∀ (k0_h4 : k0_cond4 k0_t1 arg22_r0 = 1#1), ∀ (hinb : ∀ a, (k0_off17 arg22_r0) a + S1x2048x1024.size a ≤ S8x2048x1024.size a), (Rect.unit (s := S8x2048x1024) (k0_off17 arg22_r0) S1x2048x1024.size hinb).WholeWords (EltTy.packing .bf16)) ∧
  (∀ (k0_h4 : k0_cond4 k0_t1 arg22_r0 = 1#1), ∀ (hinb : ∀ a, (k0_off16 arg10_r0) a + S1x2048x1024.size a ≤ S3x2048x1024.size a), (Rect.unit (s := S3x2048x1024) (k0_off16 arg10_r0) S1x2048x1024.size hinb).WholeWords (EltTy.packing .bf16)) ∧
  (∀ (k0_h5 : k0_cond5 k0_t1 arg22_r0 = 1#1), ∀ a, (k0_off18 arg12_r0) a + S1.size a ≤ S3.size a) ∧
  (∀ (k0_h5 : k0_cond5 k0_t1 arg22_r0 = 1#1), ∀ a, (k0_off19 arg12_r0) a + S1x1024x2048.size a ≤ S3x1024x2048.size a) ∧
  (∀ (k0_h5 : k0_cond5 k0_t1 arg22_r0 = 1#1), ∀ a, (k0_off20 arg22_r0) a + S1024x2048.size a ≤ S8192x2048.size a) ∧
  (∀ (k0_h5 : k0_cond5 k0_t1 arg22_r0 = 1#1), ∀ (hinb : ∀ a, (k0_off20 arg22_r0) a + S1024x2048.size a ≤ S8192x2048.size a), (Rect.unit (s := S8192x2048) (k0_off20 arg22_r0) S1024x2048.size hinb).WholeWords (EltTy.packing .bf16)) ∧
  (∀ (k0_h5 : k0_cond5 k0_t1 arg22_r0 = 1#1), ∀ (hinb : ∀ a, (k0_off19 arg12_r0) a + S1x1024x2048.size a ≤ S3x1024x2048.size a), (Rect.unit (s := S3x1024x2048) (k0_off19 arg12_r0) S1x1024x2048.size hinb).WholeWords (EltTy.packing .bf16)) ∧
  (∀ (k0_h6 : k0_cond6 k0_t1 arg21_r0 arg22_r0 = 1#1), ∀ a, (k0_off21 arg14_r0) a + S1.size a ≤ S2.size a) ∧
  (∀ (k0_h6 : k0_cond6 k0_t1 arg21_r0 arg22_r0 = 1#1), ∀ a, (k0_off22 arg14_r0) a + S1x512x2048.size a ≤ S2x512x2048.size a) ∧
  (∀ (k0_h6 : k0_cond6 k0_t1 arg21_r0 arg22_r0 = 1#1), ∀ a, (k0_off23 arg21_r0 arg22_r0) a + S512x2048.size a ≤ S8192x2048.size a) ∧
  (∀ (k0_h7 : k0_cond7 k0_t1 arg21_r0 arg22_r0 = 1#1), ∀ a, (k0_off24 arg9_r0) a + S1.size a ≤ S2.size a) ∧
  (∀ (k0_h7 : k0_cond7 k0_t1 arg21_r0 arg22_r0 = 1#1), ∀ a, (k0_off25 arg9_r0) a + S1x512x2048.size a ≤ S2x512x2048.size a) ∧
  (∀ (k0_h7 : k0_cond7 k0_t1 arg21_r0 arg22_r0 = 1#1), ∀ a, (k0_off26 arg21_r0) a + S512x2048.size a ≤ S8192x2048.size a) ∧
  (∀ (k0_h7 : k0_cond7 k0_t1 arg21_r0 arg22_r0 = 1#1), ∀ (hinb : ∀ a, (k0_off26 arg21_r0) a + S512x2048.size a ≤ S8192x2048.size a), (Rect.unit (s := S8192x2048) (k0_off26 arg21_r0) S512x2048.size hinb).WholeWords (EltTy.packing .bf16)) ∧
  (∀ (k0_h7 : k0_cond7 k0_t1 arg21_r0 arg22_r0 = 1#1), ∀ (hinb : ∀ a, (k0_off25 arg9_r0) a + S1x512x2048.size a ≤ S2x512x2048.size a), (Rect.unit (s := S2x512x2048) (k0_off25 arg9_r0) S1x512x2048.size hinb).WholeWords (EltTy.packing .bf16)) ∧
  (∀ (k0_h8 : k0_cond8 k0_t1 arg22_r0 = 1#1), ∀ a, (k0_off27 arg11_r0) a + S1.size a ≤ S3.size a) ∧
  (∀ (k0_h8 : k0_cond8 k0_t1 arg22_r0 = 1#1), ∀ a, (k0_off28 arg11_r0) a + S1x2048x1024.size a ≤ S3x2048x1024.size a) ∧
  (∀ (k0_h8 : k0_cond8 k0_t1 arg22_r0 = 1#1), ∀ a, (k0_off29 arg22_r0) a + S1x2048x1024.size a ≤ S8x2048x1024.size a) ∧
  (∀ (k0_h8 : k0_cond8 k0_t1 arg22_r0 = 1#1), ∀ (hinb : ∀ a, (k0_off29 arg22_r0) a + S1x2048x1024.size a ≤ S8x2048x1024.size a), (Rect.unit (s := S8x2048x1024) (k0_off29 arg22_r0) S1x2048x1024.size hinb).WholeWords (EltTy.packing .bf16)) ∧
  (∀ (k0_h8 : k0_cond8 k0_t1 arg22_r0 = 1#1), ∀ (hinb : ∀ a, (k0_off28 arg11_r0) a + S1x2048x1024.size a ≤ S3x2048x1024.size a), (Rect.unit (s := S3x2048x1024) (k0_off28 arg11_r0) S1x2048x1024.size hinb).WholeWords (EltTy.packing .bf16)) ∧
  (∀ (k0_h9 : k0_cond9 k0_t1 arg22_r0 = 1#1), ∀ a, (k0_off30 arg13_r0) a + S1.size a ≤ S3.size a) ∧
  (∀ (k0_h9 : k0_cond9 k0_t1 arg22_r0 = 1#1), ∀ a, (k0_off31 arg13_r0) a + S1x1024x2048.size a ≤ S3x1024x2048.size a) ∧
  (∀ (k0_h9 : k0_cond9 k0_t1 arg22_r0 = 1#1), ∀ a, (k0_off32 arg22_r0) a + S1024x2048.size a ≤ S8192x2048.size a) ∧
  (∀ (k0_h9 : k0_cond9 k0_t1 arg22_r0 = 1#1), ∀ (hinb : ∀ a, (k0_off32 arg22_r0) a + S1024x2048.size a ≤ S8192x2048.size a), (Rect.unit (s := S8192x2048) (k0_off32 arg22_r0) S1024x2048.size hinb).WholeWords (EltTy.packing .bf16))
def k0_chk1_1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  (∀ (k0_h9 : k0_cond9 k0_t1 arg22_r0 = 1#1), ∀ (hinb : ∀ a, (k0_off31 arg13_r0) a + S1x1024x2048.size a ≤ S3x1024x2048.size a), (Rect.unit (s := S3x1024x2048) (k0_off31 arg13_r0) S1x1024x2048.size hinb).WholeWords (EltTy.packing .bf16)) ∧
  (∀ (k0_h10 : k0_cond10 k0_t1 arg21_r0 arg22_r0 = 1#1), ∀ a, (k0_off33 arg15_r0) a + S1.size a ≤ S2.size a) ∧
  (∀ (k0_h10 : k0_cond10 k0_t1 arg21_r0 arg22_r0 = 1#1), ∀ a, (k0_off34 arg15_r0) a + S1x512x2048.size a ≤ S2x512x2048.size a) ∧
  (∀ (k0_h10 : k0_cond10 k0_t1 arg21_r0 arg22_r0 = 1#1), ∀ a, (k0_off35 arg21_r0) a + S512x2048.size a ≤ S8192x2048.size a) ∧
  (∀ (k0_h13 : k0_cond13 arg22_r0 = 1#1), ∀ a, (k0_off36 arg15_r0) a + S1x512x2048.size a ≤ S2x512x2048.size a) ∧
  (∀ (k0_h13 : k0_cond13 arg22_r0 = 1#1), ∀ a, (k0_off37 arg17_r0) a + S1x512x2048.size a ≤ S2x512x2048.size a) ∧
  (∀ (k0_h14 : k0_cond14 arg22_r0 = 1#1), ∀ a, (k0_off42 arg17_r0) a + S1x512x2048.size a ≤ S2x512x2048.size a) ∧
  (∀ (k0_h14 : k0_cond14 arg22_r0 = 1#1), ∀ a, (k0_off43 arg19_r0) a + S1x512x2048.size a ≤ S2x512x2048.size a) ∧
  (∀ (k0_h14 : k0_cond14 arg22_r0 = 1#1), ∀ (hinb : ∀ a, (k0_off43 arg19_r0) a + S1x512x2048.size a ≤ S2x512x2048.size a), (Rect.unit (s := S2x512x2048) (k0_off43 arg19_r0) S1x512x2048.size hinb).PackedRows (EltTy.packing .bf16)) ∧
  (∀ (k0_h19 : k0_cond19 k0_t1 arg21_r0 arg22_r0 = 1#1), ∀ a, (k0_off44 arg17_r0) a + S1.size a ≤ S2.size a) ∧
  (∀ (k0_h19 : k0_cond19 k0_t1 arg21_r0 arg22_r0 = 1#1), ∀ a, (k0_off45 arg21_r0) a + S512x2048.size a ≤ S8192x2048.size a) ∧
  (∀ (k0_h19 : k0_cond19 k0_t1 arg21_r0 arg22_r0 = 1#1), ∀ a, (k0_off46 arg17_r0) a + S1x512x2048.size a ≤ S2x512x2048.size a) ∧
  (∀ (k0_h20 : k0_cond20 k0_t1 arg21_r0 arg22_r0 = 1#1), ∀ a, (k0_off47 arg19_r0) a + S1.size a ≤ S2.size a) ∧
  (∀ (k0_h20 : k0_cond20 k0_t1 arg21_r0 arg22_r0 = 1#1), ∀ a, (k0_off48 arg21_r0) a + S512x2048.size a ≤ S8192x2048.size a) ∧
  (∀ (k0_h20 : k0_cond20 k0_t1 arg21_r0 arg22_r0 = 1#1), ∀ a, (k0_off49 arg19_r0) a + S1x512x2048.size a ≤ S2x512x2048.size a) ∧
  (∀ (k0_h20 : k0_cond20 k0_t1 arg21_r0 arg22_r0 = 1#1), ∀ (hinb : ∀ a, (k0_off49 arg19_r0) a + S1x512x2048.size a ≤ S2x512x2048.size a), (Rect.unit (s := S2x512x2048) (k0_off49 arg19_r0) S1x512x2048.size hinb).WholeWords (EltTy.packing .bf16)) ∧
  (∀ (k0_h20 : k0_cond20 k0_t1 arg21_r0 arg22_r0 = 1#1), ∀ (hinb : ∀ a, (k0_off48 arg21_r0) a + S512x2048.size a ≤ S8192x2048.size a), (Rect.unit (s := S8192x2048) (k0_off48 arg21_r0) S512x2048.size hinb).WholeWords (EltTy.packing .bf16)) ∧
  (∀ (k0_h25 : k0_cond25 k0_t1 arg21_r0 arg22_r0 = 1#1), ∀ a, (k0_off50 arg18_r0) a + S1.size a ≤ S2.size a) ∧
  (∀ (k0_h25 : k0_cond25 k0_t1 arg21_r0 arg22_r0 = 1#1), ∀ a, (k0_off51 arg21_r0 arg22_r0) a + S512x2048.size a ≤ S8192x2048.size a) ∧
  (∀ (k0_h25 : k0_cond25 k0_t1 arg21_r0 arg22_r0 = 1#1), ∀ a, (k0_off52 arg18_r0) a + S1x512x2048.size a ≤ S2x512x2048.size a) ∧
  (∀ (k0_h26 : k0_cond26 k0_t1 arg21_r0 arg22_r0 = 1#1), ∀ a, (k0_off53 arg20_r0) a + S1.size a ≤ S2.size a) ∧
  (∀ (k0_h26 : k0_cond26 k0_t1 arg21_r0 arg22_r0 = 1#1), ∀ a, (k0_off54 arg21_r0 arg22_r0) a + S512x2048.size a ≤ S8192x2048.size a) ∧
  (∀ (k0_h26 : k0_cond26 k0_t1 arg21_r0 arg22_r0 = 1#1), ∀ a, (k0_off55 arg20_r0) a + S1x512x2048.size a ≤ S2x512x2048.size a) ∧
  (∀ (k0_h26 : k0_cond26 k0_t1 arg21_r0 arg22_r0 = 1#1), ∀ (hinb : ∀ a, (k0_off55 arg20_r0) a + S1x512x2048.size a ≤ S2x512x2048.size a), (Rect.unit (s := S2x512x2048) (k0_off55 arg20_r0) S1x512x2048.size hinb).WholeWords (EltTy.packing .bf16)) ∧
  (∀ (k0_h26 : k0_cond26 k0_t1 arg21_r0 arg22_r0 = 1#1), ∀ (hinb : ∀ a, (k0_off54 arg21_r0 arg22_r0) a + S512x2048.size a ≤ S8192x2048.size a), (Rect.unit (s := S8192x2048) (k0_off54 arg21_r0 arg22_r0) S512x2048.size hinb).WholeWords (EltTy.packing .bf16))
def k0_chk1 (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) : Prop :=
  k0_chk1_0 k0_t1 arg8_r0 arg9_r0 arg10_r0 arg11_r0 arg12_r0 arg13_r0 arg14_r0 arg15_r0 arg17_r0 arg18_r0 arg19_r0 arg20_r0 arg21_r0 arg22_r0 ∧
  k0_chk1_1 k0_t1 arg8_r0 arg9_r0 arg10_r0 arg11_r0 arg12_r0 arg13_r0 arg14_r0 arg15_r0 arg17_r0 arg18_r0 arg19_r0 arg20_r0 arg21_r0 arg22_r0
theorem k0_off12_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off12 arg8_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.1 k0_h3
theorem k0_off13_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off13 arg8_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.1 k0_h3
theorem k0_off14_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), ∀ a, (k0_off14 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.1 k0_h3
theorem k0_off14_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), (Rect.unit (s := S8192x2048) (k0_off14 arg21_r0 arg22_r0) S512x2048.size (k0_off14_inb k0_t1 arg8_r0 arg9_r0 arg10_r0 arg11_r0 arg12_r0 arg13_r0 arg14_r0 arg15_r0 arg17_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.2.1 k0_h3 (k0_off14_inb k0_t1 arg8_r0 arg9_r0 arg10_r0 arg11_r0 arg12_r0 arg13_r0 arg14_r0 arg15_r0 arg17_r0 arg18_r0 arg19_r0 arg20_r0 arg21_r0 arg22_r0 k0_hw1 k0_h3)
theorem k0_off13_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h3 : k0_cond3 k0_t1 arg21_r0 arg22_r0 = 1#1), (Rect.unit (s := S2x512x2048) (k0_off13 arg8_r0) S1x512x2048.size (k0_off13_inb k0_t1 arg8_r0 arg9_r0 arg10_r0 arg11_r0 arg12_r0 arg13_r0 arg14_r0 arg15_r0 arg17_r0 arg18_r0 arg19_r0 arg20_r0 arg21_r0 arg22_r0 k0_hw1 k0_h3)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h3 => k0_hw1.1.2.2.2.2.1 k0_h3 (k0_off13_inb k0_t1 arg8_r0 arg9_r0 arg10_r0 arg11_r0 arg12_r0 arg13_r0 arg14_r0 arg15_r0 arg17_r0 arg18_r0 arg19_r0 arg20_r0 arg21_r0 arg22_r0 k0_hw1 k0_h3)
theorem k0_off15_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off15 arg10_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.1 k0_h4
theorem k0_off16_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off16 arg10_r0) a + S1x2048x1024.size a ≤ S3x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.1 k0_h4
theorem k0_off17_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), ∀ a, (k0_off17 arg22_r0) a + S1x2048x1024.size a ≤ S8x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.1 k0_h4
theorem k0_off17_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), (Rect.unit (s := S8x2048x1024) (k0_off17 arg22_r0) S1x2048x1024.size (k0_off17_inb k0_t1 arg8_r0 arg9_r0 arg10_r0 arg11_r0 arg12_r0 arg13_r0 arg14_r0 arg15_r0 arg17_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.2.1 k0_h4 (k0_off17_inb k0_t1 arg8_r0 arg9_r0 arg10_r0 arg11_r0 arg12_r0 arg13_r0 arg14_r0 arg15_r0 arg17_r0 arg18_r0 arg19_r0 arg20_r0 arg21_r0 arg22_r0 k0_hw1 k0_h4)
theorem k0_off16_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h4 : k0_cond4 k0_t1 arg22_r0 = 1#1), (Rect.unit (s := S3x2048x1024) (k0_off16 arg10_r0) S1x2048x1024.size (k0_off16_inb k0_t1 arg8_r0 arg9_r0 arg10_r0 arg11_r0 arg12_r0 arg13_r0 arg14_r0 arg15_r0 arg17_r0 arg18_r0 arg19_r0 arg20_r0 arg21_r0 arg22_r0 k0_hw1 k0_h4)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h4 => k0_hw1.1.2.2.2.2.2.2.2.2.2.1 k0_h4 (k0_off16_inb k0_t1 arg8_r0 arg9_r0 arg10_r0 arg11_r0 arg12_r0 arg13_r0 arg14_r0 arg15_r0 arg17_r0 arg18_r0 arg19_r0 arg20_r0 arg21_r0 arg22_r0 k0_hw1 k0_h4)
theorem k0_off18_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off18 arg12_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.1 k0_h5
theorem k0_off19_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off19 arg12_r0) a + S1x1024x2048.size a ≤ S3x1024x2048.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.1 k0_h5
theorem k0_off20_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), ∀ a, (k0_off20 arg22_r0) a + S1024x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.1 k0_h5
theorem k0_off20_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), (Rect.unit (s := S8192x2048) (k0_off20 arg22_r0) S1024x2048.size (k0_off20_inb k0_t1 arg8_r0 arg9_r0 arg10_r0 arg11_r0 arg12_r0 arg13_r0 arg14_r0 arg15_r0 arg17_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.2.1 k0_h5 (k0_off20_inb k0_t1 arg8_r0 arg9_r0 arg10_r0 arg11_r0 arg12_r0 arg13_r0 arg14_r0 arg15_r0 arg17_r0 arg18_r0 arg19_r0 arg20_r0 arg21_r0 arg22_r0 k0_hw1 k0_h5)
theorem k0_off19_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h5 : k0_cond5 k0_t1 arg22_r0 = 1#1), (Rect.unit (s := S3x1024x2048) (k0_off19 arg12_r0) S1x1024x2048.size (k0_off19_inb k0_t1 arg8_r0 arg9_r0 arg10_r0 arg11_r0 arg12_r0 arg13_r0 arg14_r0 arg15_r0 arg17_r0 arg18_r0 arg19_r0 arg20_r0 arg21_r0 arg22_r0 k0_hw1 k0_h5)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h5 => k0_hw1.1.2.2.2.2.2.2.2.2.2.2.2.2.2.2.1 k0_h5 (k0_off19_inb k0_t1 arg8_r0 arg9_r0 arg10_r0 arg11_r0 arg12_r0 arg13_r0 arg14_r0 arg15_r0 arg17_r0 arg18_r0 arg19_r0 arg20_r0 arg21_r0 arg22_r0 k0_hw1 k0_h5)
theorem k0_off21_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off21 arg14_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.1 k0_h6
theorem k0_off22_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off22 arg14_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.2.1 k0_h6
theorem k0_off23_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h6 : k0_cond6 k0_t1 arg21_r0 arg22_r0 = 1#1), ∀ a, (k0_off23 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h6 => k0_hw1.1.2.2.2.2.2.2.2.2.2.2.2.2.2.2.2.2.2.1 k0_h6
theorem k0_off24_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off24 arg9_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.1 k0_h7
theorem k0_off25_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off25 arg9_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.1 k0_h7
theorem k0_off26_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), ∀ a, (k0_off26 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.1 k0_h7
theorem k0_off26_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), (Rect.unit (s := S8192x2048) (k0_off26 arg21_r0) S512x2048.size (k0_off26_inb k0_t1 arg8_r0 arg9_r0 arg10_r0 arg11_r0 arg12_r0 arg13_r0 arg14_r0 arg15_r0 arg17_r0 arg18_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.2.1 k0_h7 (k0_off26_inb k0_t1 arg8_r0 arg9_r0 arg10_r0 arg11_r0 arg12_r0 arg13_r0 arg14_r0 arg15_r0 arg17_r0 arg18_r0 arg19_r0 arg20_r0 arg21_r0 arg22_r0 k0_hw1 k0_h7)
theorem k0_off25_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h7 : k0_cond7 k0_t1 arg21_r0 arg22_r0 = 1#1), (Rect.unit (s := S2x512x2048) (k0_off25 arg9_r0) S1x512x2048.size (k0_off25_inb k0_t1 arg8_r0 arg9_r0 arg10_r0 arg11_r0 arg12_r0 arg13_r0 arg14_r0 arg15_r0 arg17_r0 arg18_r0 arg19_r0 arg20_r0 arg21_r0 arg22_r0 k0_hw1 k0_h7)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h7 => k0_hw1.1.2.2.2.2.2.2.2.2.2.2.2.2.2.2.2.2.2.2.2.2.2.2.1 k0_h7 (k0_off25_inb k0_t1 arg8_r0 arg9_r0 arg10_r0 arg11_r0 arg12_r0 arg13_r0 arg14_r0 arg15_r0 arg17_r0 arg18_r0 arg19_r0 arg20_r0 arg21_r0 arg22_r0 k0_hw1 k0_h7)
theorem k0_off27_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off27 arg11_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.1 k0_h8
theorem k0_off28_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off28 arg11_r0) a + S1x2048x1024.size a ≤ S3x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.1 k0_h8
theorem k0_off29_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), ∀ a, (k0_off29 arg22_r0) a + S1x2048x1024.size a ≤ S8x2048x1024.size a := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.1 k0_h8
theorem k0_off29_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), (Rect.unit (s := S8x2048x1024) (k0_off29 arg22_r0) S1x2048x1024.size (k0_off29_inb k0_t1 arg8_r0 arg9_r0 arg10_r0 arg11_r0 arg12_r0 arg13_r0 arg14_r0 arg15_r0 arg17_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.2.1 k0_h8 (k0_off29_inb k0_t1 arg8_r0 arg9_r0 arg10_r0 arg11_r0 arg12_r0 arg13_r0 arg14_r0 arg15_r0 arg17_r0 arg18_r0 arg19_r0 arg20_r0 arg21_r0 arg22_r0 k0_hw1 k0_h8)
theorem k0_off28_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h8 : k0_cond8 k0_t1 arg22_r0 = 1#1), (Rect.unit (s := S3x2048x1024) (k0_off28 arg11_r0) S1x2048x1024.size (k0_off28_inb k0_t1 arg8_r0 arg9_r0 arg10_r0 arg11_r0 arg12_r0 arg13_r0 arg14_r0 arg15_r0 arg17_r0 arg18_r0 arg19_r0 arg20_r0 arg21_r0 arg22_r0 k0_hw1 k0_h8)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h8 => k0_hw1.1.2.2.2.2.2.2.2.2.2.2.2.2.2.2.2.2.2.2.2.2.2.2.2.2.2.2.2.1 k0_h8 (k0_off28_inb k0_t1 arg8_r0 arg9_r0 arg10_r0 arg11_r0 arg12_r0 arg13_r0 arg14_r0 arg15_r0 arg17_r0 arg18_r0 arg19_r0 arg20_r0 arg21_r0 arg22_r0 k0_hw1 k0_h8)
theorem k0_off30_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off30 arg13_r0) a + S1.size a ≤ S3.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.1 k0_h9
theorem k0_off31_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off31 arg13_r0) a + S1x1024x2048.size a ≤ S3x1024x2048.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.1 k0_h9
theorem k0_off32_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), ∀ a, (k0_off32 arg22_r0) a + S1024x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.2.1 k0_h9
theorem k0_off32_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), (Rect.unit (s := S8192x2048) (k0_off32 arg22_r0) S1024x2048.size (k0_off32_inb k0_t1 arg8_r0 arg9_r0 arg10_r0 arg11_r0 arg12_r0 arg13_r0 arg14_r0 arg15_r0 arg17_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.1.2.2.2.2.2.2.2.2.2.2.2.2.2.2.2.2.2.2.2.2.2.2.2.2.2.2.2.2.2.2.2 k0_h9 (k0_off32_inb k0_t1 arg8_r0 arg9_r0 arg10_r0 arg11_r0 arg12_r0 arg13_r0 arg14_r0 arg15_r0 arg17_r0 arg18_r0 arg19_r0 arg20_r0 arg21_r0 arg22_r0 k0_hw1 k0_h9)
theorem k0_off31_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h9 : k0_cond9 k0_t1 arg22_r0 = 1#1), (Rect.unit (s := S3x1024x2048) (k0_off31 arg13_r0) S1x1024x2048.size (k0_off31_inb k0_t1 arg8_r0 arg9_r0 arg10_r0 arg11_r0 arg12_r0 arg13_r0 arg14_r0 arg15_r0 arg17_r0 arg18_r0 arg19_r0 arg20_r0 arg21_r0 arg22_r0 k0_hw1 k0_h9)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h9 => k0_hw1.2.1 k0_h9 (k0_off31_inb k0_t1 arg8_r0 arg9_r0 arg10_r0 arg11_r0 arg12_r0 arg13_r0 arg14_r0 arg15_r0 arg17_r0 arg18_r0 arg19_r0 arg20_r0 arg21_r0 arg22_r0 k0_hw1 k0_h9)
theorem k0_off33_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off33 arg15_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.1 k0_h10
theorem k0_off34_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off34 arg15_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.2.1 k0_h10
theorem k0_off35_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h10 : k0_cond10 k0_t1 arg21_r0 arg22_r0 = 1#1), ∀ a, (k0_off35 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h10 => k0_hw1.2.2.2.2.1 k0_h10
theorem k0_off36_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h13 : k0_cond13 arg22_r0 = 1#1), ∀ a, (k0_off36 arg15_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h13 => k0_hw1.2.2.2.2.2.1 k0_h13
theorem k0_off37_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h13 : k0_cond13 arg22_r0 = 1#1), ∀ a, (k0_off37 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h13 => k0_hw1.2.2.2.2.2.2.1 k0_h13
theorem k0_off42_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h14 : k0_cond14 arg22_r0 = 1#1), ∀ a, (k0_off42 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h14 => k0_hw1.2.2.2.2.2.2.2.1 k0_h14
theorem k0_off43_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h14 : k0_cond14 arg22_r0 = 1#1), ∀ a, (k0_off43 arg19_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h14 => k0_hw1.2.2.2.2.2.2.2.2.1 k0_h14
theorem k0_off43_packedbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h14 : k0_cond14 arg22_r0 = 1#1), (Rect.unit (s := S2x512x2048) (k0_off43 arg19_r0) S1x512x2048.size (k0_off43_inb k0_t1 arg8_r0 arg9_r0 arg10_r0 arg11_r0 arg12_r0 arg13_r0 arg14_r0 arg15_r0 arg17_r0 arg18_r0 arg19_r0 arg20_r0 arg21_r0 arg22_r0 k0_hw1 k0_h14)).PackedRows (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h14 => k0_hw1.2.2.2.2.2.2.2.2.2.1 k0_h14 (k0_off43_inb k0_t1 arg8_r0 arg9_r0 arg10_r0 arg11_r0 arg12_r0 arg13_r0 arg14_r0 arg15_r0 arg17_r0 arg18_r0 arg19_r0 arg20_r0 arg21_r0 arg22_r0 k0_hw1 k0_h14)
theorem k0_off44_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off44 arg17_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.2.1 k0_h19
theorem k0_off45_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off45 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.2.2.1 k0_h19
theorem k0_off46_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h19 : k0_cond19 k0_t1 arg21_r0 arg22_r0 = 1#1), ∀ a, (k0_off46 arg17_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h19 => k0_hw1.2.2.2.2.2.2.2.2.2.2.2.2.1 k0_h19
theorem k0_off47_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off47 arg19_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.1 k0_h20
theorem k0_off48_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off48 arg21_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.2.1 k0_h20
theorem k0_off49_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), ∀ a, (k0_off49 arg19_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.2.2.1 k0_h20
theorem k0_off49_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), (Rect.unit (s := S2x512x2048) (k0_off49 arg19_r0) S1x512x2048.size (k0_off49_inb k0_t1 arg8_r0 arg9_r0 arg10_r0 arg11_r0 arg12_r0 arg13_r0 arg14_r0 arg15_r0 arg17_r0 arg18_r0 arg19_r0 arg20_r0 arg21_r0 arg22_r0 k0_hw1 k0_h20)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.2.2.2.1 k0_h20 (k0_off49_inb k0_t1 arg8_r0 arg9_r0 arg10_r0 arg11_r0 arg12_r0 arg13_r0 arg14_r0 arg15_r0 arg17_r0 arg18_r0 arg19_r0 arg20_r0 arg21_r0 arg22_r0 k0_hw1 k0_h20)
theorem k0_off48_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h20 : k0_cond20 k0_t1 arg21_r0 arg22_r0 = 1#1), (Rect.unit (s := S8192x2048) (k0_off48 arg21_r0) S512x2048.size (k0_off48_inb k0_t1 arg8_r0 arg9_r0 arg10_r0 arg11_r0 arg12_r0 arg13_r0 arg14_r0 arg15_r0 arg17_r0 arg18_r0 arg19_r0 arg20_r0 arg21_r0 arg22_r0 k0_hw1 k0_h20)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h20 => k0_hw1.2.2.2.2.2.2.2.2.2.2.2.2.2.2.2.2.2.1 k0_h20 (k0_off48_inb k0_t1 arg8_r0 arg9_r0 arg10_r0 arg11_r0 arg12_r0 arg13_r0 arg14_r0 arg15_r0 arg17_r0 arg18_r0 arg19_r0 arg20_r0 arg21_r0 arg22_r0 k0_hw1 k0_h20)
theorem k0_off50_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off50 arg18_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.2.2.2.1 k0_h25
theorem k0_off51_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off51 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.2.2.2.2.1 k0_h25
theorem k0_off52_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h25 : k0_cond25 k0_t1 arg21_r0 arg22_r0 = 1#1), ∀ a, (k0_off52 arg18_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h25 => k0_hw1.2.2.2.2.2.2.2.2.2.2.2.2.2.2.2.2.2.2.2.2.1 k0_h25
theorem k0_off53_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off53 arg20_r0) a + S1.size a ≤ S2.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2.2.1 k0_h26
theorem k0_off54_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off54 arg21_r0 arg22_r0) a + S512x2048.size a ≤ S8192x2048.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2.2.2.1 k0_h26
theorem k0_off55_inb : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), ∀ a, (k0_off55 arg20_r0) a + S1x512x2048.size a ≤ S2x512x2048.size a := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2.2.2.2.1 k0_h26
theorem k0_off55_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), (Rect.unit (s := S2x512x2048) (k0_off55 arg20_r0) S1x512x2048.size (k0_off55_inb k0_t1 arg8_r0 arg9_r0 arg10_r0 arg11_r0 arg12_r0 arg13_r0 arg14_r0 arg15_r0 arg17_r0 arg18_r0 arg19_r0 arg20_r0 arg21_r0 arg22_r0 k0_hw1 k0_h26)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2.2.2.2.2.1 k0_h26 (k0_off55_inb k0_t1 arg8_r0 arg9_r0 arg10_r0 arg11_r0 arg12_r0 arg13_r0 arg14_r0 arg15_r0 arg17_r0 arg18_r0 arg19_r0 arg20_r0 arg21_r0 arg22_r0 k0_hw1 k0_h26)
theorem k0_off54_wordsbf16 : ∀ (k0_t1 : Fin k0_t1_loop.trips) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (arg17_r0 : BitVec 32) (arg18_r0 : BitVec 32) (arg19_r0 : BitVec 32) (arg20_r0 : BitVec 32) (arg21_r0 : BitVec 32) (arg22_r0 : BitVec 32) (k0_hw1 : k0_chk1 k0_t1 arg8_r0 arg9_r0 arg10_r0 arg11_r0 arg12_r0 arg13_r0 arg14_r0 arg15_r0 arg17_r0 arg18_r0 arg19_r0 arg20_r0 arg21_r0 arg22_r0), ∀ (k0_h26 : k0_cond26 k0_t1 arg21_r0 arg22_r0 = 1#1), (Rect.unit (s := S8192x2048) (k0_off54 arg21_r0 arg22_r0) S512x2048.size (k0_off54_inb k0_t1 arg8_r0 arg9_r0 arg10_r0 arg11_r0 arg12_r0 arg13_r0 arg14_r0 arg15_r0 arg17_r0 arg18_r0 arg19_r0 arg20_r0 arg21_r0 arg22_r0 k0_hw1 k0_h26)).WholeWords (EltTy.packing .bf16) := fun k0_t1 arg8_r0 arg9_r0 arg10_r0 arg11_r0 arg12_r0 arg13_r0 arg14_r0 arg15_r0 arg17_r0 arg18_r0 arg19_r0 arg20_r0 arg21_r0 arg22_r0 k0_hw1 k0_h26 => k0_hw1.2.2.2.2.2.2.2.2.2.2.2.2.2.2.2.2.2.2.2.2.2.2.2.2.2 k0_h26 (k0_off54_inb k0_t1 arg8_r0 arg9_r0 arg10_r0 arg11_r0 arg12_r0 arg13_r0 arg14_r0 arg15_r0 arg17_r0 arg18_r0 arg19_r0 arg20_r0 arg21_r0 arg22_r0 k0_hw1 k0_h26)

def k0_off56 (v86_10_r0 : BitVec 32) : Fin 1 → Nat :=
  let c2_i32_139_r0 : BitVec 32 := 2#32
  let v137_r0 : BitVec 32 := Scalar.remui v86_10_r0 c2_i32_139_r0
  ![v137_r0.toNat]

def k0_off57 (v86_14_r0 : BitVec 32) (v86_13_r0 : BitVec 32) : Fin 2 → Nat :=
  let c512_i32_r0 : BitVec 32 := 512#32
  let true_95_r0 : BitVec 1 := 1#1
  let c1_i32_94_r0 : BitVec 32 := 1#32
  let v87_r0 : BitVec 32 := Scalar.subi v86_14_r0 c1_i32_94_r0
  let v88_r0 : BitVec 32 := Scalar.select true_95_r0 v87_r0 v86_14_r0
  let c_m1_i32_96_r0 : BitVec 32 := 4294967295#32
  let v89_r0 : BitVec 1 := Scalar.cmpi .eq v88_r0 c_m1_i32_96_r0
  let c1_i32_98_r0 : BitVec 32 := 1#32
  let v91_r0 : BitVec 32 := Scalar.subi v86_13_r0 c1_i32_98_r0
  let v92_r0 : BitVec 32 := Scalar.select v89_r0 v91_r0 v86_13_r0
  let c_m1_i32_99_r0 : BitVec 32 := 4294967295#32
  let v93_r0 : BitVec 1 := Scalar.cmpi .eq v92_r0 c_m1_i32_99_r0
  let c15_i32_100_r0 : BitVec 32 := 15#32
  let v94_r0 : BitVec 32 := Scalar.select v93_r0 c15_i32_100_r0 v92_r0
  let c0_i32_101_r0 : BitVec 32 := 0#32
  let v95_r0 : BitVec 32 := Scalar.addi v94_r0 c0_i32_101_r0
  let v138_r0 : BitVec 32 := Scalar.muli c512_i32_r0 v95_r0
  let c0_i32_140_r0 : BitVec 32 := 0#32
  ![v138_r0.toNat, 0]

def k0_off58 (v86_10_r0 : BitVec 32) : Fin 3 → Nat :=
  let c2_i32_139_r0 : BitVec 32 := 2#32
  let v137_r0 : BitVec 32 := Scalar.remui v86_10_r0 c2_i32_139_r0
  let c0_i32_141_r0 : BitVec 32 := 0#32
  let c0_i32_142_r0 : BitVec 32 := 0#32
  ![v137_r0.toNat, 0, 0]

def k0_chk6 (v86_10_r0 : BitVec 32) : Prop :=
  (∀ a, (k0_off56 v86_10_r0) a + S1.size a ≤ S2.size a) ∧
  (∀ a, (k0_off58 v86_10_r0) a + S1x512x2048.size a ≤ S2x512x2048.size a)
theorem k0_off56_inb : ∀ (v86_10_r0 : BitVec 32) (k0_hw6 : k0_chk6 v86_10_r0), ∀ a, (k0_off56 v86_10_r0) a + S1.size a ≤ S2.size a := fun v86_10_r0 k0_hw6 => k0_hw6.1
theorem k0_off58_inb : ∀ (v86_10_r0 : BitVec 32) (k0_hw6 : k0_chk6 v86_10_r0), ∀ a, (k0_off58 v86_10_r0) a + S1x512x2048.size a ≤ S2x512x2048.size a := fun v86_10_r0 k0_hw6 => k0_hw6.2

def k0_off59 (v86_12_r0 : BitVec 32) : Fin 1 → Nat :=
  let c2_i32_143_r0 : BitVec 32 := 2#32
  let v144_r0 : BitVec 32 := Scalar.remui v86_12_r0 c2_i32_143_r0
  ![v144_r0.toNat]

def k0_off60 (v86_14_r0 : BitVec 32) (v86_13_r0 : BitVec 32) : Fin 2 → Nat :=
  let c512_i32_144_r0 : BitVec 32 := 512#32
  let true_95_r0 : BitVec 1 := 1#1
  let c1_i32_94_r0 : BitVec 32 := 1#32
  let v87_r0 : BitVec 32 := Scalar.subi v86_14_r0 c1_i32_94_r0
  let v88_r0 : BitVec 32 := Scalar.select true_95_r0 v87_r0 v86_14_r0
  let c_m1_i32_96_r0 : BitVec 32 := 4294967295#32
  let v89_r0 : BitVec 1 := Scalar.cmpi .eq v88_r0 c_m1_i32_96_r0
  let c1_i32_98_r0 : BitVec 32 := 1#32
  let v91_r0 : BitVec 32 := Scalar.subi v86_13_r0 c1_i32_98_r0
  let v92_r0 : BitVec 32 := Scalar.select v89_r0 v91_r0 v86_13_r0
  let c_m1_i32_99_r0 : BitVec 32 := 4294967295#32
  let v93_r0 : BitVec 1 := Scalar.cmpi .eq v92_r0 c_m1_i32_99_r0
  let c15_i32_100_r0 : BitVec 32 := 15#32
  let v94_r0 : BitVec 32 := Scalar.select v93_r0 c15_i32_100_r0 v92_r0
  let c0_i32_101_r0 : BitVec 32 := 0#32
  let v95_r0 : BitVec 32 := Scalar.addi v94_r0 c0_i32_101_r0
  let v145_r0 : BitVec 32 := Scalar.muli c512_i32_144_r0 v95_r0
  let c0_i32_145_r0 : BitVec 32 := 0#32
  ![v145_r0.toNat, 0]
def k0_off61 (v86_12_r0 : BitVec 32) : Fin 3 → Nat :=
  let c2_i32_143_r0 : BitVec 32 := 2#32
  let v144_r0 : BitVec 32 := Scalar.remui v86_12_r0 c2_i32_143_r0
  let c0_i32_146_r0 : BitVec 32 := 0#32
  let c0_i32_147_r0 : BitVec 32 := 0#32
  ![v144_r0.toNat, 0, 0]

def k0_chk8 (v86_12_r0 : BitVec 32) : Prop :=
  (∀ a, (k0_off59 v86_12_r0) a + S1.size a ≤ S2.size a) ∧
  (∀ a, (k0_off61 v86_12_r0) a + S1x512x2048.size a ≤ S2x512x2048.size a) ∧
  (∀ (hinb : ∀ a, (k0_off61 v86_12_r0) a + S1x512x2048.size a ≤ S2x512x2048.size a), (Rect.unit (s := S2x512x2048) (k0_off61 v86_12_r0) S1x512x2048.size hinb).WholeWords (EltTy.packing .bf16))
theorem k0_off59_inb : ∀ (v86_12_r0 : BitVec 32) (k0_hw8 : k0_chk8 v86_12_r0), ∀ a, (k0_off59 v86_12_r0) a + S1.size a ≤ S2.size a := fun v86_12_r0 k0_hw8 => k0_hw8.1
theorem k0_off61_inb : ∀ (v86_12_r0 : BitVec 32) (k0_hw8 : k0_chk8 v86_12_r0), ∀ a, (k0_off61 v86_12_r0) a + S1x512x2048.size a ≤ S2x512x2048.size a := fun v86_12_r0 k0_hw8 => k0_hw8.2.1
theorem k0_off61_wordsbf16 : ∀ (v86_12_r0 : BitVec 32) (k0_hw8 : k0_chk8 v86_12_r0), (Rect.unit (s := S2x512x2048) (k0_off61 v86_12_r0) S1x512x2048.size (k0_off61_inb v86_12_r0 k0_hw8)).WholeWords (EltTy.packing .bf16) := fun v86_12_r0 k0_hw8 => k0_hw8.2.2 (k0_off61_inb v86_12_r0 k0_hw8)

def k0_chk7 (v86_14_r0 : BitVec 32) (v86_13_r0 : BitVec 32) : Prop :=
  (∀ a, (k0_off57 v86_14_r0 v86_13_r0) a + S512x2048.size a ≤ S8192x2048.size a) ∧
  (∀ a, (k0_off60 v86_14_r0 v86_13_r0) a + S512x2048.size a ≤ S8192x2048.size a) ∧
  (∀ (hinb : ∀ a, (k0_off60 v86_14_r0 v86_13_r0) a + S512x2048.size a ≤ S8192x2048.size a), (Rect.unit (s := S8192x2048) (k0_off60 v86_14_r0 v86_13_r0) S512x2048.size hinb).WholeWords (EltTy.packing .bf16))
theorem k0_off57_inb : ∀ (v86_14_r0 : BitVec 32) (v86_13_r0 : BitVec 32) (k0_hw7 : k0_chk7 v86_14_r0 v86_13_r0), ∀ a, (k0_off57 v86_14_r0 v86_13_r0) a + S512x2048.size a ≤ S8192x2048.size a := fun v86_14_r0 v86_13_r0 k0_hw7 => k0_hw7.1
theorem k0_off60_inb : ∀ (v86_14_r0 : BitVec 32) (v86_13_r0 : BitVec 32) (k0_hw7 : k0_chk7 v86_14_r0 v86_13_r0), ∀ a, (k0_off60 v86_14_r0 v86_13_r0) a + S512x2048.size a ≤ S8192x2048.size a := fun v86_14_r0 v86_13_r0 k0_hw7 => k0_hw7.2.1
theorem k0_off60_wordsbf16 : ∀ (v86_14_r0 : BitVec 32) (v86_13_r0 : BitVec 32) (k0_hw7 : k0_chk7 v86_14_r0 v86_13_r0), (Rect.unit (s := S8192x2048) (k0_off60 v86_14_r0 v86_13_r0) S512x2048.size (k0_off60_inb v86_14_r0 v86_13_r0 k0_hw7)).WholeWords (EltTy.packing .bf16) := fun v86_14_r0 v86_13_r0 k0_hw7 => k0_hw7.2.2 (k0_off60_inb v86_14_r0 v86_13_r0 k0_hw7)
-- ==== Reference7Ideal.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel8.lean ====
abbrev S8192x2048 : Shape := ⟨2, ![8192, 2048]⟩
abbrev S2x2048x6144 : Shape := ⟨3, ![2, 2048, 6144]⟩
abbrev S1x6144 : Shape := ⟨2, ![1, 6144]⟩
abbrev S8192x6144 : Shape := ⟨2, ![8192, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S1x6144, .f32⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8192x6144 : Shape := ⟨2, ![8192, 6144]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6144, .f32⟩
  | .hbm, ⟨2, _⟩ => ⟨S8192x2048, .f32⟩
  | .hbm, ⟨3, _⟩ => ⟨S1x2048x6144, .f32⟩
  | .hbm, ⟨4, _⟩ => ⟨S2048x6144, .f32⟩
  | .hbm, ⟨5, _⟩ => ⟨S8192x6144, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x6144, .f32⟩
  | .hbm, ⟨19, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel9.lean ====
abbrev S1024x2048 : Shape := ⟨2, ![1024, 2048]⟩
abbrev S2x2048x4096 : Shape := ⟨3, ![2, 2048, 4096]⟩
abbrev S1024x4096 : Shape := ⟨2, ![1024, 4096]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2x2048x4096, .f32⟩
  | .hbm, ⟨2, _⟩ => ⟨S1024x4096, .bf16⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1024x2048 : Shape := ⟨2, ![1024, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x4096, .f32⟩
  | .hbm, ⟨2, _⟩ => ⟨S1024x2048, .f32⟩
  | .hbm, ⟨3, _⟩ => ⟨S1x2048x4096, .f32⟩
  | .hbm, ⟨4, _⟩ => ⟨S2048x4096, .f32⟩
  | .hbm, ⟨5, _⟩ => ⟨S1024x4096, .f32⟩
  | .hbm, ⟨6, _⟩ => ⟨S1024x4096, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Words.lean ====
/-
  The words of the feed-forward kernel's loop in closed form, and the names its slices go by.

  The kernel walks 128 trips, trip `k` working on row block `k / 8` against feature block `k % 8`. Its fifteen
  carried words are functions of `k`; every condition, offset and check the region prints is decided over the
  128 trips.
-/
module

public import proofs.«01_k».proof.Defs
public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The carried words before trip `k` -/

/-- The number of row blocks issued. -/
def w8 (k : ℕ) : BitVec 32 := BitVec.ofNat 32 (min (k / 8 + 1) 16)
/-- The row block at work. -/
def w9 (k : ℕ) : BitVec 32 := BitVec.ofNat 32 (k / 8)
/-- The number of feature blocks issued. -/
def w10 (k : ℕ) : BitVec 32 := BitVec.ofNat 32 (min (k + 2) 128)
/-- The feature block at work. -/
def w11 (k : ℕ) : BitVec 32 := BitVec.ofNat 32 k
/-- The number of row blocks copied out and waited. -/
def w18 (k : ℕ) : BitVec 32 := BitVec.ofNat 32 ((k - 1) / 8)
/-- The row index. -/
def w21 (k : ℕ) : BitVec 32 := BitVec.ofNat 32 ((k / 8) % 16)
/-- The feature index. -/
def w22 (k : ℕ) : BitVec 32 := BitVec.ofNat 32 (k % 8)

theorem trips_eq : k0_t1_loop.trips = 128 := by decide
theorem klt (k : Fin k0_t1_loop.trips) : k.val < 128 := trips_eq ▸ k.isLt

/-! ## The conditions -/

theorem cond3_iff : ∀ k : Fin k0_t1_loop.trips, k0_cond3 k (w21 k.val) (w22 k.val) = 1#1 ↔ (k.val % 8 = 7 ∧ k.val < 127) := by decide +kernel
theorem cond4_iff : ∀ k : Fin k0_t1_loop.trips, k0_cond4 k (w22 k.val) = 1#1 ↔ (k.val < 126) := by decide +kernel
theorem cond5_iff : ∀ k : Fin k0_t1_loop.trips, k0_cond5 k (w22 k.val) = 1#1 ↔ (k.val < 126) := by decide +kernel
theorem cond6_iff : ∀ k : Fin k0_t1_loop.trips, k0_cond6 k (w21 k.val) (w22 k.val) = 1#1 ↔ (k.val % 8 = 7 ∧ k.val < 127) := by decide +kernel
theorem cond7_iff : ∀ k : Fin k0_t1_loop.trips, k0_cond7 k (w21 k.val) (w22 k.val) = 1#1 ↔ (k.val % 8 = 0) := by decide +kernel
theorem cond8_iff : ∀ k : Fin k0_t1_loop.trips, k0_cond8 k (w22 k.val) = 1#1 ↔ (True) := by decide +kernel
theorem cond9_iff : ∀ k : Fin k0_t1_loop.trips, k0_cond9 k (w22 k.val) = 1#1 ↔ (True) := by decide +kernel
theorem cond10_iff : ∀ k : Fin k0_t1_loop.trips, k0_cond10 k (w21 k.val) (w22 k.val) = 1#1 ↔ (k.val % 8 = 0) := by decide +kernel
theorem cond13_iff : ∀ k : Fin k0_t1_loop.trips, k0_cond13 (w22 k.val) = 1#1 ↔ (k.val % 8 = 0) := by decide +kernel
theorem cond14_iff : ∀ k : Fin k0_t1_loop.trips, k0_cond14 (w22 k.val) = 1#1 ↔ (k.val % 8 = 7) := by decide +kernel
theorem cond19_iff : ∀ k : Fin k0_t1_loop.trips, k0_cond19 k (w21 k.val) (w22 k.val) = 1#1 ↔ (k.val % 8 = 7) := by decide +kernel
theorem cond20_iff : ∀ k : Fin k0_t1_loop.trips, k0_cond20 k (w21 k.val) (w22 k.val) = 1#1 ↔ (k.val % 8 = 7) := by decide +kernel
theorem cond25_iff : ∀ k : Fin k0_t1_loop.trips, k0_cond25 k (w21 k.val) (w22 k.val) = 1#1 ↔ (k.val % 8 = 0 ∧ 0 < k.val) := by decide +kernel
theorem cond26_iff : ∀ k : Fin k0_t1_loop.trips, k0_cond26 k (w21 k.val) (w22 k.val) = 1#1 ↔ (k.val % 8 = 0 ∧ 0 < k.val) := by decide +kernel

/-! ## The checks -/

theorem chk1_all : ∀ k : Fin k0_t1_loop.trips, k0_chk1 k (w8 k.val) (w9 k.val) (w10 k.val) (w11 k.val) (w10 k.val) (w11 k.val) (w8 k.val) (w9 k.val) (w9 k.val) (w18 k.val) (w9 k.val) (w18 k.val) (w21 k.val) (w22 k.val) := by decide +kernel
theorem chk2_all : ∀ k : Fin k0_t1_loop.trips, k0_chk2 (w9 k.val) := by decide +kernel
theorem chk3_all : ∀ k : Fin k0_t1_loop.trips, k0_chk3 (w11 k.val) := by decide +kernel
theorem chk4_all : ∀ k : Fin k0_t1_loop.trips, k0_chk4 (w9 k.val) := by decide +kernel
theorem chk5_all : ∀ k : Fin k0_t1_loop.trips, k0_chk5 (w11 k.val) := by decide +kernel
theorem chk6_end : k0_chk6 (w18 128) := by decide +kernel
theorem chk7_end : k0_chk7 (w22 128) (w21 128) := by decide +kernel
theorem chk8_end : k0_chk8 (w18 128) := by decide +kernel

/-! ## Canonical names -/

/-- The box of slot `s` in a buffer of slots. -/
abbrev slotOff {n : ℕ} (s : Fin n) : Fin 3 → Nat := ![s.val, 0, 0]
abbrev semOff {n : ℕ} (s : Fin n) : Fin 1 → Nat := ![s.val]
/-- The first row of a block of 512, and of 1024, rows. -/
abbrev rowOff (b : Fin 16) : Fin 2 → Nat := ![512 * b.val, 0]
abbrev featOff (b : Fin 8) : Fin 2 → Nat := ![1024 * b.val, 0]
instance {n : ℕ} (s : Fin n) : ClosedOff (slotOff s) := ⟨slotOff s, rfl⟩

abbrev uBuf : Memref sig .tc .vmem S2x512x2048 .bf16 := Memref.whole cc0_scoped0
abbrev uHbm : Memref sig .tc .hbm S8192x2048 .bf16 := Memref.whole main_arg0
theorem uslot_inb : ∀ (s : Fin 2), ∀ a, slotOff s a + S1x512x2048.size a ≤ S2x512x2048.size a := by decide +kernel
theorem usem_inb : ∀ (s : Fin 2), ∀ a, semOff s a + S1.size a ≤ S2.size a := by decide +kernel
theorem ublk_inb : ∀ (b : Fin 16), ∀ a, rowOff b a + S512x2048.size a ≤ S8192x2048.size a := by decide +kernel
def uslot (s : Fin 2) : Memref sig .tc .vmem S512x2048 .bf16 :=
  (uBuf.slice (Rect.unit (s := S2x512x2048) (slotOff s) S1x512x2048.size (uslot_inb s)) (fun _ => rfl)).squeeze S512x2048 squeezes_S1x512x2048_S512x2048
def usem (s : Fin 2) : DmaSems sig S_ := (cc0_scoped1.slice (Rect.unit (s := S2) (semOff s) S1.size (usem_inb s))).squeeze S_ squeezes_S1_S_
def ublk (b : Fin 16) : Memref sig .tc .hbm S512x2048 .bf16 :=
  uHbm.slice (Rect.unit (s := S8192x2048) (rowOff b) S512x2048.size (ublk_inb b)) (fun _ => rfl)
theorem ublk_congr {off : Fin 2 → Nat} {b : Fin 16} (e : off = rowOff b) (hh hs) :
    uHbm.slice (Rect.unit (s := S8192x2048) off S512x2048.size hh) hs = ublk b :=
  Memref.slice_unit_congr _ e _ _ _ (fun _ => rfl)
theorem uslot_congr {off : Fin 3 → Nat} {s : Fin 2} (e : off = slotOff s) (hh hs) :
    (uBuf.slice (Rect.unit (s := S2x512x2048) off S1x512x2048.size hh) hs).squeeze S512x2048 squeezes_S1x512x2048_S512x2048 = uslot s :=
  congrArg (fun A : Memref sig .tc .vmem S1x512x2048 .bf16 => A.squeeze S512x2048 squeezes_S1x512x2048_S512x2048) (Memref.slice_unit_congr _ e _ _ _ _)
theorem usem_congr {off : Fin 1 → Nat} {s : Fin 2} (e : off = semOff s) (hh) :
    (cc0_scoped1.slice (Rect.unit (s := S2) off S1.size hh)).squeeze S_ squeezes_S1_S_ = usem s :=
  congrArg (fun A : DmaSems sig S1 => A.squeeze S_ squeezes_S1_S_) (SemArray.slice_unit_congr _ e _ _)

@[sl_canon] theorem usemL0 (hh) : (cc0_scoped1.slice (Rect.unit (s := S2) ![0] S1.size hh)).squeeze S_ squeezes_S1_S_ = usem 0 := usem_congr (by decide) _
@[sl_canon] theorem uslotL0 (hh hs) : (uBuf.slice (Rect.unit (s := S2x512x2048) ![0, 0, 0] S1x512x2048.size hh) hs).squeeze S512x2048 squeezes_S1x512x2048_S512x2048 = uslot 0 := uslot_congr (by decide) _ _
@[sl_canon] theorem ublkL0 (hh hs) : uHbm.slice (Rect.unit (s := S8192x2048) ![0, 0] S512x2048.size hh) hs = ublk 0 := ublk_congr (by decide) _ _
theorem off12_eq : ∀ k : Fin k0_t1_loop.trips, k.val % 8 = 7 ∧ k.val < 127 → k0_off12 (w8 k.val) = semOff (Ring.sl 2 (k.val / 8 + 1)) := by decide +kernel
@[sl_canon] theorem usem_off12 (k : Fin k0_t1_loop.trips) (hk : k.val % 8 = 7 ∧ k.val < 127) (hh) : (cc0_scoped1.slice (Rect.unit (s := S2) (k0_off12 (w8 k.val)) S1.size hh)).squeeze S_ squeezes_S1_S_ = usem (Ring.sl 2 (k.val / 8 + 1)) := usem_congr (off12_eq k hk) _
theorem off13_eq : ∀ k : Fin k0_t1_loop.trips, k.val % 8 = 7 ∧ k.val < 127 → k0_off13 (w8 k.val) = slotOff (Ring.sl 2 (k.val / 8 + 1)) := by decide +kernel
@[sl_canon] theorem uslot_off13 (k : Fin k0_t1_loop.trips) (hk : k.val % 8 = 7 ∧ k.val < 127) (hh hs) : (uBuf.slice (Rect.unit (s := S2x512x2048) (k0_off13 (w8 k.val)) S1x512x2048.size hh) hs).squeeze S512x2048 squeezes_S1x512x2048_S512x2048 = uslot (Ring.sl 2 (k.val / 8 + 1)) := uslot_congr (off13_eq k hk) _ _
theorem off14_eq : ∀ k : Fin k0_t1_loop.trips, k.val % 8 = 7 ∧ k.val < 127 → k0_off14 (w21 k.val) (w22 k.val) = rowOff (Ring.sl 16 (k.val / 8 + 1)) := by decide +kernel
@[sl_canon] theorem ublk_off14 (k : Fin k0_t1_loop.trips) (hk : k.val % 8 = 7 ∧ k.val < 127) (hh hs) : uHbm.slice (Rect.unit (s := S8192x2048) (k0_off14 (w21 k.val) (w22 k.val)) S512x2048.size hh) hs = ublk (Ring.sl 16 (k.val / 8 + 1)) := ublk_congr (off14_eq k hk) _ _
theorem off24_eq : ∀ k : Fin k0_t1_loop.trips, k0_off24 (w9 k.val) = semOff (Ring.sl 2 (k.val / 8)) := by decide +kernel
@[sl_canon] theorem usem_off24 (k : Fin k0_t1_loop.trips)  (hh) : (cc0_scoped1.slice (Rect.unit (s := S2) (k0_off24 (w9 k.val)) S1.size hh)).squeeze S_ squeezes_S1_S_ = usem (Ring.sl 2 (k.val / 8)) := usem_congr (off24_eq k) _
theorem off25_eq : ∀ k : Fin k0_t1_loop.trips, k0_off25 (w9 k.val) = slotOff (Ring.sl 2 (k.val / 8)) := by decide +kernel
@[sl_canon] theorem uslot_off25 (k : Fin k0_t1_loop.trips)  (hh hs) : (uBuf.slice (Rect.unit (s := S2x512x2048) (k0_off25 (w9 k.val)) S1x512x2048.size hh) hs).squeeze S512x2048 squeezes_S1x512x2048_S512x2048 = uslot (Ring.sl 2 (k.val / 8)) := uslot_congr (off25_eq k) _ _
theorem off26_eq : ∀ k : Fin k0_t1_loop.trips, k0_off26 (w21 k.val) = rowOff (Ring.sl 16 (k.val / 8)) := by decide +kernel
@[sl_canon] theorem ublk_off26 (k : Fin k0_t1_loop.trips)  (hh hs) : uHbm.slice (Rect.unit (s := S8192x2048) (k0_off26 (w21 k.val)) S512x2048.size hh) hs = ublk (Ring.sl 16 (k.val / 8)) := ublk_congr (off26_eq k) _ _

abbrev wuBuf : Memref sig .tc .vmem S3x2048x1024 .bf16 := Memref.whole cc0_scoped2
abbrev wuHbm : Memref sig .tc .hbm S8x2048x1024 .bf16 := Memref.whole main_v2
theorem wuslot_inb : ∀ (s : Fin 3), ∀ a, slotOff s a + S1x2048x1024.size a ≤ S3x2048x1024.size a := by decide +kernel
theorem wusem_inb : ∀ (s : Fin 3), ∀ a, semOff s a + S1.size a ≤ S3.size a := by decide +kernel
theorem wublk_inb : ∀ (b : Fin 8), ∀ a, slotOff b a + S1x2048x1024.size a ≤ S8x2048x1024.size a := by decide +kernel
def wuslot (s : Fin 3) : Memref sig .tc .vmem S2048x1024 .bf16 :=
  (wuBuf.slice (Rect.unit (s := S3x2048x1024) (slotOff s) S1x2048x1024.size (wuslot_inb s)) (fun _ => rfl)).squeeze S2048x1024 squeezes_S1x2048x1024_S2048x1024
def wusem (s : Fin 3) : DmaSems sig S_ := (cc0_scoped3.slice (Rect.unit (s := S3) (semOff s) S1.size (wusem_inb s))).squeeze S_ squeezes_S1_S_
def wublk (b : Fin 8) : Memref sig .tc .hbm S2048x1024 .bf16 :=
  (wuHbm.slice (Rect.unit (s := S8x2048x1024) (slotOff b) S1x2048x1024.size (wublk_inb b)) (fun _ => rfl)).squeeze S2048x1024 squeezes_S1x2048x1024_S2048x1024
theorem wublk_congr {off : Fin 3 → Nat} {b : Fin 8} (e : off = slotOff b) (hh hs) :
    (wuHbm.slice (Rect.unit (s := S8x2048x1024) off S1x2048x1024.size hh) hs).squeeze S2048x1024 squeezes_S1x2048x1024_S2048x1024 = wublk b :=
  congrArg (fun A : Memref sig .tc .hbm S1x2048x1024 .bf16 => A.squeeze S2048x1024 squeezes_S1x2048x1024_S2048x1024) (Memref.slice_unit_congr _ e _ _ _ _)
theorem wuslot_congr {off : Fin 3 → Nat} {s : Fin 3} (e : off = slotOff s) (hh hs) :
    (wuBuf.slice (Rect.unit (s := S3x2048x1024) off S1x2048x1024.size hh) hs).squeeze S2048x1024 squeezes_S1x2048x1024_S2048x1024 = wuslot s :=
  congrArg (fun A : Memref sig .tc .vmem S1x2048x1024 .bf16 => A.squeeze S2048x1024 squeezes_S1x2048x1024_S2048x1024) (Memref.slice_unit_congr _ e _ _ _ _)
theorem wusem_congr {off : Fin 1 → Nat} {s : Fin 3} (e : off = semOff s) (hh) :
    (cc0_scoped3.slice (Rect.unit (s := S3) off S1.size hh)).squeeze S_ squeezes_S1_S_ = wusem s :=
  congrArg (fun A : DmaSems sig S1 => A.squeeze S_ squeezes_S1_S_) (SemArray.slice_unit_congr _ e _ _)

@[sl_canon] theorem wusemL0 (hh) : (cc0_scoped3.slice (Rect.unit (s := S3) ![0] S1.size hh)).squeeze S_ squeezes_S1_S_ = wusem 0 := wusem_congr (by decide) _
@[sl_canon] theorem wuslotL0 (hh hs) : (wuBuf.slice (Rect.unit (s := S3x2048x1024) ![0, 0, 0] S1x2048x1024.size hh) hs).squeeze S2048x1024 squeezes_S1x2048x1024_S2048x1024 = wuslot 0 := wuslot_congr (by decide) _ _
@[sl_canon] theorem wublkL0 (hh hs) : (wuHbm.slice (Rect.unit (s := S8x2048x1024) ![0, 0, 0] S1x2048x1024.size hh) hs).squeeze S2048x1024 squeezes_S1x2048x1024_S2048x1024 = wublk 0 := wublk_congr (by decide) _ _
@[sl_canon] theorem wusemL1 (hh) : (cc0_scoped3.slice (Rect.unit (s := S3) ![1] S1.size hh)).squeeze S_ squeezes_S1_S_ = wusem 1 := wusem_congr (by decide) _
@[sl_canon] theorem wuslotL1 (hh hs) : (wuBuf.slice (Rect.unit (s := S3x2048x1024) ![1, 0, 0] S1x2048x1024.size hh) hs).squeeze S2048x1024 squeezes_S1x2048x1024_S2048x1024 = wuslot 1 := wuslot_congr (by decide) _ _
@[sl_canon] theorem wublkL1 (hh hs) : (wuHbm.slice (Rect.unit (s := S8x2048x1024) ![1, 0, 0] S1x2048x1024.size hh) hs).squeeze S2048x1024 squeezes_S1x2048x1024_S2048x1024 = wublk 1 := wublk_congr (by decide) _ _
theorem off15_eq : ∀ k : Fin k0_t1_loop.trips, k.val < 126 → k0_off15 (w10 k.val) = semOff (Ring.sl 3 (k.val + 2)) := by decide +kernel
@[sl_canon] theorem wusem_off15 (k : Fin k0_t1_loop.trips) (hk : k.val < 126) (hh) : (cc0_scoped3.slice (Rect.unit (s := S3) (k0_off15 (w10 k.val)) S1.size hh)).squeeze S_ squeezes_S1_S_ = wusem (Ring.sl 3 (k.val + 2)) := wusem_congr (off15_eq k hk) _
theorem off16_eq : ∀ k : Fin k0_t1_loop.trips, k.val < 126 → k0_off16 (w10 k.val) = slotOff (Ring.sl 3 (k.val + 2)) := by decide +kernel
@[sl_canon] theorem wuslot_off16 (k : Fin k0_t1_loop.trips) (hk : k.val < 126) (hh hs) : (wuBuf.slice (Rect.unit (s := S3x2048x1024) (k0_off16 (w10 k.val)) S1x2048x1024.size hh) hs).squeeze S2048x1024 squeezes_S1x2048x1024_S2048x1024 = wuslot (Ring.sl 3 (k.val + 2)) := wuslot_congr (off16_eq k hk) _ _
theorem off17_eq : ∀ k : Fin k0_t1_loop.trips, k0_off17 (w22 k.val) = slotOff (Ring.sl 8 (k.val + 2)) := by decide +kernel
@[sl_canon] theorem wublk_off17 (k : Fin k0_t1_loop.trips)  (hh hs) : (wuHbm.slice (Rect.unit (s := S8x2048x1024) (k0_off17 (w22 k.val)) S1x2048x1024.size hh) hs).squeeze S2048x1024 squeezes_S1x2048x1024_S2048x1024 = wublk (Ring.sl 8 (k.val + 2)) := wublk_congr (off17_eq k) _ _
theorem off27_eq : ∀ k : Fin k0_t1_loop.trips, k0_off27 (w11 k.val) = semOff (Ring.sl 3 k.val) := by decide +kernel
@[sl_canon] theorem wusem_off27 (k : Fin k0_t1_loop.trips)  (hh) : (cc0_scoped3.slice (Rect.unit (s := S3) (k0_off27 (w11 k.val)) S1.size hh)).squeeze S_ squeezes_S1_S_ = wusem (Ring.sl 3 k.val) := wusem_congr (off27_eq k) _
theorem off28_eq : ∀ k : Fin k0_t1_loop.trips, k0_off28 (w11 k.val) = slotOff (Ring.sl 3 k.val) := by decide +kernel
@[sl_canon] theorem wuslot_off28 (k : Fin k0_t1_loop.trips)  (hh hs) : (wuBuf.slice (Rect.unit (s := S3x2048x1024) (k0_off28 (w11 k.val)) S1x2048x1024.size hh) hs).squeeze S2048x1024 squeezes_S1x2048x1024_S2048x1024 = wuslot (Ring.sl 3 k.val) := wuslot_congr (off28_eq k) _ _
theorem off29_eq : ∀ k : Fin k0_t1_loop.trips, k0_off29 (w22 k.val) = slotOff (Ring.sl 8 k.val) := by decide +kernel
@[sl_canon] theorem wublk_off29 (k : Fin k0_t1_loop.trips)  (hh hs) : (wuHbm.slice (Rect.unit (s := S8x2048x1024) (k0_off29 (w22 k.val)) S1x2048x1024.size hh) hs).squeeze S2048x1024 squeezes_S1x2048x1024_S2048x1024 = wublk (Ring.sl 8 k.val) := wublk_congr (off29_eq k) _ _

abbrev wdBuf : Memref sig .tc .vmem S3x1024x2048 .bf16 := Memref.whole cc0_scoped4
abbrev wdHbm : Memref sig .tc .hbm S8192x2048 .bf16 := Memref.whole main_v3
theorem wdslot_inb : ∀ (s : Fin 3), ∀ a, slotOff s a + S1x1024x2048.size a ≤ S3x1024x2048.size a := by decide +kernel
theorem wdsem_inb : ∀ (s : Fin 3), ∀ a, semOff s a + S1.size a ≤ S3.size a := by decide +kernel
theorem wdblk_inb : ∀ (b : Fin 8), ∀ a, featOff b a + S1024x2048.size a ≤ S8192x2048.size a := by decide +kernel
def wdslot (s : Fin 3) : Memref sig .tc .vmem S1024x2048 .bf16 :=
  (wdBuf.slice (Rect.unit (s := S3x1024x2048) (slotOff s) S1x1024x2048.size (wdslot_inb s)) (fun _ => rfl)).squeeze S1024x2048 squeezes_S1x1024x2048_S1024x2048
def wdsem (s : Fin 3) : DmaSems sig S_ := (cc0_scoped5.slice (Rect.unit (s := S3) (semOff s) S1.size (wdsem_inb s))).squeeze S_ squeezes_S1_S_
def wdblk (b : Fin 8) : Memref sig .tc .hbm S1024x2048 .bf16 :=
  wdHbm.slice (Rect.unit (s := S8192x2048) (featOff b) S1024x2048.size (wdblk_inb b)) (fun _ => rfl)
theorem wdblk_congr {off : Fin 2 → Nat} {b : Fin 8} (e : off = featOff b) (hh hs) :
    wdHbm.slice (Rect.unit (s := S8192x2048) off S1024x2048.size hh) hs = wdblk b :=
  Memref.slice_unit_congr _ e _ _ _ (fun _ => rfl)
theorem wdslot_congr {off : Fin 3 → Nat} {s : Fin 3} (e : off = slotOff s) (hh hs) :
    (wdBuf.slice (Rect.unit (s := S3x1024x2048) off S1x1024x2048.size hh) hs).squeeze S1024x2048 squeezes_S1x1024x2048_S1024x2048 = wdslot s :=
  congrArg (fun A : Memref sig .tc .vmem S1x1024x2048 .bf16 => A.squeeze S1024x2048 squeezes_S1x1024x2048_S1024x2048) (Memref.slice_unit_congr _ e _ _ _ _)
theorem wdsem_congr {off : Fin 1 → Nat} {s : Fin 3} (e : off = semOff s) (hh) :
    (cc0_scoped5.slice (Rect.unit (s := S3) off S1.size hh)).squeeze S_ squeezes_S1_S_ = wdsem s :=
  congrArg (fun A : DmaSems sig S1 => A.squeeze S_ squeezes_S1_S_) (SemArray.slice_unit_congr _ e _ _)

@[sl_canon] theorem wdsemL0 (hh) : (cc0_scoped5.slice (Rect.unit (s := S3) ![0] S1.size hh)).squeeze S_ squeezes_S1_S_ = wdsem 0 := wdsem_congr (by decide) _
@[sl_canon] theorem wdslotL0 (hh hs) : (wdBuf.slice (Rect.unit (s := S3x1024x2048) ![0, 0, 0] S1x1024x2048.size hh) hs).squeeze S1024x2048 squeezes_S1x1024x2048_S1024x2048 = wdslot 0 := wdslot_congr (by decide) _ _
@[sl_canon] theorem wdblkL0 (hh hs) : wdHbm.slice (Rect.unit (s := S8192x2048) ![0, 0] S1024x2048.size hh) hs = wdblk 0 := wdblk_congr (by decide) _ _
@[sl_canon] theorem wdsemL1 (hh) : (cc0_scoped5.slice (Rect.unit (s := S3) ![1] S1.size hh)).squeeze S_ squeezes_S1_S_ = wdsem 1 := wdsem_congr (by decide) _
@[sl_canon] theorem wdslotL1 (hh hs) : (wdBuf.slice (Rect.unit (s := S3x1024x2048) ![1, 0, 0] S1x1024x2048.size hh) hs).squeeze S1024x2048 squeezes_S1x1024x2048_S1024x2048 = wdslot 1 := wdslot_congr (by decide) _ _
@[sl_canon] theorem wdblkL1 (hh hs) : wdHbm.slice (Rect.unit (s := S8192x2048) ![1024, 0] S1024x2048.size hh) hs = wdblk 1 := wdblk_congr (by decide) _ _
theorem off18_eq : ∀ k : Fin k0_t1_loop.trips, k.val < 126 → k0_off18 (w10 k.val) = semOff (Ring.sl 3 (k.val + 2)) := by decide +kernel
@[sl_canon] theorem wdsem_off18 (k : Fin k0_t1_loop.trips) (hk : k.val < 126) (hh) : (cc0_scoped5.slice (Rect.unit (s := S3) (k0_off18 (w10 k.val)) S1.size hh)).squeeze S_ squeezes_S1_S_ = wdsem (Ring.sl 3 (k.val + 2)) := wdsem_congr (off18_eq k hk) _
theorem off19_eq : ∀ k : Fin k0_t1_loop.trips, k.val < 126 → k0_off19 (w10 k.val) = slotOff (Ring.sl 3 (k.val + 2)) := by decide +kernel
@[sl_canon] theorem wdslot_off19 (k : Fin k0_t1_loop.trips) (hk : k.val < 126) (hh hs) : (wdBuf.slice (Rect.unit (s := S3x1024x2048) (k0_off19 (w10 k.val)) S1x1024x2048.size hh) hs).squeeze S1024x2048 squeezes_S1x1024x2048_S1024x2048 = wdslot (Ring.sl 3 (k.val + 2)) := wdslot_congr (off19_eq k hk) _ _
theorem off20_eq : ∀ k : Fin k0_t1_loop.trips, k0_off20 (w22 k.val) = featOff (Ring.sl 8 (k.val + 2)) := by decide +kernel
@[sl_canon] theorem wdblk_off20 (k : Fin k0_t1_loop.trips)  (hh hs) : wdHbm.slice (Rect.unit (s := S8192x2048) (k0_off20 (w22 k.val)) S1024x2048.size hh) hs = wdblk (Ring.sl 8 (k.val + 2)) := wdblk_congr (off20_eq k) _ _
theorem off30_eq : ∀ k : Fin k0_t1_loop.trips, k0_off30 (w11 k.val) = semOff (Ring.sl 3 k.val) := by decide +kernel
@[sl_canon] theorem wdsem_off30 (k : Fin k0_t1_loop.trips)  (hh) : (cc0_scoped5.slice (Rect.unit (s := S3) (k0_off30 (w11 k.val)) S1.size hh)).squeeze S_ squeezes_S1_S_ = wdsem (Ring.sl 3 k.val) := wdsem_congr (off30_eq k) _
theorem off31_eq : ∀ k : Fin k0_t1_loop.trips, k0_off31 (w11 k.val) = slotOff (Ring.sl 3 k.val) := by decide +kernel
@[sl_canon] theorem wdslot_off31 (k : Fin k0_t1_loop.trips)  (hh hs) : (wdBuf.slice (Rect.unit (s := S3x1024x2048) (k0_off31 (w11 k.val)) S1x1024x2048.size hh) hs).squeeze S1024x2048 squeezes_S1x1024x2048_S1024x2048 = wdslot (Ring.sl 3 k.val) := wdslot_congr (off31_eq k) _ _
theorem off32_eq : ∀ k : Fin k0_t1_loop.trips, k0_off32 (w22 k.val) = featOff (Ring.sl 8 k.val) := by decide +kernel
@[sl_canon] theorem wdblk_off32 (k : Fin k0_t1_loop.trips)  (hh hs) : wdHbm.slice (Rect.unit (s := S8192x2048) (k0_off32 (w22 k.val)) S1024x2048.size hh) hs = wdblk (Ring.sl 8 k.val) := wdblk_congr (off32_eq k) _ _

abbrev hBuf : Memref sig .tc .vmem S2x512x2048 .f32 := Memref.whole cc0_scoped6
abbrev hHbm : Memref sig .tc .hbm S8192x2048 .f32 := Memref.whole main_arg3
theorem hslot_inb : ∀ (s : Fin 2), ∀ a, slotOff s a + S1x512x2048.size a ≤ S2x512x2048.size a := by decide +kernel
theorem hsem_inb : ∀ (s : Fin 2), ∀ a, semOff s a + S1.size a ≤ S2.size a := by decide +kernel
theorem hblk_inb : ∀ (b : Fin 16), ∀ a, rowOff b a + S512x2048.size a ≤ S8192x2048.size a := by decide +kernel
def hslot (s : Fin 2) : Memref sig .tc .vmem S512x2048 .f32 :=
  (hBuf.slice (Rect.unit (s := S2x512x2048) (slotOff s) S1x512x2048.size (hslot_inb s)) (fun _ => rfl)).squeeze S512x2048 squeezes_S1x512x2048_S512x2048
def hsem (s : Fin 2) : DmaSems sig S_ := (cc0_scoped7.slice (Rect.unit (s := S2) (semOff s) S1.size (hsem_inb s))).squeeze S_ squeezes_S1_S_
def hblk (b : Fin 16) : Memref sig .tc .hbm S512x2048 .f32 :=
  hHbm.slice (Rect.unit (s := S8192x2048) (rowOff b) S512x2048.size (hblk_inb b)) (fun _ => rfl)
theorem hblk_congr {off : Fin 2 → Nat} {b : Fin 16} (e : off = rowOff b) (hh hs) :
    hHbm.slice (Rect.unit (s := S8192x2048) off S512x2048.size hh) hs = hblk b :=
  Memref.slice_unit_congr _ e _ _ _ (fun _ => rfl)
theorem hslot_congr {off : Fin 3 → Nat} {s : Fin 2} (e : off = slotOff s) (hh hs) :
    (hBuf.slice (Rect.unit (s := S2x512x2048) off S1x512x2048.size hh) hs).squeeze S512x2048 squeezes_S1x512x2048_S512x2048 = hslot s :=
  congrArg (fun A : Memref sig .tc .vmem S1x512x2048 .f32 => A.squeeze S512x2048 squeezes_S1x512x2048_S512x2048) (Memref.slice_unit_congr _ e _ _ _ _)
theorem hsem_congr {off : Fin 1 → Nat} {s : Fin 2} (e : off = semOff s) (hh) :
    (cc0_scoped7.slice (Rect.unit (s := S2) off S1.size hh)).squeeze S_ squeezes_S1_S_ = hsem s :=
  congrArg (fun A : DmaSems sig S1 => A.squeeze S_ squeezes_S1_S_) (SemArray.slice_unit_congr _ e _ _)

@[sl_canon] theorem hsemL0 (hh) : (cc0_scoped7.slice (Rect.unit (s := S2) ![0] S1.size hh)).squeeze S_ squeezes_S1_S_ = hsem 0 := hsem_congr (by decide) _
@[sl_canon] theorem hslotL0 (hh hs) : (hBuf.slice (Rect.unit (s := S2x512x2048) ![0, 0, 0] S1x512x2048.size hh) hs).squeeze S512x2048 squeezes_S1x512x2048_S512x2048 = hslot 0 := hslot_congr (by decide) _ _
@[sl_canon] theorem hblkL0 (hh hs) : hHbm.slice (Rect.unit (s := S8192x2048) ![0, 0] S512x2048.size hh) hs = hblk 0 := hblk_congr (by decide) _ _
theorem off21_eq : ∀ k : Fin k0_t1_loop.trips, k.val % 8 = 7 ∧ k.val < 127 → k0_off21 (w8 k.val) = semOff (Ring.sl 2 (k.val / 8 + 1)) := by decide +kernel
@[sl_canon] theorem hsem_off21 (k : Fin k0_t1_loop.trips) (hk : k.val % 8 = 7 ∧ k.val < 127) (hh) : (cc0_scoped7.slice (Rect.unit (s := S2) (k0_off21 (w8 k.val)) S1.size hh)).squeeze S_ squeezes_S1_S_ = hsem (Ring.sl 2 (k.val / 8 + 1)) := hsem_congr (off21_eq k hk) _
theorem off22_eq : ∀ k : Fin k0_t1_loop.trips, k.val % 8 = 7 ∧ k.val < 127 → k0_off22 (w8 k.val) = slotOff (Ring.sl 2 (k.val / 8 + 1)) := by decide +kernel
@[sl_canon] theorem hslot_off22 (k : Fin k0_t1_loop.trips) (hk : k.val % 8 = 7 ∧ k.val < 127) (hh hs) : (hBuf.slice (Rect.unit (s := S2x512x2048) (k0_off22 (w8 k.val)) S1x512x2048.size hh) hs).squeeze S512x2048 squeezes_S1x512x2048_S512x2048 = hslot (Ring.sl 2 (k.val / 8 + 1)) := hslot_congr (off22_eq k hk) _ _
theorem off23_eq : ∀ k : Fin k0_t1_loop.trips, k.val % 8 = 7 ∧ k.val < 127 → k0_off23 (w21 k.val) (w22 k.val) = rowOff (Ring.sl 16 (k.val / 8 + 1)) := by decide +kernel
@[sl_canon] theorem hblk_off23 (k : Fin k0_t1_loop.trips) (hk : k.val % 8 = 7 ∧ k.val < 127) (hh hs) : hHbm.slice (Rect.unit (s := S8192x2048) (k0_off23 (w21 k.val) (w22 k.val)) S512x2048.size hh) hs = hblk (Ring.sl 16 (k.val / 8 + 1)) := hblk_congr (off23_eq k hk) _ _
theorem off33_eq : ∀ k : Fin k0_t1_loop.trips, k0_off33 (w9 k.val) = semOff (Ring.sl 2 (k.val / 8)) := by decide +kernel
@[sl_canon] theorem hsem_off33 (k : Fin k0_t1_loop.trips)  (hh) : (cc0_scoped7.slice (Rect.unit (s := S2) (k0_off33 (w9 k.val)) S1.size hh)).squeeze S_ squeezes_S1_S_ = hsem (Ring.sl 2 (k.val / 8)) := hsem_congr (off33_eq k) _
theorem off34_eq : ∀ k : Fin k0_t1_loop.trips, k0_off34 (w9 k.val) = slotOff (Ring.sl 2 (k.val / 8)) := by decide +kernel
@[sl_canon] theorem hslot_off34 (k : Fin k0_t1_loop.trips)  (hh hs) : (hBuf.slice (Rect.unit (s := S2x512x2048) (k0_off34 (w9 k.val)) S1x512x2048.size hh) hs).squeeze S512x2048 squeezes_S1x512x2048_S512x2048 = hslot (Ring.sl 2 (k.val / 8)) := hslot_congr (off34_eq k) _ _
theorem off35_eq : ∀ k : Fin k0_t1_loop.trips, k0_off35 (w21 k.val) = rowOff (Ring.sl 16 (k.val / 8)) := by decide +kernel
@[sl_canon] theorem hblk_off35 (k : Fin k0_t1_loop.trips)  (hh hs) : hHbm.slice (Rect.unit (s := S8192x2048) (k0_off35 (w21 k.val)) S512x2048.size hh) hs = hblk (Ring.sl 16 (k.val / 8)) := hblk_congr (off35_eq k) _ _

abbrev oBuf : Memref sig .tc .vmem S2x512x2048 .f32 := Memref.whole cc0_scoped9
abbrev oHbm : Memref sig .tc .hbm S8192x2048 .f32 := Memref.whole main_v5_0
theorem oslot_inb : ∀ (s : Fin 2), ∀ a, slotOff s a + S1x512x2048.size a ≤ S2x512x2048.size a := by decide +kernel
theorem osem_inb : ∀ (s : Fin 2), ∀ a, semOff s a + S1.size a ≤ S2.size a := by decide +kernel
theorem oblk_inb : ∀ (b : Fin 16), ∀ a, rowOff b a + S512x2048.size a ≤ S8192x2048.size a := by decide +kernel
def oslot (s : Fin 2) : Memref sig .tc .vmem S512x2048 .f32 :=
  (oBuf.slice (Rect.unit (s := S2x512x2048) (slotOff s) S1x512x2048.size (oslot_inb s)) (fun _ => rfl)).squeeze S512x2048 squeezes_S1x512x2048_S512x2048
def osem (s : Fin 2) : DmaSems sig S_ := (cc0_scoped10.slice (Rect.unit (s := S2) (semOff s) S1.size (osem_inb s))).squeeze S_ squeezes_S1_S_
def oblk (b : Fin 16) : Memref sig .tc .hbm S512x2048 .f32 :=
  oHbm.slice (Rect.unit (s := S8192x2048) (rowOff b) S512x2048.size (oblk_inb b)) (fun _ => rfl)
theorem oblk_congr {off : Fin 2 → Nat} {b : Fin 16} (e : off = rowOff b) (hh hs) :
    oHbm.slice (Rect.unit (s := S8192x2048) off S512x2048.size hh) hs = oblk b :=
  Memref.slice_unit_congr _ e _ _ _ (fun _ => rfl)
theorem oslot_congr {off : Fin 3 → Nat} {s : Fin 2} (e : off = slotOff s) (hh hs) :
    (oBuf.slice (Rect.unit (s := S2x512x2048) off S1x512x2048.size hh) hs).squeeze S512x2048 squeezes_S1x512x2048_S512x2048 = oslot s :=
  congrArg (fun A : Memref sig .tc .vmem S1x512x2048 .f32 => A.squeeze S512x2048 squeezes_S1x512x2048_S512x2048) (Memref.slice_unit_congr _ e _ _ _ _)
theorem osem_congr {off : Fin 1 → Nat} {s : Fin 2} (e : off = semOff s) (hh) :
    (cc0_scoped10.slice (Rect.unit (s := S2) off S1.size hh)).squeeze S_ squeezes_S1_S_ = osem s :=
  congrArg (fun A : DmaSems sig S1 => A.squeeze S_ squeezes_S1_S_) (SemArray.slice_unit_congr _ e _ _)

theorem off44_eq : ∀ k : Fin k0_t1_loop.trips, k0_off44 (w9 k.val) = semOff (Ring.sl 2 (k.val / 8)) := by decide +kernel
@[sl_canon] theorem osem_off44 (k : Fin k0_t1_loop.trips)  (hh) : (cc0_scoped10.slice (Rect.unit (s := S2) (k0_off44 (w9 k.val)) S1.size hh)).squeeze S_ squeezes_S1_S_ = osem (Ring.sl 2 (k.val / 8)) := osem_congr (off44_eq k) _
theorem off46_eq : ∀ k : Fin k0_t1_loop.trips, k0_off46 (w9 k.val) = slotOff (Ring.sl 2 (k.val / 8)) := by decide +kernel
@[sl_canon] theorem oslot_off46 (k : Fin k0_t1_loop.trips)  (hh hs) : (oBuf.slice (Rect.unit (s := S2x512x2048) (k0_off46 (w9 k.val)) S1x512x2048.size hh) hs).squeeze S512x2048 squeezes_S1x512x2048_S512x2048 = oslot (Ring.sl 2 (k.val / 8)) := oslot_congr (off46_eq k) _ _
theorem off45_eq : ∀ k : Fin k0_t1_loop.trips, k0_off45 (w21 k.val) = rowOff (Ring.sl 16 (k.val / 8)) := by decide +kernel
@[sl_canon] theorem oblk_off45 (k : Fin k0_t1_loop.trips)  (hh hs) : oHbm.slice (Rect.unit (s := S8192x2048) (k0_off45 (w21 k.val)) S512x2048.size hh) hs = oblk (Ring.sl 16 (k.val / 8)) := oblk_congr (off45_eq k) _ _
theorem off50_eq : ∀ k : Fin k0_t1_loop.trips, k.val % 8 = 0 ∧ 0 < k.val → k0_off50 (w18 k.val) = semOff (Ring.sl 2 (k.val / 8 - 1)) := by decide +kernel
@[sl_canon] theorem osem_off50 (k : Fin k0_t1_loop.trips) (hk : k.val % 8 = 0 ∧ 0 < k.val) (hh) : (cc0_scoped10.slice (Rect.unit (s := S2) (k0_off50 (w18 k.val)) S1.size hh)).squeeze S_ squeezes_S1_S_ = osem (Ring.sl 2 (k.val / 8 - 1)) := osem_congr (off50_eq k hk) _
theorem off52_eq : ∀ k : Fin k0_t1_loop.trips, k.val % 8 = 0 ∧ 0 < k.val → k0_off52 (w18 k.val) = slotOff (Ring.sl 2 (k.val / 8 - 1)) := by decide +kernel
@[sl_canon] theorem oslot_off52 (k : Fin k0_t1_loop.trips) (hk : k.val % 8 = 0 ∧ 0 < k.val) (hh hs) : (oBuf.slice (Rect.unit (s := S2x512x2048) (k0_off52 (w18 k.val)) S1x512x2048.size hh) hs).squeeze S512x2048 squeezes_S1x512x2048_S512x2048 = oslot (Ring.sl 2 (k.val / 8 - 1)) := oslot_congr (off52_eq k hk) _ _
theorem off51_eq : ∀ k : Fin k0_t1_loop.trips, k.val % 8 = 0 ∧ 0 < k.val → k0_off51 (w21 k.val) (w22 k.val) = rowOff (Ring.sl 16 (k.val / 8 - 1)) := by decide +kernel
@[sl_canon] theorem oblk_off51 (k : Fin k0_t1_loop.trips) (hk : k.val % 8 = 0 ∧ 0 < k.val) (hh hs) : oHbm.slice (Rect.unit (s := S8192x2048) (k0_off51 (w21 k.val) (w22 k.val)) S512x2048.size hh) hs = oblk (Ring.sl 16 (k.val / 8 - 1)) := oblk_congr (off51_eq k hk) _ _
@[sl_canon] theorem osemE (hh) : (cc0_scoped10.slice (Rect.unit (s := S2) (k0_off56 (w18 128)) S1.size hh)).squeeze S_ squeezes_S1_S_ = osem 1 := osem_congr (by decide +kernel) _
@[sl_canon] theorem oslotE (hh hs) : (oBuf.slice (Rect.unit (s := S2x512x2048) (k0_off58 (w18 128)) S1x512x2048.size hh) hs).squeeze S512x2048 squeezes_S1x512x2048_S512x2048 = oslot 1 := oslot_congr (by decide +kernel) _ _
@[sl_canon] theorem oblkE (hh hs) : oHbm.slice (Rect.unit (s := S8192x2048) (k0_off57 (w22 128) (w21 128)) S512x2048.size hh) hs = oblk 15 := oblk_congr (by decide +kernel) _ _

abbrev yBuf : Memref sig .tc .vmem S2x512x2048 .f32 := Memref.whole cc0_scoped11
abbrev yHbm : Memref sig .tc .hbm S8192x2048 .f32 := Memref.whole main_v5_1
theorem yslot_inb : ∀ (s : Fin 2), ∀ a, slotOff s a + S1x512x2048.size a ≤ S2x512x2048.size a := by decide +kernel
theorem ysem_inb : ∀ (s : Fin 2), ∀ a, semOff s a + S1.size a ≤ S2.size a := by decide +kernel
theorem yblk_inb : ∀ (b : Fin 16), ∀ a, rowOff b a + S512x2048.size a ≤ S8192x2048.size a := by decide +kernel
def yslot (s : Fin 2) : Memref sig .tc .vmem S512x2048 .f32 :=
  (yBuf.slice (Rect.unit (s := S2x512x2048) (slotOff s) S1x512x2048.size (yslot_inb s)) (fun _ => rfl)).squeeze S512x2048 squeezes_S1x512x2048_S512x2048
def ysem (s : Fin 2) : DmaSems sig S_ := (cc0_scoped12.slice (Rect.unit (s := S2) (semOff s) S1.size (ysem_inb s))).squeeze S_ squeezes_S1_S_
def yblk (b : Fin 16) : Memref sig .tc .hbm S512x2048 .f32 :=
  yHbm.slice (Rect.unit (s := S8192x2048) (rowOff b) S512x2048.size (yblk_inb b)) (fun _ => rfl)
theorem yblk_congr {off : Fin 2 → Nat} {b : Fin 16} (e : off = rowOff b) (hh hs) :
    yHbm.slice (Rect.unit (s := S8192x2048) off S512x2048.size hh) hs = yblk b :=
  Memref.slice_unit_congr _ e _ _ _ (fun _ => rfl)
theorem yslot_congr {off : Fin 3 → Nat} {s : Fin 2} (e : off = slotOff s) (hh hs) :
    (yBuf.slice (Rect.unit (s := S2x512x2048) off S1x512x2048.size hh) hs).squeeze S512x2048 squeezes_S1x512x2048_S512x2048 = yslot s :=
  congrArg (fun A : Memref sig .tc .vmem S1x512x2048 .f32 => A.squeeze S512x2048 squeezes_S1x512x2048_S512x2048) (Memref.slice_unit_congr _ e _ _ _ _)
theorem ysem_congr {off : Fin 1 → Nat} {s : Fin 2} (e : off = semOff s) (hh) :
    (cc0_scoped12.slice (Rect.unit (s := S2) off S1.size hh)).squeeze S_ squeezes_S1_S_ = ysem s :=
  congrArg (fun A : DmaSems sig S1 => A.squeeze S_ squeezes_S1_S_) (SemArray.slice_unit_congr _ e _ _)

theorem off47_eq : ∀ k : Fin k0_t1_loop.trips, k0_off47 (w9 k.val) = semOff (Ring.sl 2 (k.val / 8)) := by decide +kernel
@[sl_canon] theorem ysem_off47 (k : Fin k0_t1_loop.trips)  (hh) : (cc0_scoped12.slice (Rect.unit (s := S2) (k0_off47 (w9 k.val)) S1.size hh)).squeeze S_ squeezes_S1_S_ = ysem (Ring.sl 2 (k.val / 8)) := ysem_congr (off47_eq k) _
theorem off49_eq : ∀ k : Fin k0_t1_loop.trips, k0_off49 (w9 k.val) = slotOff (Ring.sl 2 (k.val / 8)) := by decide +kernel
@[sl_canon] theorem yslot_off49 (k : Fin k0_t1_loop.trips)  (hh hs) : (yBuf.slice (Rect.unit (s := S2x512x2048) (k0_off49 (w9 k.val)) S1x512x2048.size hh) hs).squeeze S512x2048 squeezes_S1x512x2048_S512x2048 = yslot (Ring.sl 2 (k.val / 8)) := yslot_congr (off49_eq k) _ _
theorem off48_eq : ∀ k : Fin k0_t1_loop.trips, k0_off48 (w21 k.val) = rowOff (Ring.sl 16 (k.val / 8)) := by decide +kernel
@[sl_canon] theorem yblk_off48 (k : Fin k0_t1_loop.trips)  (hh hs) : yHbm.slice (Rect.unit (s := S8192x2048) (k0_off48 (w21 k.val)) S512x2048.size hh) hs = yblk (Ring.sl 16 (k.val / 8)) := yblk_congr (off48_eq k) _ _
theorem off53_eq : ∀ k : Fin k0_t1_loop.trips, k.val % 8 = 0 ∧ 0 < k.val → k0_off53 (w18 k.val) = semOff (Ring.sl 2 (k.val / 8 - 1)) := by decide +kernel
@[sl_canon] theorem ysem_off53 (k : Fin k0_t1_loop.trips) (hk : k.val % 8 = 0 ∧ 0 < k.val) (hh) : (cc0_scoped12.slice (Rect.unit (s := S2) (k0_off53 (w18 k.val)) S1.size hh)).squeeze S_ squeezes_S1_S_ = ysem (Ring.sl 2 (k.val / 8 - 1)) := ysem_congr (off53_eq k hk) _
theorem off55_eq : ∀ k : Fin k0_t1_loop.trips, k.val % 8 = 0 ∧ 0 < k.val → k0_off55 (w18 k.val) = slotOff (Ring.sl 2 (k.val / 8 - 1)) := by decide +kernel
@[sl_canon] theorem yslot_off55 (k : Fin k0_t1_loop.trips) (hk : k.val % 8 = 0 ∧ 0 < k.val) (hh hs) : (yBuf.slice (Rect.unit (s := S2x512x2048) (k0_off55 (w18 k.val)) S1x512x2048.size hh) hs).squeeze S512x2048 squeezes_S1x512x2048_S512x2048 = yslot (Ring.sl 2 (k.val / 8 - 1)) := yslot_congr (off55_eq k hk) _ _
theorem off54_eq : ∀ k : Fin k0_t1_loop.trips, k.val % 8 = 0 ∧ 0 < k.val → k0_off54 (w21 k.val) (w22 k.val) = rowOff (Ring.sl 16 (k.val / 8 - 1)) := by decide +kernel
@[sl_canon] theorem yblk_off54 (k : Fin k0_t1_loop.trips) (hk : k.val % 8 = 0 ∧ 0 < k.val) (hh hs) : yHbm.slice (Rect.unit (s := S8192x2048) (k0_off54 (w21 k.val) (w22 k.val)) S512x2048.size hh) hs = yblk (Ring.sl 16 (k.val / 8 - 1)) := yblk_congr (off54_eq k hk) _ _
@[sl_canon] theorem ysemE (hh) : (cc0_scoped12.slice (Rect.unit (s := S2) (k0_off59 (w18 128)) S1.size hh)).squeeze S_ squeezes_S1_S_ = ysem 1 := ysem_congr (by decide +kernel) _
@[sl_canon] theorem yslotE (hh hs) : (yBuf.slice (Rect.unit (s := S2x512x2048) (k0_off61 (w18 128)) S1x512x2048.size hh) hs).squeeze S512x2048 squeezes_S1x512x2048_S512x2048 = yslot 1 := yslot_congr (by decide +kernel) _ _
@[sl_canon] theorem yblkE (hh hs) : yHbm.slice (Rect.unit (s := S8192x2048) (k0_off60 (w22 128) (w21 128)) S512x2048.size hh) hs = yblk 15 := yblk_congr (by decide +kernel) _ _

/-! ## The boxes of the loads and stores -/

theorem off36_eq : ∀ k : Fin k0_t1_loop.trips, k0_off36 (w9 k.val) = slotOff (Ring.sl 2 (k.val / 8)) := by decide +kernel
instance closedOff36 (k : Fin k0_t1_loop.trips) : ClosedOff (k0_off36 (w9 k.val)) := ⟨slotOff (Ring.sl 2 (k.val / 8)), off36_eq k⟩
theorem off37_eq : ∀ k : Fin k0_t1_loop.trips, k0_off37 (w9 k.val) = slotOff (Ring.sl 2 (k.val / 8)) := by decide +kernel
instance closedOff37 (k : Fin k0_t1_loop.trips) : ClosedOff (k0_off37 (w9 k.val)) := ⟨slotOff (Ring.sl 2 (k.val / 8)), off37_eq k⟩
theorem off38_eq : ∀ k : Fin k0_t1_loop.trips, k0_off38 (w9 k.val) = slotOff (Ring.sl 2 (k.val / 8)) := by decide +kernel
instance closedOff38 (k : Fin k0_t1_loop.trips) : ClosedOff (k0_off38 (w9 k.val)) := ⟨slotOff (Ring.sl 2 (k.val / 8)), off38_eq k⟩
theorem off39_eq : ∀ k : Fin k0_t1_loop.trips, k0_off39 (w11 k.val) = slotOff (Ring.sl 3 k.val) := by decide +kernel
instance closedOff39 (k : Fin k0_t1_loop.trips) : ClosedOff (k0_off39 (w11 k.val)) := ⟨slotOff (Ring.sl 3 k.val), off39_eq k⟩
theorem off40_eq : ∀ k : Fin k0_t1_loop.trips, k0_off40 (w9 k.val) = slotOff (Ring.sl 2 (k.val / 8)) := by decide +kernel
instance closedOff40 (k : Fin k0_t1_loop.trips) : ClosedOff (k0_off40 (w9 k.val)) := ⟨slotOff (Ring.sl 2 (k.val / 8)), off40_eq k⟩
theorem off41_eq : ∀ k : Fin k0_t1_loop.trips, k0_off41 (w11 k.val) = slotOff (Ring.sl 3 k.val) := by decide +kernel
instance closedOff41 (k : Fin k0_t1_loop.trips) : ClosedOff (k0_off41 (w11 k.val)) := ⟨slotOff (Ring.sl 3 k.val), off41_eq k⟩
theorem off42_eq : ∀ k : Fin k0_t1_loop.trips, k0_off42 (w9 k.val) = slotOff (Ring.sl 2 (k.val / 8)) := by decide +kernel
instance closedOff42 (k : Fin k0_t1_loop.trips) : ClosedOff (k0_off42 (w9 k.val)) := ⟨slotOff (Ring.sl 2 (k.val / 8)), off42_eq k⟩
theorem off43_eq : ∀ k : Fin k0_t1_loop.trips, k0_off43 (w9 k.val) = slotOff (Ring.sl 2 (k.val / 8)) := by decide +kernel
instance closedOff43 (k : Fin k0_t1_loop.trips) : ClosedOff (k0_off43 (w9 k.val)) := ⟨slotOff (Ring.sl 2 (k.val / 8)), off43_eq k⟩

end Cert.KernelIdeal.Hand
-- ==== Proof.Pieces.lean ====
/-
  What the kernel holds between two trips, slot by slot.

  Each of the four streamed inputs is lent to its slots by share: a slot at rest has its share of the whole input,
  a slot in flight has lent the window its transfer reads. The two outputs are held whole, except for the one row
  block that is being written at most.
-/
module

public import proofs.«01_k».proof.Proof.Words

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The share of an input that each of two slots lends from. -/
def share2 (s : Fin 2) : PosShare TreeShare := if s = 0 then fullShare.left else fullShare.right
/-- The share of an input that each of three slots lends from. -/
def share3 (s : Fin 3) : PosShare TreeShare := Ring.shares3 fullShare s

omit [FloatOps F] in
theorem eq_of_bi {P Q : sProp 𝕄} (h : P ⊣⊢ Q) : P = Q := Idealize.SL.BI.Entails.antisymm h.1 h.2

section Pieces
variable (c : Dev nD)

abbrev uCell (s : Fin 2) : sProp 𝕄 := semVal ((c : Thread nD τ), SemLoc.dma (usem s).sem) 0
abbrev uSlotC (s : Fin 2) : Type := Buf (Elt F) ((uslot s).view.loc (c : Thread nD τ))
abbrev uSlotP (s : Fin 2) (f : uSlotC (F := F) c s) : sProp 𝕄 :=
  (uslot s).view.loc (c : Thread nD τ) ↦[(uslot s).view.set]{fullShare} f
abbrev uHbmC : Type := Buf (Elt F) (uHbm.view.loc (c : Thread nD τ))
/-- Slot `s`'s share of the whole input. -/
abbrev uTok (Xu : uHbmC (F := F) c) (s : Fin 2) : sProp 𝕄 :=
  uHbm.view.loc (c : Thread nD τ) ↦[uHbm.view.set]{share2 s} Xu
abbrev uWin (Xu : uHbmC (F := F) c) (s : Fin 2) (b : Fin 16) : sProp 𝕄 :=
  (ublk b).view.loc (c : Thread nD τ) ↦[(ublk b).view.set]{share2 s} Xu
abbrev uRest (Xu : uHbmC (F := F) c) (s : Fin 2) (b : Fin 16) : sProp 𝕄 :=
  uHbm.view.loc (c : Thread nD τ) ↦[uHbm.view.set \ (ublk b).view.set]{share2 s} Xu
/-- Block `b` as a transfer carries it. -/
abbrev uPay (Xu : uHbmC (F := F) c) (b : Fin 16) : S512x2048.Idx → Elt F .bf16 :=
  ReadAs.same.apply ((ublk b).view.read (Elt F) Xu)
/-- What block `b`'s transfer leaves in slot `s` over contents `f`. -/
abbrev uLanded (Xu : uHbmC (F := F) c) (s : Fin 2) (b : Fin 16) (f : uSlotC (F := F) c s) : uSlotC (F := F) c s :=
  (uslot s).view.writes (Elt F) f [⟨Rect.whole S512x2048, uPay c Xu b⟩]
abbrev uFlight (Xu : uHbmC (F := F) c) (s : Fin 2) (b : Fin 16) (f : uSlotC (F := F) c s) : sProp 𝕄 :=
  Transfers.Flight countersEmb (c : Thread nD τ) (SemLoc.dma (usem s).sem) () 65536 iprop(uSlotP c s f ∗ uWin c Xu s b)
/-- The slot holds block `b`. -/
abbrev uHolds (Xu : uHbmC (F := F) c) (s : Fin 2) (b : Fin 16) (f : uSlotC (F := F) c s) : Prop :=
  (uslot s).view.read (Elt F) f = (ublk b).view.read (Elt F) Xu
/-- The slot of turn `n` at rest. -/
def uFree (Xu : uHbmC (F := F) c) (s : Fin 2) : sProp 𝕄 :=
  iprop((∃ f, uSlotP c s f) ∗ uCell (F := F) c s ∗ uTok c Xu s)
/-- The slot of turn `n` in flight with that turn's block. -/
def uInfl (Xu : uHbmC (F := F) c) (n : ℕ) : sProp 𝕄 :=
  iprop(∃ f, uFlight c Xu (Ring.sl 2 n) (Ring.sl 16 n) f ∗ uRest c Xu (Ring.sl 2 n) (Ring.sl 16 n)
    ∗ ⌜uHolds c Xu (Ring.sl 2 n) (Ring.sl 16 n) f⌝)
/-- The slot of turn `n` holding that turn's block. -/
def uLand (Xu : uHbmC (F := F) c) (n : ℕ) : sProp 𝕄 :=
  iprop(∃ f, uSlotP c (Ring.sl 2 n) f ∗ uCell (F := F) c (Ring.sl 2 n) ∗ uTok c Xu (Ring.sl 2 n)
    ∗ ⌜uHolds c Xu (Ring.sl 2 n) (Ring.sl 16 n) f⌝)
omit [FloatOps F] in
theorem uHolds_landed (Xu : uHbmC (F := F) c) (s : Fin 2) (b : Fin 16) (f : uSlotC (F := F) c s) :
    uHolds c Xu s b (uLanded c Xu s b f) :=
  View.read_writes_whole _ _ _
omit [FloatOps F] in
theorem uTok_split (Xu : uHbmC (F := F) c) (s : Fin 2) (b : Fin 16) :
    uTok c Xu s = iprop(uWin c Xu s b ∗ uRest c Xu s b) :=
  eq_of_bi (pointsTo_split_subset (by rw [show uHbm.view.set = Finset.univ from View.set_whole _]; exact Finset.subset_univ _))

abbrev wuCell (s : Fin 3) : sProp 𝕄 := semVal ((c : Thread nD τ), SemLoc.dma (wusem s).sem) 0
abbrev wuSlotC (s : Fin 3) : Type := Buf (Elt F) ((wuslot s).view.loc (c : Thread nD τ))
abbrev wuSlotP (s : Fin 3) (f : wuSlotC (F := F) c s) : sProp 𝕄 :=
  (wuslot s).view.loc (c : Thread nD τ) ↦[(wuslot s).view.set]{fullShare} f
abbrev wuHbmC : Type := Buf (Elt F) (wuHbm.view.loc (c : Thread nD τ))
/-- Slot `s`'s share of the whole input. -/
abbrev wuTok (Xwu : wuHbmC (F := F) c) (s : Fin 3) : sProp 𝕄 :=
  wuHbm.view.loc (c : Thread nD τ) ↦[wuHbm.view.set]{share3 s} Xwu
abbrev wuWin (Xwu : wuHbmC (F := F) c) (s : Fin 3) (b : Fin 8) : sProp 𝕄 :=
  (wublk b).view.loc (c : Thread nD τ) ↦[(wublk b).view.set]{share3 s} Xwu
abbrev wuRest (Xwu : wuHbmC (F := F) c) (s : Fin 3) (b : Fin 8) : sProp 𝕄 :=
  wuHbm.view.loc (c : Thread nD τ) ↦[wuHbm.view.set \ (wublk b).view.set]{share3 s} Xwu
/-- Block `b` as a transfer carries it. -/
abbrev wuPay (Xwu : wuHbmC (F := F) c) (b : Fin 8) : S2048x1024.Idx → Elt F .bf16 :=
  ReadAs.same.apply ((wublk b).view.read (Elt F) Xwu)
/-- What block `b`'s transfer leaves in slot `s` over contents `f`. -/
abbrev wuLanded (Xwu : wuHbmC (F := F) c) (s : Fin 3) (b : Fin 8) (f : wuSlotC (F := F) c s) : wuSlotC (F := F) c s :=
  (wuslot s).view.writes (Elt F) f [⟨Rect.whole S2048x1024, wuPay c Xwu b⟩]
abbrev wuFlight (Xwu : wuHbmC (F := F) c) (s : Fin 3) (b : Fin 8) (f : wuSlotC (F := F) c s) : sProp 𝕄 :=
  Transfers.Flight countersEmb (c : Thread nD τ) (SemLoc.dma (wusem s).sem) () 131072 iprop(wuSlotP c s f ∗ wuWin c Xwu s b)
/-- The slot holds block `b`. -/
abbrev wuHolds (Xwu : wuHbmC (F := F) c) (s : Fin 3) (b : Fin 8) (f : wuSlotC (F := F) c s) : Prop :=
  (wuslot s).view.read (Elt F) f = (wublk b).view.read (Elt F) Xwu
/-- The slot of turn `n` at rest. -/
def wuFree (Xwu : wuHbmC (F := F) c) (s : Fin 3) : sProp 𝕄 :=
  iprop((∃ f, wuSlotP c s f) ∗ wuCell (F := F) c s ∗ wuTok c Xwu s)
/-- The slot of turn `n` in flight with that turn's block. -/
def wuInfl (Xwu : wuHbmC (F := F) c) (n : ℕ) : sProp 𝕄 :=
  iprop(∃ f, wuFlight c Xwu (Ring.sl 3 n) (Ring.sl 8 n) f ∗ wuRest c Xwu (Ring.sl 3 n) (Ring.sl 8 n)
    ∗ ⌜wuHolds c Xwu (Ring.sl 3 n) (Ring.sl 8 n) f⌝)
/-- The slot of turn `n` holding that turn's block. -/
def wuLand (Xwu : wuHbmC (F := F) c) (n : ℕ) : sProp 𝕄 :=
  iprop(∃ f, wuSlotP c (Ring.sl 3 n) f ∗ wuCell (F := F) c (Ring.sl 3 n) ∗ wuTok c Xwu (Ring.sl 3 n)
    ∗ ⌜wuHolds c Xwu (Ring.sl 3 n) (Ring.sl 8 n) f⌝)
omit [FloatOps F] in
theorem wuHolds_landed (Xwu : wuHbmC (F := F) c) (s : Fin 3) (b : Fin 8) (f : wuSlotC (F := F) c s) :
    wuHolds c Xwu s b (wuLanded c Xwu s b f) :=
  View.read_writes_whole _ _ _
omit [FloatOps F] in
theorem wuTok_split (Xwu : wuHbmC (F := F) c) (s : Fin 3) (b : Fin 8) :
    wuTok c Xwu s = iprop(wuWin c Xwu s b ∗ wuRest c Xwu s b) :=
  eq_of_bi (pointsTo_split_subset (by rw [show wuHbm.view.set = Finset.univ from View.set_whole _]; exact Finset.subset_univ _))

abbrev wdCell (s : Fin 3) : sProp 𝕄 := semVal ((c : Thread nD τ), SemLoc.dma (wdsem s).sem) 0
abbrev wdSlotC (s : Fin 3) : Type := Buf (Elt F) ((wdslot s).view.loc (c : Thread nD τ))
abbrev wdSlotP (s : Fin 3) (f : wdSlotC (F := F) c s) : sProp 𝕄 :=
  (wdslot s).view.loc (c : Thread nD τ) ↦[(wdslot s).view.set]{fullShare} f
abbrev wdHbmC : Type := Buf (Elt F) (wdHbm.view.loc (c : Thread nD τ))
/-- Slot `s`'s share of the whole input. -/
abbrev wdTok (Xwd : wdHbmC (F := F) c) (s : Fin 3) : sProp 𝕄 :=
  wdHbm.view.loc (c : Thread nD τ) ↦[wdHbm.view.set]{share3 s} Xwd
abbrev wdWin (Xwd : wdHbmC (F := F) c) (s : Fin 3) (b : Fin 8) : sProp 𝕄 :=
  (wdblk b).view.loc (c : Thread nD τ) ↦[(wdblk b).view.set]{share3 s} Xwd
abbrev wdRest (Xwd : wdHbmC (F := F) c) (s : Fin 3) (b : Fin 8) : sProp 𝕄 :=
  wdHbm.view.loc (c : Thread nD τ) ↦[wdHbm.view.set \ (wdblk b).view.set]{share3 s} Xwd
/-- Block `b` as a transfer carries it. -/
abbrev wdPay (Xwd : wdHbmC (F := F) c) (b : Fin 8) : S1024x2048.Idx → Elt F .bf16 :=
  ReadAs.same.apply ((wdblk b).view.read (Elt F) Xwd)
/-- What block `b`'s transfer leaves in slot `s` over contents `f`. -/
abbrev wdLanded (Xwd : wdHbmC (F := F) c) (s : Fin 3) (b : Fin 8) (f : wdSlotC (F := F) c s) : wdSlotC (F := F) c s :=
  (wdslot s).view.writes (Elt F) f [⟨Rect.whole S1024x2048, wdPay c Xwd b⟩]
abbrev wdFlight (Xwd : wdHbmC (F := F) c) (s : Fin 3) (b : Fin 8) (f : wdSlotC (F := F) c s) : sProp 𝕄 :=
  Transfers.Flight countersEmb (c : Thread nD τ) (SemLoc.dma (wdsem s).sem) () 131072 iprop(wdSlotP c s f ∗ wdWin c Xwd s b)
/-- The slot holds block `b`. -/
abbrev wdHolds (Xwd : wdHbmC (F := F) c) (s : Fin 3) (b : Fin 8) (f : wdSlotC (F := F) c s) : Prop :=
  (wdslot s).view.read (Elt F) f = (wdblk b).view.read (Elt F) Xwd
/-- The slot of turn `n` at rest. -/
def wdFree (Xwd : wdHbmC (F := F) c) (s : Fin 3) : sProp 𝕄 :=
  iprop((∃ f, wdSlotP c s f) ∗ wdCell (F := F) c s ∗ wdTok c Xwd s)
/-- The slot of turn `n` in flight with that turn's block. -/
def wdInfl (Xwd : wdHbmC (F := F) c) (n : ℕ) : sProp 𝕄 :=
  iprop(∃ f, wdFlight c Xwd (Ring.sl 3 n) (Ring.sl 8 n) f ∗ wdRest c Xwd (Ring.sl 3 n) (Ring.sl 8 n)
    ∗ ⌜wdHolds c Xwd (Ring.sl 3 n) (Ring.sl 8 n) f⌝)
/-- The slot of turn `n` holding that turn's block. -/
def wdLand (Xwd : wdHbmC (F := F) c) (n : ℕ) : sProp 𝕄 :=
  iprop(∃ f, wdSlotP c (Ring.sl 3 n) f ∗ wdCell (F := F) c (Ring.sl 3 n) ∗ wdTok c Xwd (Ring.sl 3 n)
    ∗ ⌜wdHolds c Xwd (Ring.sl 3 n) (Ring.sl 8 n) f⌝)
omit [FloatOps F] in
theorem wdHolds_landed (Xwd : wdHbmC (F := F) c) (s : Fin 3) (b : Fin 8) (f : wdSlotC (F := F) c s) :
    wdHolds c Xwd s b (wdLanded c Xwd s b f) :=
  View.read_writes_whole _ _ _
omit [FloatOps F] in
theorem wdTok_split (Xwd : wdHbmC (F := F) c) (s : Fin 3) (b : Fin 8) :
    wdTok c Xwd s = iprop(wdWin c Xwd s b ∗ wdRest c Xwd s b) :=
  eq_of_bi (pointsTo_split_subset (by rw [show wdHbm.view.set = Finset.univ from View.set_whole _]; exact Finset.subset_univ _))

abbrev hCell (s : Fin 2) : sProp 𝕄 := semVal ((c : Thread nD τ), SemLoc.dma (hsem s).sem) 0
abbrev hSlotC (s : Fin 2) : Type := Buf (Elt F) ((hslot s).view.loc (c : Thread nD τ))
abbrev hSlotP (s : Fin 2) (f : hSlotC (F := F) c s) : sProp 𝕄 :=
  (hslot s).view.loc (c : Thread nD τ) ↦[(hslot s).view.set]{fullShare} f
abbrev hHbmC : Type := Buf (Elt F) (hHbm.view.loc (c : Thread nD τ))
/-- Slot `s`'s share of the whole input. -/
abbrev hTok (Xh : hHbmC (F := F) c) (s : Fin 2) : sProp 𝕄 :=
  hHbm.view.loc (c : Thread nD τ) ↦[hHbm.view.set]{share2 s} Xh
abbrev hWin (Xh : hHbmC (F := F) c) (s : Fin 2) (b : Fin 16) : sProp 𝕄 :=
  (hblk b).view.loc (c : Thread nD τ) ↦[(hblk b).view.set]{share2 s} Xh
abbrev hRest (Xh : hHbmC (F := F) c) (s : Fin 2) (b : Fin 16) : sProp 𝕄 :=
  hHbm.view.loc (c : Thread nD τ) ↦[hHbm.view.set \ (hblk b).view.set]{share2 s} Xh
/-- Block `b` as a transfer carries it. -/
abbrev hPay (Xh : hHbmC (F := F) c) (b : Fin 16) : S512x2048.Idx → Elt F .f32 :=
  ReadAs.same.apply ((hblk b).view.read (Elt F) Xh)
/-- What block `b`'s transfer leaves in slot `s` over contents `f`. -/
abbrev hLanded (Xh : hHbmC (F := F) c) (s : Fin 2) (b : Fin 16) (f : hSlotC (F := F) c s) : hSlotC (F := F) c s :=
  (hslot s).view.writes (Elt F) f [⟨Rect.whole S512x2048, hPay c Xh b⟩]
abbrev hFlight (Xh : hHbmC (F := F) c) (s : Fin 2) (b : Fin 16) (f : hSlotC (F := F) c s) : sProp 𝕄 :=
  Transfers.Flight countersEmb (c : Thread nD τ) (SemLoc.dma (hsem s).sem) () 131072 iprop(hSlotP c s f ∗ hWin c Xh s b)
/-- The slot holds block `b`. -/
abbrev hHolds (Xh : hHbmC (F := F) c) (s : Fin 2) (b : Fin 16) (f : hSlotC (F := F) c s) : Prop :=
  (hslot s).view.read (Elt F) f = (hblk b).view.read (Elt F) Xh
/-- The slot of turn `n` at rest. -/
def hFree (Xh : hHbmC (F := F) c) (s : Fin 2) : sProp 𝕄 :=
  iprop((∃ f, hSlotP c s f) ∗ hCell (F := F) c s ∗ hTok c Xh s)
/-- The slot of turn `n` in flight with that turn's block. -/
def hInfl (Xh : hHbmC (F := F) c) (n : ℕ) : sProp 𝕄 :=
  iprop(∃ f, hFlight c Xh (Ring.sl 2 n) (Ring.sl 16 n) f ∗ hRest c Xh (Ring.sl 2 n) (Ring.sl 16 n)
    ∗ ⌜hHolds c Xh (Ring.sl 2 n) (Ring.sl 16 n) f⌝)
/-- The slot of turn `n` holding that turn's block. -/
def hLand (Xh : hHbmC (F := F) c) (n : ℕ) : sProp 𝕄 :=
  iprop(∃ f, hSlotP c (Ring.sl 2 n) f ∗ hCell (F := F) c (Ring.sl 2 n) ∗ hTok c Xh (Ring.sl 2 n)
    ∗ ⌜hHolds c Xh (Ring.sl 2 n) (Ring.sl 16 n) f⌝)
omit [FloatOps F] in
theorem hHolds_landed (Xh : hHbmC (F := F) c) (s : Fin 2) (b : Fin 16) (f : hSlotC (F := F) c s) :
    hHolds c Xh s b (hLanded c Xh s b f) :=
  View.read_writes_whole _ _ _
omit [FloatOps F] in
theorem hTok_split (Xh : hHbmC (F := F) c) (s : Fin 2) (b : Fin 16) :
    hTok c Xh s = iprop(hWin c Xh s b ∗ hRest c Xh s b) :=
  eq_of_bi (pointsTo_split_subset (by rw [show hHbm.view.set = Finset.univ from View.set_whole _]; exact Finset.subset_univ _))

abbrev oCell (s : Fin 2) : sProp 𝕄 := semVal ((c : Thread nD τ), SemLoc.dma (osem s).sem) 0
abbrev oSlotC (s : Fin 2) : Type := Buf (Elt F) ((oslot s).view.loc (c : Thread nD τ))
abbrev oSlotP (s : Fin 2) (f : oSlotC (F := F) c s) : sProp 𝕄 :=
  (oslot s).view.loc (c : Thread nD τ) ↦[(oslot s).view.set]{fullShare} f
abbrev oHbmC : Type := Buf (Elt F) (oHbm.view.loc (c : Thread nD τ))

abbrev yCell (s : Fin 2) : sProp 𝕄 := semVal ((c : Thread nD τ), SemLoc.dma (ysem s).sem) 0
abbrev ySlotC (s : Fin 2) : Type := Buf (Elt F) ((yslot s).view.loc (c : Thread nD τ))
abbrev ySlotP (s : Fin 2) (f : ySlotC (F := F) c s) : sProp 𝕄 :=
  (yslot s).view.loc (c : Thread nD τ) ↦[(yslot s).view.set]{fullShare} f
abbrev yHbmC : Type := Buf (Elt F) (yHbm.view.loc (c : Thread nD τ))

end Pieces
end Cert.KernelIdeal.Hand
-- ==== Proof.State.lean ====
/-
  The values the kernel computes, and what it holds before a trip.

  Row block `i` starts from the residual's block and takes one step per block of features: the input's rows times the
  block of the first weight, the negative part cut off, squared, times the block of the second weight, added on. After
  the last step the block is the first output's; its rows, scaled by the inverse root of their mean square and by the
  gain, are the second output's.
-/
module

public import proofs.«01_k».proof.Proof.Pieces
public import Idealize.ShloMosaic.Lib.Pipeline.Value

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev gBuf : Memref sig .tc .vmem S1x2048 .f32 := Memref.whole cc0_scoped8
abbrev gHbm : Memref sig .tc .hbm S1x2048 .f32 := Memref.whole main_v4

/-! ## Values -/

/-- The first product's positive part for one block of features. -/
def upPos (u : FVec F S512x2048 .bf16) (wu : FVec F S2048x1024 .bf16) : FVec F S512x1024 .f32 :=
  maximumf (matmul dot_S512x2048_S2048x1024_S512x1024_1_0_0_1_n_n none u wu (constant S512x1024 .f32 0x00000000#32))
    (broadcast S512x1024 (Scalar.ofBits .f32 0x00000000#32))

/-- One block of features: `acc + relu(u wu)² wd`. -/
def mlpStep (u : FVec F S512x2048 .bf16) (wu : FVec F S2048x1024 .bf16) (acc : FVec F S512x2048 .f32)
    (wd : FVec F S1024x2048 .bf16) : FVec F S512x2048 .f32 :=
  addf acc (matmul dot_S512x1024_S1024x2048_S512x2048_1_0_0_1_n_n none
    (truncf .bf16 (mulf (upPos u wu) (upPos u wu)) bitsLt_bf16_f32) wd (constant S512x2048 .f32 0x00000000#32))

/-- The rows of `x` scaled by the inverse root of their mean square, and by the gain. -/
def rmsRows (x : FVec F S512x2048 .f32) (g : FVec F S1x2048 .f32) : FVec F S512x2048 .f32 :=
  mulf (mulf x (broadcastTo S512x2048
      (rsqrt (addf (divf (shapeCast S512x1 (multiReduction .add [1] S512 (mulf x x) 0x00000000#32 reduces_S512x2048_S512 (.inl rfl) rfl) shapeCasts_S512_S512x1)
          (broadcast S512x1 (Scalar.ofBits .f32 0x45000000#32)))
        (broadcast S512x1 (Scalar.ofBits .f32 0x358637BD#32)))) broadcasts_S512x1_S512x2048))
    (broadcastTo S512x2048 g broadcasts_S1x2048_S512x2048)

theorem k0_pay1_eq (v : Vec F S1x512x2048 .f32) :
    k0_pay1 (F := F) v = shapeCast S1x512x2048 (shapeCast S512x2048 v shapeCasts_S1x512x2048_S512x2048) shapeCasts_S512x2048_S1x512x2048 := rfl

theorem k0_pay2_eq (u : Vec F S1x512x2048 .bf16) (wu : Vec F S1x2048x1024 .bf16) (acc : Vec F S1x512x2048 .f32) (wd : Vec F S1x1024x2048 .bf16) :
    k0_pay2 (F := F) u wu acc wd = shapeCast S1x512x2048 (mlpStep (shapeCast S512x2048 u shapeCasts_S1x512x2048_S512x2048)
      (shapeCast S2048x1024 wu shapeCasts_S1x2048x1024_S2048x1024) (shapeCast S512x2048 acc shapeCasts_S1x512x2048_S512x2048)
      (shapeCast S1024x2048 wd shapeCasts_S1x1024x2048_S1024x2048)) shapeCasts_S512x2048_S1x512x2048 := rfl

theorem k0_pay3_eq (x : Vec F S1x512x2048 .f32) (g : Vec F S1x2048 .f32) :
    k0_pay3 (F := F) x g = shapeCast S1x512x2048 (rmsRows (shapeCast S512x2048 x shapeCasts_S1x512x2048_S512x2048)
      (shapeCast S1x2048 g shapeCasts_S1x2048_S1x2048)) shapeCasts_S512x2048_S1x512x2048 := rfl

/-! ## Loads and stores at a slot -/

omit [FloatOps F] in
/-- A load of slot `s`'s box, its unit axis dropped, is the slot's contents. -/
theorem uslot_load {off : Fin 3 → Nat} {s : Fin 2} (e : off = slotOff s) (hh) (f : uBuf.view.ty.Contents (Elt F)) :
    shapeCast S512x2048 (uBuf.view.readAt (Elt F) (Rect.unit (s := S2x512x2048) off S1x512x2048.size hh).toLoadRect f) shapeCasts_S1x512x2048_S512x2048
      = (uslot s).view.read (Elt F) f := by
  subst e; rfl

omit [FloatOps F] in
/-- A load of slot `s`'s box, its unit axis dropped, is the slot's contents. -/
theorem wuslot_load {off : Fin 3 → Nat} {s : Fin 3} (e : off = slotOff s) (hh) (f : wuBuf.view.ty.Contents (Elt F)) :
    shapeCast S2048x1024 (wuBuf.view.readAt (Elt F) (Rect.unit (s := S3x2048x1024) off S1x2048x1024.size hh).toLoadRect f) shapeCasts_S1x2048x1024_S2048x1024
      = (wuslot s).view.read (Elt F) f := by
  subst e; rfl

omit [FloatOps F] in
/-- A load of slot `s`'s box, its unit axis dropped, is the slot's contents. -/
theorem wdslot_load {off : Fin 3 → Nat} {s : Fin 3} (e : off = slotOff s) (hh) (f : wdBuf.view.ty.Contents (Elt F)) :
    shapeCast S1024x2048 (wdBuf.view.readAt (Elt F) (Rect.unit (s := S3x1024x2048) off S1x1024x2048.size hh).toLoadRect f) shapeCasts_S1x1024x2048_S1024x2048
      = (wdslot s).view.read (Elt F) f := by
  subst e; rfl

omit [FloatOps F] in
/-- A load of slot `s`'s box, its unit axis dropped, is the slot's contents. -/
theorem hslot_load {off : Fin 3 → Nat} {s : Fin 2} (e : off = slotOff s) (hh) (f : hBuf.view.ty.Contents (Elt F)) :
    shapeCast S512x2048 (hBuf.view.readAt (Elt F) (Rect.unit (s := S2x512x2048) off S1x512x2048.size hh).toLoadRect f) shapeCasts_S1x512x2048_S512x2048
      = (hslot s).view.read (Elt F) f := by
  subst e; rfl

omit [FloatOps F] in
/-- A load of slot `s`'s box, its unit axis dropped, is the slot's contents. -/
theorem oslot_load {off : Fin 3 → Nat} {s : Fin 2} (e : off = slotOff s) (hh) (f : oBuf.view.ty.Contents (Elt F)) :
    shapeCast S512x2048 (oBuf.view.readAt (Elt F) (Rect.unit (s := S2x512x2048) off S1x512x2048.size hh).toLoadRect f) shapeCasts_S1x512x2048_S512x2048
      = (oslot s).view.read (Elt F) f := by
  subst e; rfl

omit [FloatOps F] in
/-- A store over slot `s`'s box leaves the stored block in the slot. -/
theorem oslot_store {off : Fin 3 → Nat} {s : Fin 2} (e : off = slotOff s) (hh) (f : oBuf.view.ty.Contents (Elt F))
    (v : S512x2048.Idx → Elt F .f32) :
    (oslot s).view.read (Elt F)
      (View.write (Elt F) (oBuf.access (Rect.unit (s := S2x512x2048) off S1x512x2048.size hh)) f (shapeCast S1x512x2048 v shapeCasts_S512x2048_S1x512x2048) Finset.univ) = v := by
  subst e
  have h := View.read_write_univ (Val := Elt F) (v := oBuf.access (Rect.unit (s := S2x512x2048) (slotOff s) S1x512x2048.size hh)) f (shapeCast S1x512x2048 v shapeCasts_S512x2048_S1x512x2048)
  calc _ = shapeCast S512x2048 ((oBuf.access (Rect.unit (s := S2x512x2048) (slotOff s) S1x512x2048.size hh)).read (Elt F) (View.write (Elt F) (oBuf.access (Rect.unit (s := S2x512x2048) (slotOff s) S1x512x2048.size hh)) f (shapeCast S1x512x2048 v shapeCasts_S512x2048_S1x512x2048) Finset.univ)) shapeCasts_S1x512x2048_S512x2048 := rfl
    _ = v := by rw [h]; exact shapeCast_shapeCast v _ _

omit [FloatOps F] in
/-- A load of slot `s`'s box, its unit axis dropped, is the slot's contents. -/
theorem yslot_load {off : Fin 3 → Nat} {s : Fin 2} (e : off = slotOff s) (hh) (f : yBuf.view.ty.Contents (Elt F)) :
    shapeCast S512x2048 (yBuf.view.readAt (Elt F) (Rect.unit (s := S2x512x2048) off S1x512x2048.size hh).toLoadRect f) shapeCasts_S1x512x2048_S512x2048
      = (yslot s).view.read (Elt F) f := by
  subst e; rfl

omit [FloatOps F] in
/-- A store over slot `s`'s box leaves the stored block in the slot. -/
theorem yslot_store {off : Fin 3 → Nat} {s : Fin 2} (e : off = slotOff s) (hh) (f : yBuf.view.ty.Contents (Elt F))
    (v : S512x2048.Idx → Elt F .f32) :
    (yslot s).view.read (Elt F)
      (View.write (Elt F) (yBuf.access (Rect.unit (s := S2x512x2048) off S1x512x2048.size hh)) f (shapeCast S1x512x2048 v shapeCasts_S512x2048_S1x512x2048) Finset.univ) = v := by
  subst e
  have h := View.read_write_univ (Val := Elt F) (v := yBuf.access (Rect.unit (s := S2x512x2048) (slotOff s) S1x512x2048.size hh)) f (shapeCast S1x512x2048 v shapeCasts_S512x2048_S1x512x2048)
  calc _ = shapeCast S512x2048 ((yBuf.access (Rect.unit (s := S2x512x2048) (slotOff s) S1x512x2048.size hh)).read (Elt F) (View.write (Elt F) (yBuf.access (Rect.unit (s := S2x512x2048) (slotOff s) S1x512x2048.size hh)) f (shapeCast S1x512x2048 v shapeCasts_S512x2048_S1x512x2048) Finset.univ)) shapeCasts_S1x512x2048_S512x2048 := rfl
    _ = v := by rw [h]; exact shapeCast_shapeCast v _ _

/-! ## The two outputs -/

section Outs
variable (c : Dev nD)

abbrev oHome (X : oHbmC (F := F) c) : sProp 𝕄 := oHbm.view.loc (c : Thread nD τ) ↦[oHbm.view.set]{fullShare} X
abbrev oWin (X : oHbmC (F := F) c) (b : Fin 16) : sProp 𝕄 :=
  (oblk b).view.loc (c : Thread nD τ) ↦[(oblk b).view.set]{fullShare} X
abbrev oRest (X : oHbmC (F := F) c) (b : Fin 16) : sProp 𝕄 :=
  oHbm.view.loc (c : Thread nD τ) ↦[oHbm.view.set \ (oblk b).view.set]{fullShare} X
abbrev oFlight (X : oHbmC (F := F) c) (s : Fin 2) (b : Fin 16) (f : oSlotC (F := F) c s) : sProp 𝕄 :=
  Transfers.Flight countersEmb (c : Thread nD τ) (SemLoc.dma (osem s).sem) () 131072 iprop(oWin c X b ∗ oSlotP c s f)
omit [FloatOps F] in
theorem oHome_split (X : oHbmC (F := F) c) (b : Fin 16) : oHome c X = iprop(oWin c X b ∗ oRest c X b) :=
  eq_of_bi (pointsTo_split_subset (by rw [show oHbm.view.set = Finset.univ from View.set_whole _]; exact Finset.subset_univ _))

/-- Row blocks apart share no element. -/
theorem oblk_disj : ∀ b b' : Fin 16, b ≠ b' → Disjoint (oblk b).view.set (oblk b').view.set := by
  intro b b' h
  refine View.disjoint_slice_of_disj _ _ _ ?_
  revert b b'
  decide +kernel

omit [FloatOps F] in
/-- A written block and the rest, joined. -/
theorem oHome_join (X1 X2 : oHbmC (F := F) c) (b : Fin 16) : iprop(oWin c X1 b ∗ oRest c X2 b) ⊢
    ∃ X, iprop(oHome c X ∗ ⌜(oblk b).view.read (Elt F) X = (oblk b).view.read (Elt F) X1 ∧
      ∀ b', b' ≠ b → (oblk b').view.read (Elt F) X = (oblk b').view.read (Elt F) X2⌝) := by
  classical
  let X : oHbmC (F := F) c := fun i => if i ∈ (oblk b).view.set then X1 i else X2 i
  have e1 : oWin c X1 b = oWin c X b := pointsTo_congr (fun i hi => (if_pos hi).symm)
  have e2 : oRest c X2 b = oRest c X b := pointsTo_congr (fun i hi => (if_neg (Finset.mem_sdiff.mp hi).2).symm)
  rw [e1, e2, ← oHome_split]
  iintro H
  iexists X
  isplitl [H]
  · iexact H
  ipureintro
  refine ⟨?_, fun b' hb => ?_⟩
  · funext x
    exact congrArg _ (if_pos (View.emb_mem_set _ x))
  · funext x
    exact congrArg _ (if_neg (Finset.disjoint_left.mp (oblk_disj b' b hb) (View.emb_mem_set _ x)))

/-- The output at rest with `i` row blocks written. -/
def oIdle (V : ℕ → S512x2048.Idx → Elt F .f32) (i : ℕ) : sProp 𝕄 :=
  iprop(∃ X, oHome c X ∗ ⌜∀ b, b < i → (oblk (Ring.sl 16 b)).view.read (Elt F) X = V b⌝
    ∗ oCell (F := F) c (Ring.sl 2 i) ∗ oCell (F := F) c (Ring.sl 2 (i + 1)) ∗ ∃ f, oSlotP (F := F) c (Ring.sl 2 (i + 1)) f)
/-- Row block `i` on its way out. -/
def oBusy (V : ℕ → S512x2048.Idx → Elt F .f32) (i : ℕ) : sProp 𝕄 :=
  iprop(∃ X1 X2 f, oFlight c X1 (Ring.sl 2 i) (Ring.sl 16 i) f ∗ oRest c X2 (Ring.sl 16 i)
    ∗ ⌜(oblk (Ring.sl 16 i)).view.read (Elt F) X1 = V i ∧ ∀ b, b < i → (oblk (Ring.sl 16 b)).view.read (Elt F) X2 = V b⌝
    ∗ oCell (F := F) c (Ring.sl 2 (i + 1)))
omit [FloatOps F] in
theorem oIdle_of_done (V : ℕ → S512x2048.Idx → Elt F .f32) (i : ℕ) (hi : i < 16) (X1 X2 : oHbmC (F := F) c) (f : oSlotC (F := F) c (Ring.sl 2 i))
    (hX : (oblk (Ring.sl 16 i)).view.read (Elt F) X1 = V i ∧ ∀ b, b < i → (oblk (Ring.sl 16 b)).view.read (Elt F) X2 = V b) :
    iprop(oWin c X1 (Ring.sl 16 i) ∗ oRest c X2 (Ring.sl 16 i) ∗ oCell (F := F) c (Ring.sl 2 i) ∗ oCell (F := F) c (Ring.sl 2 (i + 1))
      ∗ oSlotP c (Ring.sl 2 i) f) ⊢ oIdle c V (i + 1) := by
  iintro ⟨H1, H2, Hc, Hc', Hs⟩
  ihave H := oHome_join c X1 X2 (Ring.sl 16 i) $$ [H1 H2]
  · iframe H1 H2
  icases H with ⟨%X, H, %h⟩
  unfold oIdle
  iexists X
  rw [show Ring.sl 2 (i + 1 + 1) = Ring.sl 2 i from Ring.sl_succ_add 2 i 1 rfl]
  iframe H Hc Hc'
  isplitl []
  · ipureintro
    intro b hb
    rcases Nat.lt_succ_iff_lt_or_eq.mp hb with h' | rfl
    · rw [h.2 _ (by intro e; have := congrArg Fin.val e; simp only [Ring.sl_val] at this; omega), hX.2 b h']
    · rw [h.1, hX.1]
  · iexists f; iexact Hs

abbrev yHome (X : yHbmC (F := F) c) : sProp 𝕄 := yHbm.view.loc (c : Thread nD τ) ↦[yHbm.view.set]{fullShare} X
abbrev yWin (X : yHbmC (F := F) c) (b : Fin 16) : sProp 𝕄 :=
  (yblk b).view.loc (c : Thread nD τ) ↦[(yblk b).view.set]{fullShare} X
abbrev yRest (X : yHbmC (F := F) c) (b : Fin 16) : sProp 𝕄 :=
  yHbm.view.loc (c : Thread nD τ) ↦[yHbm.view.set \ (yblk b).view.set]{fullShare} X
abbrev yFlight (X : yHbmC (F := F) c) (s : Fin 2) (b : Fin 16) (f : ySlotC (F := F) c s) : sProp 𝕄 :=
  Transfers.Flight countersEmb (c : Thread nD τ) (SemLoc.dma (ysem s).sem) () 131072 iprop(yWin c X b ∗ ySlotP c s f)
omit [FloatOps F] in
theorem yHome_split (X : yHbmC (F := F) c) (b : Fin 16) : yHome c X = iprop(yWin c X b ∗ yRest c X b) :=
  eq_of_bi (pointsTo_split_subset (by rw [show yHbm.view.set = Finset.univ from View.set_whole _]; exact Finset.subset_univ _))

/-- Row blocks apart share no element. -/
theorem yblk_disj : ∀ b b' : Fin 16, b ≠ b' → Disjoint (yblk b).view.set (yblk b').view.set := by
  intro b b' h
  refine View.disjoint_slice_of_disj _ _ _ ?_
  revert b b'
  decide +kernel

omit [FloatOps F] in
/-- A written block and the rest, joined. -/
theorem yHome_join (X1 X2 : yHbmC (F := F) c) (b : Fin 16) : iprop(yWin c X1 b ∗ yRest c X2 b) ⊢
    ∃ X, iprop(yHome c X ∗ ⌜(yblk b).view.read (Elt F) X = (yblk b).view.read (Elt F) X1 ∧
      ∀ b', b' ≠ b → (yblk b').view.read (Elt F) X = (yblk b').view.read (Elt F) X2⌝) := by
  classical
  let X : yHbmC (F := F) c := fun i => if i ∈ (yblk b).view.set then X1 i else X2 i
  have e1 : yWin c X1 b = yWin c X b := pointsTo_congr (fun i hi => (if_pos hi).symm)
  have e2 : yRest c X2 b = yRest c X b := pointsTo_congr (fun i hi => (if_neg (Finset.mem_sdiff.mp hi).2).symm)
  rw [e1, e2, ← yHome_split]
  iintro H
  iexists X
  isplitl [H]
  · iexact H
  ipureintro
  refine ⟨?_, fun b' hb => ?_⟩
  · funext x
    exact congrArg _ (if_pos (View.emb_mem_set _ x))
  · funext x
    exact congrArg _ (if_neg (Finset.disjoint_left.mp (yblk_disj b' b hb) (View.emb_mem_set _ x)))

/-- The output at rest with `i` row blocks written. -/
def yIdle (V : ℕ → S512x2048.Idx → Elt F .f32) (i : ℕ) : sProp 𝕄 :=
  iprop(∃ X, yHome c X ∗ ⌜∀ b, b < i → (yblk (Ring.sl 16 b)).view.read (Elt F) X = V b⌝
    ∗ yCell (F := F) c (Ring.sl 2 i) ∗ yCell (F := F) c (Ring.sl 2 (i + 1)) ∗ ∃ f, ySlotP (F := F) c (Ring.sl 2 (i + 1)) f)
/-- Row block `i` on its way out. -/
def yBusy (V : ℕ → S512x2048.Idx → Elt F .f32) (i : ℕ) : sProp 𝕄 :=
  iprop(∃ X1 X2 f, yFlight c X1 (Ring.sl 2 i) (Ring.sl 16 i) f ∗ yRest c X2 (Ring.sl 16 i)
    ∗ ⌜(yblk (Ring.sl 16 i)).view.read (Elt F) X1 = V i ∧ ∀ b, b < i → (yblk (Ring.sl 16 b)).view.read (Elt F) X2 = V b⌝
    ∗ yCell (F := F) c (Ring.sl 2 (i + 1)))
omit [FloatOps F] in
theorem yIdle_of_done (V : ℕ → S512x2048.Idx → Elt F .f32) (i : ℕ) (hi : i < 16) (X1 X2 : yHbmC (F := F) c) (f : ySlotC (F := F) c (Ring.sl 2 i))
    (hX : (yblk (Ring.sl 16 i)).view.read (Elt F) X1 = V i ∧ ∀ b, b < i → (yblk (Ring.sl 16 b)).view.read (Elt F) X2 = V b) :
    iprop(yWin c X1 (Ring.sl 16 i) ∗ yRest c X2 (Ring.sl 16 i) ∗ yCell (F := F) c (Ring.sl 2 i) ∗ yCell (F := F) c (Ring.sl 2 (i + 1))
      ∗ ySlotP c (Ring.sl 2 i) f) ⊢ yIdle c V (i + 1) := by
  iintro ⟨H1, H2, Hc, Hc', Hs⟩
  ihave H := yHome_join c X1 X2 (Ring.sl 16 i) $$ [H1 H2]
  · iframe H1 H2
  icases H with ⟨%X, H, %h⟩
  unfold yIdle
  iexists X
  rw [show Ring.sl 2 (i + 1 + 1) = Ring.sl 2 i from Ring.sl_succ_add 2 i 1 rfl]
  iframe H Hc Hc'
  isplitl []
  · ipureintro
    intro b hb
    rcases Nat.lt_succ_iff_lt_or_eq.mp hb with h' | rfl
    · rw [h.2 _ (by intro e; have := congrArg Fin.val e; simp only [Ring.sl_val] at this; omega), hX.2 b h']
    · rw [h.1, hX.1]
  · iexists f; iexact Hs

end Outs

/-! ## Before a trip -/

section States
variable (c : Dev nD) (Xu : uHbmC (F := F) c) (Xwu : wuHbmC (F := F) c) (Xwd : wdHbmC (F := F) c) (Xh : hHbmC (F := F) c)
  (Xg : Buf (Elt F) (gBuf.view.loc (c : Thread nD τ)))

/-- Row block `i` after `f` steps. -/
def accV (i : ℕ) : ℕ → FVec F S512x2048 .f32
  | 0 => (hblk (Ring.sl 16 i)).view.read (Elt F) Xh
  | f + 1 => mlpStep ((ublk (Ring.sl 16 i)).view.read (Elt F) Xu) ((wublk (Ring.sl 8 f)).view.read (Elt F) Xwu) (accV i f)
      ((wdblk (Ring.sl 8 f)).view.read (Elt F) Xwd)
/-- Row block `i` of the first output. -/
abbrev hV (i : ℕ) : FVec F S512x2048 .f32 := accV c Xu Xwu Xwd Xh i 8
/-- Row block `i` of the second output. -/
def yV (i : ℕ) : FVec F S512x2048 .f32 := rmsRows (hV c Xu Xwu Xwd Xh i) (gBuf.view.read (Elt F) Xg)

def uSt (X : uHbmC (F := F) c) (k : ℕ) : sProp 𝕄 :=
  if k % 8 = 0 then iprop((if k < 128 then uInfl c X (k / 8) else uFree c X (Ring.sl 2 (k / 8))) ∗ uFree c X (Ring.sl 2 (k / 8 + 1)))
  else iprop(uLand c X (k / 8) ∗ uFree c X (Ring.sl 2 (k / 8 + 1)))

def hSt (X : hHbmC (F := F) c) (k : ℕ) : sProp 𝕄 :=
  if k % 8 = 0 then iprop((if k < 128 then hInfl c X (k / 8) else hFree c X (Ring.sl 2 (k / 8))) ∗ hFree c X (Ring.sl 2 (k / 8 + 1)))
  else iprop(hLand c X (k / 8) ∗ hFree c X (Ring.sl 2 (k / 8 + 1)))

def wuAt (X : wuHbmC (F := F) c) (n : ℕ) : sProp 𝕄 := if n < 128 then wuInfl c X n else wuFree c X (Ring.sl 3 n)
def wuSt (X : wuHbmC (F := F) c) (k : ℕ) : sProp 𝕄 := iprop(wuAt c X k ∗ wuAt c X (k + 1) ∗ wuFree c X (Ring.sl 3 (k + 2)))

def wdAt (X : wdHbmC (F := F) c) (n : ℕ) : sProp 𝕄 := if n < 128 then wdInfl c X n else wdFree c X (Ring.sl 3 n)
def wdSt (X : wdHbmC (F := F) c) (k : ℕ) : sProp 𝕄 := iprop(wdAt c X k ∗ wdAt c X (k + 1) ∗ wdFree c X (Ring.sl 3 (k + 2)))

def oSt (k : ℕ) : sProp 𝕄 :=
  if k % 8 = 0 then iprop((if k = 0 then oIdle c (hV c Xu Xwu Xwd Xh) 0 else oBusy c (hV c Xu Xwu Xwd Xh) (k / 8 - 1)) ∗ ∃ f, oSlotP (F := F) c (Ring.sl 2 (k / 8)) f)
  else iprop(oIdle c (hV c Xu Xwu Xwd Xh) (k / 8) ∗ ∃ f, oSlotP c (Ring.sl 2 (k / 8)) f
    ∗ ⌜(oslot (Ring.sl 2 (k / 8))).view.read (Elt F) f = accV c Xu Xwu Xwd Xh (k / 8) (k % 8)⌝)
def ySt (k : ℕ) : sProp 𝕄 :=
  iprop((if k % 8 = 0 ∧ k ≠ 0 then yBusy c (yV c Xu Xwu Xwd Xh Xg) (k / 8 - 1) else yIdle c (yV c Xu Xwu Xwd Xh Xg) (k / 8))
    ∗ ∃ f, ySlotP (F := F) c (Ring.sl 2 (k / 8)) f)
/-- The gain's buffer. -/
abbrev gOwn : sProp 𝕄 := gBuf.view.loc (c : Thread nD τ) ↦[gBuf.view.set]{fullShare} Xg
/-- All that the loop holds before trip `k`. -/
def tripSt (k : ℕ) : sProp 𝕄 :=
  iprop((∃ W, owes (c : Thread nD τ) 0 W) ∗ uSt c Xu k ∗ hSt c Xh k ∗ wuSt c Xwu k ∗ wdSt c Xwd k
    ∗ gOwn c Xg ∗ oSt c Xu Xwu Xwd Xh k ∗ ySt c Xu Xwu Xwd Xh Xg k)
end States

/-- Trip `k` on the carried words `acc`. The words `z` are those the prologue leaves, which no trip reads. -/
abbrev tripG (z0 z1 z2 z3 z4 z5 z6 z7 z8 z9 z10 z11 z12 : BitVec 32) (k : Fin k0_t1_loop.trips)
    (acc : BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t1_body (F := F) uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13 z0 z1 z2 z3 z4 z5 z6 z7 z8 z9 z10 z11 z12 k acc

/-- The carried words before trip `k`. -/
abbrev accW (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (w8 k, w9 k, w10 k, w11 k, w10 k, w11 k, w8 k, w9 k, (if k = 128 then 1#32 else 0#32), w9 k, w18 k, w9 k, w18 k, w21 k, w22 k)

end Cert.KernelIdeal.Hand
-- ==== Proof.Steps.lean ====
/-
  What one trip's loads and stores do to the slots, and the states before a trip case by case.
-/
module

public import proofs.«01_k».proof.Proof.State
public import Idealize.ShloMosaic.Lib.VecWindow

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

theorem off_inb {n : ℕ} {off : Fin 3 → Nat} {s : Fin n} {sz big : Fin 3 → Nat} (e : off = slotOff s) (h : ∀ a, slotOff s a + sz a ≤ big a) :
    ∀ a, off a + sz a ≤ big a := e ▸ h

omit [FloatOps F] in
theorem ent_of_eq {P Q : sProp 𝕄} (h : P = Q) : P ⊢ Q := by rw [h]

theorem sl8_mod (k : ℕ) : Ring.sl 8 (k % 8) = Ring.sl 8 k := Fin.ext (by simp only [Ring.sl_val]; omega)

theorem mlpStep_congr {u u' : FVec F S512x2048 .bf16} {a a' : FVec F S2048x1024 .bf16} {o o' : FVec F S512x2048 .f32}
    {d d' : FVec F S1024x2048 .bf16} (hu : u = u') (ha : a = a') (ho : o = o') (hd : d = d') :
    mlpStep u a o d = mlpStep u' a' o' d' := by subst hu ha ho hd; rfl
theorem rmsRows_congr {x x' : FVec F S512x2048 .f32} {g g' : FVec F S1x2048 .f32} (hx : x = x') (hg : g = g') :
    rmsRows x g = rmsRows x' g' := by subst hx hg; rfl

/-- The first trip of a row block stores the residual's block. -/
theorem start_store (k : Fin k0_t1_loop.trips) (fh : hSlotC (F := F) c (Ring.sl 2 (k.val / 8))) (fo : oBuf.view.ty.Contents (Elt F))
    (hh : hHolds c Xh (Ring.sl 2 (k.val / 8)) (Ring.sl 16 (k.val / 8)) fh) (hl hs) :
    (oslot (Ring.sl 2 (k.val / 8))).view.read (Elt F)
      (View.write (Elt F) (oBuf.access (Rect.unit (s := S2x512x2048) (k0_off37 (w9 k.val)) S1x512x2048.size hs)) fo
        (k0_pay1 (F := F) (hBuf.view.readAt (Elt F) (Rect.unit (s := S2x512x2048) (k0_off36 (w9 k.val)) S1x512x2048.size hl).toLoadRect fh)) Finset.univ)
      = accV c Xu Xwu Xwd Xh (k.val / 8) 0 := by
  rw [k0_pay1_eq]
  refine (oslot_store (off37_eq k) _ _ _).trans ?_
  exact (hslot_load (off36_eq k) _ _).trans hh

/-- Each trip stores one step. -/
theorem step_store (k : Fin k0_t1_loop.trips) (fu : uSlotC (F := F) c (Ring.sl 2 (k.val / 8))) (fa : wuSlotC (F := F) c (Ring.sl 3 k.val))
    (fd : wdSlotC (F := F) c (Ring.sl 3 k.val)) (fo : oBuf.view.ty.Contents (Elt F))
    (hu : uHolds c Xu (Ring.sl 2 (k.val / 8)) (Ring.sl 16 (k.val / 8)) fu) (ha : wuHolds c Xwu (Ring.sl 3 k.val) (Ring.sl 8 k.val) fa)
    (hd : wdHolds c Xwd (Ring.sl 3 k.val) (Ring.sl 8 k.val) fd)
    (ho : (oslot (Ring.sl 2 (k.val / 8))).view.read (Elt F) fo = accV c Xu Xwu Xwd Xh (k.val / 8) (k.val % 8)) (h38 h39 h40 h40' h41) :
    (oslot (Ring.sl 2 (k.val / 8))).view.read (Elt F)
      (View.write (Elt F) (oBuf.access (Rect.unit (s := S2x512x2048) (k0_off40 (w9 k.val)) S1x512x2048.size h40)) fo
        (k0_pay2 (F := F) (uBuf.view.readAt (Elt F) (Rect.unit (s := S2x512x2048) (k0_off38 (w9 k.val)) S1x512x2048.size h38).toLoadRect fu)
          (wuBuf.view.readAt (Elt F) (Rect.unit (s := S3x2048x1024) (k0_off39 (w11 k.val)) S1x2048x1024.size h39).toLoadRect fa)
          (oBuf.view.readAt (Elt F) (Rect.unit (s := S2x512x2048) (k0_off40 (w9 k.val)) S1x512x2048.size h40').toLoadRect fo)
          (wdBuf.view.readAt (Elt F) (Rect.unit (s := S3x1024x2048) (k0_off41 (w11 k.val)) S1x1024x2048.size h41).toLoadRect fd)) Finset.univ)
      = accV c Xu Xwu Xwd Xh (k.val / 8) (k.val % 8 + 1) := by
  rw [k0_pay2_eq]
  refine (oslot_store (off40_eq k) _ _ _).trans ?_
  rw [accV, sl8_mod]
  exact mlpStep_congr ((uslot_load (off38_eq k) _ _).trans hu) ((wuslot_load (off39_eq k) _ _).trans ha)
    ((oslot_load (off40_eq k) _ _).trans ho) ((wdslot_load (off41_eq k) _ _).trans hd)

/-- The last trip of a row block stores the scaled rows. -/
theorem rms_store (k : Fin k0_t1_loop.trips) (fo : oBuf.view.ty.Contents (Elt F)) (fy : yBuf.view.ty.Contents (Elt F))
    (ho : (oslot (Ring.sl 2 (k.val / 8))).view.read (Elt F) fo = hV c Xu Xwu Xwd Xh (k.val / 8)) (hg : ∀ a, (![0, 0] : Fin 2 → Nat) a + S1x2048.size a ≤ S1x2048.size a) (h42 h43) :
    (yslot (Ring.sl 2 (k.val / 8))).view.read (Elt F)
      (View.write (Elt F) (yBuf.access (Rect.unit (s := S2x512x2048) (k0_off43 (w9 k.val)) S1x512x2048.size h43)) fy
        (k0_pay3 (F := F) (oBuf.view.readAt (Elt F) (Rect.unit (s := S2x512x2048) (k0_off42 (w9 k.val)) S1x512x2048.size h42).toLoadRect fo)
          (gBuf.view.readAt (Elt F) (Rect.unit (s := S1x2048) ![0, 0] S1x2048.size hg).toLoadRect Xg)) Finset.univ)
      = yV c Xu Xwu Xwd Xh Xg (k.val / 8) := by
  rw [k0_pay3_eq]
  refine (yslot_store (off43_eq k) _ _ _).trans ?_
  exact rmsRows_congr ((oslot_load (off42_eq k) _ _).trans ho)
    ((shapeCast_self _ _).trans (View.readAt_full (s := S1x2048) gBuf.view Xg hg))

omit [FloatOps F] in
theorem uSt_infl (Xu : uHbmC (F := F) c) (k : ℕ) (h : k % 8 = 0) (h' : k < 128) :
    uSt c Xu k = iprop(uInfl c Xu (k / 8) ∗ uFree c Xu (Ring.sl 2 (k / 8 + 1))) := by unfold uSt; rw [if_pos h, if_pos h']
omit [FloatOps F] in
theorem uSt_end (Xu : uHbmC (F := F) c) (k : ℕ) (h : k % 8 = 0) (h' : ¬ k < 128) :
    uSt c Xu k = iprop(uFree c Xu (Ring.sl 2 (k / 8)) ∗ uFree c Xu (Ring.sl 2 (k / 8 + 1))) := by unfold uSt; rw [if_pos h, if_neg h']
omit [FloatOps F] in
theorem uSt_land (Xu : uHbmC (F := F) c) (k : ℕ) (h : ¬ k % 8 = 0) :
    uSt c Xu k = iprop(uLand c Xu (k / 8) ∗ uFree c Xu (Ring.sl 2 (k / 8 + 1))) := by unfold uSt; rw [if_neg h]

omit [FloatOps F] in
theorem hSt_infl (Xh : hHbmC (F := F) c) (k : ℕ) (h : k % 8 = 0) (h' : k < 128) :
    hSt c Xh k = iprop(hInfl c Xh (k / 8) ∗ hFree c Xh (Ring.sl 2 (k / 8 + 1))) := by unfold hSt; rw [if_pos h, if_pos h']
omit [FloatOps F] in
theorem hSt_end (Xh : hHbmC (F := F) c) (k : ℕ) (h : k % 8 = 0) (h' : ¬ k < 128) :
    hSt c Xh k = iprop(hFree c Xh (Ring.sl 2 (k / 8)) ∗ hFree c Xh (Ring.sl 2 (k / 8 + 1))) := by unfold hSt; rw [if_pos h, if_neg h']
omit [FloatOps F] in
theorem hSt_land (Xh : hHbmC (F := F) c) (k : ℕ) (h : ¬ k % 8 = 0) :
    hSt c Xh k = iprop(hLand c Xh (k / 8) ∗ hFree c Xh (Ring.sl 2 (k / 8 + 1))) := by unfold hSt; rw [if_neg h]

omit [FloatOps F] in
theorem wuAt_infl (Xwu : wuHbmC (F := F) c) (n : ℕ) (h : n < 128) : wuAt c Xwu n = wuInfl c Xwu n := if_pos h
omit [FloatOps F] in
theorem wuAt_free (Xwu : wuHbmC (F := F) c) (n : ℕ) (h : ¬ n < 128) : wuAt c Xwu n = wuFree c Xwu (Ring.sl 3 n) := if_neg h

omit [FloatOps F] in
theorem wdAt_infl (Xwd : wdHbmC (F := F) c) (n : ℕ) (h : n < 128) : wdAt c Xwd n = wdInfl c Xwd n := if_pos h
omit [FloatOps F] in
theorem wdAt_free (Xwd : wdHbmC (F := F) c) (n : ℕ) (h : ¬ n < 128) : wdAt c Xwd n = wdFree c Xwd (Ring.sl 3 n) := if_neg h

theorem oSt_first (k : ℕ) (h : k = 0) :
    oSt c Xu Xwu Xwd Xh k = iprop(oIdle c (hV c Xu Xwu Xwd Xh) (k / 8) ∗ ∃ f, oSlotP (F := F) c (Ring.sl 2 (k / 8)) f) := by subst h; rfl
theorem oSt_busy (k : ℕ) (h : k % 8 = 0 ∧ 0 < k) :
    oSt c Xu Xwu Xwd Xh k = iprop(oBusy c (hV c Xu Xwu Xwd Xh) (k / 8 - 1) ∗ ∃ f, oSlotP (F := F) c (Ring.sl 2 (k / 8)) f) := by
  unfold oSt; rw [if_pos h.1, if_neg (by omega)]
theorem oSt_mid (k : ℕ) (h : ¬ k % 8 = 0) :
    oSt c Xu Xwu Xwd Xh k = iprop(oIdle c (hV c Xu Xwu Xwd Xh) (k / 8) ∗ ∃ f, oSlotP c (Ring.sl 2 (k / 8)) f
      ∗ ⌜(oslot (Ring.sl 2 (k / 8))).view.read (Elt F) f = accV c Xu Xwu Xwd Xh (k / 8) (k % 8)⌝) := by unfold oSt; rw [if_neg h]
theorem ySt_idle (k : ℕ) (h : ¬ (k % 8 = 0 ∧ 0 < k)) :
    ySt c Xu Xwu Xwd Xh Xg k = iprop(yIdle c (yV c Xu Xwu Xwd Xh Xg) (k / 8) ∗ ∃ f, ySlotP (F := F) c (Ring.sl 2 (k / 8)) f) := by
  unfold ySt; rw [if_neg (by omega)]
theorem ySt_busy (k : ℕ) (h : k % 8 = 0 ∧ 0 < k) :
    ySt c Xu Xwu Xwd Xh Xg k = iprop(yBusy c (yV c Xu Xwu Xwd Xh Xg) (k / 8 - 1) ∗ ∃ f, ySlotP (F := F) c (Ring.sl 2 (k / 8)) f) := by
  unfold ySt; rw [if_pos (by omega)]
end T
end Cert.KernelIdeal.Hand
-- ==== Proof.TripA.lean ====
/-
  The first trip.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The first trip. -/
theorem trip_first (z0 z1 z2 z3 z4 z5 z6 z7 z8 z9 z10 z11 z12 : BitVec 32) (k : Fin k0_t1_loop.trips) (h0 : k.val = 0) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).mpr (by omega)
  have c8 := (cond8_iff k).mpr trivial
  have c9 := (cond9_iff k).mpr trivial
  have c10 := (cond10_iff k).mpr (by omega)
  have c13 := (cond13_iff k).mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_infl c Xu k.val (by omega) (by omega), hSt_infl c Xh k.val (by omega) (by omega), wuSt, wdSt, wuAt_infl c Xwu k.val (by omega), wdAt_infl c Xwd k.val (by omega), oSt_first c Xu Xwu Xwd Xh k.val (by omega), ySt_idle c Xu Xwu Xwd Xh Xg k.val (by omega)]
  unfold uInfl hInfl wuInfl wdInfl wuFree wdFree
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Hur, %hu⟩, HuF⟩, ⟨⟨%fh, Hh, Hhr, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨HoI, ⟨%fo, Ho⟩⟩, ⟨HyI, ⟨%fy, Hy⟩⟩⟩
  dsimp only [tripG, accW]
  sl_unfold [k0_t1_body]
  sl_exec
  sl_step
  isplitl []
  · ipureintro
    simp only [Prod.mk.injEq]
    clear * - h0
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu_dst Hu_src Hu Hur HuF]
  · rw [uSt_land c Xu _ hn, e8]
    isplitl [Hu_dst Hu_src Hu Hur]
    · unfold uLand
      iexists fu
      rw [uTok_split c Xu (Ring.sl 2 (k.val / 8)) (Ring.sl 16 (k.val / 8))]
      iframe Hu_dst Hu Hu_src Hur
      ipureintro; exact hu
    · iexact HuF
  isplitl [Hh_dst Hh_src Hh Hhr HhF]
  · rw [hSt_land c Xh _ hn, e8]
    isplitl [Hh_dst Hh_src Hh Hhr]
    · unfold hLand
      iexists fh
      rw [hTok_split c Xh (Ring.sl 2 (k.val / 8)) (Ring.sl 16 (k.val / 8))]
      iframe Hh_dst Hh Hh_src Hhr
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd (by rw [show k.val % 8 = 0 from by omega]; exact start_store c Xu Xwu Xwd Xh k fh fo hh _ _) _ _ _ _ _
  rw [ySt_idle c Xu Xwu Xwd Xh Xg _ (fun h => hn h.1), e8]
  isplitl [HyI]
  · iexact HyI
  iexists fy; iexact Hy
end T
end Cert.KernelIdeal.Hand
-- ==== Proof.TripB.lean ====
/-
  The first trip of a later row block: the block before goes out.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The first trip of a later row block: the block before goes out. -/
theorem trip_start (z0 z1 z2 z3 z4 z5 z6 z7 z8 z9 z10 z11 z12 : BitVec 32) (k : Fin k0_t1_loop.trips) (h1 : k.val % 8 = 0) (h0 : 0 < k.val) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).mpr (by omega)
  have c8 := (cond8_iff k).mpr trivial
  have c9 := (cond9_iff k).mpr trivial
  have c10 := (cond10_iff k).mpr (by omega)
  have c13 := (cond13_iff k).mpr (by omega)
  have c14 := (cond14_iff k).not.mpr (by omega)
  have c19 := (cond19_iff k).not.mpr (by omega)
  have c20 := (cond20_iff k).not.mpr (by omega)
  have c25 := (cond25_iff k).mpr (by omega)
  have c26 := (cond26_iff k).mpr (by omega)
  have hc1 := chk1_all k
  have hc2 := chk2_all k
  have hc3 := chk3_all k
  have hc4 := chk4_all k
  have hc5 := chk5_all k
  have hbusy : k.val % 8 = 0 ∧ 0 < k.val := ⟨h1, h0⟩
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_infl c Xu k.val (by omega) (by omega), hSt_infl c Xh k.val (by omega) (by omega), wuSt, wdSt, wuAt_infl c Xwu k.val (by omega), wdAt_infl c Xwd k.val (by omega), oSt_busy c Xu Xwu Xwd Xh k.val hbusy, ySt_busy c Xu Xwu Xwd Xh Xg k.val hbusy]
  unfold uInfl hInfl wuInfl wdInfl wuFree wdFree oBusy yBusy
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Hur, %hu⟩, HuF⟩, ⟨⟨%fh, Hh, Hhr, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨⟨%Xo1, %Xo2, %fob, Hob, Hor, %hob, Hoc⟩, ⟨%fo, Ho⟩⟩, ⟨⟨%Xy1, %Xy2, %fyb, Hyb, Hyr, %hyb, Hyc⟩, ⟨%fy, Hy⟩⟩⟩
  dsimp only [tripG, accW]
  sl_unfold [k0_t1_body]
  sl_exec
  sl_step
  isplitl []
  · ipureintro
    simp only [Prod.mk.injEq]
    clear * - h0 h1
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu_dst Hu_src Hu Hur HuF]
  · rw [uSt_land c Xu _ hn, e8]
    isplitl [Hu_dst Hu_src Hu Hur]
    · unfold uLand
      iexists fu
      rw [uTok_split c Xu (Ring.sl 2 (k.val / 8)) (Ring.sl 16 (k.val / 8))]
      iframe Hu_dst Hu Hu_src Hur
      ipureintro; exact hu
    · iexact HuF
  isplitl [Hh_dst Hh_src Hh Hhr HhF]
  · rw [hSt_land c Xh _ hn, e8]
    isplitl [Hh_dst Hh_src Hh Hhr]
    · unfold hLand
      iexists fh
      rw [hTok_split c Xh (Ring.sl 2 (k.val / 8)) (Ring.sl 16 (k.val / 8))]
      iframe Hh_dst Hh Hh_src Hhr
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  ihave HoD := oIdle_of_done c (hV c Xu Xwu Xwd Xh) (k.val / 8 - 1) (by omega) Xo1 Xo2 fob hob $$ [Hob_dst Hor Hob Hoc Hob_src]
  · iframe Hob_dst Hor Hob Hoc Hob_src
  ihave HoI := (ent_of_eq (congrArg (oIdle c (hV c Xu Xwu Xwd Xh)) (show k.val / 8 - 1 + 1 = k.val / 8 by omega))) $$ HoD
  ihave HyD := yIdle_of_done c (yV c Xu Xwu Xwd Xh Xg) (k.val / 8 - 1) (by omega) Xy1 Xy2 fyb hyb $$ [Hyb_dst Hyr Hyb Hyc Hyb_src]
  · iframe Hyb_dst Hyr Hyb Hyc Hyb_src
  ihave HyI := (ent_of_eq (congrArg (yIdle c (yV c Xu Xwu Xwd Xh Xg)) (show k.val / 8 - 1 + 1 = k.val / 8 by omega))) $$ HyD
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd (by rw [show k.val % 8 = 0 from by omega]; exact start_store c Xu Xwu Xwd Xh k fh fo hh _ _) _ _ _ _ _
  rw [ySt_idle c Xu Xwu Xwd Xh Xg _ (fun h => hn h.1), e8]
  isplitl [HyI]
  · iexact HyI
  iexists fy; iexact Hy
end T
end Cert.KernelIdeal.Hand
-- ==== Proof.TripC.lean ====
/-
  A trip inside a row block.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- A trip inside a row block. -/
theorem trip_mid (z0 z1 z2 z3 z4 z5 z6 z7 z8 z9 z10 z11 z12 : BitVec 32) (k : Fin k0_t1_loop.trips) (h1 : ¬ k.val % 8 = 0) (h2 : ¬ k.val % 8 = 7) (h3 : k.val < 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl wuFree wdFree
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨HoI, ⟨%fo, Ho, %ho⟩⟩, ⟨HyI, ⟨%fy, Hy⟩⟩⟩
  dsimp only [tripG, accW]
  sl_unfold [k0_t1_body]
  sl_exec
  sl_step
  isplitl []
  · ipureintro
    simp only [Prod.mk.injEq]
    clear * - h1 h2 h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_land c Xu _ hn, e8]
    isplitl [Hu Huc Hut]
    · unfold uLand
      iexists fu
      iframe Hu Huc Hut
      ipureintro; exact hu
    · iexact HuF
  isplitl [Hh Hhc Hht HhF]
  · rw [hSt_land c Xh _ hn, e8]
    isplitl [Hh Hhc Hht]
    · unfold hLand
      iexists fh
      iframe Hh Hhc Hht
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd ho _ _ _ _ _
  rw [ySt_idle c Xu Xwu Xwd Xh Xg _ (fun h => hn h.1), e8]
  isplitl [HyI]
  · iexact HyI
  iexists fy; iexact Hy
end T
end Cert.KernelIdeal.Hand
-- ==== Proof.TripD.lean ====
/-
  The last trip but one, with no weights left to fetch.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip but one, with no weights left to fetch. -/
theorem trip_late (z0 z1 z2 z3 z4 z5 z6 z7 z8 z9 z10 z11 z12 : BitVec 32) (k : Fin k0_t1_loop.trips) (h3 : k.val = 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).not.mpr (by omega)
  have c5 := (cond5_iff k).not.mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have e8 : (k.val + 1) / 8 = k.val / 8 := by omega
  have em : (k.val + 1) % 8 = k.val % 8 + 1 := by omega
  have hn : ¬ (k.val + 1) % 8 = 0 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, HbF⟩, ⟨⟨%fd, Hd, Hdr, %hd⟩, HdN, HeF⟩, Hg, ⟨HoI, ⟨%fo, Ho, %ho⟩⟩, ⟨HyI, ⟨%fy, Hy⟩⟩⟩
  dsimp only [tripG, accW]
  sl_unfold [k0_t1_body]
  sl_exec
  sl_step
  isplitl []
  · ipureintro
    simp only [Prod.mk.injEq]
    clear * - h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_land c Xu _ hn, e8]
    isplitl [Hu Huc Hut]
    · unfold uLand
      iexists fu
      iframe Hu Huc Hut
      ipureintro; exact hu
    · iexact HuF
  isplitl [Hh Hhc Hht HhF]
  · rw [hSt_land c Xh _ hn, e8]
    isplitl [Hh Hhc Hht]
    · unfold hLand
      iexists fh
      iframe Hh Hhc Hht
      ipureintro; exact hh
    · iexact HhF
  isplitl [Ha_dst Ha_src Ha Har HaN HbF]
  · rw [wuSt, s3, show k.val + 1 + 1 = k.val + 2 from rfl]
    isplitl [HaN]
    · iexact HaN
    isplitl [HbF]
    · rw [wuAt_free c Xwu _ (by omega)]
      iexact HbF
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN HeF]
  · rw [wdSt, s3, show k.val + 1 + 1 = k.val + 2 from rfl]
    isplitl [HdN]
    · iexact HdN
    isplitl [HeF]
    · rw [wdAt_free c Xwd _ (by omega)]
      iexact HeF
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd ho _ _ _ _ _
  rw [ySt_idle c Xu Xwu Xwd Xh Xg _ (fun h => hn h.1), e8]
  isplitl [HyI]
  · iexact HyI
  iexists fy; iexact Hy
end T
end Cert.KernelIdeal.Hand
-- ==== Proof.TripE.lean ====
/-
  The last trip of a row block: its block is sent out and the next rows are fetched.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip of a row block: its block is sent out and the next rows are fetched. -/
theorem trip_finish (z0 z1 z2 z3 z4 z5 z6 z7 z8 z9 z10 z11 z12 : BitVec 32) (k : Fin k0_t1_loop.trips) (h2 : k.val % 8 = 7) (h3 : k.val < 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).mpr (by omega)
  have c4 := (cond4_iff k).mpr (by omega)
  have c5 := (cond5_iff k).mpr (by omega)
  have c6 := (cond6_iff k).mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).mpr (by omega)
  have c19 := (cond19_iff k).mpr (by omega)
  have c20 := (cond20_iff k).mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hiss : k.val % 8 = 7 ∧ k.val < 127 := ⟨h2, by omega⟩
  have hw : k.val < 126 := by omega
  have e8 : (k.val + 1) / 8 = k.val / 8 + 1 := by omega
  have hz : (k.val + 1) % 8 = 0 ∧ 0 < k.val + 1 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl wuFree wdFree uFree hFree oIdle yIdle
  rw [wuTok_split c Xwu (Ring.sl 3 (k.val + 2)) (Ring.sl 8 (k.val + 2)), wdTok_split c Xwd (Ring.sl 3 (k.val + 2)) (Ring.sl 8 (k.val + 2)), uTok_split c Xu (Ring.sl 2 (k.val / 8 + 1)) (Ring.sl 16 (k.val / 8 + 1)), hTok_split c Xh (Ring.sl 2 (k.val / 8 + 1)) (Ring.sl 16 (k.val / 8 + 1))]
  iintro ⟨⟨%W, HW⟩, ⟨⟨%fu, Hu, Huc, Hut, %hu⟩, ⟨⟨%fu_n, Hun⟩, Hunc, ⟨Hunt, Hunr⟩⟩⟩, ⟨⟨%fh, Hh, Hhc, Hht, %hh⟩, ⟨⟨%fh_n, Hhn⟩, Hhnc, ⟨Hhnt, Hhnr⟩⟩⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨⟨%Xo, HoX, %hob, Hoc, Hoc', ⟨%fo_n, Hon⟩⟩, ⟨%fo, Ho, %ho⟩⟩, ⟨⟨%Xy, HyX, %hyb, Hyc, Hyc', ⟨%fy_n, Hyn⟩⟩, ⟨%fy, Hy⟩⟩⟩
  ihave ⟨HoW, HoR⟩ := (ent_of_eq (oHome_split c Xo (Ring.sl 16 (k.val / 8)))) $$ HoX
  ihave ⟨HyW, HyR⟩ := (ent_of_eq (yHome_split c Xy (Ring.sl 16 (k.val / 8)))) $$ HyX
  dsimp only [tripG, accW]
  sl_unfold [k0_t1_body]
  sl_exec
  sl_step
  isplitl []
  · ipureintro
    simp only [Prod.mk.injEq]
    clear * - h2 h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut Hunc Hunr]
  · rw [uSt_infl c Xu _ hz.1 (by omega), e8, s2]
    isplitl [Hunc Hunr]
    · unfold uInfl
      iexists uLanded c Xu (Ring.sl 2 (k.val / 8 + 1)) (Ring.sl 16 (k.val / 8 + 1)) fu_n
      isplitl [Hunc]
      · iexact Hunc
      isplitl [Hunr]
      · iexact Hunr
      ipureintro; exact uHolds_landed c Xu _ _ _
    unfold uFree
    isplitl [Hu]
    · iexists fu; iexact Hu
    iframe Huc Hut
  isplitl [Hh Hhc Hht Hhnc Hhnr]
  · rw [hSt_infl c Xh _ hz.1 (by omega), e8, s2]
    isplitl [Hhnc Hhnr]
    · unfold hInfl
      iexists hLanded c Xh (Ring.sl 2 (k.val / 8 + 1)) (Ring.sl 16 (k.val / 8 + 1)) fh_n
      isplitl [Hhnc]
      · iexact Hhnc
      isplitl [Hhnr]
      · iexact Hhnr
      ipureintro; exact hHolds_landed c Xh _ _ _
    unfold hFree
    isplitl [Hh]
    · iexists fh; iexact Hh
    iframe Hhc Hht
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  have hso := step_store c Xu Xwu Xwd Xh k fu fa fd fo hu ha hd ho (off_inb (off38_eq k) (uslot_inb _)) (off_inb (off39_eq k) (wuslot_inb _)) (off_inb (off40_eq k) (oslot_inb _)) (off_inb (off40_eq k) (oslot_inb _)) (off_inb (off41_eq k) (wdslot_inb _))
  rw [show k.val % 8 + 1 = 8 from by omega] at hso
  isplitl [Hoc HoR Hoc' Hon]
  · rw [oSt_busy c Xu Xwu Xwd Xh _ hz, e8, Nat.add_sub_cancel]
    isplitl [Hoc HoR Hoc']
    · unfold oBusy
      iexists _, Xo, _
      isplitl [Hoc]
      · iexact Hoc
      isplitl [HoR]
      · iexact HoR
      isplitl []
      · ipureintro
        exact ⟨(View.read_writes_whole _ _ _).trans hso, hob⟩
      iexact Hoc'
    iexists fo_n; iexact Hon
  rw [ySt_busy c Xu Xwu Xwd Xh Xg _ hz, e8, Nat.add_sub_cancel]
  isplitl [Hyc HyR Hyc']
  · unfold yBusy
    iexists _, Xy, _
    isplitl [Hyc]
    · iexact Hyc
    isplitl [HyR]
    · iexact HyR
    isplitl []
    · ipureintro
      exact ⟨(View.read_writes_whole _ _ _).trans (rms_store c Xu Xwu Xwd Xh Xg k _ fy hso _ _ _), hyb⟩
    iexact Hyc'
  iexists fy_n; iexact Hyn
end T
end Cert.KernelIdeal.Hand
-- ==== Proof.TripG.lean ====
/-
  The last trip.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip. -/
theorem trip_last (z0 z1 z2 z3 z4 z5 z6 z7 z8 z9 z10 z11 z12 : BitVec 32) (k : Fin k0_t1_loop.trips) (h3 : k.val = 127) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).not.mpr (by omega)
  have c5 := (cond5_iff k).not.mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).mpr (by omega)
  have c19 := (cond19_iff k).mpr (by omega)
  have c20 := (cond20_iff k).mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have e8 : (k.val + 1) / 8 = k.val / 8 + 1 := by omega
  have hz : (k.val + 1) % 8 = 0 ∧ 0 < k.val + 1 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl oIdle yIdle
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, HbF⟩, ⟨⟨%fd, Hd, Hdr, %hd⟩, HdN, HeF⟩, Hg, ⟨⟨%Xo, HoX, %hob, Hoc, Hoc', ⟨%fo_n, Hon⟩⟩, ⟨%fo, Ho, %ho⟩⟩, ⟨⟨%Xy, HyX, %hyb, Hyc, Hyc', ⟨%fy_n, Hyn⟩⟩, ⟨%fy, Hy⟩⟩⟩
  ihave ⟨HoW, HoR⟩ := (ent_of_eq (oHome_split c Xo (Ring.sl 16 (k.val / 8)))) $$ HoX
  ihave ⟨HyW, HyR⟩ := (ent_of_eq (yHome_split c Xy (Ring.sl 16 (k.val / 8)))) $$ HyX
  dsimp only [tripG, accW]
  sl_unfold [k0_t1_body]
  sl_exec
  sl_step
  isplitl []
  · ipureintro
    simp only [Prod.mk.injEq]
    clear * - h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_end c Xu _ hz.1 (by omega), e8, s2]
    isplitl [HuF]
    · iexact HuF
    unfold uFree
    isplitl [Hu]
    · iexists fu; iexact Hu
    iframe Huc Hut
  isplitl [Hh Hhc Hht HhF]
  · rw [hSt_end c Xh _ hz.1 (by omega), e8, s2]
    isplitl [HhF]
    · iexact HhF
    unfold hFree
    isplitl [Hh]
    · iexists fh; iexact Hh
    iframe Hhc Hht
  isplitl [Ha_dst Ha_src Ha Har HaN HbF]
  · rw [wuSt, s3, show k.val + 1 + 1 = k.val + 2 from rfl]
    isplitl [HaN]
    · iexact HaN
    isplitl [HbF]
    · rw [wuAt_free c Xwu _ (by omega)]
      iexact HbF
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN HeF]
  · rw [wdSt, s3, show k.val + 1 + 1 = k.val + 2 from rfl]
    isplitl [HdN]
    · iexact HdN
    isplitl [HeF]
    · rw [wdAt_free c Xwd _ (by omega)]
      iexact HeF
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  have hso := step_store c Xu Xwu Xwd Xh k fu fa fd fo hu ha hd ho (off_inb (off38_eq k) (uslot_inb _)) (off_inb (off39_eq k) (wuslot_inb _)) (off_inb (off40_eq k) (oslot_inb _)) (off_inb (off40_eq k) (oslot_inb _)) (off_inb (off41_eq k) (wdslot_inb _))
  rw [show k.val % 8 + 1 = 8 from by omega] at hso
  isplitl [Hoc HoR Hoc' Hon]
  · rw [oSt_busy c Xu Xwu Xwd Xh _ hz, e8, Nat.add_sub_cancel]
    isplitl [Hoc HoR Hoc']
    · unfold oBusy
      iexists _, Xo, _
      isplitl [Hoc]
      · iexact Hoc
      isplitl [HoR]
      · iexact HoR
      isplitl []
      · ipureintro
        exact ⟨(View.read_writes_whole _ _ _).trans hso, hob⟩
      iexact Hoc'
    iexists fo_n; iexact Hon
  rw [ySt_busy c Xu Xwu Xwd Xh Xg _ hz, e8, Nat.add_sub_cancel]
  isplitl [Hyc HyR Hyc']
  · unfold yBusy
    iexists _, Xy, _
    isplitl [Hyc]
    · iexact Hyc
    isplitl [HyR]
    · iexact HyR
    isplitl []
    · ipureintro
      exact ⟨(View.read_writes_whole _ _ _).trans (rms_store c Xu Xwu Xwd Xh Xg k _ fy hso _ _ _), hyb⟩
    iexact Hyc'
  iexists fy_n; iexact Hyn
end T
end Cert.KernelIdeal.Hand
-- ==== Proof.Body.lean ====
/-
  The kernel's whole run: the transfers started before the loop, the loop by its invariant, the last two waits.
-/
module

public import proofs.«01_k».proof.Proof.TripA
public import proofs.«01_k».proof.Proof.TripB
public import proofs.«01_k».proof.Proof.TripC
public import proofs.«01_k».proof.Proof.TripD
public import proofs.«01_k».proof.Proof.TripE
public import proofs.«01_k».proof.Proof.TripG

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

/-- Any trip: from the state before it to the state after it. -/
theorem trip_any (z0 z1 z2 z3 z4 z5 z6 z7 z8 z9 z10 z11 z12 : BitVec 32) (k : Fin k0_t1_loop.trips) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hk := klt k
  by_cases h0 : k.val = 0
  · exact trip_first c Xu Xwu Xwd Xh Xg z0 z1 z2 z3 z4 z5 z6 z7 z8 z9 z10 z11 z12 k h0
  by_cases h1 : k.val % 8 = 0
  · exact trip_start c Xu Xwu Xwd Xh Xg z0 z1 z2 z3 z4 z5 z6 z7 z8 z9 z10 z11 z12 k h1 (by omega)
  by_cases h3 : k.val < 126
  · by_cases h2 : k.val % 8 = 7
    · exact trip_finish c Xu Xwu Xwd Xh Xg z0 z1 z2 z3 z4 z5 z6 z7 z8 z9 z10 z11 z12 k h2 h3
    · exact trip_mid c Xu Xwu Xwd Xh Xg z0 z1 z2 z3 z4 z5 z6 z7 z8 z9 z10 z11 z12 k h1 h2 h3
  by_cases h4 : k.val = 126
  · exact trip_late c Xu Xwu Xwd Xh Xg z0 z1 z2 z3 z4 z5 z6 z7 z8 z9 z10 z11 z12 k h4
  · exact trip_last c Xu Xwu Xwd Xh Xg z0 z1 z2 z3 z4 z5 z6 z7 z8 z9 z10 z11 z12 k (by omega)

set_option warn.classDefReducibility false in
/-- What the loop keeps. -/
@[sl_loop] def loopInv1 (z0 z1 z2 z3 z4 z5 z6 z7 z8 z9 z10 z11 z12 : BitVec 32) :
    LoopInvTy_k0_t1 (F := F) Unit ℕ (UU nD τ) ℕ 𝒱₀ c none Set.univ uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13 z0 z1 z2 z3 z4 z5 z6 z7 z8 z9 z10 z11 z12 (accW 0) where
  inv k acc := iprop(⌜acc = accW k⌝ ∗ tripSt c Xu Xwu Xwd Xh Xg k)
  step k acc := by
    iintro ⟨%h, H⟩
    subst h
    iapply (trip_any c Xu Xwu Xwd Xh Xg z0 z1 z2 z3 z4 z5 z6 z7 z8 z9 z10 z11 z12 k)
    iexact H

abbrev gCell : sProp 𝕄 := semVal ((c : Thread nD τ), SemLoc.dma (cc0_scoped13 : DmaSems sig S_).sem) 0
abbrev gHome (X4 : Buf (Elt F) (gHbm.view.loc (c : Thread nD τ))) : sProp 𝕄 := gHbm.view.loc (c : Thread nD τ) ↦[gHbm.view.set]{fullShare} X4
abbrev bodyG := cc0_mlp_relu2 (F := F) uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13

/-- All that the kernel runs on, besides the outputs. -/
def inSt (X4 : Buf (Elt F) (gHbm.view.loc (c : Thread nD τ))) : sProp 𝕄 :=
  iprop((∃ W, owes (c : Thread nD τ) 0 W) ∗ (uFree c Xu 0 ∗ uFree c Xu 1) ∗ (hFree c Xh 0 ∗ hFree c Xh 1)
    ∗ (wuFree c Xwu 0 ∗ wuFree c Xwu 1 ∗ wuFree c Xwu 2) ∗ (wdFree c Xwd 0 ∗ wdFree c Xwd 1 ∗ wdFree c Xwd 2)
    ∗ gHome c X4 ∗ gCell (F := F) c ∗ ∃ f, gOwn (F := F) c f)

/-- The gain's buffer once loaded. -/
abbrev gLoaded (X4 : Buf (Elt F) (gHbm.view.loc (c : Thread nD τ))) : Buf (Elt F) (gBuf.view.loc (c : Thread nD τ)) :=
  gBuf.view.writes (Elt F) gBuf.view.junk [⟨Rect.whole S1x2048, ReadAs.same.apply (gHbm.view.read (Elt F) X4)⟩]

theorem pack0 :
    iprop((∃ W, owes (c : Thread nD τ) 0 W) ∗ (uInfl c Xu 0 ∗ uFree c Xu 1) ∗ (hInfl c Xh 0 ∗ hFree c Xh 1)
      ∗ (wuInfl c Xwu 0 ∗ wuInfl c Xwu 1 ∗ wuFree c Xwu 2) ∗ (wdInfl c Xwd 0 ∗ wdInfl c Xwd 1 ∗ wdFree c Xwd 2)
      ∗ gOwn c Xg ∗ (oIdle c (hV c Xu Xwu Xwd Xh) 0 ∗ ∃ f, oSlotP (F := F) c (Ring.sl 2 0) f)
      ∗ (yIdle c (yV c Xu Xwu Xwd Xh Xg) 0 ∗ ∃ f, ySlotP (F := F) c (Ring.sl 2 0) f))
    ⊢ tripSt c Xu Xwu Xwd Xh Xg 0 := by
  rw [tripSt, uSt_infl c Xu 0 (by omega) (by omega), hSt_infl c Xh 0 (by omega) (by omega), wuSt, wdSt,
    wuAt_infl c Xwu 0 (by omega), wuAt_infl c Xwu (0 + 1) (by omega), wdAt_infl c Xwd 0 (by omega), wdAt_infl c Xwd (0 + 1) (by omega),
    oSt_first c Xu Xwu Xwd Xh 0 rfl, ySt_idle c Xu Xwu Xwd Xh Xg 0 (by omega)]
  exact Entails.rfl

theorem inSt_open (X4 : Buf (Elt F) (gHbm.view.loc (c : Thread nD τ))) : inSt c Xu Xwu Xwd Xh X4 ⊢
    iprop((∃ W, owes (c : Thread nD τ) 0 W) ∗ (((∃ f, uSlotP c 0 f) ∗ uCell (F := F) c 0 ∗ uWin c Xu 0 0 ∗ uRest c Xu 0 0) ∗ uFree c Xu 1)
      ∗ (((∃ f, hSlotP c 0 f) ∗ hCell (F := F) c 0 ∗ hWin c Xh 0 0 ∗ hRest c Xh 0 0) ∗ hFree c Xh 1)
      ∗ (((∃ f, wuSlotP c 0 f) ∗ wuCell (F := F) c 0 ∗ wuWin c Xwu 0 0 ∗ wuRest c Xwu 0 0) ∗ ((∃ f, wuSlotP c 1 f) ∗ wuCell (F := F) c 1 ∗ wuWin c Xwu 1 1 ∗ wuRest c Xwu 1 1) ∗ wuFree c Xwu 2)
      ∗ (((∃ f, wdSlotP c 0 f) ∗ wdCell (F := F) c 0 ∗ wdWin c Xwd 0 0 ∗ wdRest c Xwd 0 0) ∗ ((∃ f, wdSlotP c 1 f) ∗ wdCell (F := F) c 1 ∗ wdWin c Xwd 1 1 ∗ wdRest c Xwd 1 1) ∗ wdFree c Xwd 2)
      ∗ gHome c X4 ∗ gCell (F := F) c ∗ ∃ f, gOwn (F := F) c f) := by
  rw [← uTok_split, ← hTok_split, ← wuTok_split, ← wuTok_split, ← wdTok_split, ← wdTok_split]
  exact Entails.rfl

theorem unpack128 : tripSt c Xu Xwu Xwd Xh Xg 128 ⊢
    iprop((∃ W, owes (c : Thread nD τ) 0 W) ∗ (uFree c Xu 0 ∗ uFree c Xu 1) ∗ (hFree c Xh 0 ∗ hFree c Xh 1)
      ∗ (wuFree c Xwu 2 ∗ wuFree c Xwu 0 ∗ wuFree c Xwu 1) ∗ (wdFree c Xwd 2 ∗ wdFree c Xwd 0 ∗ wdFree c Xwd 1)
      ∗ gOwn c Xg ∗ (oBusy c (hV c Xu Xwu Xwd Xh) 15 ∗ ∃ f, oSlotP (F := F) c 0 f)
      ∗ (yBusy c (yV c Xu Xwu Xwd Xh Xg) 15 ∗ ∃ f, ySlotP (F := F) c 0 f)) := by
  rw [tripSt, uSt_end c Xu 128 (by omega) (by omega), hSt_end c Xh 128 (by omega) (by omega), wuSt, wdSt,
    wuAt_free c Xwu 128 (by omega), wuAt_free c Xwu (128 + 1) (by omega), wdAt_free c Xwd 128 (by omega), wdAt_free c Xwd (128 + 1) (by omega),
    oSt_busy c Xu Xwu Xwd Xh 128 (by omega), ySt_busy c Xu Xwu Xwd Xh Xg 128 (by omega),
    show Ring.sl 2 (128 / 8) = 0 by decide, show Ring.sl 2 (128 / 8 + 1) = 1 by decide, show Ring.sl 3 128 = 2 by decide,
    show Ring.sl 3 (128 + 1) = 0 by decide, show Ring.sl 3 (128 + 2) = 1 by decide]

attribute [local irreducible] tripSt in
set_option maxHeartbeats 8000000 in
/-- The kernel run, from its inputs and any outputs to the outputs computed. -/
theorem bodyRun (X4 : Buf (Elt F) (gHbm.view.loc (c : Thread nD τ))) (Q : PUnit → sProp 𝕄) :
    iprop((inSt c Xu Xwu Xwd Xh X4 ∗ (oIdle c (hV c Xu Xwu Xwd Xh) 0 ∗ ∃ f, oSlotP (F := F) c (Ring.sl 2 0) f)
        ∗ (yIdle c (yV c Xu Xwu Xwd Xh (gLoaded c X4)) 0 ∗ ∃ f, ySlotP (F := F) c (Ring.sl 2 0) f))
      ∗ ((inSt c Xu Xwu Xwd Xh X4 ∗ (oIdle c (hV c Xu Xwu Xwd Xh) 16 ∗ ∃ f, oSlotP (F := F) c (Ring.sl 2 0) f)
        ∗ (yIdle c (yV c Xu Xwu Xwd Xh (gLoaded c X4)) 16 ∗ ∃ f, ySlotP (F := F) c (Ring.sl 2 0) f)) -∗ Q ⟨⟩))
    ⊢ wp frame (wpE (defs₀ (F := F)) 𝒱₀ (c : Thread nD τ) none) Set.univ (bodyG (F := F)) Q := by
  iintro ⟨⟨Hin, Ho, Hy⟩, Hk⟩
  ihave Hin2 := inSt_open c Xu Xwu Xwd Xh X4 $$ Hin
  icases Hin2 with ⟨⟨%W, HW⟩, ⟨⟨⟨%fu, Hu⟩, Huc, Hut, Hur⟩, HuF⟩, ⟨⟨⟨%fh, Hh⟩, Hhc, Hht, Hhr⟩, HhF⟩,
    ⟨⟨⟨%fa, Ha⟩, Hac, Hat, Har⟩, ⟨⟨%fb, Hb⟩, Hbc, Hbt, Hbr⟩, HaF⟩,
    ⟨⟨⟨%fd, Hd⟩, Hdc, Hdt, Hdr⟩, ⟨⟨%fe, He⟩, Hec, Het, Her⟩, HdF⟩, HgX, Hgc, ⟨%fg, Hg⟩⟩
  dsimp only [bodyG]
  sl_unfold [cc0_mlp_relu2]
  sl_exec
  ihave HT := pack0 c Xu Xwu Xwd Xh (gLoaded c X4) $$ [HW Huc Hur HuF Hhc Hhr HhF Hac Har Hbc Hbr HaF Hdc Hdr Hec Her HdF Hg Ho Hy]
  · isplitl [HW]
    · iexists _; iexact HW
    isplitl [Huc Hur HuF]
    · isplitl [Huc Hur]
      · unfold uInfl
        iexists uLanded c Xu 0 0 fu
        isplitl [Huc]
        · iexact Huc
        isplitl [Hur]
        · iexact Hur
        ipureintro; exact uHolds_landed c Xu _ _ _
      · iexact HuF
    isplitl [Hhc Hhr HhF]
    · isplitl [Hhc Hhr]
      · unfold hInfl
        iexists hLanded c Xh 0 0 fh
        isplitl [Hhc]
        · iexact Hhc
        isplitl [Hhr]
        · iexact Hhr
        ipureintro; exact hHolds_landed c Xh _ _ _
      · iexact HhF
    isplitl [Hac Har Hbc Hbr HaF]
    · unfold wuInfl
      isplitl [Hac Har]
      · iexists wuLanded c Xwu 0 0 fa
        isplitl [Hac]
        · iexact Hac
        isplitl [Har]
        · iexact Har
        ipureintro; exact wuHolds_landed c Xwu _ _ _
      isplitl [Hbc Hbr]
      · iexists wuLanded c Xwu 1 1 fb
        isplitl [Hbc]
        · iexact Hbc
        isplitl [Hbr]
        · iexact Hbr
        ipureintro; exact wuHolds_landed c Xwu _ _ _
      iexact HaF
    isplitl [Hdc Hdr Hec Her HdF]
    · unfold wdInfl
      isplitl [Hdc Hdr]
      · iexists wdLanded c Xwd 0 0 fd
        isplitl [Hdc]
        · iexact Hdc
        isplitl [Hdr]
        · iexact Hdr
        ipureintro; exact wdHolds_landed c Xwd _ _ _
      isplitl [Hec Her]
      · iexists wdLanded c Xwd 1 1 fe
        isplitl [Hec]
        · iexact Hec
        isplitl [Her]
        · iexact Her
        ipureintro; exact wdHolds_landed c Xwd _ _ _
      iexact HdF
    isplitl [Hg]
    · iexact Hg
    isplitl [Ho]
    · iexact Ho
    iexact Hy
  sl_exec
  ihave HT2 := (show tripSt c Xu Xwu Xwd Xh (gLoaded c X4) (Scf.trips k0_t1_loop.lb k0_t1_loop.ub k0_t1_loop.st) ⊢ _ from unpack128 c Xu Xwu Xwd Xh (gLoaded c X4)) $$ HT
  unfold oBusy yBusy
  icases HT2 with ⟨HW, HuF, HhF, ⟨Ha2, Ha0, Ha1⟩, ⟨Hd2, Hd0, Hd1⟩, Hg, ⟨⟨%X1, %X2, %fo, Hob, Hor, %hob, Hoc⟩, Hos⟩, ⟨⟨%Y1, %Y2, %fy, Hyb, Hyr, %hyb, Hyc⟩, Hys⟩⟩
  icases HW with ⟨%W', HW⟩
  sl_exec
  sl_step
  ihave HoD := oIdle_of_done c (hV c Xu Xwu Xwd Xh) 15 (by omega) X1 X2 fo hob $$ [Hob_dst Hor Hob Hoc Hob_src]
  · iframe Hob_dst Hor Hob Hoc Hob_src
  ihave HyD := yIdle_of_done c (yV c Xu Xwu Xwd Xh (gLoaded c X4)) 15 (by omega) Y1 Y2 fy hyb $$ [Hyb_dst Hyr Hyb Hyc Hyb_src]
  · iframe Hyb_dst Hyr Hyb Hyc Hyb_src
  iapply Hk
  isplitl [HW HuF HhF Ha2 Ha0 Ha1 Hd2 Hd0 Hd1 HgX Hgc Hg]
  · unfold inSt
    isplitl [HW]
    · iexists _; iexact HW
    iframe HuF HhF Ha0 Ha1 Ha2 Hd0 Hd1 Hd2 HgX Hgc
    iexists _; iexact Hg
  isplitl [HoD Hos]
  · isplitl [HoD]
    · iexact HoD
    iexact Hos
  isplitl [HyD]
  · iexact HyD
  iexact Hys
end T
end Cert.KernelIdeal.Hand
-- ==== Proof.Run.lean ====
/-
  The kernel launched: the buffers and semaphores it is given cut into what its slots hold, its run, and what is left
  at the end.
-/
module

public import proofs.«01_k».proof.Proof.Body
public import proofs.«01_k».proof.Proof.Gen.KernelIdeal.Frame
public import Idealize.ShloMosaic.Lib.Pipeline.KitQuiescent

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## A buffer is its slots -/

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem mem_S2x512x2048 (hh : ∀ s : Fin 2, ∀ i, slotOff s i + S1x512x2048.size i ≤ S2x512x2048.size i) (s : Fin 2) (y : S2x512x2048.Idx) :
    y ∈ (Rect.unit (s := S2x512x2048) (slotOff s) S1x512x2048.size (hh s)).set ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem disj_S2x512x2048 (hh : ∀ s : Fin 2, ∀ i, slotOff s i + S1x512x2048.size i ≤ S2x512x2048.size i) : ∀ s s' : Fin 2, s ≠ s' →
    Disjoint (Rect.unit (s := S2x512x2048) (slotOff s) S1x512x2048.size (hh s)).set (Rect.unit (s := S2x512x2048) (slotOff s') S1x512x2048.size (hh s')).set := by
  intro s s' hne; rw [Finset.disjoint_left]; intro y hy hy'; rw [mem_S2x512x2048] at hy hy'; exact hne (Fin.ext (hy.symm.trans hy'))
theorem cover_S2x512x2048 (hh : ∀ s : Fin 2, ∀ i, slotOff s i + S1x512x2048.size i ≤ S2x512x2048.size i) :
    (Finset.univ : Finset (Fin 2)).biUnion (fun s => (Rect.unit (s := S2x512x2048) (slotOff s) S1x512x2048.size (hh s)).set) = Finset.univ := by
  ext y; simp only [Finset.mem_biUnion, Finset.mem_univ, true_and, iff_true]; exact ⟨(y 0).cast (by decide), by rw [mem_S2x512x2048]; rfl⟩

theorem mem_S3x2048x1024 (hh : ∀ s : Fin 3, ∀ i, slotOff s i + S1x2048x1024.size i ≤ S3x2048x1024.size i) (s : Fin 3) (y : S3x2048x1024.Idx) :
    y ∈ (Rect.unit (s := S3x2048x1024) (slotOff s) S1x2048x1024.size (hh s)).set ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem disj_S3x2048x1024 (hh : ∀ s : Fin 3, ∀ i, slotOff s i + S1x2048x1024.size i ≤ S3x2048x1024.size i) : ∀ s s' : Fin 3, s ≠ s' →
    Disjoint (Rect.unit (s := S3x2048x1024) (slotOff s) S1x2048x1024.size (hh s)).set (Rect.unit (s := S3x2048x1024) (slotOff s') S1x2048x1024.size (hh s')).set := by
  intro s s' hne; rw [Finset.disjoint_left]; intro y hy hy'; rw [mem_S3x2048x1024] at hy hy'; exact hne (Fin.ext (hy.symm.trans hy'))
theorem cover_S3x2048x1024 (hh : ∀ s : Fin 3, ∀ i, slotOff s i + S1x2048x1024.size i ≤ S3x2048x1024.size i) :
    (Finset.univ : Finset (Fin 3)).biUnion (fun s => (Rect.unit (s := S3x2048x1024) (slotOff s) S1x2048x1024.size (hh s)).set) = Finset.univ := by
  ext y; simp only [Finset.mem_biUnion, Finset.mem_univ, true_and, iff_true]; exact ⟨(y 0).cast (by decide), by rw [mem_S3x2048x1024]; rfl⟩

theorem mem_S3x1024x2048 (hh : ∀ s : Fin 3, ∀ i, slotOff s i + S1x1024x2048.size i ≤ S3x1024x2048.size i) (s : Fin 3) (y : S3x1024x2048.Idx) :
    y ∈ (Rect.unit (s := S3x1024x2048) (slotOff s) S1x1024x2048.size (hh s)).set ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem disj_S3x1024x2048 (hh : ∀ s : Fin 3, ∀ i, slotOff s i + S1x1024x2048.size i ≤ S3x1024x2048.size i) : ∀ s s' : Fin 3, s ≠ s' →
    Disjoint (Rect.unit (s := S3x1024x2048) (slotOff s) S1x1024x2048.size (hh s)).set (Rect.unit (s := S3x1024x2048) (slotOff s') S1x1024x2048.size (hh s')).set := by
  intro s s' hne; rw [Finset.disjoint_left]; intro y hy hy'; rw [mem_S3x1024x2048] at hy hy'; exact hne (Fin.ext (hy.symm.trans hy'))
theorem cover_S3x1024x2048 (hh : ∀ s : Fin 3, ∀ i, slotOff s i + S1x1024x2048.size i ≤ S3x1024x2048.size i) :
    (Finset.univ : Finset (Fin 3)).biUnion (fun s => (Rect.unit (s := S3x1024x2048) (slotOff s) S1x1024x2048.size (hh s)).set) = Finset.univ := by
  ext y; simp only [Finset.mem_biUnion, Finset.mem_univ, true_and, iff_true]; exact ⟨(y 0).cast (by decide), by rw [mem_S3x1024x2048]; rfl⟩

omit [FloatOps F] in
theorem uSlotP_eq (c : Dev nD) (s : Fin 2) (f) : uSlotP c s f = (((c : Thread nD τ).loc cc0_scoped0) ↦[(Rect.unit (s := S2x512x2048) (slotOff s) S1x512x2048.size (uslot_inb s)).set]{fullShare} f : sProp 𝕄) :=
  congrArg (fun S => (_ ↦[S]{fullShare} f : sProp 𝕄)) ((View.set_reshape _ _).trans (View.set_slice_whole _ _))
theorem uBuf_split (c : Dev nD) :
    iprop(∃ f : Buf (Elt F) ((c : Thread nD τ).loc cc0_scoped0), ((c : Thread nD τ).loc cc0_scoped0) ↦{fullShare} f)
      ⊢ (iprop((∃ f, uSlotP (F := F) c 0 f) ∗ (∃ f, uSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped0) _ (disj_S2x512x2048 uslot_inb) (cover_S2x512x2048 uslot_inb) f).trans (bigSep_fin2 _))) $$ H
  icases H2 with ⟨H0, H1⟩
  isplitl [H0]
  · iexists f; iapply (ent_of_eq (uSlotP_eq c 0 f).symm); iexact H0
  iexists f; iapply (ent_of_eq (uSlotP_eq c 1 f).symm); iexact H1
theorem uBuf_join (c : Dev nD) :
    (iprop((∃ f, uSlotP (F := F) c 0 f) ∗ (∃ f, uSlotP (F := F) c 1 f)) : sProp 𝕄)
      ⊢ iprop(∃ f : Buf (Elt F) ((c : Thread nD τ).loc cc0_scoped0), ((c : Thread nD τ).loc cc0_scoped0) ↦{fullShare} f) := by
  iintro ⟨⟨%f0, H0⟩, ⟨%f1, H1⟩⟩
  iapply (Ring.pointsTo_blocks_join_exists (ℓ := (c : Thread nD τ).loc cc0_scoped0) _ (disj_S2x512x2048 uslot_inb) (cover_S2x512x2048 uslot_inb) f0)
  irw [bigSep_fin2]
  isplitl [H0]
  · iexists f0; iapply (ent_of_eq (uSlotP_eq c 0 f0)); iexact H0
  iexists f1; iapply (ent_of_eq (uSlotP_eq c 1 f1)); iexact H1
omit [FloatOps F] in
theorem wuSlotP_eq (c : Dev nD) (s : Fin 3) (f) : wuSlotP c s f = (((c : Thread nD τ).loc cc0_scoped2) ↦[(Rect.unit (s := S3x2048x1024) (slotOff s) S1x2048x1024.size (wuslot_inb s)).set]{fullShare} f : sProp 𝕄) :=
  congrArg (fun S => (_ ↦[S]{fullShare} f : sProp 𝕄)) ((View.set_reshape _ _).trans (View.set_slice_whole _ _))
theorem wuBuf_split (c : Dev nD) :
    iprop(∃ f : Buf (Elt F) ((c : Thread nD τ).loc cc0_scoped2), ((c : Thread nD τ).loc cc0_scoped2) ↦{fullShare} f)
      ⊢ (iprop((∃ f, wuSlotP (F := F) c 0 f) ∗ (∃ f, wuSlotP (F := F) c 1 f) ∗ (∃ f, wuSlotP (F := F) c 2 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped2) _ (disj_S3x2048x1024 wuslot_inb) (cover_S3x2048x1024 wuslot_inb) f).trans (bigSep_fin3 _))) $$ H
  icases H2 with ⟨H0, H1, H2⟩
  isplitl [H0]
  · iexists f; iapply (ent_of_eq (wuSlotP_eq c 0 f).symm); iexact H0
  isplitl [H1]
  · iexists f; iapply (ent_of_eq (wuSlotP_eq c 1 f).symm); iexact H1
  iexists f; iapply (ent_of_eq (wuSlotP_eq c 2 f).symm); iexact H2
theorem wuBuf_join (c : Dev nD) :
    (iprop((∃ f, wuSlotP (F := F) c 0 f) ∗ (∃ f, wuSlotP (F := F) c 1 f) ∗ (∃ f, wuSlotP (F := F) c 2 f)) : sProp 𝕄)
      ⊢ iprop(∃ f : Buf (Elt F) ((c : Thread nD τ).loc cc0_scoped2), ((c : Thread nD τ).loc cc0_scoped2) ↦{fullShare} f) := by
  iintro ⟨⟨%f0, H0⟩, ⟨%f1, H1⟩, ⟨%f2, H2⟩⟩
  iapply (Ring.pointsTo_blocks_join_exists (ℓ := (c : Thread nD τ).loc cc0_scoped2) _ (disj_S3x2048x1024 wuslot_inb) (cover_S3x2048x1024 wuslot_inb) f0)
  irw [bigSep_fin3]
  isplitl [H0]
  · iexists f0; iapply (ent_of_eq (wuSlotP_eq c 0 f0)); iexact H0
  isplitl [H1]
  · iexists f1; iapply (ent_of_eq (wuSlotP_eq c 1 f1)); iexact H1
  iexists f2; iapply (ent_of_eq (wuSlotP_eq c 2 f2)); iexact H2
omit [FloatOps F] in
theorem wdSlotP_eq (c : Dev nD) (s : Fin 3) (f) : wdSlotP c s f = (((c : Thread nD τ).loc cc0_scoped4) ↦[(Rect.unit (s := S3x1024x2048) (slotOff s) S1x1024x2048.size (wdslot_inb s)).set]{fullShare} f : sProp 𝕄) :=
  congrArg (fun S => (_ ↦[S]{fullShare} f : sProp 𝕄)) ((View.set_reshape _ _).trans (View.set_slice_whole _ _))
theorem wdBuf_split (c : Dev nD) :
    iprop(∃ f : Buf (Elt F) ((c : Thread nD τ).loc cc0_scoped4), ((c : Thread nD τ).loc cc0_scoped4) ↦{fullShare} f)
      ⊢ (iprop((∃ f, wdSlotP (F := F) c 0 f) ∗ (∃ f, wdSlotP (F := F) c 1 f) ∗ (∃ f, wdSlotP (F := F) c 2 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped4) _ (disj_S3x1024x2048 wdslot_inb) (cover_S3x1024x2048 wdslot_inb) f).trans (bigSep_fin3 _))) $$ H
  icases H2 with ⟨H0, H1, H2⟩
  isplitl [H0]
  · iexists f; iapply (ent_of_eq (wdSlotP_eq c 0 f).symm); iexact H0
  isplitl [H1]
  · iexists f; iapply (ent_of_eq (wdSlotP_eq c 1 f).symm); iexact H1
  iexists f; iapply (ent_of_eq (wdSlotP_eq c 2 f).symm); iexact H2
theorem wdBuf_join (c : Dev nD) :
    (iprop((∃ f, wdSlotP (F := F) c 0 f) ∗ (∃ f, wdSlotP (F := F) c 1 f) ∗ (∃ f, wdSlotP (F := F) c 2 f)) : sProp 𝕄)
      ⊢ iprop(∃ f : Buf (Elt F) ((c : Thread nD τ).loc cc0_scoped4), ((c : Thread nD τ).loc cc0_scoped4) ↦{fullShare} f) := by
  iintro ⟨⟨%f0, H0⟩, ⟨%f1, H1⟩, ⟨%f2, H2⟩⟩
  iapply (Ring.pointsTo_blocks_join_exists (ℓ := (c : Thread nD τ).loc cc0_scoped4) _ (disj_S3x1024x2048 wdslot_inb) (cover_S3x1024x2048 wdslot_inb) f0)
  irw [bigSep_fin3]
  isplitl [H0]
  · iexists f0; iapply (ent_of_eq (wdSlotP_eq c 0 f0)); iexact H0
  isplitl [H1]
  · iexists f1; iapply (ent_of_eq (wdSlotP_eq c 1 f1)); iexact H1
  iexists f2; iapply (ent_of_eq (wdSlotP_eq c 2 f2)); iexact H2
omit [FloatOps F] in
theorem hSlotP_eq (c : Dev nD) (s : Fin 2) (f) : hSlotP c s f = (((c : Thread nD τ).loc cc0_scoped6) ↦[(Rect.unit (s := S2x512x2048) (slotOff s) S1x512x2048.size (hslot_inb s)).set]{fullShare} f : sProp 𝕄) :=
  congrArg (fun S => (_ ↦[S]{fullShare} f : sProp 𝕄)) ((View.set_reshape _ _).trans (View.set_slice_whole _ _))
theorem hBuf_split (c : Dev nD) :
    iprop(∃ f : Buf (Elt F) ((c : Thread nD τ).loc cc0_scoped6), ((c : Thread nD τ).loc cc0_scoped6) ↦{fullShare} f)
      ⊢ (iprop((∃ f, hSlotP (F := F) c 0 f) ∗ (∃ f, hSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped6) _ (disj_S2x512x2048 hslot_inb) (cover_S2x512x2048 hslot_inb) f).trans (bigSep_fin2 _))) $$ H
  icases H2 with ⟨H0, H1⟩
  isplitl [H0]
  · iexists f; iapply (ent_of_eq (hSlotP_eq c 0 f).symm); iexact H0
  iexists f; iapply (ent_of_eq (hSlotP_eq c 1 f).symm); iexact H1
theorem hBuf_join (c : Dev nD) :
    (iprop((∃ f, hSlotP (F := F) c 0 f) ∗ (∃ f, hSlotP (F := F) c 1 f)) : sProp 𝕄)
      ⊢ iprop(∃ f : Buf (Elt F) ((c : Thread nD τ).loc cc0_scoped6), ((c : Thread nD τ).loc cc0_scoped6) ↦{fullShare} f) := by
  iintro ⟨⟨%f0, H0⟩, ⟨%f1, H1⟩⟩
  iapply (Ring.pointsTo_blocks_join_exists (ℓ := (c : Thread nD τ).loc cc0_scoped6) _ (disj_S2x512x2048 hslot_inb) (cover_S2x512x2048 hslot_inb) f0)
  irw [bigSep_fin2]
  isplitl [H0]
  · iexists f0; iapply (ent_of_eq (hSlotP_eq c 0 f0)); iexact H0
  iexists f1; iapply (ent_of_eq (hSlotP_eq c 1 f1)); iexact H1
omit [FloatOps F] in
theorem oSlotP_eq (c : Dev nD) (s : Fin 2) (f) : oSlotP c s f = (((c : Thread nD τ).loc cc0_scoped9) ↦[(Rect.unit (s := S2x512x2048) (slotOff s) S1x512x2048.size (oslot_inb s)).set]{fullShare} f : sProp 𝕄) :=
  congrArg (fun S => (_ ↦[S]{fullShare} f : sProp 𝕄)) ((View.set_reshape _ _).trans (View.set_slice_whole _ _))
theorem oBuf_split (c : Dev nD) :
    iprop(∃ f : Buf (Elt F) ((c : Thread nD τ).loc cc0_scoped9), ((c : Thread nD τ).loc cc0_scoped9) ↦{fullShare} f)
      ⊢ (iprop((∃ f, oSlotP (F := F) c 0 f) ∗ (∃ f, oSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped9) _ (disj_S2x512x2048 oslot_inb) (cover_S2x512x2048 oslot_inb) f).trans (bigSep_fin2 _))) $$ H
  icases H2 with ⟨H0, H1⟩
  isplitl [H0]
  · iexists f; iapply (ent_of_eq (oSlotP_eq c 0 f).symm); iexact H0
  iexists f; iapply (ent_of_eq (oSlotP_eq c 1 f).symm); iexact H1
theorem oBuf_join (c : Dev nD) :
    (iprop((∃ f, oSlotP (F := F) c 0 f) ∗ (∃ f, oSlotP (F := F) c 1 f)) : sProp 𝕄)
      ⊢ iprop(∃ f : Buf (Elt F) ((c : Thread nD τ).loc cc0_scoped9), ((c : Thread nD τ).loc cc0_scoped9) ↦{fullShare} f) := by
  iintro ⟨⟨%f0, H0⟩, ⟨%f1, H1⟩⟩
  iapply (Ring.pointsTo_blocks_join_exists (ℓ := (c : Thread nD τ).loc cc0_scoped9) _ (disj_S2x512x2048 oslot_inb) (cover_S2x512x2048 oslot_inb) f0)
  irw [bigSep_fin2]
  isplitl [H0]
  · iexists f0; iapply (ent_of_eq (oSlotP_eq c 0 f0)); iexact H0
  iexists f1; iapply (ent_of_eq (oSlotP_eq c 1 f1)); iexact H1
omit [FloatOps F] in
theorem ySlotP_eq (c : Dev nD) (s : Fin 2) (f) : ySlotP c s f = (((c : Thread nD τ).loc cc0_scoped11) ↦[(Rect.unit (s := S2x512x2048) (slotOff s) S1x512x2048.size (yslot_inb s)).set]{fullShare} f : sProp 𝕄) :=
  congrArg (fun S => (_ ↦[S]{fullShare} f : sProp 𝕄)) ((View.set_reshape _ _).trans (View.set_slice_whole _ _))
theorem yBuf_split (c : Dev nD) :
    iprop(∃ f : Buf (Elt F) ((c : Thread nD τ).loc cc0_scoped11), ((c : Thread nD τ).loc cc0_scoped11) ↦{fullShare} f)
      ⊢ (iprop((∃ f, ySlotP (F := F) c 0 f) ∗ (∃ f, ySlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped11) _ (disj_S2x512x2048 yslot_inb) (cover_S2x512x2048 yslot_inb) f).trans (bigSep_fin2 _))) $$ H
  icases H2 with ⟨H0, H1⟩
  isplitl [H0]
  · iexists f; iapply (ent_of_eq (ySlotP_eq c 0 f).symm); iexact H0
  iexists f; iapply (ent_of_eq (ySlotP_eq c 1 f).symm); iexact H1
theorem yBuf_join (c : Dev nD) :
    (iprop((∃ f, ySlotP (F := F) c 0 f) ∗ (∃ f, ySlotP (F := F) c 1 f)) : sProp 𝕄)
      ⊢ iprop(∃ f : Buf (Elt F) ((c : Thread nD τ).loc cc0_scoped11), ((c : Thread nD τ).loc cc0_scoped11) ↦{fullShare} f) := by
  iintro ⟨⟨%f0, H0⟩, ⟨%f1, H1⟩⟩
  iapply (Ring.pointsTo_blocks_join_exists (ℓ := (c : Thread nD τ).loc cc0_scoped11) _ (disj_S2x512x2048 yslot_inb) (cover_S2x512x2048 yslot_inb) f0)
  irw [bigSep_fin2]
  isplitl [H0]
  · iexists f0; iapply (ent_of_eq (ySlotP_eq c 0 f0)); iexact H0
  iexists f1; iapply (ent_of_eq (ySlotP_eq c 1 f1)); iexact H1

/-! ## The inputs' shares -/

omit [FloatOps F] in
theorem uHome_tok (c : Dev nD) (X : uHbmC (F := F) c) : (((c : Thread nD τ).loc main_arg0) ↦{fullShare} X : sProp 𝕄) = iprop(uTok c X 0 ∗ uTok c X 1) := by
  have e : uHbm.view.set = Finset.univ := View.set_whole _
  unfold uTok share2
  rw [e]
  exact eq_of_bi (pointsTo_share (PosShare.mem_left_op_right fullShare))
omit [FloatOps F] in
theorem wuHome_tok (c : Dev nD) (X : wuHbmC (F := F) c) : (((c : Thread nD τ).loc main_v2) ↦{fullShare} X : sProp 𝕄) = iprop(wuTok c X 0 ∗ wuTok c X 1 ∗ wuTok c X 2) := by
  have e : wuHbm.view.set = Finset.univ := View.set_whole _
  unfold wuTok share3
  rw [e]
  exact eq_of_bi (Ring.pointsTo_thirds fullShare X)
omit [FloatOps F] in
theorem wdHome_tok (c : Dev nD) (X : wdHbmC (F := F) c) : (((c : Thread nD τ).loc main_v3) ↦{fullShare} X : sProp 𝕄) = iprop(wdTok c X 0 ∗ wdTok c X 1 ∗ wdTok c X 2) := by
  have e : wdHbm.view.set = Finset.univ := View.set_whole _
  unfold wdTok share3
  rw [e]
  exact eq_of_bi (Ring.pointsTo_thirds fullShare X)
omit [FloatOps F] in
theorem hHome_tok (c : Dev nD) (X : hHbmC (F := F) c) : (((c : Thread nD τ).loc main_arg3) ↦{fullShare} X : sProp 𝕄) = iprop(hTok c X 0 ∗ hTok c X 1) := by
  have e : hHbm.view.set = Finset.univ := View.set_whole _
  unfold hTok share2
  rw [e]
  exact eq_of_bi (pointsTo_share (PosShare.mem_left_op_right fullShare))
omit [FloatOps F] in
theorem gHome_whole (c : Dev nD) (X) : gHome (F := F) c X = (((c : Thread nD τ).loc main_v4) ↦{fullShare} X) :=
  congrArg (fun S => (_ ↦[S]{fullShare} X : sProp 𝕄)) (View.set_whole _)
omit [FloatOps F] in
theorem gOwn_whole (c : Dev nD) (X) : gOwn (F := F) c X = (((c : Thread nD τ).loc cc0_scoped8) ↦{fullShare} X) :=
  congrArg (fun S => (_ ↦[S]{fullShare} X : sProp 𝕄)) (View.set_whole _)
omit [FloatOps F] in
theorem oHome_whole (c : Dev nD) (X) : oHome (F := F) c X = (((c : Thread nD τ).loc main_v5_0) ↦{fullShare} X) :=
  congrArg (fun S => (_ ↦[S]{fullShare} X : sProp 𝕄)) (View.set_whole _)
omit [FloatOps F] in
theorem yHome_whole (c : Dev nD) (X) : yHome (F := F) c X = (((c : Thread nD τ).loc main_v5_1) ↦{fullShare} X) :=
  congrArg (fun S => (_ ↦[S]{fullShare} X : sProp 𝕄)) (View.set_whole _)

/-! ## The kernel's own semaphores -/

/-- The kernel's semaphores, slot by slot. -/
abbrev ksem : Fin 15 → SemLoc sig := ![.dma (usem 0).sem, .dma (usem 1).sem, .dma (wusem 0).sem, .dma (wusem 1).sem, .dma (wusem 2).sem, .dma (wdsem 0).sem, .dma (wdsem 1).sem, .dma (wdsem 2).sem, .dma (hsem 0).sem, .dma (hsem 1).sem, .dma (osem 0).sem, .dma (osem 1).sem, .dma (ysem 0).sem, .dma (ysem 1).sem, .dma (cc0_scoped13 : DmaSems sig S_).sem]
theorem ownSemFacts : Pipeline.OwnSemFacts cfg0.spec ksem := by decide +kernel
omit [FloatOps F] in
theorem ownSems0_eq (c : Dev nD) : (Pipeline.ownSems0 (Ix := Unit) (Name := ℕ) (U := UU nD τ) (Lvl := ℕ) (Val := Elt F) (τ := τ) ksem c : sProp 𝕄)
    = iprop(uCell (F := F) c 0 ∗ uCell (F := F) c 1 ∗ wuCell (F := F) c 0 ∗ wuCell (F := F) c 1 ∗ wuCell (F := F) c 2 ∗ wdCell (F := F) c 0 ∗ wdCell (F := F) c 1 ∗ wdCell (F := F) c 2 ∗ hCell (F := F) c 0 ∗ hCell (F := F) c 1 ∗ oCell (F := F) c 0 ∗ oCell (F := F) c 1 ∗ yCell (F := F) c 0 ∗ yCell (F := F) c 1 ∗ gCell (F := F) c) := by
  unfold Pipeline.ownSems0
  exact bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) _

/-! ## The run -/

section Launch
variable (m : (ℓ : Loc nD τ sig) → Buf (Elt F) ℓ) (ρ : Dev nD → PrngReg)

/-- Row block `b` of the first output. -/
abbrev hOut (c : Dev nD) : ℕ → S512x2048.Idx → Elt F .f32 := hV c (Gen.V m c main_arg0) (Gen.V m c main_v2) (Gen.V m c main_v3) (Gen.V m c main_arg3)
/-- Row block `b` of the second output. -/
abbrev yOut (c : Dev nD) : ℕ → S512x2048.Idx → Elt F .f32 :=
  yV c (Gen.V m c main_arg0) (Gen.V m c main_v2) (Gen.V m c main_v3) (Gen.V m c main_arg3) (gLoaded c (Gen.V m c main_v4))

/-- The kernel's memory with `n` row blocks of either output written. -/
def atRows (c : Dev nD) (n : ℕ) : sProp 𝕄 :=
  iprop(((uFree c (Gen.V m c main_arg0) 0 ∗ uFree c (Gen.V m c main_arg0) 1) ∗ (hFree c (Gen.V m c main_arg3) 0 ∗ hFree c (Gen.V m c main_arg3) 1)
    ∗ (wuFree c (Gen.V m c main_v2) 0 ∗ wuFree c (Gen.V m c main_v2) 1 ∗ wuFree c (Gen.V m c main_v2) 2)
    ∗ (wdFree c (Gen.V m c main_v3) 0 ∗ wdFree c (Gen.V m c main_v3) 1 ∗ wdFree c (Gen.V m c main_v3) 2)
    ∗ gHome c (Gen.V m c main_v4) ∗ gCell (F := F) c ∗ ∃ f, gOwn (F := F) c f)
    ∗ (oIdle c (hOut m c) n ∗ ∃ f, oSlotP (F := F) c (Ring.sl 2 0) f)
    ∗ (yIdle c (yOut m c) n ∗ ∃ f, ySlotP (F := F) c (Ring.sl 2 0) f))

def dats (_ : Fin 1) (c : Dev nD) : Dat τ (Elt F) Unit ℕ (UU nD τ) ℕ cfg0 c where
  A w := Gen.V m c (Pipeline.arrRef cfg0.spec w)
  after w t := w.elim0
  Φ t := atRows m c (if t.val = 0 then 0 else 16)
  q _ := fullShare
  owed _ := 0

theorem defs_tc : (defs₀ (F := F)) .tc cfg0.body = fun _ => bodyG (F := F) := rfl

set_option backward.isDefEq.respectTransparency.types false in
theorem body_obligation (c : Dev nD) : BodyObligation (dats (F := F) m 0 c) (defs₀ (F := F)) 𝒱₀ () Set.univ := fun t => by
  have ht : t.val = 0 := congrArg Fin.val (fin_N0 t)
  rw [show (dats m 0 c).Φ t.castSucc = atRows m c 0 from congrArg (atRows m c) (if_pos ht),
    show (dats m 0 c).Φ t.succ = atRows m c 16 from congrArg (atRows m c) (if_neg (Nat.succ_ne_zero _)), defs_tc]
  unfold Dat.owesAt Pipeline.owesWithin
  rw [show (dats m 0 c).owed t.castSucc = 0 from rfl, show (dats m 0 c).owed t.succ = 0 from rfl]
  unfold atRows
  iintro ⟨⟨Hin, Ho, Hy⟩, ⟨%W, -, HW⟩, Hnone⟩
  iapply (bodyRun c (Gen.V m c main_arg0) (Gen.V m c main_v2) (Gen.V m c main_v3) (Gen.V m c main_arg3) (Gen.V m c main_v4))
  isplitl [Hin Ho Hy HW]
  · isplitl [Hin HW]
    · unfold inSt
      isplitl [HW]
      · iexists W; iexact HW
      iexact Hin
    isplitl [Ho]
    · iexact Ho
    iexact Hy
  · unfold inSt
    iintro ⟨⟨⟨%W', HW⟩, Hin⟩, Ho, Hy⟩
    isplitl [Hin Ho Hy]
    · isplitl [Hin]
      · iexact Hin
      isplitl [Ho]
      · iexact Ho
      iexact Hy
    isplitl [HW]
    · iexists W'; isplitr; · ipureintro; exact fun _ _ => Or.inl trivial
      iexact HW
    iexact Hnone

/-- What the region takes from the program: the buffers the kernel reads and writes, and its semaphores. -/
def intoK (c : Dev nD) : sProp 𝕄 :=
  iprop(((((c : Thread nD τ).loc main_arg0) ↦{fullShare} Gen.V m c main_arg0) ∗ (((c : Thread nD τ).loc main_arg3) ↦{fullShare} Gen.V m c main_arg3) ∗ (((c : Thread nD τ).loc main_v2) ↦{fullShare} Gen.V m c main_v2) ∗ (((c : Thread nD τ).loc main_v3) ↦{fullShare} Gen.V m c main_v3) ∗ (((c : Thread nD τ).loc main_v4) ↦{fullShare} Gen.V m c main_v4) ∗ (((c : Thread nD τ).loc main_v5_0) ↦{fullShare} Gen.V m c main_v5_0) ∗ (((c : Thread nD τ).loc main_v5_1) ↦{fullShare} Gen.V m c main_v5_1)) ∗ Pipeline.ownSems0 ksem c)
/-- What it gives back: the inputs as they were, the outputs row block by row block. -/
def outOfK (c : Dev nD) : sProp 𝕄 :=
  iprop((((c : Thread nD τ).loc main_arg0) ↦{fullShare} Gen.V m c main_arg0) ∗ (((c : Thread nD τ).loc main_arg3) ↦{fullShare} Gen.V m c main_arg3)
    ∗ (∃ X, oHome (F := F) c X ∗ ⌜∀ b, b < 16 → (oblk (Ring.sl 16 b)).view.read (Elt F) X = hOut m c b⌝)
    ∗ (∃ X, yHome (F := F) c X ∗ ⌜∀ b, b < 16 → (yblk (Ring.sl 16 b)).view.read (Elt F) X = yOut m c b⌝))
/-- The arguments the kernel does not touch. -/
def aside (c : Dev nD) : sProp 𝕄 := iprop((((c : Thread nD τ).loc main_arg1) ↦{fullShare} Gen.V m c main_arg1) ∗ (((c : Thread nD τ).loc main_arg2) ↦{fullShare} Gen.V m c main_arg2) ∗ (((c : Thread nD τ).loc main_arg4) ↦{fullShare} Gen.V m c main_arg4))
def u₀ : UU nD τ := (initOf (Pipeline.cells cfgs Gen.cellOf_inj) (Pipeline.launchToks cfgs Gen.cellOf_inj), 1)

/-- What the final memory of core `c` holds. -/
def QY (c : Dev nD) (s : MemSt nD τ sig (Elt F)) : Prop :=
  (∀ b, b < 16 → (oblk (Ring.sl 16 b)).view.read (Elt F) (s.mem ((c : Thread nD τ).loc main_v5_0)) = hOut m c b)
  ∧ (∀ b, b < 16 → (yblk (Ring.sl 16 b)).view.read (Elt F) (s.mem ((c : Thread nD τ).loc main_v5_1)) = yOut m c b)
  ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4)

theorem enter (c : Dev nD) : iprop(intoK m c ∗ Pipeline.scopedRest (Ix := Unit) (Name := ℕ) (U := UU nD τ) (Lvl := ℕ) (Val := Elt F) cfg0.spec c) ⊢ atRows m c 0 := by
  rw [scopedRest0_eq]
  unfold intoK atRows oIdle yIdle uFree hFree wuFree wdFree
  rw [ownSems0_eq, uHome_tok, wuHome_tok, wdHome_tok, hHome_tok]
  iintro ⟨⟨⟨⟨Tu0, Tu1⟩, ⟨Th0, Th1⟩, ⟨Twu0, Twu1, Twu2⟩, ⟨Twd0, Twd1, Twd2⟩, Hg, Ho, Hy⟩, Ku0, Ku1, Kwu0, Kwu1, Kwu2, Kwd0, Kwd1, Kwd2, Kh0, Kh1, Ko0, Ko1, Ky0, Ky1, Kg⟩, Bu, Bwu, Bwd, Bh, Bg, Bo, By⟩
  ihave Su := (uBuf_split c) $$ Bu
  icases Su with ⟨Su0, Su1⟩
  ihave Swu := (wuBuf_split c) $$ Bwu
  icases Swu with ⟨Swu0, Swu1, Swu2⟩
  ihave Swd := (wdBuf_split c) $$ Bwd
  icases Swd with ⟨Swd0, Swd1, Swd2⟩
  ihave Sh := (hBuf_split c) $$ Bh
  icases Sh with ⟨Sh0, Sh1⟩
  ihave So := (oBuf_split c) $$ Bo
  icases So with ⟨So0, So1⟩
  ihave Sy := (yBuf_split c) $$ By
  icases Sy with ⟨Sy0, Sy1⟩
  icases Bg with ⟨%fg, Bg⟩
  isplitl [Tu0 Tu1 Th0 Th1 Twu0 Twu1 Twu2 Twd0 Twd1 Twd2 Hg Ku0 Ku1 Kwu0 Kwu1 Kwu2 Kwd0 Kwd1 Kwd2 Kh0 Kh1 Kg Su0 Su1 Swu0 Swu1 Swu2 Swd0 Swd1 Swd2 Sh0 Sh1 Bg]
  · iframe Su0 Su1 Swu0 Swu1 Swu2 Swd0 Swd1 Swd2 Sh0 Sh1 Ku0 Ku1 Kwu0 Kwu1 Kwu2 Kwd0 Kwd1 Kwd2 Kh0 Kh1 Tu0 Tu1 Th0 Th1 Twu0 Twu1 Twu2 Twd0 Twd1 Twd2
    isplitl [Hg]
    · iapply (ent_of_eq (gHome_whole c (Gen.V m c main_v4)).symm); iexact Hg
    isplitl [Kg]
    · iexact Kg
    iexists fg
    iapply (ent_of_eq (gOwn_whole c fg).symm); iexact Bg
  isplitl [Ho Ko0 Ko1 So0 So1]
  · isplitl [Ho Ko0 Ko1 So1]
    · iexists (Gen.V m c main_v5_0)
      isplitl [Ho]
      · iapply (ent_of_eq (oHome_whole c _).symm); iexact Ho
      isplitr
      · ipureintro; exact fun b hb => absurd hb (Nat.not_lt_zero _)
      isplitl [Ko0]
      · iexact Ko0
      isplitl [Ko1]
      · iexact Ko1
      iexact So1
    iexact So0
  isplitl [Hy Ky0 Ky1 Sy1]
  · iexists (Gen.V m c main_v5_1)
    isplitl [Hy]
    · iapply (ent_of_eq (yHome_whole c _).symm); iexact Hy
    isplitr
    · ipureintro; exact fun b hb => absurd hb (Nat.not_lt_zero _)
    isplitl [Ky0]
    · iexact Ky0
    isplitl [Ky1]
    · iexact Ky1
    iexact Sy1
  iexact Sy0

theorem leave (c : Dev nD) : atRows m c 16 ⊢ iprop(outOfK m c ∗ Pipeline.ownSems0 ksem c ∗ Pipeline.scopedRest (Ix := Unit) (Name := ℕ) (U := UU nD τ) (Lvl := ℕ) (Val := Elt F) cfg0.spec c) := by
  rw [scopedRest0_eq]
  unfold outOfK atRows oIdle yIdle uFree hFree wuFree wdFree
  rw [ownSems0_eq, uHome_tok, hHome_tok, show Ring.sl 2 16 = 0 by decide, show Ring.sl 2 (16 + 1) = 1 by decide, show Ring.sl 2 0 = 0 by decide]
  iintro ⟨⟨⟨⟨Su0, Ku0, Tu0⟩, ⟨Su1, Ku1, Tu1⟩⟩, ⟨⟨Sh0, Kh0, Th0⟩, ⟨Sh1, Kh1, Th1⟩⟩, ⟨⟨Swu0, Kwu0, -⟩, ⟨Swu1, Kwu1, -⟩, ⟨Swu2, Kwu2, -⟩⟩,
    ⟨⟨Swd0, Kwd0, -⟩, ⟨Swd1, Kwd1, -⟩, ⟨Swd2, Kwd2, -⟩⟩, -, Kg, ⟨%fg, Bg⟩⟩,
    ⟨⟨%Xo, Ho, %ho, Ko0, Ko1, So1⟩, So0⟩, ⟨⟨%Xy, Hy, %hy, Ky0, Ky1, Sy1⟩, Sy0⟩⟩
  isplitl [Tu0 Tu1 Th0 Th1 Ho Hy]
  · iframe Tu0 Tu1 Th0 Th1
    isplitl [Ho]
    · iexists Xo; isplitl [Ho]; · iexact Ho
      ipureintro; exact ho
    iexists Xy; isplitl [Hy]; · iexact Hy
    ipureintro; exact hy
  isplitl [Ku0 Ku1 Kwu0 Kwu1 Kwu2 Kwd0 Kwd1 Kwd2 Kh0 Kh1 Ko0 Ko1 Ky0 Ky1 Kg]
  · iframe Ku0 Ku1 Kwu0 Kwu1 Kwu2 Kwd0 Kwd1 Kwd2 Kh0 Kh1 Ko0 Ko1 Ky0 Ky1 Kg
  isplitl [Su0 Su1]
  · iapply (uBuf_join c); isplitl [Su0]; · iexact Su0
    iexact Su1
  isplitl [Swu0 Swu1 Swu2]
  · iapply (wuBuf_join c); isplitl [Swu0]; · iexact Swu0
    isplitl [Swu1]; · iexact Swu1
    iexact Swu2
  isplitl [Swd0 Swd1 Swd2]
  · iapply (wdBuf_join c); isplitl [Swd0]; · iexact Swd0
    isplitl [Swd1]; · iexact Swd1
    iexact Swd2
  isplitl [Sh0 Sh1]
  · iapply (hBuf_join c); isplitl [Sh0]; · iexact Sh0
    iexact Sh1
  isplitl [Bg]
  · iexists fg
    iapply (ent_of_eq (gOwn_whole c fg)); iexact Bg
  isplitl [So0 So1]
  · iapply (oBuf_join c); isplitl [So0]; · iexact So0
    iexact So1
  iapply (yBuf_join c); isplitl [Sy0]; · iexact Sy0
  iexact Sy1

set_option backward.isDefEq.respectTransparency.types false in
/-- From any memory with zero counters: every fair execution of the program ends, the outputs hold the row blocks
    computed, the arguments are as they were and every counter is zero again. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ w => w.elim0)
    (X := intoK m) (Y := outOfK m) (Z := aside m)
    (hX := fun c => by
      rw [unscopedRest0_eq]
      unfold intoK aside
      iintro ⟨⟨A0, A1, A2, A3, A4, -, -, V2, V3, V4, O, Y⟩, HS, -, -, -⟩; imodintro
      isplitl [A0 A3 V2 V3 V4 O Y HS]
      · isplitl [A0 A3 V2 V3 V4 O Y]
        · iframe A0 A3 V2 V3 V4 O Y
        iexact HS
      iframe A1 A2 A4)
    (hin := fun c => enter m c)
    (hout := fun c => leave m c)
    (QY := QY m)
    (hY := fun c s' => by
      unfold outOfK aside oHome yHome
      rw [show oHbm.view.set = Finset.univ from View.set_whole _, show yHbm.view.set = Finset.univ from View.set_whole _]
      iintro ⟨⟨A0, A3, ⟨%X, O, %hO⟩, ⟨%Y, Y, %hY⟩⟩, ⟨A1, A2, A4⟩, HSI⟩
      icombine HSI A0 gives %h0
      icombine HSI A1 gives %h1
      icombine HSI A2 gives %h2
      icombine HSI A3 gives %h3
      icombine HSI A4 gives %h4
      icombine HSI O gives %hX
      icombine HSI Y gives %hZ
      imodintro
      isplitr
      · ipureintro
        have eX : s'.mem.mem ((c : Thread nD τ).loc main_v5_0) = X := Buf.eq_of_forall_mem_univ hX
        have eZ : s'.mem.mem ((c : Thread nD τ).loc main_v5_1) = Y := Buf.eq_of_forall_mem_univ hZ
        exact ⟨fun b hb => (congrArg _ eX).trans (hO b hb), fun b hb => (congrArg _ eZ).trans (hY b hb),
          (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c)⟩
      iexact HSI)
    (hQ := fun _ hh hz => ⟨fun c => (hh c).2, hz⟩)

end Launch
end Cert.KernelIdeal.Hand
-- ==== Proof.Frames.lean ====
/-
  The frame claims: the kernel's run read at the arguments, the reference's run likewise.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_kernel : Cert.quiescent_Kernel := fun m ρ _ =>
  (θ_run Cert.KernelIdeal.defs _ _).mono (fun _ h => ⟨fun c => (h.1 c).2.2, h.2⟩) (Cert.KernelIdeal.Hand.run_main (F := Bits) m ρ)

theorem frame_kernelIdeal : Cert.quiescent_KernelIdeal := fun m ρ _ =>
  (θ_run Cert.KernelIdeal.defs _ _).mono (fun _ h => ⟨fun c => (h.1 c).2.2, h.2⟩) (Cert.KernelIdeal.Hand.run_main (F := Ideal) m ρ)

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.Proof
-- ==== Proof.Read.lean ====
/-
  The kernel's blocks read at an index: a block of rows of an array is the array at the block's rows, and the arrays
  the host makes before the call are the arguments laid out afresh.
-/
module

public import proofs.«01_k».proof.Proof.State
public import Idealize.ShloMosaic.Lib.Pointwise
public import Idealize.ShloMosaic.Lib.StableHlo.Run

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.ShloMosaic.StableHlo

variable {F : FTy → Type} [FloatOps F]

/-- Row `i` of row block `b`. -/
def rowAt (b : Fin 16) (i : Fin 512) : Fin 8192 := ⟨512 * b.val + i.val, by omega⟩
/-- Feature `k` of feature block `f`. -/
def featAt (f : Fin 8) (k : Fin 1024) : Fin 8192 := ⟨f.val * 1024 + k.val, by omega⟩

omit [FloatOps F] in
theorem ublk_read (b : Fin 16) (X : uHbm.view.ty.Contents (Elt F)) (i : Fin 512) (j : Fin 2048) :
    (ublk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem hblk_read (b : Fin 16) (X : hHbm.view.ty.Contents (Elt F)) (i : Fin 512) (j : Fin 2048) :
    (hblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem oblk_read (b : Fin 16) (X : oHbm.view.ty.Contents (Elt F)) (i : Fin 512) (j : Fin 2048) :
    (oblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem yblk_read (b : Fin 16) (X : yHbm.view.ty.Contents (Elt F)) (i : Fin 512) (j : Fin 2048) :
    (yblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem wdblk_read (f : Fin 8) (X : wdHbm.view.ty.Contents (Elt F)) (k : Fin 1024) (j : Fin 2048) :
    (wdblk f).view.read (Elt F) X (ix2 k j) = X (ix2 (featAt f k) j) := by
  refine congrArg X (funext fun a => Fin.ext ?_)
  match a with
  | ⟨0, _⟩ => exact congrArg₂ (· + ·) (Nat.mul_comm 1024 f.val) (Nat.one_mul _)
  | ⟨1, _⟩ => exact (Nat.zero_add _).trans (Nat.one_mul _)

/-- A matrix with a leading axis of one, that axis dropped. -/
theorem drop_apply {α : Type} (Y : S1x2048x1024.Idx → α) (d : Fin 2048) (k : Fin 1024) :
    shapeCast S2048x1024 Y shapeCasts_S1x2048x1024_S2048x1024 (ix2 d k) = Y (ix3 0 d k) := by
  pointwise

omit [FloatOps F] in
theorem wublk_read (f : Fin 8) (X : wuHbm.view.ty.Contents (Elt F)) (d : Fin 2048) (k : Fin 1024) :
    (wublk f).view.read (Elt F) X (ix2 d k) = X (ix3 f d k) := by
  have e : (wublk f).view.read (Elt F) X = shapeCast S2048x1024 (wuHbm.view.readAt (Elt F)
      (Rect.unit (s := S8x2048x1024) (slotOff f) S1x2048x1024.size (wublk_inb f)).toLoadRect X) shapeCasts_S1x2048x1024_S2048x1024 := rfl
  rw [e]
  refine (drop_apply _ d k).trans ?_
  refine congrArg X (funext fun a => Fin.ext ?_)
  match a with
  | ⟨0, _⟩ => rfl
  | ⟨1, _⟩ => exact (Nat.zero_add _).trans (Nat.one_mul _)
  | ⟨2, _⟩ => exact (Nat.zero_add _).trans (Nat.one_mul _)

variable (m : (ℓ : Loc nD τ sig) → Buf (Elt F) ℓ) (c : Dev nD)

theorem V_v2 : Gen.V m c main_v2 = transpose S8x2048x1024 [1, 0, 2]
    (shapeCast S2048x8x1024 (truncf .bf16 (m ((c : Thread nD τ).loc main_arg1)) bitsLt_bf16_f32) shapeCasts_S2048x8192_S2048x8x1024)
    transposes_S2048x8x1024_S8x2048x1024_1_0_2 := by
  unfold Gen.V
  after_results
  rfl
theorem V_v3 : Gen.V m c main_v3 = truncf .bf16 (m ((c : Thread nD τ).loc main_arg2)) bitsLt_bf16_f32 := by
  unfold Gen.V
  after_results
theorem V_v4 : Gen.V m c main_v4 = shapeCast S1x2048 (m ((c : Thread nD τ).loc main_arg4)) shapeCasts_S2048_S1x2048 := by
  unfold Gen.V
  after_results
  rfl

/-- The first weight laid out by blocks of features. -/
theorem wu_apply {α : Type} (X : S2048x8192.Idx → α) (f : Fin 8) (d : Fin 2048) (k : Fin 1024) :
    transpose S8x2048x1024 [1, 0, 2] (shapeCast S2048x8x1024 X shapeCasts_S2048x8192_S2048x8x1024)
      transposes_S2048x8x1024_S8x2048x1024_1_0_2 (ix3 f d k) = X (ix2 d (featAt f k)) := by
  pointwise
  rfl

/-- A vector as a matrix of one row. -/
theorem gain_apply {α : Type} (x : S2048.Idx → α) (j : Fin 2048) : shapeCast S1x2048 x shapeCasts_S2048_S1x2048 (ix2 0 j) = x (ix1 j) := by
  pointwise

end Cert.KernelIdeal.Hand
-- ==== Proof.RefRead.lean ====
/-
  The reference's two results over the extended reals, read at an index.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic

/-- The feed-forward: the residual plus the product of the squared positive part. -/
def refH (U : FVec Ideal S8192x2048 .bf16) (W1 : FVec Ideal S2048x8192 .f32) (W2 H : FVec Ideal S8192x2048 .f32) : FVec Ideal S8192x2048 .f32 :=
  addf H (Host.dotGeneral dot_S8192x8192_S8192x2048_S8192x2048_1_0_0_1_n_n none
    (mulf
      (maximumf (Host.dotGeneral dot_S8192x2048_S2048x8192_S8192x8192_1_0_0_1_n_n none (extf .f32 U bitsLt_bf16_f32) W1)
        (broadcastInDim S8192x8192 ![] bcast_S_S8192x8192 (constant S_ .f32 0x00000000#32)))
      (maximumf (Host.dotGeneral dot_S8192x2048_S2048x8192_S8192x8192_1_0_0_1_n_n none (extf .f32 U bitsLt_bf16_f32) W1)
        (broadcastInDim S8192x8192 ![] bcast_S_S8192x8192 (constant S_ .f32 0x00000000#32)))) W2)

/-- The rows scaled by the inverse root of their mean square, and by the gain. -/
def refY (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf
      (Host.divf (broadcastInDim S8192x1 ![0] bcast_S8192_S8192x1_0 (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The positive part of row `r` of `U` times column `n` of `W`. -/
def feat (U : FVec Ideal S8192x2048 .bf16) (W : FVec Ideal S2048x8192 .f32) (r n : Fin 8192) : EReal :=
  max (∑ d : Fin 2048, U (ix2 r d) * W (ix2 d n)) 0

theorem refH_apply (U : FVec Ideal S8192x2048 .bf16) (W1 : FVec Ideal S2048x8192 .f32) (W2 H : FVec Ideal S8192x2048 .f32) (r : Fin 8192) (j : Fin 2048) :
    refH U W1 W2 H (ix2 r j) = H (ix2 r j) + ∑ n : Fin 8192, feat U W1 r n * feat U W1 r n * W2 (ix2 n j) := by
  pointwise [refH, feat]

theorem refY_apply (x : FVec Ideal S8192x2048 .f32) (g : FVec Ideal S2048 .f32) (r : Fin 8192) (j : Fin 2048) :
    refY x g (ix2 r j) = x (ix2 r j) * Ideal.rsqrt (Ideal.div (∑ l : Fin 2048, x (ix2 r l) * x (ix2 r l)) (Ideal.ofBits .f32 0x45000000#32) + Ideal.ofBits .f32 0x358637BD#32) * g (ix1 j) := by
  pointwise [refY]

end Cert.ReferenceIdeal.Hand
-- ==== Proof.Value.lean ====
/-
  What the kernel computes over the extended reals, read at an index: row `r` of the first output is the residual's row
  plus the squared positive part of the first product times the second weight, the sum over the features taken eight
  blocks at a time; row `r` of the second is the first's, scaled. Both are the reference's terms.
-/
module

public import proofs.«01_k».proof.Proof.Read
public import proofs.«01_k».proof.Proof.Run
public import proofs.«01_k».proof.Proof.RefRead

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

/-! ## One step at an index -/

/-- The positive part of row `i` of `u` times column `k` of `wu`. -/
theorem upPos_apply (u : FVec Ideal S512x2048 .bf16) (wu : FVec Ideal S2048x1024 .bf16) (i : Fin 512) (k : Fin 1024) :
    upPos u wu (ix2 i k) = max (∑ d : Fin 2048, u (ix2 i d) * wu (ix2 d k)) 0 := by
  pointwise [upPos]

theorem mlpStep_apply (u : FVec Ideal S512x2048 .bf16) (wu : FVec Ideal S2048x1024 .bf16) (acc : FVec Ideal S512x2048 .f32)
    (wd : FVec Ideal S1024x2048 .bf16) (i : Fin 512) (j : Fin 2048) :
    mlpStep u wu acc wd (ix2 i j) = acc (ix2 i j) + ∑ k : Fin 1024, upPos u wu (ix2 i k) * upPos u wu (ix2 i k) * wd (ix2 k j) := by
  pointwise [mlpStep]

theorem rmsRows_apply (x : FVec Ideal S512x2048 .f32) (g : FVec Ideal S1x2048 .f32) (i : Fin 512) (j : Fin 2048) :
    rmsRows x g (ix2 i j) = x (ix2 i j) * Ideal.rsqrt (Ideal.div (∑ l : Fin 2048, x (ix2 i l) * x (ix2 i l)) (Ideal.ofBits .f32 0x45000000#32) + Ideal.ofBits .f32 0x358637BD#32) * g (ix2 0 j) := by
  pointwise [rmsRows]

/-! ## The feed-forward's blocks added up -/

open Cert.ReferenceIdeal.Hand (feat)

section Sums
variable (m : (ℓ : Loc nD τ sig) → Buf (Elt Ideal) ℓ) (c : Dev nD)

/-- The arguments' launch contents. -/
abbrev arg0 : FVec Ideal S8192x2048 .bf16 := m ((c : Thread nD τ).loc main_arg0)
abbrev arg1 : FVec Ideal S2048x8192 .f32 := m ((c : Thread nD τ).loc main_arg1)
abbrev arg2 : FVec Ideal S8192x2048 .f32 := m ((c : Thread nD τ).loc main_arg2)
abbrev arg3 : FVec Ideal S8192x2048 .f32 := m ((c : Thread nD τ).loc main_arg3)
abbrev arg4 : FVec Ideal S2048 .f32 := m ((c : Thread nD τ).loc main_arg4)

/-- The first product's positive part, block by block, is the reference's. -/
theorem upPos_blocks (b : Fin 16) (f : Fin 8) (i : Fin 512) (k : Fin 1024) :
    upPos (F := Ideal) ((ublk b).view.read (Elt Ideal) (Gen.V m c main_arg0)) ((wublk f).view.read (Elt Ideal) (Gen.V m c main_v2)) (ix2 i k)
      = feat (arg0 m c) (arg1 m c) (rowAt b i) (featAt f k) := by
  rw [upPos_apply]
  unfold feat
  refine congrArg (max · 0) (Finset.sum_congr rfl fun d _ => ?_)
  rw [ublk_read, wublk_read, V_v2, wu_apply, V_main_arg0]
  rfl

theorem accV_apply (b : Fin 16) (i : Fin 512) (j : Fin 2048) (n : ℕ) (hn : n ≤ 8) :
    accV (F := Ideal) c (Gen.V m c main_arg0) (Gen.V m c main_v2) (Gen.V m c main_v3) (Gen.V m c main_arg3) b.val n (ix2 i j)
      = arg3 m c (ix2 (rowAt b i) j) + ∑ f ∈ Finset.range n, ∑ k : Fin 1024,
        feat (arg0 m c) (arg1 m c) (rowAt b i) (featAt (Ring.sl 8 f) k)
          * feat (arg0 m c) (arg1 m c) (rowAt b i) (featAt (Ring.sl 8 f) k)
          * arg2 m c (ix2 (featAt (Ring.sl 8 f) k) j) := by
  have hb : Ring.sl 16 b.val = b := Fin.ext (Nat.mod_eq_of_lt b.isLt)
  induction n with
  | zero =>
    rw [Finset.range_zero, Finset.sum_empty, add_zero]
    show (hblk (Ring.sl 16 b.val)).view.read (Elt Ideal) _ (ix2 i j) = _
    rw [hb, hblk_read, V_main_arg3]
  | succ n ih =>
    rw [Finset.sum_range_succ, ← add_assoc, ← ih (by omega)]
    show mlpStep _ _ _ _ (ix2 i j) = _
    rw [mlpStep_apply]
    refine congrArg _ (Finset.sum_congr rfl fun k _ => ?_)
    rw [hb, upPos_blocks, wdblk_read, V_v3]
    rfl

/-- A row block of the first output is the reference's rows. -/
theorem hOut_apply (b : Fin 16) (i : Fin 512) (j : Fin 2048) :
    hOut m c b.val (ix2 i j) = Cert.ReferenceIdeal.Hand.refH (arg0 m c) (arg1 m c)
      (arg2 m c) (arg3 m c) (ix2 (rowAt b i) j) := by
  refine (accV_apply m c b i j 8 le_rfl).trans ?_
  rw [Cert.ReferenceIdeal.Hand.refH_apply, Fin.sum_univ_tiles 8 1024 rfl, Finset.sum_range]
  refine congrArg _ (Finset.sum_congr rfl fun f _ => ?_)
  rw [show Ring.sl 8 f.val = f from Fin.ext (Nat.mod_eq_of_lt f.isLt)]
  rfl

/-- A row block of the second output is the reference's rows. -/
theorem yOut_apply (b : Fin 16) (i : Fin 512) (j : Fin 2048) :
    yOut m c b.val (ix2 i j) = Cert.ReferenceIdeal.Hand.refY (Cert.ReferenceIdeal.Hand.refH (arg0 m c) (arg1 m c)
      (arg2 m c) (arg3 m c)) (arg4 m c) (ix2 (rowAt b i) j) := by
  show rmsRows (hOut m c b.val) (gBuf.view.read (Elt Ideal) (gLoaded (F := Ideal) c (Gen.V m c main_v4))) (ix2 i j) = _
  have hg : gBuf.view.read (Elt Ideal) (gLoaded (F := Ideal) c (Gen.V m c main_v4)) = gHbm.view.read (Elt Ideal) (Gen.V m c main_v4) :=
    View.read_writes_whole ..
  have h4 : gHbm.view.read (Elt Ideal) (Gen.V m c main_v4) (ix2 0 j) = arg4 m c (ix1 j) := by
    show Gen.V m c main_v4 (ix2 0 j) = _
    rw [V_v4]
    exact gain_apply _ j
  have e : ∀ l : Fin 2048, hOut m c b.val (ix2 i l) = Cert.ReferenceIdeal.Hand.refH (arg0 m c) (arg1 m c) (arg2 m c) (arg3 m c) (ix2 (rowAt b i) l) :=
    hOut_apply m c b i
  generalize hOut m c b.val = x at e ⊢
  rw [hg, rmsRows_apply, Cert.ReferenceIdeal.Hand.refY_apply, h4, e j, Finset.sum_congr rfl fun l _ => by rw [e l]]

/-- An array whose row blocks are the rows of another is that array. -/
theorem eq_of_blocks (X Y : S8192x2048.Idx → EReal) (h : ∀ (b : Fin 16) (i : Fin 512) (j : Fin 2048), X (ix2 (rowAt b i) j) = Y (ix2 (rowAt b i) j)) :
    X = Y := by
  funext x
  obtain ⟨r, j, rfl⟩ : ∃ (r : Fin 8192) (j : Fin 2048), x = ix2 r j := ⟨x 0, x 1, eq_ix2 x⟩
  have hr : rowAt ⟨r.val / 512, by omega⟩ ⟨r.val % 512, by omega⟩ = r := Fin.ext (Nat.div_add_mod r.val 512)
  rw [← hr]
  exact h _ _ _

end Sums

end Cert.KernelIdeal.Hand
-- ==== Proof.Algebraic.lean ====
/-
  The value claim: over the extended reals the kernel's two outputs are the reference's two results.
-/
module

public import proofs.«01_k».proof.Defs
public import proofs.«01_k».proof.Proof.Value
public import proofs.«01_k».proof.Proof.Gen.ReferenceIdeal.Run

@[expose] public section

noncomputable section

namespace Cert.Proof

open Idealize.ShloMosaic Idealize.ShloMosaic.TcCoe Idealize.SL.Sem
open Cert.KernelIdeal.Hand Cert.ReferenceIdeal.Hand

/-- Both programs end with the reference's terms of the launch contents: the kernel's outputs row block by row block. -/
theorem algebraic : Cert.algebraic_KernelIdeal_ReferenceIdeal := by
  intro m g m' g' _ hm
  refine ⟨fun c => refH (arg0 m c) (arg1 m c) (arg2 m c) (arg3 m c),
    fun c => refY (refH (arg0 m c) (arg1 m c) (arg2 m c) (arg3 m c)) (arg4 m c), ?_, ?_⟩
  · refine (θ_run Cert.KernelIdeal.defs _ _).mono (fun r h c => ?_) (run_main (F := Ideal) m g)
    obtain ⟨ho, hy, ha⟩ := h.1 c
    refine ⟨?_, ?_, ha⟩
    · refine eq_of_blocks _ _ fun b i j => ?_
      refine Eq.trans ?_ (hOut_apply m c b i j)
      have e := congrFun (ho b.val b.isLt) (ix2 i j)
      rw [show Ring.sl 16 b.val = b from Fin.ext (Nat.mod_eq_of_lt b.isLt), oblk_read] at e
      exact e
    · refine eq_of_blocks _ _ fun b i j => ?_
      refine Eq.trans ?_ (yOut_apply m c b i j)
      have e := congrFun (hy b.val b.isLt) (ix2 i j)
      rw [show Ring.sl 16 b.val = b from Fin.ext (Nat.mod_eq_of_lt b.isLt), yblk_read] at e
      exact e
  · refine (θ_run Cert.ReferenceIdeal.defs _ _).mono (fun r h c => ?_) (Cert.ReferenceIdeal.Value.run (F := Ideal) m' g')
    obtain ⟨h0, h1, ha⟩ := h c
    obtain ⟨e0, e1, e2, e3, e4⟩ := hm c
    refine ⟨h0.trans ?_, h1.trans ?_, ha⟩
    · rw [e0, e1, e2, e3]; rfl
    · rw [e0, e1, e2, e3, e4]; rfl

end Cert.Proof
-- ==== Proof.Frames2.lean ====
/-
  The frame claims of the two projections: each run's last memory read at the arguments, with every semaphore at zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

noncomputable section

namespace Cert.Proof

open Idealize.ShloMosaic Idealize.ShloMosaic.TcCoe Idealize.SL.Sem

theorem frame_kernel2 : Cert.quiescent_Kernel2 := fun m ρ _ => Cert.Kernel2.Gen.frame (F := Bits) m ρ

theorem frame_kernel2Ideal : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_kernel3 : Cert.quiescent_Kernel3 := fun m ρ _ => Cert.Kernel3.Gen.frame (F := Bits) m ρ

theorem frame_kernel3Ideal : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

end Cert.Proof
-- ==== Proof.InProjRef.lean ====
/-
  The input projection's reference over the extended reals, read at an index.
-/
module

public import proofs.«01_k».proof.Proof.Gen.Reference2Ideal.Run
public import Idealize.ShloMosaic.Lib.Pointwise

@[expose] public section

set_option maxRecDepth 16384

noncomputable section

namespace Cert.Reference2Ideal.Hand

open Cert.Reference2Ideal Cert.Reference2Ideal.Gen
open Idealize.ShloMosaic

/-- The input times layer 0's weights. -/
def prod (A : FVec Ideal S8192x2048 .bf16) (W : FVec Ideal S2x2048x6144 .f32) : FVec Ideal S8192x6144 .f32 :=
  Host.dotGeneral dot_S8192x2048_S2048x6144_S8192x6144_1_0_0_1_n_n none (extf .f32 A bitsLt_bf16_f32)
    (shapeCast S2048x6144 (extractStridedSlice S1x2048x6144 ![0, 0, 0] W slices_S2x2048x6144_S1x2048x6144_0_0_0) shapeCasts_S1x2048x6144_S2048x6144)

theorem prod_apply (A : FVec Ideal S8192x2048 .bf16) (W : FVec Ideal S2x2048x6144 .f32) (r : Fin 8192) (j : Fin 6144) :
    prod A W (ix2 r j) = ∑ d : Fin 2048, A (ix2 r d) * W (ix3 0 d j) := by
  pointwise [prod]

/-- A sixth of the columns, scaled by the word `w`. -/
def scaled (X : FVec Ideal S8192x1024 .f32) (w : BitVec 32) : FVec Ideal S8192x1024 .f32 :=
  mulf X (broadcastInDim S8192x1024 ![] bcast_S_S8192x1024 (constant S_ .f32 w))

theorem scaled_apply (X : FVec Ideal S8192x1024 .f32) (w : BitVec 32) (r : Fin 8192) (q : Fin 1024) :
    scaled X w (ix2 r q) = X (ix2 r q) * Ideal.ofBits .f32 w := by
  pointwise [scaled]

/-- The six parts side by side, the first and the fourth scaled. -/
def parts (Y : FVec Ideal S8192x6144 .f32) : FVec Ideal S8192x6144 .f32 :=
  concatenate S8192x6144 1
    [⟨S8192x1024, scaled (extractStridedSlice S8192x1024 ![0, 0] Y slices_S8192x6144_S8192x1024_0_0) 0x3E38AA3B#32⟩,
      ⟨S8192x1024, extractStridedSlice S8192x1024 ![0, 1024] Y slices_S8192x6144_S8192x1024_0_1024⟩,
      ⟨S8192x1024, extractStridedSlice S8192x1024 ![0, 2048] Y slices_S8192x6144_S8192x1024_0_2048⟩,
      ⟨S8192x1024, scaled (extractStridedSlice S8192x1024 ![0, 3072] Y slices_S8192x6144_S8192x1024_0_3072) 0x3E0293EE#32⟩,
      ⟨S8192x1024, extractStridedSlice S8192x1024 ![0, 4096] Y slices_S8192x6144_S8192x1024_0_4096⟩,
      ⟨S8192x1024, extractStridedSlice S8192x1024 ![0, 5120] Y slices_S8192x6144_S8192x1024_0_5120⟩]
    concatenates_S8192x1024_S8192x1024_S8192x1024_S8192x1024_S8192x1024_S8192x1024_S8192x6144_d1

/-- The reference's term. -/
def refIn (A : FVec Ideal S8192x2048 .bf16) (W : FVec Ideal S2x2048x6144 .f32) : FVec Ideal S8192x6144 .bf16 :=
  truncf .bf16 (parts (prod A W)) bitsLt_bf16_f32

/-- The scale of column `j`: a word for the first sixth, another for the fourth, one elsewhere. -/
theorem parts_apply (Y : FVec Ideal S8192x6144 .f32) (r : Fin 8192) (j : Fin 6144) :
    parts Y (ix2 r j) = Y (ix2 r j) * (if j.val < 1024 then Ideal.ofBits .f32 0x3E38AA3B#32
      else if 3072 ≤ j.val ∧ j.val < 4096 then Ideal.ofBits .f32 0x3E0293EE#32 else 1) := by
  have e : ∀ k (hk : k < 6144), k = j.val → Y (ix2 r ⟨k, hk⟩) = Y (ix2 r j) := fun k hk h => by subst h; rfl
  pointwise [parts, scaled]
  split_ifs <;> first
    | omega
    | (have h : ¬(3072 ≤ j.val ∧ j.val < 4096) := by omega
       rw [if_neg h]; refine Eq.trans (e _ _ ?_) (mul_one _).symm; omega)
    | (have h : 3072 ≤ j.val ∧ j.val < 4096 := by omega
       rw [if_pos h]; refine congrArg (· * _) (e _ _ ?_); omega)
    | rfl

theorem refIn_apply (A : FVec Ideal S8192x2048 .bf16) (W : FVec Ideal S2x2048x6144 .f32) (r : Fin 8192) (j : Fin 6144) :
    refIn A W (ix2 r j) = (∑ d : Fin 2048, A (ix2 r d) * W (ix3 0 d j)) * (if j.val < 1024 then Ideal.ofBits .f32 0x3E38AA3B#32
      else if 3072 ≤ j.val ∧ j.val < 4096 then Ideal.ofBits .f32 0x3E0293EE#32 else 1) := by
  refine Eq.trans (b := parts (prod A W) (ix2 r j)) rfl ?_
  rw [parts_apply, prod_apply]

end Cert.Reference2Ideal.Hand
-- ==== Proof.InProj.lean ====
/-
  The input projection: the call's blocks read at an index, the table of scales, the array the run leaves, and that it
  is the reference's.
-/
module

public import proofs.«01_k».proof.Defs
public import proofs.«01_k».proof.Proof.Gen.Kernel2Ideal.Value
public import proofs.«01_k».proof.Proof.InProjRef
public import Idealize.ShloMosaic.Lib.Pointwise
public import Idealize.ShloMosaic.Lib.StableHlo.Run

@[expose] public section

set_option maxRecDepth 16384

noncomputable section

namespace Cert.Kernel2Ideal.Hand

open Cert.Kernel2Ideal Cert.Kernel2Ideal.Gen Cert.Kernel2Ideal.Value
open Idealize.ShloMosaic Idealize.ShloMosaic.TcCoe Idealize.SL.Sem
open Idealize.ShloMosaic.StableHlo Idealize.ShloMosaic.Tactic

/-- The word at column `j` of the table of scales. -/
def colWord (j : Nat) : BitVec 32 := if j < 1024 then 0x3E38AA3B#32 else if 3072 ≤ j ∧ j < 4096 then 0x3E0293EE#32 else 0x3F800000#32

theorem table_eq : ∀ j : Fin 6144, lit0 j = colWord j.val := by decide +kernel

/-- The scale of column `j`: a word for the first sixth, another for the fourth, one elsewhere. -/
def colScale (j : Fin 6144) : EReal := if j.val < 1024 then Ideal.ofBits .f32 0x3E38AA3B#32
  else if 3072 ≤ j.val ∧ j.val < 4096 then Ideal.ofBits .f32 0x3E0293EE#32 else 1

theorem word_eq (j : Fin 6144) : Ideal.ofBits .f32 (colWord j.val) = colScale j := by
  unfold colWord colScale
  split_ifs
  · rfl
  · rfl
  · exact Ideal.ofBits_one_f32

variable (m : (ℓ : Loc nD τ sig) → Buf (Elt Ideal) ℓ)

/-- The scales the host lays out before the call, as one row. -/
theorem scale_read (c : Dev nD) (j : Fin 6144) : V m c main_cst (ix2 0 j) = colScale j := by
  have e : V m c main_cst = fun x : S1x6144.Idx => (Ideal.ofBits .f32 (lit0 (S1x6144.rowMajor x)) : EReal) := by
    unfold V; after_results; rfl
  have hj : S1x6144.rowMajor (ix2 0 j) = j := Fin.ext (by
    refine (Shape.rowMajor_val_succ (ix2 0 j)).trans ?_
    rw [Shape.rowMajor_val_one]
    exact (congrArg (· + j.val) (Nat.zero_mul _)).trans (Nat.zero_add _))
  rw [e]
  show Ideal.ofBits .f32 (lit0 (S1x6144.rowMajor (ix2 0 j))) = _
  rw [hj, table_eq, word_eq]

/-- Row `x 0` of the input times column `x 1` of layer 0's weights, times the column's scale. -/
def inp (A : FVec Ideal S8192x2048 .bf16) (W : FVec Ideal S2x2048x6144 .f32) : FVec Ideal S8192x6144 .bf16 :=
  fun x => (∑ d : Fin 2048, A (ix2 (x 0) d) * W (ix3 0 d (x 1))) * colScale (x 1)

/-- What the body writes, at an index: the row of the left block times the column of the right one, scaled. -/
theorem pay_apply (A : FVec Ideal S1024x2048 .bf16) (W : FVec Ideal S1x2048x1024 .f32) (s : FVec Ideal S1x1024 .f32) (i j : Fin 1024) :
    k0_pay1 (F := Ideal) A W s (ix2 i j) = (∑ d : Fin 2048, A (ix2 i d) * W (ix3 0 d j)) * s (ix2 0 j) := by
  pointwise [k0_pay1]

theorem off2 : (![0, 0] : Fin 2 → Nat) = fun _ => 0 := funext fun a => by fin_cases a <;> rfl
theorem off3 : (![0, 0, 0] : Fin 3 → Nat) = fun _ => 0 := funext fun a => by fin_cases a <;> rfl

theorem out_eq (A : FVec Ideal S1024x2048 .bf16) (W : FVec Ideal S1x2048x1024 .f32) (s : FVec Ideal S1x1024 .f32) :
    out0_3 (F := Ideal) A W s = k0_pay1 (F := Ideal) A W s := by
  unfold out0_3
  rw [View.canon_unit_zero off2, View.ld_unit_zero off2, View.ld_unit_zero off3, View.ld_unit_zero off2]

/-- The blocks' places in their arrays at each grid point: eight row blocks for each of six column blocks. -/
theorem places : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8
    ∧ win0_2.index t (0 : Fin 2) = 0 ∧ win0_2.index t (1 : Fin 2) = t.val / 8
    ∧ win0_3.index t (0 : Fin 2) = t.val % 8 ∧ win0_3.index t (1 : Fin 2) = t.val / 8 :=
  (by decide +kernel : ∀ t : Fin grid0.N, _)

/-- Row `i` of the point's row block. -/
def row (t : Fin cfg0.N) (i : Fin 1024) : Fin 8192 := ⟨t.val % 8 * 1024 + i.val, by omega⟩
/-- Column `j` of the point's column block. -/
def col (t : Fin cfg0.N) (j : Fin 1024) : Fin 6144 := ⟨t.val / 8 * 1024 + j.val, by have := t.isLt; have : cfg0.N = 48 := N_0; omega⟩

theorem emb0 (t : Fin cfg0.N) (i : Fin 1024) (d : Fin 2048) : ((cfg0.win 0).blk t).view.emb (ix2 i d) = ix2 (row t i) d := by
  obtain ⟨e0, e1, _⟩ := places t
  refine funext fun a => Fin.ext ?_
  match a with
  | ⟨0, _⟩ => show win0_0.index t (0 : Fin 2) * 1024 + 1 * i.val = t.val % 8 * 1024 + i.val; omega
  | ⟨1, _⟩ => show win0_0.index t (1 : Fin 2) * 2048 + 1 * d.val = d.val; omega

theorem emb1 (t : Fin cfg0.N) (d : Fin 2048) (j : Fin 1024) : ((cfg0.win 1).blk t).view.emb (ix3 0 d j) = ix3 0 d (col t j) := by
  obtain ⟨_, _, e0, e1, e2, _⟩ := places t
  refine funext fun a => Fin.ext ?_
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * j.val = t.val / 8 * 1024 + j.val; omega

theorem emb2 (t : Fin cfg0.N) (j : Fin 1024) : ((cfg0.win 2).blk t).view.emb (ix2 0 j) = ix2 0 (col t j) := by
  obtain ⟨_, _, _, _, _, e0, e1, _⟩ := places t
  refine funext fun a => Fin.ext ?_
  match a with
  | ⟨0, _⟩ => show win0_2.index t (0 : Fin 2) * 1 + 1 * 0 = 0; omega
  | ⟨1, _⟩ => show win0_2.index t (1 : Fin 2) * 1024 + 1 * j.val = t.val / 8 * 1024 + j.val; omega

theorem emb3 (t : Fin cfg0.N) (i j : Fin 1024) : ((cfg0.win 3).blk t).view.emb (ix2 i j) = ix2 (row t i) (col t j) := by
  obtain ⟨_, _, _, _, _, _, _, e0, e1⟩ := places t
  refine funext fun a => Fin.ext ?_
  match a with
  | ⟨0, _⟩ => show win0_3.index t (0 : Fin 2) * 1024 + 1 * i.val = t.val % 8 * 1024 + i.val; omega
  | ⟨1, _⟩ => show win0_3.index t (1 : Fin 2) * 1024 + 1 * j.val = t.val / 8 * 1024 + j.val; omega

theorem iblk0 (c : Dev nD) (t : Fin cfg0.N) (i : Fin 1024) (d : Fin 2048) : iblk m c 0 t (ix2 i d) = V m c main_arg0 (ix2 (row t i) d) :=
  congrArg (V m c main_arg0) (emb0 t i d)

theorem iblk1 (c : Dev nD) (t : Fin cfg0.N) (d : Fin 2048) (j : Fin 1024) :
    iblk m c 1 t (ix3 0 d j) = V m c main_arg1 (ix3 0 d (col t j)) :=
  congrArg (V m c main_arg1) (emb1 t d j)

theorem iblk2 (c : Dev nD) (t : Fin cfg0.N) (j : Fin 1024) : iblk m c 2 t (ix2 0 j) = colScale (col t j) :=
  (congrArg (V m c main_cst) (emb2 t j)).trans (scale_read m c (col t j))

/-- What a point writes back is its block of the scaled projection. -/
theorem flushed (c : Dev nD) (t : Fin cfg0.N) :
    (dats m 0 c).flushed 3 t = ((cfg0.win 3).blk t).view.read (Elt Ideal) (inp (V m c main_arg0) (V m c main_arg1)) := by
  rw [flushed3, out_eq]
  funext x
  obtain ⟨i, j, rfl⟩ : ∃ (i j : Fin 1024), x = ix2 i j := ⟨x 0, x 1, eq_ix2 x⟩
  refine (pay_apply (iblk m c 0 t) (iblk m c 1 t) (iblk m c 2 t) i j).trans ?_
  refine Eq.trans ?_ (congrArg (inp (V m c main_arg0) (V m c main_arg1)) (emb3 t i j)).symm
  exact congrArg₂ (· * ·) (Finset.sum_congr rfl fun d _ => by rw [iblk0, iblk1]; rfl) (iblk2 m c t j)

/-- Every place of the result is in some point's block. -/
theorem covered (x : S8192x6144.Idx) : ∃ t : Fin cfg0.N, (cfg0.win 3).flush t = true ∧ x ∈ ((cfg0.win 3).blk t).view.set := by
  obtain ⟨r, l, rfl⟩ : ∃ (r : Fin 8192) (l : Fin 6144), x = ix2 r l := ⟨x 0, x 1, eq_ix2 x⟩
  have h : l.val / 1024 * 8 + r.val / 1024 < cfg0.N := by have : cfg0.N = 48 := N_0; omega
  refine ⟨⟨l.val / 1024 * 8 + r.val / 1024, h⟩, flush0_3 _, ?_⟩
  have e := ((cfg0.win 3).blk ⟨l.val / 1024 * 8 + r.val / 1024, h⟩).view.emb_mem_set
    (ix2 (⟨r.val % 1024, by omega⟩ : Fin 1024) (⟨l.val % 1024, by omega⟩ : Fin 1024))
  rw [emb3] at e
  have hr : row ⟨l.val / 1024 * 8 + r.val / 1024, h⟩ (⟨r.val % 1024, by omega⟩ : Fin 1024) = r :=
    Fin.ext (by show (l.val / 1024 * 8 + r.val / 1024) % 8 * 1024 + r.val % 1024 = r.val; omega)
  have hl : col ⟨l.val / 1024 * 8 + r.val / 1024, h⟩ (⟨l.val % 1024, by omega⟩ : Fin 1024) = l :=
    Fin.ext (by show (l.val / 1024 * 8 + r.val / 1024) / 8 * 1024 + l.val % 1024 = l.val; omega)
  rwa [hr, hl] at e

/-- The result after the run: the scaled projection of the arguments. -/
theorem final (c : Dev nD) : (dats m 0 c).arrAt 3 cfg0.N
    = inp (m ((c : Thread nD τ).loc main_arg0)) (m ((c : Thread nD τ).loc main_arg1)) :=
  ((dats m 0 c).arrAt_eq_of_cover 3 (inp (V m c main_arg0) (V m c main_arg1)) (fun t _ => flushed m c t) covered).trans
    (by rw [V_main_arg0, V_main_arg1])

end Cert.Kernel2Ideal.Hand

namespace Cert.Proof

open Idealize.ShloMosaic Idealize.ShloMosaic.TcCoe Idealize.SL.Sem

theorem inp_eq (A : FVec Ideal Cert.Kernel2Ideal.S8192x2048 .bf16) (W : FVec Ideal Cert.Kernel2Ideal.S2x2048x6144 .f32) :
    Cert.Reference2Ideal.Hand.refIn A W = Cert.Kernel2Ideal.Hand.inp A W := by
  funext x
  obtain ⟨i, j, rfl⟩ : ∃ (i : Fin 8192) (j : Fin 6144), x = ix2 i j := ⟨x 0, x 1, eq_ix2 x⟩
  exact Cert.Reference2Ideal.Hand.refIn_apply A W i j

/-- The call's result is the reference's, over the extended reals. -/
theorem algebraic2 : Cert.algebraic_Kernel2Ideal_Reference2Ideal := by
  intro m g m' g' _ hm
  refine ⟨fun c => Cert.Kernel2Ideal.Hand.inp (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m g)
    exact ⟨(h c).1.trans (Cert.Kernel2Ideal.Hand.final m c), (h c).2⟩
  · refine (θ_run Cert.Reference2Ideal.defs _ _).mono (fun r h c => ?_) (Cert.Reference2Ideal.Value.run (F := Ideal) m' g')
    obtain ⟨h0, ha⟩ := h c
    obtain ⟨e0, e1⟩ := hm c
    refine ⟨h0.trans ?_, ha⟩
    rw [e0, e1]
    exact inp_eq _ _

end Cert.Proof
-- ==== Proof.KvProj.lean ====
/-
  The cross-attention's key and value projection: the call's blocks read at an index, the array the run leaves, the
  reference's result, and the two together.
-/
module

public import proofs.«01_k».proof.Defs
public import proofs.«01_k».proof.Proof.Gen.Kernel3Ideal.Value
public import proofs.«01_k».proof.Proof.Gen.Reference3Ideal.Run
public import Idealize.ShloMosaic.Lib.Pointwise

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ)

/-- Row `x 0` of the memory times column `x 1` of layer 0's weights. -/
def kv (A : FVec Ideal S1024x2048 .bf16) (W : FVec Ideal S2x2048x4096 .f32) : FVec Ideal S1024x4096 .bf16 :=
  fun x => ∑ d : Fin 2048, A (ix2 (x 0) d) * W (ix3 0 d (x 1))

/-- What the body writes, at an index: the row of the left block times the column of the right one. -/
theorem pay_apply (A : FVec Ideal S1024x2048 .bf16) (W : FVec Ideal S1x2048x1024 .f32) (i j : Fin 1024) :
    k0_pay1 (F := Ideal) A W (ix2 i j) = ∑ d : Fin 2048, A (ix2 i d) * W (ix3 0 d j) := by
  pointwise [k0_pay1]

theorem off2 : (![0, 0] : Fin 2 → Nat) = fun _ => 0 := funext fun a => by fin_cases a <;> rfl
theorem off3 : (![0, 0, 0] : Fin 3 → Nat) = fun _ => 0 := funext fun a => by fin_cases a <;> rfl

theorem out_eq (A : FVec Ideal S1024x2048 .bf16) (W : FVec Ideal S1x2048x1024 .f32) :
    out0_2 (F := Ideal) A W = k0_pay1 (F := Ideal) A W := by
  unfold out0_2
  rw [View.canon_unit_zero off2, View.ld_unit_zero off2, View.ld_unit_zero off3]

/-- The blocks' places in their arrays at each grid point. -/
theorem places : ∀ t : Fin cfg0.N, win0_0.index t (0 : Fin 2) = 0 ∧ win0_0.index t (1 : Fin 2) = 0
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- Column `j` of column block `t`. -/
def col (t : Fin cfg0.N) (j : Fin 1024) : Fin 4096 := ⟨t.val * 1024 + j.val, by have := t.isLt; have : cfg0.N = 4 := N_0; omega⟩

theorem emb0 (t : Fin cfg0.N) (i : Fin 1024) (d : Fin 2048) : ((cfg0.win 0).blk t).view.emb (ix2 i d) = ix2 i d := by
  obtain ⟨e0, e1, _⟩ := places t
  refine funext fun a => Fin.ext ?_
  match a with
  | ⟨0, _⟩ => show win0_0.index t (0 : Fin 2) * 1024 + 1 * i.val = i.val; omega
  | ⟨1, _⟩ => show win0_0.index t (1 : Fin 2) * 2048 + 1 * d.val = d.val; omega

theorem emb1 (t : Fin cfg0.N) (d : Fin 2048) (j : Fin 1024) : ((cfg0.win 1).blk t).view.emb (ix3 0 d j) = ix3 0 d (col t j) := by
  obtain ⟨_, _, e0, e1, e2, _⟩ := places t
  refine funext fun a => Fin.ext ?_
  match a with
  | ⟨0, _⟩ => show win0_1.index t (0 : Fin 3) * 1 + 1 * 0 = 0; omega
  | ⟨1, _⟩ => show win0_1.index t (1 : Fin 3) * 2048 + 1 * d.val = d.val; omega
  | ⟨2, _⟩ => show win0_1.index t (2 : Fin 3) * 1024 + 1 * j.val = t.val * 1024 + j.val; omega

theorem emb2 (t : Fin cfg0.N) (i j : Fin 1024) : ((cfg0.win 2).blk t).view.emb (ix2 i j) = ix2 i (col t j) := by
  obtain ⟨_, _, _, _, _, e0, e1⟩ := places t
  refine funext fun a => Fin.ext ?_
  match a with
  | ⟨0, _⟩ => show win0_2.index t (0 : Fin 2) * 1024 + 1 * i.val = i.val; omega
  | ⟨1, _⟩ => show win0_2.index t (1 : Fin 2) * 1024 + 1 * j.val = t.val * 1024 + j.val; omega

theorem iblk0 (c : Dev nD) (t : Fin cfg0.N) (i : Fin 1024) (d : Fin 2048) : iblk m c 0 t (ix2 i d) = V m c main_arg0 (ix2 i d) :=
  congrArg (V m c main_arg0) (emb0 t i d)

theorem iblk1 (c : Dev nD) (t : Fin cfg0.N) (d : Fin 2048) (j : Fin 1024) :
    iblk m c 1 t (ix3 0 d j) = V m c main_arg1 (ix3 0 d (col t j)) :=
  congrArg (V m c main_arg1) (emb1 t d j)

/-- What a point writes back is its block of the projection. -/
theorem flushed (c : Dev nD) (t : Fin cfg0.N) :
    (dats m 0 c).flushed 2 t = ((cfg0.win 2).blk t).view.read (Elt Ideal) (kv (V m c main_arg0) (V m c main_arg1)) := by
  rw [flushed2, out_eq]
  funext x
  obtain ⟨i, j, rfl⟩ : ∃ (i j : Fin 1024), x = ix2 i j := ⟨x 0, x 1, eq_ix2 x⟩
  refine (pay_apply (iblk m c 0 t) (iblk m c 1 t) i j).trans ?_
  refine Eq.trans ?_ (congrArg (kv (V m c main_arg0) (V m c main_arg1)) (emb2 t i j)).symm
  exact Finset.sum_congr rfl fun d _ => by rw [iblk0, iblk1]; rfl

/-- Every place of the result is in some point's block. -/
theorem covered (x : S1024x4096.Idx) : ∃ t : Fin cfg0.N, (cfg0.win 2).flush t = true ∧ x ∈ ((cfg0.win 2).blk t).view.set := by
  obtain ⟨i, l, rfl⟩ : ∃ (i : Fin 1024) (l : Fin 4096), x = ix2 i l := ⟨x 0, x 1, eq_ix2 x⟩
  have h : l.val / 1024 < cfg0.N := by have : cfg0.N = 4 := N_0; omega
  refine ⟨⟨l.val / 1024, h⟩, flush0_2 _, ?_⟩
  have e := ((cfg0.win 2).blk ⟨l.val / 1024, h⟩).view.emb_mem_set (ix2 i (⟨l.val % 1024, by omega⟩ : Fin 1024))
  rw [emb2] at e
  have hl : col ⟨l.val / 1024, h⟩ (⟨l.val % 1024, by omega⟩ : Fin 1024) = l := Fin.ext (Nat.div_add_mod' l.val 1024)
  rwa [hl] at e

/-- The result after the run: the projection of the arguments. -/
theorem final (c : Dev nD) : (dats m 0 c).arrAt 2 cfg0.N
    = kv (m ((c : Thread nD τ).loc main_arg0)) (m ((c : Thread nD τ).loc main_arg1)) :=
  ((dats m 0 c).arrAt_eq_of_cover 2 (kv (V m c main_arg0) (V m c main_arg1)) (fun t _ => flushed m c t) covered).trans
    (by rw [V_main_arg0, V_main_arg1])

end Cert.Kernel3Ideal.Hand

namespace Cert.Reference3Ideal.Hand

open Cert.Reference3Ideal Cert.Reference3Ideal.Gen
open Idealize.ShloMosaic

/-- The reference's term: the memory times layer 0's weights. -/
def refKv (A : FVec Ideal S1024x2048 .bf16) (W : FVec Ideal S2x2048x4096 .f32) : FVec Ideal S1024x4096 .bf16 :=
  truncf .bf16 (Host.dotGeneral dot_S1024x2048_S2048x4096_S1024x4096_1_0_0_1_n_n none (extf .f32 A bitsLt_bf16_f32)
    (shapeCast S2048x4096 (extractStridedSlice S1x2048x4096 ![0, 0, 0] W slices_S2x2048x4096_S1x2048x4096_0_0_0) shapeCasts_S1x2048x4096_S2048x4096)) bitsLt_bf16_f32

theorem refKv_apply (A : FVec Ideal S1024x2048 .bf16) (W : FVec Ideal S2x2048x4096 .f32) (i : Fin 1024) (j : Fin 4096) :
    refKv A W (ix2 i j) = ∑ d : Fin 2048, A (ix2 i d) * W (ix3 0 d j) := by
  pointwise [refKv]

end Cert.Reference3Ideal.Hand

namespace Cert.Proof

open Idealize.ShloMosaic Idealize.ShloMosaic.TcCoe Idealize.SL.Sem

theorem kv_eq (A : FVec Ideal Cert.Kernel3Ideal.S1024x2048 .bf16) (W : FVec Ideal Cert.Kernel3Ideal.S2x2048x4096 .f32) :
    Cert.Reference3Ideal.Hand.refKv A W = Cert.Kernel3Ideal.Hand.kv A W := by
  funext x
  obtain ⟨i, j, rfl⟩ : ∃ (i : Fin 1024) (j : Fin 4096), x = ix2 i j := ⟨x 0, x 1, eq_ix2 x⟩
  exact Cert.Reference3Ideal.Hand.refKv_apply A W i j

/-- The call's result is the reference's, over the extended reals. -/
theorem algebraic3 : Cert.algebraic_Kernel3Ideal_Reference3Ideal := by
  intro m g m' g' _ hm
  refine ⟨fun c => Cert.Kernel3Ideal.Hand.kv (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks (F := Ideal) m g)
    exact ⟨(h c).1.trans (Cert.Kernel3Ideal.Hand.final m c), (h c).2⟩
  · refine (θ_run Cert.Reference3Ideal.defs _ _).mono (fun r h c => ?_) (Cert.Reference3Ideal.Value.run (F := Ideal) m' g')
    obtain ⟨h0, ha⟩ := h c
    obtain ⟨e0, e1⟩ := hm c
    refine ⟨h0.trans ?_, ha⟩
    rw [e0, e1]
    exact kv_eq _ _

end Cert.Proof
-- ==== Proof.Frames4.lean ====
/-
  The frame claims of the mixing and cross-attention call: each run's last memory read at the arguments, with every
  semaphore at zero.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Pre_finite_arguments
public import Idealize.ShloMosaic.Lib.Quiescent

@[expose] public section

noncomputable section

namespace Cert.Proof

open Idealize.ShloMosaic Idealize.ShloMosaic.TcCoe Idealize.SL.Sem

theorem frame_kernel4 : Cert.quiescent_Kernel4 := fun m ρ _ => Cert.Kernel4.Gen.frame (F := Bits) m ρ

theorem frame_kernel4Ideal : Cert.quiescent_Kernel4Ideal := fun m ρ _ => Cert.Kernel4Ideal.Gen.frame (F := Ideal) m ρ

theorem frame_kernel4Ideal_finite : Cert.quiescent_Kernel4Ideal_pre_finite_arguments := fun m ρ _ =>
  frame_kernel4Ideal m ρ trivial

theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

theorem frame_reference4_finite : Cert.quiescent_Reference4Ideal_pre_finite_arguments := fun m ρ _ =>
  frame_reference4 m ρ trivial

end Cert.Proof
-- ==== Proof.MixSpec.lean ====
/-
  The arithmetic of the mixing and cross-attention call on single rows, over the extended reals.
-/
module

public import Idealize.ShloMosaic.Lib.Pointwise

@[expose] public section

noncomputable section

namespace Cert.Mix

open Idealize.ShloMosaic

/-- One entry of the residual plus the two groups' outputs times their halves of the output weights. -/
def mixed (h : EReal) (od os wd ws : Fin 1024 → EReal) : EReal := h + ∑ e, od e * wd e + ∑ e, os e * ws e

/-- A row scaled by the inverse root of its mean square, and by the gain. -/
def rms (x g : Fin 2048 → EReal) (j : Fin 2048) : EReal :=
  x j * Ideal.rsqrt (Ideal.div (∑ l : Fin 2048, x l * x l) (Ideal.ofBits .f32 0x45000000#32) + Ideal.ofBits .f32 0x358637BD#32) * g j

/-- The greatest of 256 values. -/
def top (s : Fin 256 → EReal) : EReal := Finset.univ.fold max (Ideal.ofBits .f32 0xFF800000#32) s

/-- One head's output as the call computes it: powers of two of the scores, weighted, then divided by their sum. -/
def headOut (q : Fin 512 → EReal) (k : Fin 256 → Fin 512 → EReal) (v : Fin 256 → EReal) : EReal :=
  Ideal.div (∑ j, Ideal.exp2 ((∑ e, q e * k j e) - top fun l => ∑ e, q e * k l e) * v j)
    (∑ j, Ideal.exp2 ((∑ e, q e * k j e) - top fun l => ∑ e, q e * k l e))

/-- Column `e` of the head that column `c` is in. -/
def part (c : Fin 2048) (e : Fin 512) : Fin 2048 := ⟨c.val / 512 * 512 + e.val, by omega⟩

/-- A row of queries, scaled. -/
def query (x g : Fin 2048 → EReal) (W : Fin 2048 → Fin 2048 → EReal) (s : EReal) (c : Fin 2048) : EReal := (∑ d, rms x g d * W d c) * s

/-- The four heads' outputs side by side, at a column. -/
def attended (q : Fin 2048 → EReal) (K V : Fin 256 → Fin 2048 → EReal) (c : Fin 2048) : EReal :=
  headOut (fun e => q (part c e)) (fun j e => K j (part c e)) fun j => V j c

/-- The residual plus the heads' outputs times the output weights. -/
def added (x o : Fin 2048 → EReal) (W : Fin 2048 → Fin 2048 → EReal) (j : Fin 2048) : EReal := x j + ∑ c, o c * W c j

/-- A row of the residual plus the two groups' outputs times the output weights. -/
def joined (A B : Fin 8192 → Fin 1024 → EReal) (W : Fin 2048 → Fin 2048 → EReal) (H : Fin 8192 → Fin 2048 → EReal)
    (r : Fin 8192) (l : Fin 2048) : EReal :=
  mixed (H r l) (A r) (B r) (fun e => W ⟨e.val, by omega⟩ l) fun e => W ⟨1024 + e.val, by omega⟩ l

/-- The `n`-th memory token of the batch that row `r` is in. -/
def memRow (r : Fin 8192) (n : Fin 256) : Fin 1024 := ⟨r.val / 2048 * 256 + n.val, by omega⟩

/-- The keys' column `l`, in the left half. -/
def left (l : Fin 2048) : Fin 4096 := ⟨l.val, by omega⟩

/-- The values' column `l`, in the right half. -/
def right (l : Fin 2048) : Fin 4096 := ⟨2048 + l.val, by omega⟩

/-- A row of the call's first result: the joined row plus its cross-attention. -/
def result (A B : Fin 8192 → Fin 1024 → EReal) (W : Fin 2048 → Fin 2048 → EReal) (g : Fin 2048 → EReal)
    (WQ : Fin 2048 → Fin 2048 → EReal) (KV : Fin 1024 → Fin 4096 → EReal) (WO : Fin 2048 → Fin 2048 → EReal)
    (H : Fin 8192 → Fin 2048 → EReal) (s : EReal) (r : Fin 8192) : Fin 2048 → EReal :=
  added (joined A B W H r)
    (attended (query (joined A B W H r) g WQ s) (fun n l => KV (memRow r n) (left l)) fun n l => KV (memRow r n) (right l)) WO

end Cert.Mix
-- ==== Proof.MixMath.lean ====
/-
  The arithmetic that joins the two computations of the mixing and cross-attention call: the softmax of real scores by
  powers of two, divided after the product with the values, is the softmax by exponentials, divided before it.
-/
module

public import proofs.«01_k».proof.Proof.MixSpec

@[expose] public section

noncomputable section

namespace Cert.Mix

open Idealize.ShloMosaic

/-- A value that is a real number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩

theorem isReal_mixed {h : EReal} {od os wd ws : Fin 1024 → EReal} (hh : IsReal h) (hd : ∀ e, IsReal (od e)) (hs : ∀ e, IsReal (os e))
    (hwd : ∀ e, IsReal (wd e)) (hws : ∀ e, IsReal (ws e)) : IsReal (mixed h od os wd ws) :=
  (hh.add (.sum fun e => (hd e).mul (hwd e))).add (.sum fun e => (hs e).mul (hws e))

theorem width : Ideal.ofBits .f32 0x45000000#32 = ((2048 : ℝ) : EReal) := by
  simp [Ideal.ofBits, Ideal.ieee, -EReal.coe_mul]; norm_num

theorem small : ∃ e : ℝ, 0 < e ∧ Ideal.ofBits .f32 0x358637BD#32 = (e : EReal) := by
  refine ⟨_, ?_, by simp [Ideal.ofBits, Ideal.ieee, -EReal.coe_mul]; rfl⟩
  positivity

theorem headWidth : Ideal.ofBits .f32 0x44000000#32 = ((512 : ℝ) : EReal) := by
  simp [Ideal.ofBits, Ideal.ieee, -EReal.coe_mul]; norm_num

theorem least : Ideal.ofBits .f32 0xFF800000#32 = ⊥ := by
  simp [Ideal.ofBits, Ideal.ieee]

theorem isReal_rms {x g : Fin 2048 → EReal} (hx : ∀ l, IsReal (x l)) (hg : ∀ l, IsReal (g l)) (j : Fin 2048) : IsReal (rms x g j) := by
  refine ((hx j).mul ?_).mul (hg j)
  choose r hr using hx
  obtain ⟨e, he, h⟩ := small
  have hs : (∑ l : Fin 2048, x l * x l) = ((∑ l : Fin 2048, r l * r l : ℝ) : EReal) := by
    rw [coe_sum]
    exact Finset.sum_congr rfl fun l _ => by rw [hr l, EReal.coe_mul]
  have h0 : 0 ≤ ∑ l : Fin 2048, r l * r l := Finset.sum_nonneg fun l _ => mul_self_nonneg _
  rw [hs, width, h, Ideal.div_coe (by norm_num), ← EReal.coe_mul, ← EReal.coe_add, Ideal.rsqrt_coe]
  have hp : 0 < (∑ l : Fin 2048, r l * r l) * (1 / 2048) + e := by positivity
  rw [if_neg hp.le.not_gt, if_neg hp.ne']
  exact ⟨_, rfl⟩

theorem isReal_top (s : Fin 256 → ℝ) : IsReal (top fun l => (s l : EReal)) := by
  have h1 : top (fun l => (s l : EReal)) < ⊤ := by
    unfold top
    rw [least]
    exact (Finset.fold_max_lt _).2 ⟨bot_lt_top, fun l _ => EReal.coe_lt_top _⟩
  have h2 : ⊥ < top (fun l => (s l : EReal)) := by
    unfold top
    exact (Finset.lt_fold_max _).2 (Or.inr ⟨0, Finset.mem_univ _, EReal.bot_lt_coe _⟩)
  exact ⟨_, (EReal.coe_toReal h1.ne h2.ne').symm⟩

/-- The factor on the queries: over the root of the head's width, and from exponentials to powers of two. -/
def factor : ℝ := (Real.sqrt 512)⁻¹ * (Real.log 2)⁻¹

/-- A score of the reference. -/
def score (q : Fin 512 → EReal) (k : Fin 256 → Fin 512 → EReal) (n : Fin 256) : EReal :=
  Ideal.div (∑ e, q e * k n e) (Ideal.sqrt (Ideal.ofBits .f32 0x44000000#32))

/-- The reference's exponential of a score less the greatest. -/
def weight (q : Fin 512 → EReal) (k : Fin 256 → Fin 512 → EReal) (n : Fin 256) : EReal :=
  Ideal.exp (score q k n - max (Ideal.ofBits .f32 0xFF800000#32) (top (score q k)))

/-- One head's output as the reference computes it: exponentials of the scores over their sum, then the product with the values. -/
def headRef (q : Fin 512 → EReal) (k : Fin 256 → Fin 512 → EReal) (v : Fin 256 → EReal) : EReal :=
  ∑ n, v n * Ideal.div (weight q k n) (∑ l, weight q k l)

theorem score_real (q : Fin 512 → ℝ) (k : Fin 256 → Fin 512 → ℝ) (n : Fin 256) :
    score (fun e => (q e : EReal)) (fun j e => (k j e : EReal)) n = (((∑ e, q e * k n e) * (1 / Real.sqrt 512) : ℝ) : EReal) := by
  have h : Real.sqrt 512 ≠ 0 := by positivity
  unfold score
  rw [headWidth, Ideal.sqrt_coe, if_neg (by norm_num), Ideal.div_coe h, EReal.coe_mul, coe_sum]
  simp only [EReal.coe_mul]

theorem weight_real (q : Fin 512 → ℝ) (k : Fin 256 → Fin 512 → ℝ) : ∃ b : ℝ, 0 < b ∧ ∀ n : Fin 256,
    weight (fun e => (q e : EReal)) (fun j e => (k j e : EReal)) n = ((Real.exp ((∑ e, q e * k n e) * (1 / Real.sqrt 512)) * b : ℝ) : EReal) := by
  have e : score (fun e => (q e : EReal)) (fun j e => (k j e : EReal)) = fun n => (((∑ e, q e * k n e) * (1 / Real.sqrt 512) : ℝ) : EReal) :=
    funext fun n => score_real q k n
  obtain ⟨M, hM⟩ := isReal_top fun n => (∑ e, q e * k n e) * (1 / Real.sqrt 512)
  refine ⟨Real.exp (-M), Real.exp_pos _, fun n => ?_⟩
  unfold weight
  rw [e, least, bot_sup_eq, hM, ← EReal.coe_sub, Ideal.exp_coe, ← Real.exp_add, sub_eq_add_neg]

theorem power_real (q : Fin 512 → ℝ) (k : Fin 256 → Fin 512 → ℝ) : ∃ a : ℝ, 0 < a ∧ ∀ n : Fin 256,
    Ideal.exp2 ((∑ e, ((q e : EReal) * (factor : EReal)) * (k n e : EReal)) - top fun l => ∑ e, ((q e : EReal) * (factor : EReal)) * (k l e : EReal))
      = ((Real.exp ((∑ e, q e * k n e) * (1 / Real.sqrt 512)) * a : ℝ) : EReal) := by
  have e : (fun n => ∑ e, ((q e : EReal) * (factor : EReal)) * (k n e : EReal)) = fun n => (((∑ e, q e * k n e) * factor : ℝ) : EReal) := by
    funext n
    rw [Finset.sum_mul, coe_sum]
    refine Finset.sum_congr rfl fun d _ => ?_
    rw [← EReal.coe_mul, ← EReal.coe_mul, mul_right_comm]
  obtain ⟨M, hM⟩ := isReal_top fun n => (∑ e, q e * k n e) * factor
  have hl : Real.log 2 ≠ 0 := (Real.log_pos (by norm_num)).ne'
  refine ⟨Real.exp (-(Real.log 2 * M)), Real.exp_pos _, fun n => ?_⟩
  rw [e, hM, congrFun e n, ← EReal.coe_sub, Ideal.exp2_coe, ← Real.exp_add]
  show ((((2 : ℝ) ^ ((∑ e, q e * k n e) * factor - M) : ℝ)) : EReal) = _
  rw [Real.rpow_def_of_pos (by norm_num)]
  congr 2
  unfold factor
  field_simp
  ring

theorem headOut_eq {q : Fin 512 → EReal} {k : Fin 256 → Fin 512 → EReal} {v : Fin 256 → EReal}
    (hq : ∀ e, IsReal (q e)) (hk : ∀ j e, IsReal (k j e)) (hv : ∀ j, IsReal (v j)) :
    headOut (fun e => q e * (factor : EReal)) k v = headRef q k v := by
  choose q' hq' using hq
  choose k' hk' using hk
  choose v' hv' using hv
  obtain rfl : q = fun e => (q' e : EReal) := funext hq'
  obtain rfl : k = fun j e => (k' j e : EReal) := funext fun j => funext (hk' j)
  obtain rfl : v = fun j => (v' j : EReal) := funext hv'
  obtain ⟨a, ha, hA⟩ := power_real q' k'
  obtain ⟨b, hb, hB⟩ := weight_real q' k'
  unfold headOut headRef
  simp only [hA, hB]
  simp only [← EReal.coe_mul, ← coe_sum]
  generalize hE : (fun n : Fin 256 => Real.exp ((∑ e, q' e * k' n e) * (1 / Real.sqrt 512))) = E
  have hE' : ∀ n, Real.exp ((∑ e, q' e * k' n e) * (1 / Real.sqrt 512)) = E n := fun n => congrFun hE n
  simp only [hE']
  have hpos : 0 < ∑ n, E n := Finset.sum_pos (fun n _ => hE' n ▸ Real.exp_pos _) Finset.univ_nonempty
  have sa : ∑ n, E n * a = (∑ n, E n) * a := (Finset.sum_mul _ _ _).symm
  have sb : ∑ n, E n * b = (∑ n, E n) * b := (Finset.sum_mul _ _ _).symm
  rw [sa, sb, Ideal.div_coe (mul_pos hpos ha).ne']
  simp only [Ideal.div_coe (mul_pos hpos hb).ne', ← EReal.coe_mul, ← coe_sum]
  refine congrArg _ ?_
  rw [Finset.sum_mul]
  refine Finset.sum_congr rfl fun n _ => ?_
  field_simp

end Cert.Mix
-- ==== Proof.MixRef.lean ====
/-
  The reference of the mixing and cross-attention call, part by part, read at an index.
-/
module

public import proofs.«01_k».proof.Proof.MixSpec
public import proofs.«01_k».proof.Proof.Gen.Reference4Ideal.Run

@[expose] public section

set_option maxRecDepth 16384

noncomputable section

namespace Cert.Reference4Ideal.Hand

open Cert.Reference4Ideal Cert.Reference4Ideal.Gen
open Idealize.ShloMosaic

/-- The residual plus the two groups' outputs, joined, times the output weights. -/
def refX (A B : FVec Ideal S8192x1024 .bf16) (W : FVec Ideal S2048x2048 .f32) (H : FVec Ideal S8192x2048 .f32) : FVec Ideal S8192x2048 .f32 :=
  addf H (Host.dotGeneral dot_S8192x2048_S2048x2048_S8192x2048_1_0_0_1_n_n none
    (extf .f32 (concatenate S8192x2048 1 [⟨S8192x1024, A⟩, ⟨S8192x1024, B⟩] concatenates_S8192x1024_S8192x1024_S8192x2048_d1) bitsLt_bf16_f32) W)

/-- The rows scaled by the inverse root of their mean square, and by the gain. -/
def refN (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf
      (Host.divf (broadcastInDim S8192x1 ![0] bcast_S8192_S8192x1_0 (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The product of two matrices. -/
def refP (x : FVec Ideal S8192x2048 .f32) (W : FVec Ideal S2048x2048 .f32) : FVec Ideal S8192x2048 .f32 :=
  Host.dotGeneral dot_S8192x2048_S2048x2048_S8192x2048_1_0_0_1_n_n none x W

/-- The keys, by batch, memory token and head. -/
def refK (KV : FVec Ideal S1024x4096 .bf16) : FVec Ideal S4x256x4x512 .f32 :=
  shapeCast S4x256x4x512 (extractStridedSlice S1024x2048 ![0, 0] (extf .f32 KV bitsLt_bf16_f32) slices_S1024x4096_S1024x2048_0_0) shapeCasts_S1024x2048_S4x256x4x512

/-- The values, by batch, memory token and head. -/
def refV (KV : FVec Ideal S1024x4096 .bf16) : FVec Ideal S4x256x4x512 .f32 :=
  shapeCast S4x256x4x512 (extractStridedSlice S1024x2048 ![0, 2048] (extf .f32 KV bitsLt_bf16_f32) slices_S1024x4096_S1024x2048_0_2048) shapeCasts_S1024x2048_S4x256x4x512

/-- The queries, by batch, token and head. -/
def refQ (q : FVec Ideal S8192x2048 .f32) : FVec Ideal S4x2048x4x512 .f32 := shapeCast S4x2048x4x512 q shapeCasts_S8192x2048_S4x2048x4x512

/-- The scores over the root of the head's width. -/
def refS (q : FVec Ideal S4x2048x4x512 .f32) (k : FVec Ideal S4x256x4x512 .f32) : FVec Ideal S4x4x2048x256 .f32 :=
  Host.divf (Host.dotGeneral dot_S4x2048x4x512_S4x256x4x512_S4x4x2048x256_3_3_1_1_02_02 none q k)
    (broadcastInDim S4x4x2048x256 ![] bcast_S_S4x4x2048x256 (Host.sqrt (constant S_ .f32 0x44000000#32)))

/-- The greatest score of each row. -/
def refM (s : FVec Ideal S4x4x2048x256 .f32) : FVec Ideal S4x4x2048 .f32 :=
  Host.reduce FloatOps.maximumf s (constant S_ .f32 0xFF800000#32) reducesTo_S4x4x2048x256_S4x4x2048_d3 h_S_

/-- The greatest score of each row, not under the least value. -/
def refT (m : FVec Ideal S4x4x2048 .f32) : FVec Ideal S4x4x2048 .f32 :=
  maximumf (broadcastInDim S4x4x2048 ![] bcast_S_S4x4x2048 (constant S_ .f32 0xFF800000#32)) m

/-- The exponentials of the scores less the greatest of them. -/
def refE (s : FVec Ideal S4x4x2048x256 .f32) (m : FVec Ideal S4x4x2048 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 m)))

/-- The probabilities: each exponential over their sum. -/
def refD (e : FVec Ideal S4x4x2048x256 .f32) : FVec Ideal S4x4x2048x256 .f32 :=
  Host.divf e (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd e (constant S_ .f32 0x00000000#32) reducesTo_S4x4x2048x256_S4x4x2048_d3 h_S_)))

/-- The heads' outputs, by batch, token and head. -/
def refO (v : FVec Ideal S4x256x4x512 .f32) (p : FVec Ideal S4x4x2048x256 .f32) : FVec Ideal S4x2048x4x512 .f32 :=
  transpose S4x2048x4x512 [0, 3, 1, 2]
    (Host.dotGeneral dot_S4x256x4x512_S4x4x2048x256_S4x4x512x2048_1_3_3_2_02_01 none v p) transposes_S4x4x512x2048_S4x2048x4x512_0_3_1_2

/-- The heads side by side. -/
def refF (o : FVec Ideal S4x2048x4x512 .f32) : FVec Ideal S8192x2048 .f32 := shapeCast S8192x2048 o shapeCasts_S4x2048x4x512_S8192x2048

theorem refX_apply (A B : FVec Ideal S8192x1024 .bf16) (W : FVec Ideal S2048x2048 .f32) (H : FVec Ideal S8192x2048 .f32) (r : Fin 8192) (j : Fin 2048) :
    refX A B W H (ix2 r j) = Mix.mixed (H (ix2 r j)) (fun e => A (ix2 r e)) (fun e => B (ix2 r e))
      (fun e => W (ix2 ⟨e.val, by omega⟩ j)) (fun e => W (ix2 ⟨1024 + e.val, by omega⟩ j)) := by
  pointwise [refX, Mix.mixed]
  exact (add_assoc _ _ _).symm

theorem refN_apply (x : FVec Ideal S8192x2048 .f32) (g : FVec Ideal S2048 .f32) (r : Fin 8192) (j : Fin 2048) :
    refN x g (ix2 r j) = Mix.rms (fun l => x (ix2 r l)) (fun l => g (ix1 l)) j := by
  pointwise [refN, Mix.rms]

theorem refP_apply (x : FVec Ideal S8192x2048 .f32) (W : FVec Ideal S2048x2048 .f32) (r : Fin 8192) (j : Fin 2048) :
    refP x W (ix2 r j) = ∑ d : Fin 2048, x (ix2 r d) * W (ix2 d j) := by
  pointwise [refP]

theorem refK_apply (KV : FVec Ideal S1024x4096 .bf16) (b : Fin 4) (n : Fin 256) (h : Fin 4) (e : Fin 512) :
    refK KV (ix4 b n h e) = KV (ix2 ⟨b.val * 256 + n.val, by omega⟩ ⟨h.val * 512 + e.val, by omega⟩) := by
  pointwise [refK]

theorem refV_apply (KV : FVec Ideal S1024x4096 .bf16) (b : Fin 4) (n : Fin 256) (h : Fin 4) (e : Fin 512) :
    refV KV (ix4 b n h e) = KV (ix2 ⟨b.val * 256 + n.val, by omega⟩ ⟨2048 + (h.val * 512 + e.val), by omega⟩) := by
  pointwise [refV]

theorem refQ_apply (q : FVec Ideal S8192x2048 .f32) (b : Fin 4) (t : Fin 2048) (h : Fin 4) (e : Fin 512) :
    refQ q (ix4 b t h e) = q (ix2 ⟨b.val * 2048 + t.val, by omega⟩ ⟨h.val * 512 + e.val, by omega⟩) := by
  pointwise [refQ]

theorem refS_apply (q : FVec Ideal S4x2048x4x512 .f32) (k : FVec Ideal S4x256x4x512 .f32) (b h : Fin 4) (t : Fin 2048) (n : Fin 256) :
    refS q k (ix4 b h t n) = Ideal.div (∑ e : Fin 512, q (ix4 b t h e) * k (ix4 b n h e)) (Ideal.sqrt (Ideal.ofBits .f32 0x44000000#32)) := by
  pointwise [refS]

theorem refT_apply (m : FVec Ideal S4x4x2048 .f32) (b h : Fin 4) (t : Fin 2048) :
    refT m (ix3 b h t) = max (Ideal.ofBits .f32 0xFF800000#32) (m (ix3 b h t)) := by
  pointwise [refT]

theorem refE_apply (s : FVec Ideal S4x4x2048x256 .f32) (m : FVec Ideal S4x4x2048 .f32) (b h : Fin 4) (t : Fin 2048) (n : Fin 256) :
    refE s m (ix4 b h t n) = Ideal.exp (s (ix4 b h t n) - m (ix3 b h t)) := by
  pointwise [refE]

theorem refD_apply (p : FVec Ideal S4x4x2048x256 .f32) (b h : Fin 4) (t : Fin 2048) (n : Fin 256) :
    refD p (ix4 b h t n) = Ideal.div (p (ix4 b h t n)) (∑ l : Fin 256, p (ix4 b h t l)) := by
  pointwise [refD]

theorem refO_apply (v : FVec Ideal S4x256x4x512 .f32) (p : FVec Ideal S4x4x2048x256 .f32) (b h : Fin 4) (t : Fin 2048) (e : Fin 512) :
    refO v p (ix4 b t h e) = ∑ n : Fin 256, v (ix4 b n h e) * p (ix4 b h t n) := by
  pointwise [refO]

theorem refF_apply (o : FVec Ideal S4x2048x4x512 .f32) (b : Fin 4) (t : Fin 2048) (h : Fin 4) (e : Fin 512) :
    refF o (ix2 ⟨b.val * 2048 + t.val, by omega⟩ ⟨h.val * 512 + e.val, by omega⟩) = o (ix4 b t h e) := by
  pointwise [refF]

theorem refM_apply (s : FVec Ideal S4x4x2048x256 .f32) (b h : Fin 4) (t : Fin 2048) :
    refM s (ix3 b h t) = Mix.top fun l => s (ix4 b h t l) := by
  unfold refM
  rw [Host.reduce_eq_fold]
  rw [Shape.ReducesTo.fold_fiber_r4_a3]
  exact rfl

end Cert.Reference4Ideal.Hand
-- ==== Proof.MixKernel.lean ====
/-
  What the mixing and cross-attention call computes on one block of 256 tokens, read at an index.
-/
module

public import proofs.«01_k».proof.Proof.MixSpec
public import proofs.«01_k».proof.Proof.Gen.Kernel4Ideal.Frame

@[expose] public section

set_option maxRecDepth 16384

noncomputable section

namespace Cert.Kernel4Ideal.Hand

open Cert.Kernel4Ideal Cert.Kernel4Ideal.Gen
open Idealize.ShloMosaic

/-- The scale of the scores. -/
abbrev scale : EReal := Named.named (F := Ideal) κ "scale" (φ := .f32) 0x3D8293EE#32

theorem pay2_apply (H : FVec Ideal S256x2048 .f32) (A : FVec Ideal S1x1024x256 .bf16) (W : FVec Ideal S1024x2048 .bf16)
    (B : FVec Ideal S1x1024x256 .bf16) (X : FVec Ideal S1024x2048 .bf16) (i : Fin 256) (j : Fin 2048) :
    k0_pay2 (F := Ideal) H A W B X (ix2 i j)
      = Mix.mixed (H (ix2 i j)) (fun e => A (ix3 0 e i)) (fun e => B (ix3 0 e i)) (fun e => W (ix2 e j)) (fun e => X (ix2 e j)) := by
  pointwise [k0_pay2, Mix.mixed]

theorem pay3_apply (H : FVec Ideal S256x2048 .f32) (A : FVec Ideal S1x1024x256 .bf16) (W : FVec Ideal S1024x2048 .bf16)
    (B : FVec Ideal S1x1024x256 .bf16) (X : FVec Ideal S1024x2048 .bf16) (g : FVec Ideal S1x2048 .f32)
    (Q : FVec Ideal S2048x2048 .bf16) (i : Fin 256) (c : Fin 2048) :
    k0_pay3 (F := Ideal) H A W B X g Q (ix2 i c)
      = Mix.query (fun l => k0_pay2 (F := Ideal) H A W B X (ix2 i l)) (fun l => g (ix2 0 l)) (fun d l => Q (ix2 d l)) scale c := by
  unfold k0_pay3 Mix.query
  generalize k0_pay2 (F := Ideal) H A W B X = x
  pointwise [Mix.rms]

theorem pay5_apply (q k v : FVec Ideal S256x512 .bf16) (i : Fin 256) (c : Fin 512) :
    k0_pay5 (F := Ideal) q k v (ix2 i c)
      = Mix.headOut (fun e => q (ix2 i e)) (fun j e => k (ix2 j e)) (fun j => v (ix2 j c)) := by
  pointwise [k0_pay5, Mix.headOut, Mix.top]
  rfl

/-- Four blocks of columns side by side. -/
abbrev beside (o0 o1 o2 o3 : FVec Ideal S256x512 .bf16) : FVec Ideal S256x2048 .bf16 :=
  concatenate S256x2048 1 [⟨S256x512, o0⟩, ⟨S256x512, o1⟩, ⟨S256x512, o2⟩, ⟨S256x512, o3⟩]
    concatenates_S256x512_S256x512_S256x512_S256x512_S256x2048_d1

theorem beside_apply (o0 o1 o2 o3 : FVec Ideal S256x512 .bf16) (i : Fin 256) (f : Fin 2048 → EReal)
    (h0 : ∀ e : Fin 512, o0 (ix2 i e) = f ⟨e.val, by omega⟩) (h1 : ∀ e : Fin 512, o1 (ix2 i e) = f ⟨512 + e.val, by omega⟩)
    (h2 : ∀ e : Fin 512, o2 (ix2 i e) = f ⟨1024 + e.val, by omega⟩) (h3 : ∀ e : Fin 512, o3 (ix2 i e) = f ⟨1536 + e.val, by omega⟩)
    (c : Fin 2048) : beside o0 o1 o2 o3 (ix2 i c) = f c := by
  pointwise [beside]
  split_ifs <;> first
    | exact h0 _
    | (refine (h1 _).trans (congrArg f (Fin.ext ?_)); show 512 + (c.val - 512) = c.val; omega)
    | (refine (h2 _).trans (congrArg f (Fin.ext ?_)); show 1024 + (c.val - 512 - 512) = c.val; omega)
    | (refine (h3 _).trans (congrArg f (Fin.ext ?_)); show 1536 + (c.val - 512 - 512 - 512) = c.val; omega)

/-- The residual rows plus the heads' outputs times the output weights. -/
theorem pay9_apply (x : FVec Ideal S256x2048 .f32) (q : FVec Ideal S256x2048 .bf16) (o0 o1 k2 v2 k3 v3 : FVec Ideal S256x512 .bf16)
    (W : FVec Ideal S2048x2048 .bf16) (i : Fin 256) (j : Fin 2048) :
    k0_pay9 (F := Ideal) x q o0 o1 (k0_pay7 (F := Ideal) q k2) (k0_pay8 (F := Ideal) q k2) v2 k3 v3 W (ix2 i j)
      = Mix.added (fun l => x (ix2 i l)) (fun c => beside o0 o1
          (k0_pay5 (F := Ideal) (extractStridedSlice S256x512 ![0, 1024] q slices_S256x2048_o0_1024_S256x512) k2 v2)
          (k0_pay5 (F := Ideal) (extractStridedSlice S256x512 ![0, 1536] q slices_S256x2048_o0_1536_S256x512) k3 v3) (ix2 i c))
        (fun c l => W (ix2 c l)) j := by
  have e : k0_pay9 (F := Ideal) x q o0 o1 (k0_pay7 (F := Ideal) q k2) (k0_pay8 (F := Ideal) q k2) v2 k3 v3 W
      = addf x (matmul dot_S256x2048_S2048x2048_S256x2048_1_0_0_1_n_n none (beside o0 o1
          (k0_pay5 (F := Ideal) (extractStridedSlice S256x512 ![0, 1024] q slices_S256x2048_o0_1024_S256x512) k2 v2)
          (k0_pay5 (F := Ideal) (extractStridedSlice S256x512 ![0, 1536] q slices_S256x2048_o0_1536_S256x512) k3 v3))
          (shapeCast S2048x2048 W shapeCasts_S2048x2048_S2048x2048) (constant S256x2048 .f32 0x00000000#32)) := rfl
  rw [e]
  generalize beside o0 o1 _ _ = y
  pointwise [Mix.added]

/-- The rows written back, scaled by the inverse root of their mean square. -/
theorem pay1_apply (x : FVec Ideal S256x2048 .f32) (q : FVec Ideal S256x2048 .bf16) (o0 o1 : FVec Ideal S256x512 .bf16)
    (p : FVec Ideal S256x256 .f32) (p' : FVec Ideal S256x256 .bf16) (v2 k3 v3 : FVec Ideal S256x512 .bf16)
    (W : FVec Ideal S2048x2048 .bf16) (g : FVec Ideal S1x2048 .f32) (i : Fin 256) (j : Fin 2048) :
    k0_pay1 (F := Ideal) (k0_pay9 (F := Ideal) x q o0 o1 p p' v2 k3 v3 W) (k0_pay10 (F := Ideal) g)
        (k0_pay11 (F := Ideal) x q o0 o1 p p' v2 k3 v3 W) (ix2 i j)
      = Mix.rms (fun l => k0_pay9 (F := Ideal) x q o0 o1 p p' v2 k3 v3 W (ix2 i l)) (fun l => g (ix2 0 l)) j := by
  unfold k0_pay11
  generalize k0_pay9 (F := Ideal) x q o0 o1 p p' v2 k3 v3 W = y
  pointwise [k0_pay1, k0_pay10, Mix.rms]

/-! ## The block the call writes back -/

theorem off2 : (![0, 0] : Fin 2 → Nat) = fun _ => 0 := funext fun a => by fin_cases a <;> rfl
theorem off3 : (![0, 0, 0] : Fin 3 → Nat) = fun _ => 0 := funext fun a => by fin_cases a <;> rfl

theorem ld3 (g : Vec Ideal S1x2048 .f32) : View.ld g r0_3 = g := View.ld_unit_zero off2 _ _

theorem ld5 (K : Vec Ideal S256x2048 .bf16) (j : Fin 256) (e : Fin 512) : View.ld K r0_5 (ix2 j e) = K (ix2 j ⟨e.val, by omega⟩) := by
  refine congrArg K (funext fun a => Fin.ext ?_)
  match a with
  | ⟨0, _⟩ => show 0 + 1 * j.val = j.val; omega
  | ⟨1, _⟩ => show 0 + 1 * e.val = e.val; omega

theorem ld6 (K : Vec Ideal S256x2048 .bf16) (j : Fin 256) (e : Fin 512) : View.ld K r0_6 (ix2 j e) = K (ix2 j ⟨512 + e.val, by omega⟩) := by
  refine congrArg K (funext fun a => Fin.ext ?_)
  match a with
  | ⟨0, _⟩ => show 0 + 1 * j.val = j.val; omega
  | ⟨1, _⟩ => show 512 + 1 * e.val = 512 + e.val; omega

theorem ld7 (K : Vec Ideal S256x2048 .bf16) (j : Fin 256) (e : Fin 512) : View.ld K r0_7 (ix2 j e) = K (ix2 j ⟨1024 + e.val, by omega⟩) := by
  refine congrArg K (funext fun a => Fin.ext ?_)
  match a with
  | ⟨0, _⟩ => show 0 + 1 * j.val = j.val; omega
  | ⟨1, _⟩ => show 1024 + 1 * e.val = 1024 + e.val; omega

theorem ld8 (K : Vec Ideal S256x2048 .bf16) (j : Fin 256) (e : Fin 512) : View.ld K r0_8 (ix2 j e) = K (ix2 j ⟨1536 + e.val, by omega⟩) := by
  refine congrArg K (funext fun a => Fin.ext ?_)
  match a with
  | ⟨0, _⟩ => show 0 + 1 * j.val = j.val; omega
  | ⟨1, _⟩ => show 1536 + 1 * e.val = 1536 + e.val; omega

theorem sl0 (q : FVec Ideal S256x2048 .bf16) (i : Fin 256) (e : Fin 512) :
    extractStridedSlice S256x512 ![0, 0] q slices_S256x2048_o0_0_S256x512 (ix2 i e) = q (ix2 i ⟨e.val, by omega⟩) := by pointwise
theorem sl1 (q : FVec Ideal S256x2048 .bf16) (i : Fin 256) (e : Fin 512) :
    extractStridedSlice S256x512 ![0, 512] q slices_S256x2048_o0_512_S256x512 (ix2 i e) = q (ix2 i ⟨512 + e.val, by omega⟩) := by pointwise
theorem sl2 (q : FVec Ideal S256x2048 .bf16) (i : Fin 256) (e : Fin 512) :
    extractStridedSlice S256x512 ![0, 1024] q slices_S256x2048_o0_1024_S256x512 (ix2 i e) = q (ix2 i ⟨1024 + e.val, by omega⟩) := by pointwise
theorem sl3 (q : FVec Ideal S256x2048 .bf16) (i : Fin 256) (e : Fin 512) :
    extractStridedSlice S256x512 ![0, 1536] q slices_S256x2048_o0_1536_S256x512 (ix2 i e) = q (ix2 i ⟨1536 + e.val, by omega⟩) := by pointwise

/-- The columns of the head that a column at offset `o` is in. -/
theorem part_at (o : Nat) (ho : o % 512 = 0) (e c : Fin 512) (h : o + c.val < 2048) (h' : o + e.val < 2048) :
    Mix.part ⟨o + c.val, h⟩ e = ⟨o + e.val, h'⟩ := Fin.ext (by show (o + c.val) / 512 * 512 + e.val = o + e.val; omega)

/-- The four heads of one block of rows, side by side. -/
theorem heads_apply (q K V : FVec Ideal S256x2048 .bf16) (i : Fin 256) (c : Fin 2048) :
    beside
      (k0_pay5 (F := Ideal) (extractStridedSlice S256x512 ![0, 0] q slices_S256x2048_o0_0_S256x512) (View.ld K r0_5) (View.ld V r0_5))
      (k0_pay5 (F := Ideal) (extractStridedSlice S256x512 ![0, 512] q slices_S256x2048_o0_512_S256x512) (View.ld K r0_6) (View.ld V r0_6))
      (k0_pay5 (F := Ideal) (extractStridedSlice S256x512 ![0, 1024] q slices_S256x2048_o0_1024_S256x512) (View.ld K r0_7) (View.ld V r0_7))
      (k0_pay5 (F := Ideal) (extractStridedSlice S256x512 ![0, 1536] q slices_S256x2048_o0_1536_S256x512) (View.ld K r0_8) (View.ld V r0_8))
      (ix2 i c)
    = Mix.attended (fun l => q (ix2 i l)) (fun j l => K (ix2 j l)) (fun j l => V (ix2 j l)) c := by
  refine beside_apply _ _ _ _ i (Mix.attended (fun l => q (ix2 i l)) (fun j l => K (ix2 j l)) (fun j l => V (ix2 j l))) ?_ ?_ ?_ ?_ c
  · intro e
    refine (pay5_apply _ _ _ i e).trans ?_
    have hp : ∀ d : Fin 512, Mix.part ⟨e.val, by omega⟩ d = ⟨d.val, by omega⟩ := fun d => Fin.ext (by show e.val / 512 * 512 + d.val = d.val; omega)
    simp only [Mix.attended, hp, sl0]
    exact congr (congrArg (Mix.headOut _) (funext fun j => funext fun d => ld5 K j d)) (funext fun j => ld5 V j e)
  · intro e
    refine (pay5_apply _ _ _ i e).trans ?_
    have hp : ∀ d : Fin 512, Mix.part ⟨512 + e.val, by omega⟩ d = ⟨512 + d.val, by omega⟩ := fun d => part_at 512 rfl d e _ _
    simp only [Mix.attended, hp, sl1]
    exact congr (congrArg (Mix.headOut _) (funext fun j => funext fun d => ld6 K j d)) (funext fun j => ld6 V j e)
  · intro e
    refine (pay5_apply _ _ _ i e).trans ?_
    have hp : ∀ d : Fin 512, Mix.part ⟨1024 + e.val, by omega⟩ d = ⟨1024 + d.val, by omega⟩ := fun d => part_at 1024 rfl d e _ _
    simp only [Mix.attended, hp, sl2]
    exact congr (congrArg (Mix.headOut _) (funext fun j => funext fun d => ld7 K j d)) (funext fun j => ld7 V j e)
  · intro e
    refine (pay5_apply _ _ _ i e).trans ?_
    have hp : ∀ d : Fin 512, Mix.part ⟨1536 + e.val, by omega⟩ d = ⟨1536 + d.val, by omega⟩ := fun d => part_at 1536 rfl d e _ _
    simp only [Mix.attended, hp, sl3]
    exact congr (congrArg (Mix.headOut _) (funext fun j => funext fun d => ld8 K j d)) (funext fun j => ld8 V j e)

/-- A row of the block after the mixing. -/
def mixedRow (x0 x1 : FVec Ideal S1x1024x256 .bf16) (x2 x3 : FVec Ideal S1024x2048 .bf16) (x9 : FVec Ideal S256x2048 .f32)
    (i : Fin 256) (l : Fin 2048) : EReal :=
  Mix.mixed (x9 (ix2 i l)) (fun e => x0 (ix3 0 e i)) (fun e => x1 (ix3 0 e i)) (fun e => x2 (ix2 e l)) (fun e => x3 (ix2 e l))

/-- A row of the first block written back. -/
def outRow (x0 x1 : FVec Ideal S1x1024x256 .bf16) (x2 x3 : FVec Ideal S1024x2048 .bf16) (x4 : FVec Ideal S1x2048 .f32)
    (x5 : FVec Ideal S2048x2048 .bf16) (x6 x7 : FVec Ideal S256x2048 .bf16) (x8 : FVec Ideal S2048x2048 .bf16)
    (x9 : FVec Ideal S256x2048 .f32) (i : Fin 256) : Fin 2048 → EReal :=
  Mix.added (mixedRow x0 x1 x2 x3 x9 i)
    (Mix.attended (Mix.query (mixedRow x0 x1 x2 x3 x9 i) (fun l => x4 (ix2 0 l)) (fun d l => x5 (ix2 d l)) scale)
      (fun j l => x6 (ix2 j l)) (fun j l => x7 (ix2 j l)))
    (fun c l => x8 (ix2 c l))

theorem nine_apply (x0 x1 : FVec Ideal S1x1024x256 .bf16) (x2 x3 : FVec Ideal S1024x2048 .bf16) (x4 : FVec Ideal S1x2048 .f32)
    (x5 : FVec Ideal S2048x2048 .bf16) (x6 x7 : FVec Ideal S256x2048 .bf16) (x8 : FVec Ideal S2048x2048 .bf16)
    (x9 : FVec Ideal S256x2048 .f32) (x10 : FVec Ideal S1x2048 .f32) (i : Fin 256) (j : Fin 2048) :
    k0_pay9 (F := Ideal) (k0_pay12 x0 x1 x2 x3 x4 x5 x6 x7 x8 x9 x10) (k0_pay13 x0 x1 x2 x3 x4 x5 x6 x7 x8 x9 x10)
      (k0_pay14 x0 x1 x2 x3 x4 x5 x6 x7 x8 x9 x10) (k0_pay15 x0 x1 x2 x3 x4 x5 x6 x7 x8 x9 x10)
      (k0_pay16 x0 x1 x2 x3 x4 x5 x6 x7 x8 x9 x10) (k0_pay17 x0 x1 x2 x3 x4 x5 x6 x7 x8 x9 x10)
      (View.ld x7 r0_7) (View.ld x6 r0_8) (View.ld x7 r0_8) (View.ld x8 r0_4) (ix2 i j)
    = outRow x0 x1 x2 x3 x4 x5 x6 x7 x8 x9 i j := by
  have e12 : k0_pay12 (F := Ideal) x0 x1 x2 x3 x4 x5 x6 x7 x8 x9 x10 = k0_pay2 (F := Ideal) x9 x0 x2 x1 x3 := by
    unfold k0_pay12
    rw [View.ld_unit_zero off2, View.ld_unit_zero off3, View.ld_unit_zero off2, View.ld_unit_zero off3, View.ld_unit_zero off2]
  have e13 : k0_pay13 (F := Ideal) x0 x1 x2 x3 x4 x5 x6 x7 x8 x9 x10 = k0_pay3 (F := Ideal) x9 x0 x2 x1 x3 x4 x5 := by
    unfold k0_pay13
    rw [View.ld_unit_zero off2, View.ld_unit_zero off3, View.ld_unit_zero off2, View.ld_unit_zero off3, View.ld_unit_zero off2,
      View.ld_unit_zero off2, View.ld_unit_zero off2]
  have e14 : k0_pay14 (F := Ideal) x0 x1 x2 x3 x4 x5 x6 x7 x8 x9 x10
      = k0_pay5 (F := Ideal) (extractStridedSlice S256x512 ![0, 0] (k0_pay13 (F := Ideal) x0 x1 x2 x3 x4 x5 x6 x7 x8 x9 x10) slices_S256x2048_o0_0_S256x512)
        (View.ld x6 r0_5) (View.ld x7 r0_5) := rfl
  have e15 : k0_pay15 (F := Ideal) x0 x1 x2 x3 x4 x5 x6 x7 x8 x9 x10
      = k0_pay5 (F := Ideal) (extractStridedSlice S256x512 ![0, 512] (k0_pay13 (F := Ideal) x0 x1 x2 x3 x4 x5 x6 x7 x8 x9 x10) slices_S256x2048_o0_512_S256x512)
        (View.ld x6 r0_6) (View.ld x7 r0_6) := rfl
  rw [e14, e15, k0_pay16, k0_pay17, e13, e12]
  refine (pay9_apply _ _ _ _ _ _ _ _ _ i j).trans ?_
  rw [View.ld_unit_zero off2]
  simp only [heads_apply, pay3_apply, pay2_apply]
  rfl

theorem out11_apply (x0 x1 : FVec Ideal S1x1024x256 .bf16) (x2 x3 : FVec Ideal S1024x2048 .bf16) (x4 : FVec Ideal S1x2048 .f32)
    (x5 : FVec Ideal S2048x2048 .bf16) (x6 x7 : FVec Ideal S256x2048 .bf16) (x8 : FVec Ideal S2048x2048 .bf16)
    (x9 : FVec Ideal S256x2048 .f32) (x10 : FVec Ideal S1x2048 .f32) (i : Fin 256) (j : Fin 2048) :
    out0_11 (F := Ideal) x0 x1 x2 x3 x4 x5 x6 x7 x8 x9 x10 (ix2 i j) = outRow x0 x1 x2 x3 x4 x5 x6 x7 x8 x9 i j := by
  unfold out0_11
  rw [View.canon_unit_zero off2]
  exact nine_apply x0 x1 x2 x3 x4 x5 x6 x7 x8 x9 x10 i j

theorem out12_apply (x0 x1 : FVec Ideal S1x1024x256 .bf16) (x2 x3 : FVec Ideal S1024x2048 .bf16) (x4 : FVec Ideal S1x2048 .f32)
    (x5 : FVec Ideal S2048x2048 .bf16) (x6 x7 : FVec Ideal S256x2048 .bf16) (x8 : FVec Ideal S2048x2048 .bf16)
    (x9 : FVec Ideal S256x2048 .f32) (x10 : FVec Ideal S1x2048 .f32) (i : Fin 256) (j : Fin 2048) :
    out0_12 (F := Ideal) x0 x1 x2 x3 x4 x5 x6 x7 x8 x9 x10 (ix2 i j)
      = Mix.rms (outRow x0 x1 x2 x3 x4 x5 x6 x7 x8 x9 i) (fun l => x10 (ix2 0 l)) j := by
  unfold out0_12
  rw [View.canon_unit_zero off2]
  refine (pay1_apply _ _ _ _ _ _ _ _ _ _ _ i j).trans ?_
  rw [ld3]
  exact congrArg (fun f => Mix.rms f (fun l => x10 (ix2 0 l)) j)
    (funext fun l => nine_apply x0 x1 x2 x3 x4 x5 x6 x7 x8 x9 x10 i l)

end Cert.Kernel4Ideal.Hand
-- ==== Proof.MixRun.lean ====
/-
  The mixing and cross-attention call: what the host hands it, the call's blocks read at an index, and the two arrays
  the run leaves.
-/
module

public import proofs.«01_k».proof.Proof.Gen.Kernel4Ideal.Value
public import proofs.«01_k».proof.Proof.MixKernel
public import Idealize.ShloMosaic.Lib.Pointwise
public import Idealize.ShloMosaic.Lib.StableHlo.Run

@[expose] public section

set_option maxRecDepth 16384

noncomputable section

namespace Cert.Kernel4Ideal.Hand

open Cert.Kernel4Ideal Cert.Kernel4Ideal.Gen Cert.Kernel4Ideal.Value
open Idealize.ShloMosaic Idealize.ShloMosaic.TcCoe Idealize.SL.Sem
open Idealize.ShloMosaic.StableHlo Idealize.ShloMosaic.Tactic

variable (m : (ℓ : Loc nD τ sig) → Buf (Elt Ideal) ℓ)

/-- The first result's row `r`, of the arguments. -/
def resRow (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32) (r : Fin 8192) : Fin 2048 → EReal :=
  Mix.result (fun r e => A (ix2 r e)) (fun r e => B (ix2 r e)) (fun e l => W (ix2 e l)) (fun l => g (ix1 l)) (fun d l => WQ (ix2 d l))
    (fun n l => KV (ix2 n l)) (fun d l => WO (ix2 d l)) (fun r l => H (ix2 r l)) scale r

/-- The first result. -/
def res0 (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32) : FVec Ideal S8192x2048 .f32 :=
  fun x => resRow A B W g WQ KV WO H (x 0) (x 1)

/-- The second result: the first one's rows normalized. -/
def res1 (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32) (g2 : FVec Ideal S2048 .f32) :
    FVec Ideal S8192x2048 .bf16 :=
  fun x => Mix.rms (resRow A B W g WQ KV WO H (x 0)) (fun l => g2 (ix1 l)) (x 1)

/-! ### What the host lays out before the call -/

/-- A group's outputs as the call takes them: by batch, feature and token. -/
def turned (A : FVec Ideal S8192x1024 .bf16) : FVec Ideal S4x1024x2048 .bf16 :=
  transpose S4x1024x2048 [0, 2, 1] (shapeCast S4x2048x1024 A shapeCasts_S8192x1024_S4x2048x1024) transposes_S4x2048x1024_S4x1024x2048_0_2_1

theorem turned_apply (A : FVec Ideal S8192x1024 .bf16) (b : Fin 4) (e : Fin 1024) (s : Fin 2048) :
    turned A (ix3 b e s) = A (ix2 ⟨b.val * 2048 + s.val, by omega⟩ e) := by
  pointwise [turned]

/-- A gain as one row. -/
def flat (g : FVec Ideal S2048 .f32) : FVec Ideal S1x2048 .f32 := shapeCast S1x2048 g shapeCasts_S2048_S1x2048

theorem flat_apply (g : FVec Ideal S2048 .f32) (l : Fin 2048) : flat g (ix2 0 l) = g (ix1 l) := by
  pointwise [flat]

theorem read1 (c : Dev nD) : V m c main_v1 = turned (m ((c : Thread nD τ).loc main_arg0)) := by unfold V; after_results; rfl
theorem read3 (c : Dev nD) : V m c main_v3 = turned (m ((c : Thread nD τ).loc main_arg1)) := by unfold V; after_results; rfl
theorem read4 (c : Dev nD) : V m c main_v4 = m ((c : Thread nD τ).loc main_arg2) := by unfold V; after_results; rfl
theorem read5 (c : Dev nD) : V m c main_v5 = m ((c : Thread nD τ).loc main_arg4) := by unfold V; after_results; rfl
theorem read6 (c : Dev nD) : V m c main_v6 = m ((c : Thread nD τ).loc main_arg6) := by unfold V; after_results; rfl
theorem read7 (c : Dev nD) : V m c main_v7 = flat (m ((c : Thread nD τ).loc main_arg3)) := by unfold V; after_results; rfl
theorem read8 (c : Dev nD) : V m c main_v8 = flat (m ((c : Thread nD τ).loc main_arg8)) := by unfold V; after_results; rfl

/-! ### The blocks -/

/-- The blocks' places in their arrays at each grid point: eight row blocks for each of four batches. -/
theorem places : ∀ t : Fin cfg0.N,
    (win0_0.index t (0 : Fin 3) = t.val / 8 ∧ win0_0.index t (1 : Fin 3) = 0 ∧ win0_0.index t (2 : Fin 3) = t.val % 8)
    ∧ (win0_1.index t (0 : Fin 3) = t.val / 8 ∧ win0_1.index t (1 : Fin 3) = 0 ∧ win0_1.index t (2 : Fin 3) = t.val % 8)
    ∧ (win0_2.index t (0 : Fin 2) = 0 ∧ win0_2.index t (1 : Fin 2) = 0)
    ∧ (win0_3.index t (0 : Fin 2) = 1 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val / 8 ∧ win0_6.index t (1 : Fin 2) = 0)
    ∧ (win0_7.index t (0 : Fin 2) = t.val / 8 ∧ win0_7.index t (1 : Fin 2) = 1)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row `i` of the point's row block. -/
def row (t : Fin cfg0.N) (i : Fin 256) : Fin 8192 := ⟨t.val * 256 + i.val, by have := t.isLt; have : cfg0.N = 32 := N_0; omega⟩

/-- The point's batch. -/
def batch (t : Fin cfg0.N) : Fin 4 := ⟨t.val / 8, by have := t.isLt; have : cfg0.N = 32 := N_0; omega⟩

/-- Token `i` of the point's block, in its batch. -/
def tok (t : Fin cfg0.N) (i : Fin 256) : Fin 2048 := ⟨t.val % 8 * 256 + i.val, by omega⟩

theorem row_eq (t : Fin cfg0.N) (i : Fin 256) (h) : (⟨(batch t).val * 2048 + (tok t i).val, h⟩ : Fin 8192) = row t i :=
  Fin.ext (by show t.val / 8 * 2048 + (t.val % 8 * 256 + i.val) = t.val * 256 + i.val; omega)

/-- Memory token `n` of the point's batch. -/
def mem (t : Fin cfg0.N) (n : Fin 256) : Fin 1024 := ⟨t.val / 8 * 256 + n.val, by have := t.isLt; have : cfg0.N = 32 := N_0; omega⟩

theorem memRow_row (t : Fin cfg0.N) (i n : Fin 256) : Mix.memRow (row t i) n = mem t n :=
  Fin.ext (by show (t.val * 256 + i.val) / 2048 * 256 + n.val = t.val / 8 * 256 + n.val; omega)

theorem emb0 (t : Fin cfg0.N) (e : Fin 1024) (i : Fin 256) : ((cfg0.win 0).blk t).view.emb (ix3 0 e i) = ix3 (batch t) e (tok t i) := by
  obtain ⟨e0, e1, e2⟩ := (places t).1
  refine funext fun a => Fin.ext ?_
  match a with
  | ⟨0, _⟩ => show win0_0.index t (0 : Fin 3) * 1 + 1 * 0 = t.val / 8; omega
  | ⟨1, _⟩ => show win0_0.index t (1 : Fin 3) * 1024 + 1 * e.val = e.val; omega
  | ⟨2, _⟩ => show win0_0.index t (2 : Fin 3) * 256 + 1 * i.val = t.val % 8 * 256 + i.val; omega

theorem emb1 (t : Fin cfg0.N) (e : Fin 1024) (i : Fin 256) : ((cfg0.win 1).blk t).view.emb (ix3 0 e i) = ix3 (batch t) e (tok t i) := by
  obtain ⟨e0, e1, e2⟩ := (places t).2.1
  refine funext fun a => Fin.ext ?_
  match a with
  | ⟨0, _⟩ => show win0_1.index t (0 : Fin 3) * 1 + 1 * 0 = t.val / 8; omega
  | ⟨1, _⟩ => show win0_1.index t (1 : Fin 3) * 1024 + 1 * e.val = e.val; omega
  | ⟨2, _⟩ => show win0_1.index t (2 : Fin 3) * 256 + 1 * i.val = t.val % 8 * 256 + i.val; omega

theorem emb2 (t : Fin cfg0.N) (e : Fin 1024) (l : Fin 2048) : ((cfg0.win 2).blk t).view.emb (ix2 e l) = ix2 ⟨e.val, by omega⟩ l := by
  obtain ⟨e0, e1⟩ := (places t).2.2.1
  refine funext fun a => Fin.ext ?_
  match a with
  | ⟨0, _⟩ => show win0_2.index t (0 : Fin 2) * 1024 + 1 * e.val = e.val; omega
  | ⟨1, _⟩ => show win0_2.index t (1 : Fin 2) * 2048 + 1 * l.val = l.val; omega

theorem emb3 (t : Fin cfg0.N) (e : Fin 1024) (l : Fin 2048) : ((cfg0.win 3).blk t).view.emb (ix2 e l) = ix2 ⟨1024 + e.val, by omega⟩ l := by
  obtain ⟨e0, e1⟩ := (places t).2.2.2.1
  refine funext fun a => Fin.ext ?_
  match a with
  | ⟨0, _⟩ => show win0_3.index t (0 : Fin 2) * 1024 + 1 * e.val = 1024 + e.val; omega
  | ⟨1, _⟩ => show win0_3.index t (1 : Fin 2) * 2048 + 1 * l.val = l.val; omega

theorem emb4 (t : Fin cfg0.N) (l : Fin 2048) : ((cfg0.win 4).blk t).view.emb (ix2 0 l) = ix2 0 l := by
  obtain ⟨e0, e1⟩ := (places t).2.2.2.2.1
  refine funext fun a => Fin.ext ?_
  match a with
  | ⟨0, _⟩ => show win0_4.index t (0 : Fin 2) * 1 + 1 * 0 = 0; omega
  | ⟨1, _⟩ => show win0_4.index t (1 : Fin 2) * 2048 + 1 * l.val = l.val; omega

theorem emb5 (t : Fin cfg0.N) (e : Fin 2048) (l : Fin 2048) : ((cfg0.win 5).blk t).view.emb (ix2 e l) = ix2 e l := by
  obtain ⟨e0, e1⟩ := (places t).2.2.2.2.2.1
  refine funext fun a => Fin.ext ?_
  match a with
  | ⟨0, _⟩ => show win0_5.index t (0 : Fin 2) * 2048 + 1 * e.val = e.val; omega
  | ⟨1, _⟩ => show win0_5.index t (1 : Fin 2) * 2048 + 1 * l.val = l.val; omega

theorem emb6 (t : Fin cfg0.N) (e : Fin 256) (l : Fin 2048) : ((cfg0.win 6).blk t).view.emb (ix2 e l) = ix2 (mem t e) (Mix.left l) := by
  obtain ⟨e0, e1⟩ := (places t).2.2.2.2.2.2.1
  refine funext fun a => Fin.ext ?_
  match a with
  | ⟨0, _⟩ => show win0_6.index t (0 : Fin 2) * 256 + 1 * e.val = t.val / 8 * 256 + e.val; omega
  | ⟨1, _⟩ => show win0_6.index t (1 : Fin 2) * 2048 + 1 * l.val = l.val; omega

theorem emb7 (t : Fin cfg0.N) (e : Fin 256) (l : Fin 2048) : ((cfg0.win 7).blk t).view.emb (ix2 e l) = ix2 (mem t e) (Mix.right l) := by
  obtain ⟨e0, e1⟩ := (places t).2.2.2.2.2.2.2.1
  refine funext fun a => Fin.ext ?_
  match a with
  | ⟨0, _⟩ => show win0_7.index t (0 : Fin 2) * 256 + 1 * e.val = t.val / 8 * 256 + e.val; omega
  | ⟨1, _⟩ => show win0_7.index t (1 : Fin 2) * 2048 + 1 * l.val = 2048 + l.val; omega

theorem emb8 (t : Fin cfg0.N) (e : Fin 2048) (l : Fin 2048) : ((cfg0.win 8).blk t).view.emb (ix2 e l) = ix2 e l := by
  obtain ⟨e0, e1⟩ := (places t).2.2.2.2.2.2.2.2.1
  refine funext fun a => Fin.ext ?_
  match a with
  | ⟨0, _⟩ => show win0_8.index t (0 : Fin 2) * 2048 + 1 * e.val = e.val; omega
  | ⟨1, _⟩ => show win0_8.index t (1 : Fin 2) * 2048 + 1 * l.val = l.val; omega

theorem emb9 (t : Fin cfg0.N) (e : Fin 256) (l : Fin 2048) : ((cfg0.win 9).blk t).view.emb (ix2 e l) = ix2 (row t e) l := by
  obtain ⟨e0, e1⟩ := (places t).2.2.2.2.2.2.2.2.2.1
  refine funext fun a => Fin.ext ?_
  match a with
  | ⟨0, _⟩ => show win0_9.index t (0 : Fin 2) * 256 + 1 * e.val = t.val * 256 + e.val; omega
  | ⟨1, _⟩ => show win0_9.index t (1 : Fin 2) * 2048 + 1 * l.val = l.val; omega

theorem emb10 (t : Fin cfg0.N) (l : Fin 2048) : ((cfg0.win 10).blk t).view.emb (ix2 0 l) = ix2 0 l := by
  obtain ⟨e0, e1⟩ := (places t).2.2.2.2.2.2.2.2.2.2.1
  refine funext fun a => Fin.ext ?_
  match a with
  | ⟨0, _⟩ => show win0_10.index t (0 : Fin 2) * 1 + 1 * 0 = 0; omega
  | ⟨1, _⟩ => show win0_10.index t (1 : Fin 2) * 2048 + 1 * l.val = l.val; omega

theorem emb11 (t : Fin cfg0.N) (e : Fin 256) (l : Fin 2048) : ((cfg0.win 11).blk t).view.emb (ix2 e l) = ix2 (row t e) l := by
  obtain ⟨e0, e1⟩ := (places t).2.2.2.2.2.2.2.2.2.2.2.1
  refine funext fun a => Fin.ext ?_
  match a with
  | ⟨0, _⟩ => show win0_11.index t (0 : Fin 2) * 256 + 1 * e.val = t.val * 256 + e.val; omega
  | ⟨1, _⟩ => show win0_11.index t (1 : Fin 2) * 2048 + 1 * l.val = l.val; omega

theorem emb12 (t : Fin cfg0.N) (e : Fin 256) (l : Fin 2048) : ((cfg0.win 12).blk t).view.emb (ix2 e l) = ix2 (row t e) l := by
  obtain ⟨e0, e1⟩ := (places t).2.2.2.2.2.2.2.2.2.2.2.2
  refine funext fun a => Fin.ext ?_
  match a with
  | ⟨0, _⟩ => show win0_12.index t (0 : Fin 2) * 256 + 1 * e.val = t.val * 256 + e.val; omega
  | ⟨1, _⟩ => show win0_12.index t (1 : Fin 2) * 2048 + 1 * l.val = l.val; omega

theorem iblk0 (c : Dev nD) (t : Fin cfg0.N) (e : Fin 1024) (i : Fin 256) :
    iblk m c 0 t (ix3 0 e i) = m ((c : Thread nD τ).loc main_arg0) (ix2 (row t i) e) := by
  refine (congrArg (V m c main_v1) (emb0 t e i)).trans ?_
  rw [read1]
  refine (turned_apply _ _ _ _).trans ?_
  rw [row_eq]

theorem iblk1 (c : Dev nD) (t : Fin cfg0.N) (e : Fin 1024) (i : Fin 256) :
    iblk m c 1 t (ix3 0 e i) = m ((c : Thread nD τ).loc main_arg1) (ix2 (row t i) e) := by
  refine (congrArg (V m c main_v3) (emb1 t e i)).trans ?_
  rw [read3]
  refine (turned_apply _ _ _ _).trans ?_
  rw [row_eq]

theorem iblk2 (c : Dev nD) (t : Fin cfg0.N) (e : Fin 1024) (l : Fin 2048) :
    iblk m c 2 t (ix2 e l) = m ((c : Thread nD τ).loc main_arg2) (ix2 ⟨e.val, by omega⟩ l) := by
  refine (congrArg (V m c main_v4) (emb2 t e l)).trans ?_
  rw [read4]

theorem iblk3 (c : Dev nD) (t : Fin cfg0.N) (e : Fin 1024) (l : Fin 2048) :
    iblk m c 3 t (ix2 e l) = m ((c : Thread nD τ).loc main_arg2) (ix2 ⟨1024 + e.val, by omega⟩ l) := by
  refine (congrArg (V m c main_v4) (emb3 t e l)).trans ?_
  rw [read4]

theorem iblk4 (c : Dev nD) (t : Fin cfg0.N) (l : Fin 2048) :
    iblk m c 4 t (ix2 0 l) = m ((c : Thread nD τ).loc main_arg3) (ix1 l) := by
  refine (congrArg (V m c main_v7) (emb4 t l)).trans ?_
  rw [read7]
  exact flat_apply _ l

theorem iblk5 (c : Dev nD) (t : Fin cfg0.N) (e : Fin 2048) (l : Fin 2048) :
    iblk m c 5 t (ix2 e l) = m ((c : Thread nD τ).loc main_arg4) (ix2 e l) := by
  refine (congrArg (V m c main_v5) (emb5 t e l)).trans ?_
  rw [read5]

theorem iblk6 (c : Dev nD) (t : Fin cfg0.N) (e : Fin 256) (l : Fin 2048) :
    iblk m c 6 t (ix2 e l) = m ((c : Thread nD τ).loc main_arg5) (ix2 (mem t e) (Mix.left l)) := by
  refine (congrArg (V m c main_arg5) (emb6 t e l)).trans ?_
  rw [V_main_arg5]

theorem iblk7 (c : Dev nD) (t : Fin cfg0.N) (e : Fin 256) (l : Fin 2048) :
    iblk m c 7 t (ix2 e l) = m ((c : Thread nD τ).loc main_arg5) (ix2 (mem t e) (Mix.right l)) := by
  refine (congrArg (V m c main_arg5) (emb7 t e l)).trans ?_
  rw [V_main_arg5]

theorem iblk8 (c : Dev nD) (t : Fin cfg0.N) (e : Fin 2048) (l : Fin 2048) :
    iblk m c 8 t (ix2 e l) = m ((c : Thread nD τ).loc main_arg6) (ix2 e l) := by
  refine (congrArg (V m c main_v6) (emb8 t e l)).trans ?_
  rw [read6]

theorem iblk9 (c : Dev nD) (t : Fin cfg0.N) (e : Fin 256) (l : Fin 2048) :
    iblk m c 9 t (ix2 e l) = m ((c : Thread nD τ).loc main_arg7) (ix2 (row t e) l) := by
  refine (congrArg (V m c main_arg7) (emb9 t e l)).trans ?_
  rw [V_main_arg7]

theorem iblk10 (c : Dev nD) (t : Fin cfg0.N) (l : Fin 2048) :
    iblk m c 10 t (ix2 0 l) = m ((c : Thread nD τ).loc main_arg8) (ix1 l) := by
  refine (congrArg (V m c main_v8) (emb10 t l)).trans ?_
  rw [read8]
  exact flat_apply _ l

/-- A block's row, given its operands' entries. -/
theorem outRow_eq (x0 x1 : FVec Ideal S1x1024x256 .bf16) (x2 x3 : FVec Ideal S1024x2048 .bf16) (x4 : FVec Ideal S1x2048 .f32)
    (x5 : FVec Ideal S2048x2048 .bf16) (x6 x7 : FVec Ideal S256x2048 .bf16) (x8 : FVec Ideal S2048x2048 .bf16)
    (x9 : FVec Ideal S256x2048 .f32) (i : Fin 256)
    (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32) (r : Fin 8192)
    (h0 : ∀ e, x0 (ix3 0 e i) = A (ix2 r e)) (h1 : ∀ e, x1 (ix3 0 e i) = B (ix2 r e))
    (h2 : ∀ e l, x2 (ix2 e l) = W (ix2 ⟨e.val, by omega⟩ l)) (h3 : ∀ e l, x3 (ix2 e l) = W (ix2 ⟨1024 + e.val, by omega⟩ l))
    (h4 : ∀ l, x4 (ix2 0 l) = g (ix1 l)) (h5 : ∀ d l, x5 (ix2 d l) = WQ (ix2 d l))
    (h6 : ∀ n l, x6 (ix2 n l) = KV (ix2 (Mix.memRow r n) (Mix.left l))) (h7 : ∀ n l, x7 (ix2 n l) = KV (ix2 (Mix.memRow r n) (Mix.right l)))
    (h8 : ∀ d l, x8 (ix2 d l) = WO (ix2 d l)) (h9 : ∀ l, x9 (ix2 i l) = H (ix2 r l)) :
    outRow x0 x1 x2 x3 x4 x5 x6 x7 x8 x9 i = resRow A B W g WQ KV WO H r := by
  have hx : mixedRow x0 x1 x2 x3 x9 i = Mix.joined (fun r e => A (ix2 r e)) (fun r e => B (ix2 r e)) (fun e l => W (ix2 e l)) (fun r l => H (ix2 r l)) r := by
    funext l
    unfold mixedRow Mix.joined
    simp only [h0, h1, h2, h3, h9]
  unfold outRow resRow Mix.result
  rw [hx]
  simp only [h4, h5, h6, h7, h8]

theorem rowAt (c : Dev nD) (t : Fin cfg0.N) (i : Fin 256) :
    outRow (iblk m c 0 t) (iblk m c 1 t) (iblk m c 2 t) (iblk m c 3 t) (iblk m c 4 t) (iblk m c 5 t) (iblk m c 6 t) (iblk m c 7 t)
      (iblk m c 8 t) (iblk m c 9 t) i
    = resRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (row t i) :=
  outRow_eq _ _ _ _ _ _ _ _ _ _ i _ _ _ _ _ _ _ _ (row t i) (fun e => iblk0 m c t e i) (fun e => iblk1 m c t e i) (fun e l => iblk2 m c t e l)
    (fun e l => iblk3 m c t e l) (fun l => iblk4 m c t l) (fun d l => iblk5 m c t d l)
    (fun n l => (iblk6 m c t n l).trans (by rw [memRow_row])) (fun n l => (iblk7 m c t n l).trans (by rw [memRow_row]))
    (fun d l => iblk8 m c t d l) (fun l => iblk9 m c t i l)

/-- The first result, of what the memory holds. -/
def mem0 (c : Dev nD) : FVec Ideal S8192x2048 .f32 :=
  res0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The second result, of what the memory holds. -/
def mem1 (c : Dev nD) : FVec Ideal S8192x2048 .bf16 :=
  res1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem written0 (c : Dev nD) (t : Fin cfg0.N) :
    (dats m 0 c).flushed 11 t = ((cfg0.win 11).blk t).view.read (Elt Ideal) (mem0 m c) := by
  rw [flushed11]
  funext x
  obtain ⟨i, j, rfl⟩ : ∃ (i : Fin 256) (j : Fin 2048), x = ix2 i j := ⟨x 0, x 1, eq_ix2 x⟩
  refine (out11_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) i j).trans ?_
  refine Eq.trans ?_ (congrArg (mem0 m c) (emb11 t i j)).symm
  exact congrFun (rowAt m c t i) j

theorem written1 (c : Dev nD) (t : Fin cfg0.N) :
    (dats m 0 c).flushed 12 t = ((cfg0.win 12).blk t).view.read (Elt Ideal) (mem1 m c) := by
  rw [flushed12]
  funext x
  obtain ⟨i, j, rfl⟩ : ∃ (i : Fin 256) (j : Fin 2048), x = ix2 i j := ⟨x 0, x 1, eq_ix2 x⟩
  refine (out12_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) i j).trans ?_
  refine Eq.trans ?_ (congrArg (mem1 m c) (emb12 t i j)).symm
  exact congr (congrArg₂ Mix.rms (rowAt m c t i) (funext fun l => iblk10 m c t l)) rfl

/-- A row is in some point's block. -/
theorem row_of (r : Fin 8192) : ∃ (t : Fin cfg0.N) (i : Fin 256), row t i = r :=
  ⟨⟨r.val / 256, by have : cfg0.N = 32 := N_0; omega⟩, ⟨r.val % 256, by omega⟩, Fin.ext (Nat.div_add_mod' r.val 256)⟩

theorem covered0 (x : S8192x2048.Idx) : ∃ t : Fin cfg0.N, (cfg0.win 11).flush t = true ∧ x ∈ ((cfg0.win 11).blk t).view.set := by
  obtain ⟨r, l, rfl⟩ : ∃ (r : Fin 8192) (l : Fin 2048), x = ix2 r l := ⟨x 0, x 1, eq_ix2 x⟩
  obtain ⟨t, i, rfl⟩ := row_of r
  have e := ((cfg0.win 11).blk t).view.emb_mem_set (ix2 i l)
  rw [emb11] at e
  exact ⟨t, flush0_11 _, e⟩

theorem covered1 (x : S8192x2048.Idx) : ∃ t : Fin cfg0.N, (cfg0.win 12).flush t = true ∧ x ∈ ((cfg0.win 12).blk t).view.set := by
  obtain ⟨r, l, rfl⟩ : ∃ (r : Fin 8192) (l : Fin 2048), x = ix2 r l := ⟨x 0, x 1, eq_ix2 x⟩
  obtain ⟨t, i, rfl⟩ := row_of r
  have e := ((cfg0.win 12).blk t).view.emb_mem_set (ix2 i l)
  rw [emb12] at e
  exact ⟨t, flush0_12 _, e⟩

/-- The first result after the run. -/
theorem final0 (c : Dev nD) : (dats m 0 c).arrAt 11 cfg0.N = mem0 m c :=
  (dats m 0 c).arrAt_eq_of_cover 11 (mem0 m c) (fun t _ => written0 m c t) covered0

/-- The second result after the run. -/
theorem final1 (c : Dev nD) : (dats m 0 c).arrAt 12 cfg0.N = mem1 m c :=
  (dats m 0 c).arrAt_eq_of_cover 12 (mem1 m c) (fun t _ => written1 m c t) covered1

end Cert.Kernel4Ideal.Hand
-- ==== Proof.Mix.lean ====
/-
  The mixing and cross-attention call: the reference's two results, what the precondition says of the arguments, and
  that the call leaves what the reference computes.
-/
module

public import proofs.«01_k».proof.Defs
public import proofs.«01_k».proof.Proof.Gen.Pre_finite_arguments
public import proofs.«01_k».proof.Proof.MixMath
public import proofs.«01_k».proof.Proof.MixRef
public import proofs.«01_k».proof.Proof.MixRun
public import Idealize.ShloMosaic.Lib.ReduceAll

@[expose] public section

set_option maxRecDepth 16384

noncomputable section

namespace Cert.Reference4Ideal.Hand

open Cert.Reference4Ideal Cert.Reference4Ideal.Gen
open Idealize.ShloMosaic

/-- The scores of the joined rows' queries and the keys. -/
def refScores (X : FVec Ideal S8192x2048 .f32) (g : FVec Ideal S2048 .f32) (WQ : FVec Ideal S2048x2048 .f32) (KV : FVec Ideal S1024x4096 .bf16) :
    FVec Ideal S4x4x2048x256 .f32 := refS (refQ (refP (refN X g) WQ)) (refK KV)

/-- The heads' outputs from the scores, side by side. -/
def refHeads (S : FVec Ideal S4x4x2048x256 .f32) (KV : FVec Ideal S1024x4096 .bf16) : FVec Ideal S8192x2048 .f32 :=
  refF (refO (refV KV) (refD (refE S (refT (refM S)))))

/-- The first result from the joined rows. -/
def refAdded (X : FVec Ideal S8192x2048 .f32) (g : FVec Ideal S2048 .f32) (WQ : FVec Ideal S2048x2048 .f32) (KV : FVec Ideal S1024x4096 .bf16)
    (WO : FVec Ideal S2048x2048 .f32) : FVec Ideal S8192x2048 .f32 := addf X (refP (refHeads (refScores X g WQ KV) KV) WO)

/-- The second result from the first. -/
def refLast (Y : FVec Ideal S8192x2048 .f32) (g2 : FVec Ideal S2048 .f32) : FVec Ideal S8192x2048 .bf16 := truncf .bf16 (refN Y g2) bitsLt_bf16_f32

theorem part_of (h : Fin 4) (e d : Fin 512) (p) (p') : Mix.part ⟨h.val * 512 + e.val, p⟩ d = ⟨h.val * 512 + d.val, p'⟩ :=
  Fin.ext (by show (h.val * 512 + e.val) / 512 * 512 + d.val = h.val * 512 + d.val; omega)

theorem memRow_of (b : Fin 4) (t : Fin 2048) (n : Fin 256) (p) (p') : Mix.memRow ⟨b.val * 2048 + t.val, p⟩ n = ⟨b.val * 256 + n.val, p'⟩ :=
  Fin.ext (by show (b.val * 2048 + t.val) / 2048 * 256 + n.val = b.val * 256 + n.val; omega)

theorem refHeads_apply (q : FVec Ideal S8192x2048 .f32) (KV : FVec Ideal S1024x4096 .bf16) (r : Fin 8192) (c : Fin 2048) :
    refHeads (refS (refQ q) (refK KV)) KV (ix2 r c) = Mix.headRef (fun e => q (ix2 r (Mix.part c e)))
      (fun n e => KV (ix2 (Mix.memRow r n) (Mix.left (Mix.part c e)))) fun n => KV (ix2 (Mix.memRow r n) (Mix.right c)) := by
  obtain ⟨b, t, rfl⟩ : ∃ (b : Fin 4) (t : Fin 2048), r = ⟨b.val * 2048 + t.val, by omega⟩ :=
    ⟨⟨r.val / 2048, by omega⟩, ⟨r.val % 2048, by omega⟩, Fin.ext (Nat.div_add_mod' r.val 2048).symm⟩
  obtain ⟨h, e, rfl⟩ : ∃ (h : Fin 4) (e : Fin 512), c = ⟨h.val * 512 + e.val, by omega⟩ :=
    ⟨⟨c.val / 512, by omega⟩, ⟨c.val % 512, by omega⟩, Fin.ext (Nat.div_add_mod' c.val 512).symm⟩
  have hp : ∀ d : Fin 512, Mix.part ⟨h.val * 512 + e.val, by omega⟩ d = ⟨h.val * 512 + d.val, by omega⟩ := fun d => part_of h e d _ _
  have hm : ∀ n : Fin 256, Mix.memRow ⟨b.val * 2048 + t.val, by omega⟩ n = ⟨b.val * 256 + n.val, by omega⟩ := fun n => memRow_of b t n _ _
  simp only [hp, hm]
  have hs : (fun n : Fin 256 => refS (refQ q) (refK KV) (ix4 b h t n)) = Mix.score (fun d => q (ix2 ⟨b.val * 2048 + t.val, by omega⟩ ⟨h.val * 512 + d.val, by omega⟩))
      (fun n d => KV (ix2 ⟨b.val * 256 + n.val, by omega⟩ (Mix.left ⟨h.val * 512 + d.val, by omega⟩))) := by
    funext n
    refine (refS_apply _ _ b h t n).trans ?_
    unfold Mix.score
    simp only [refQ_apply, refK_apply]
    rfl
  have hw : ∀ n : Fin 256, refE (refS (refQ q) (refK KV)) (refT (refM (refS (refQ q) (refK KV)))) (ix4 b h t n)
      = Mix.weight (fun d => q (ix2 ⟨b.val * 2048 + t.val, by omega⟩ ⟨h.val * 512 + d.val, by omega⟩))
      (fun n d => KV (ix2 ⟨b.val * 256 + n.val, by omega⟩ (Mix.left ⟨h.val * 512 + d.val, by omega⟩))) n := by
    intro n
    refine (refE_apply _ _ b h t n).trans ?_
    unfold Mix.weight
    rw [refT_apply, refM_apply, hs]
    exact congrArg (fun z => Ideal.exp (z - _)) (congrFun hs n)
  unfold refHeads
  refine (refF_apply _ b t h e).trans ?_
  refine (refO_apply _ _ b h t e).trans ?_
  unfold Mix.headRef
  refine Finset.sum_congr rfl fun n _ => ?_
  rw [refV_apply, refD_apply]
  simp only [hw]
  rfl

end Cert.Reference4Ideal.Hand

namespace Cert.Proof

open Idealize.ShloMosaic Idealize.ShloMosaic.TcCoe Idealize.SL.Sem
open Cert.Reference4Ideal Cert.Reference4Ideal.Hand

theorem scale_eq : Cert.Kernel4Ideal.Hand.scale = (Mix.factor : EReal) := IdealRules.named_const.ideal_named_scalar _ _ _ _ rfl

/-- The reference's first result is the call's, when the arguments are real. -/
theorem res0_eq (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32)
    (hA : ∀ x, Mix.IsReal (A x)) (hB : ∀ x, Mix.IsReal (B x)) (hW : ∀ x, Mix.IsReal (W x)) (hg : ∀ x, Mix.IsReal (g x))
    (hWQ : ∀ x, Mix.IsReal (WQ x)) (hKV : ∀ x, Mix.IsReal (KV x)) (hH : ∀ x, Mix.IsReal (H x)) (r : Fin 8192) (j : Fin 2048) :
    refAdded (refX A B W H) g WQ KV WO (ix2 r j) = Cert.Kernel4Ideal.Hand.resRow A B W g WQ KV WO H r j := by
  have hX : (fun l => refX A B W H (ix2 r l))
      = Mix.joined (fun r e => A (ix2 r e)) (fun r e => B (ix2 r e)) (fun e l => W (ix2 e l)) (fun r l => H (ix2 r l)) r :=
    funext fun l => refX_apply A B W H r l
  have hXr : ∀ l, Mix.IsReal (Mix.joined (fun r e => A (ix2 r e)) (fun r e => B (ix2 r e)) (fun e l => W (ix2 e l)) (fun r l => H (ix2 r l)) r l) :=
    fun l => Mix.isReal_mixed (hH _) (fun e => hA _) (fun e => hB _) (fun e => hW _) (fun e => hW _)
  unfold Cert.Kernel4Ideal.Hand.resRow Mix.result Mix.added
  rw [scale_eq]
  show refX A B W H (ix2 r j) + refP (refHeads (refScores (refX A B W H) g WQ KV) KV) WO (ix2 r j) = _
  refine congr (congrArg (· + ·) (congrFun hX j)) ?_
  refine (refP_apply _ _ r j).trans (Finset.sum_congr rfl fun c _ => congrArg (· * WO (ix2 c j)) ?_)
  refine (refHeads_apply _ KV r c).trans ?_
  have hq : ∀ d : Fin 2048, refP (refN (refX A B W H) g) WQ (ix2 r d) = ∑ l : Fin 2048, Mix.rms
      (Mix.joined (fun r e => A (ix2 r e)) (fun r e => B (ix2 r e)) (fun e l => W (ix2 e l)) (fun r l => H (ix2 r l)) r) (fun l => g (ix1 l)) l * WQ (ix2 l d) := by
    intro d
    refine (refP_apply _ _ r d).trans (Finset.sum_congr rfl fun l _ => congrArg (· * WQ (ix2 l d)) ?_)
    rw [refN_apply, hX]
  simp only [hq]
  exact (Mix.headOut_eq (fun e => Mix.IsReal.sum fun l => (Mix.isReal_rms hXr (fun l => hg _) l).mul (hWQ _)) (fun n e => hKV _) (fun n => hKV _)).symm

theorem res_eq0 (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32)
    (hA : ∀ x, Mix.IsReal (A x)) (hB : ∀ x, Mix.IsReal (B x)) (hW : ∀ x, Mix.IsReal (W x)) (hg : ∀ x, Mix.IsReal (g x))
    (hWQ : ∀ x, Mix.IsReal (WQ x)) (hKV : ∀ x, Mix.IsReal (KV x)) (hH : ∀ x, Mix.IsReal (H x)) :
    refAdded (refX A B W H) g WQ KV WO = Cert.Kernel4Ideal.Hand.res0 A B W g WQ KV WO H := by
  funext x
  obtain ⟨r, j, rfl⟩ : ∃ (r : Fin 8192) (j : Fin 2048), x = ix2 r j := ⟨x 0, x 1, eq_ix2 x⟩
  exact res0_eq A B W g WQ KV WO H hA hB hW hg hWQ hKV hH r j

theorem res_eq1 (A B : FVec Ideal S8192x1024 .bf16) (W : FVec Ideal S2048x2048 .f32) (g : FVec Ideal S2048 .f32) (WQ : FVec Ideal S2048x2048 .f32)
    (KV : FVec Ideal S1024x4096 .bf16) (WO : FVec Ideal S2048x2048 .f32) (H : FVec Ideal S8192x2048 .f32) (g2 : FVec Ideal S2048 .f32)
    (hA : ∀ x, Mix.IsReal (A x)) (hB : ∀ x, Mix.IsReal (B x)) (hW : ∀ x, Mix.IsReal (W x)) (hg : ∀ x, Mix.IsReal (g x))
    (hWQ : ∀ x, Mix.IsReal (WQ x)) (hKV : ∀ x, Mix.IsReal (KV x)) (hH : ∀ x, Mix.IsReal (H x)) :
    refLast (refAdded (refX A B W H) g WQ KV WO) g2 = Cert.Kernel4Ideal.Hand.res1 A B W g WQ KV WO H g2 := by
  funext x
  obtain ⟨r, j, rfl⟩ : ∃ (r : Fin 8192) (j : Fin 2048), x = ix2 r j := ⟨x 0, x 1, eq_ix2 x⟩
  refine (refN_apply (refAdded (refX A B W H) g WQ KV WO) g2 r j).trans ?_
  exact congrArg (fun f => Mix.rms f (fun l => g2 (ix1 l)) j)
    (funext fun l => res0_eq A B W g WQ KV WO H hA hB hW hg hWQ hKV hH r l)

theorem ref0_term (m : (ℓ : Loc nD τ sig) → Buf (Elt Ideal) ℓ) (c : Dev nD) : Cert.Reference4Ideal.Value.res_main_v43 (F := Ideal) m c
    = refAdded (refX (m ((c.tc : Thread nD τ).loc main_arg0)) (m ((c.tc : Thread nD τ).loc main_arg1)) (m ((c.tc : Thread nD τ).loc main_arg2))
        (m ((c.tc : Thread nD τ).loc main_arg7))) (m ((c.tc : Thread nD τ).loc main_arg3)) (m ((c.tc : Thread nD τ).loc main_arg4))
        (m ((c.tc : Thread nD τ).loc main_arg5)) (m ((c.tc : Thread nD τ).loc main_arg6)) := by
  unfold Cert.Reference4Ideal.Value.res_main_v43 refAdded refHeads refScores refX refP refF refO refV refD refE refT refM refS refQ refK refN
  rfl

theorem ref1_term (m : (ℓ : Loc nD τ sig) → Buf (Elt Ideal) ℓ) (c : Dev nD) : Cert.Reference4Ideal.Value.res_main_v57 (F := Ideal) m c
    = refLast (refAdded (refX (m ((c.tc : Thread nD τ).loc main_arg0)) (m ((c.tc : Thread nD τ).loc main_arg1)) (m ((c.tc : Thread nD τ).loc main_arg2))
        (m ((c.tc : Thread nD τ).loc main_arg7))) (m ((c.tc : Thread nD τ).loc main_arg3)) (m ((c.tc : Thread nD τ).loc main_arg4))
        (m ((c.tc : Thread nD τ).loc main_arg5)) (m ((c.tc : Thread nD τ).loc main_arg6))) (m ((c.tc : Thread nD τ).loc main_arg8)) := by
  unfold Cert.Reference4Ideal.Value.res_main_v57 refLast refAdded refHeads refScores refX refP refF refO refV refD refE refT refM refS refQ refK refN
  rfl

/-! ### The precondition -/

/-- An absolute value below infinity is a real number's. -/
theorem isReal_of_abs_lt {x : EReal} (h : max x (-x) < ⊤) : Mix.IsReal x := by
  refine ⟨x.toReal, (EReal.coe_toReal (fun e => ?_) (fun e => ?_)).symm⟩
  · subst e; simp at h
  · subst e; simp at h

theorem infinity32 : Ideal.ofBits .f32 0x7F800000#32 = ⊤ := by simp [Ideal.ofBits, Ideal.ieee]
theorem infinity16 : Ideal.ofBits .bf16 0x7F80#16 = ⊤ := by simp [Ideal.ofBits, Ideal.ieee]

theorem real_of_one {x y : EReal} (hy : y = ⊤) (h : Ideal.cmp .olt (max x (-x)) y = 1#1) : Mix.IsReal x := by
  subst hy
  refine isReal_of_abs_lt (lt_of_not_ge fun hn => ?_)
  rw [Ideal.cmp] at h
  simp [hn.not_gt] at h

/-- What the precondition says of the arguments: every entry is a real number. -/
theorem reals (A B : FVec Ideal Cert.Pre_finite_arguments.S8192x1024 .bf16) (W : FVec Ideal Cert.Pre_finite_arguments.S2048x2048 .f32)
    (g : FVec Ideal Cert.Pre_finite_arguments.S2048 .f32) (WQ : FVec Ideal Cert.Pre_finite_arguments.S2048x2048 .f32)
    (KV : FVec Ideal Cert.Pre_finite_arguments.S1024x4096 .bf16) (WO : FVec Ideal Cert.Pre_finite_arguments.S2048x2048 .f32)
    (H : FVec Ideal Cert.Pre_finite_arguments.S8192x2048 .f32) (g2 : FVec Ideal Cert.Pre_finite_arguments.S2048 .f32)
    (h : Cert.Pre_finite_arguments.fn (F := Ideal) A B W g WQ KV WO H g2 = fun _ => 1#1) :
    (∀ x, Mix.IsReal (A x)) ∧ (∀ x, Mix.IsReal (B x)) ∧ (∀ x, Mix.IsReal (W x)) ∧ (∀ x, Mix.IsReal (g x)) ∧ (∀ x, Mix.IsReal (WQ x))
    ∧ (∀ x, Mix.IsReal (KV x)) ∧ ∀ x, Mix.IsReal (H x) := by
  have e := congrFun h ix0
  unfold Cert.Pre_finite_arguments.fn Cert.Pre_finite_arguments.fn_part1 at e
  obtain ⟨e, e7⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite_arguments.S_.Idx := ⟨fun a b => funext fun i => i.elim0⟩
  exact ⟨fun x => real_of_one infinity16 (Host.reduce_andi_all _ _ _ _ _ e0 x), fun x => real_of_one infinity16 (Host.reduce_andi_all _ _ _ _ _ e1 x),
    fun x => real_of_one infinity32 (Host.reduce_andi_all _ _ _ _ _ e2 x), fun x => real_of_one infinity32 (Host.reduce_andi_all _ _ _ _ _ e3 x),
    fun x => real_of_one infinity32 (Host.reduce_andi_all _ _ _ _ _ e4 x), fun x => real_of_one infinity16 (Host.reduce_andi_all _ _ _ _ _ e5 x),
    fun x => real_of_one infinity32 (Host.reduce_andi_all _ _ _ _ _ e7 x)⟩

/-- The named scale: its value, and the word that the kernel holds for it. -/
theorem preserves4 : Cert.preserves_Kernel4_Kernel4Ideal :=
  IdealRules.named_const.statement Cert.Kernel4Ideal.κ "scale" .f32 0x3D8293EE#32 (((Real.sqrt 512)⁻¹ * (Real.log 2)⁻¹ : ℝ) : EReal) rfl

/-- The call's two results are the reference's, over the extended reals, when the arguments are finite. -/
theorem algebraic4 : Cert.algebraic_Kernel4Ideal_Reference4Ideal_pre_finite_arguments := by
  intro m g m' g' hp hm
  refine ⟨fun c => Cert.Kernel4Ideal.Hand.mem0 m c, fun c => Cert.Kernel4Ideal.Hand.mem1 m c, ?_, ?_⟩
  · refine (θ_run Cert.Kernel4Ideal.defs _ _).mono (fun r h c => ?_) (Cert.Kernel4Ideal.Value.run_blocks (F := Ideal) m g)
    obtain ⟨h0, h1, ha⟩ := h c
    exact ⟨h0.trans (Cert.Kernel4Ideal.Hand.final0 m c), h1.trans (Cert.Kernel4Ideal.Hand.final1 m c), ha⟩
  · refine (θ_run Cert.Reference4Ideal.defs _ _).mono (fun r h c => ?_) (Cert.Reference4Ideal.Value.run (F := Ideal) m' g')
    obtain ⟨h0, h1, ha⟩ := h c
    obtain ⟨a0, a1, a2, a3, a4, a5, a6, a7, a8⟩ := hm c
    obtain ⟨r0, r1, r2, r3, r4, r5, r7⟩ := reals _ _ _ _ _ _ _ _ _ (hp c)
    refine ⟨(h0.trans (ref0_term m' c)).trans ?_, (h1.trans (ref1_term m' c)).trans ?_, ha⟩
    · rw [a0, a1, a2, a3, a4, a5, a6, a7]
      exact res_eq0 _ _ _ _ _ _ _ _ r0 r1 r2 r3 r4 r5 r7
    · rw [a0, a1, a2, a3, a4, a5, a6, a7, a8]
      exact res_eq1 _ _ _ _ _ _ _ _ _ r0 r1 r2 r3 r4 r5 r7

end Cert.Proof
-- ==== Proof.Norm.lean ====
/-
  The norm before the input projection, a call of its own: the call's blocks read at an index, the array the run leaves, the reference's
  result, the two together, and the frames.
-/
module

public import proofs.«01_k».proof.Defs
public import proofs.«01_k».proof.Proof.MixSpec
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Quiescent

@[expose] public section

set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.SL.Sem

variable (m : (ℓ : Loc nD τ sig) → Buf (Elt Ideal) ℓ)

/-- The norm before the input projection: every row normalised, with the gain. -/
def normed (x : FVec Ideal S8192x2048 .f32) (g : FVec Ideal S2048 .f32) : FVec Ideal S8192x2048 .bf16 :=
  fun y => Mix.rms (fun l => x (ix2 (y 0) l)) (fun l => g (ix1 l)) (y 1)

/-- The gain as a single row. -/
def flat (g : FVec Ideal S2048 .f32) : FVec Ideal S1x2048 .f32 := shapeCast S1x2048 g shapeCasts_S2048_S1x2048

theorem flat_apply (g : FVec Ideal S2048 .f32) (l : Fin 2048) : flat g (ix2 0 l) = g (ix1 l) := by
  pointwise [flat]

theorem read0 (c : Dev nD) : V m c main_v0 = flat (m ((c : Thread nD τ).loc main_arg1)) := by unfold V; after_results; rfl

theorem pay_apply (x : FVec Ideal S512x2048 .f32) (g : FVec Ideal S1x2048 .f32) (i : Fin 512) (j : Fin 2048) :
    k0_pay1 (F := Ideal) x g (ix2 i j) = Mix.rms (fun l => x (ix2 i l)) (fun l => g (ix2 0 l)) j := by
  pointwise [k0_pay1, Mix.rms]

theorem off2 : (![0, 0] : Fin 2 → Nat) = fun _ => 0 := funext fun a => by fin_cases a <;> rfl

theorem out_eq (x : FVec Ideal S512x2048 .f32) (g : FVec Ideal S1x2048 .f32) : out0_2 (F := Ideal) x g = k0_pay1 (F := Ideal) x g := by
  unfold out0_2
  rw [View.canon_unit_zero off2, View.ld_unit_zero off2, View.ld_unit_zero off2]

/-- The blocks' places in their arrays at each grid point. -/
theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `i` of row block `t`. -/
def row (t : Fin cfg0.N) (i : Fin 512) : Fin 8192 := ⟨t.val * 512 + i.val, by have := t.isLt; have : cfg0.N = 16 := N_0; omega⟩

theorem emb0 (t : Fin cfg0.N) (i : Fin 512) (l : Fin 2048) : ((cfg0.win 0).blk t).view.emb (ix2 i l) = ix2 (row t i) l := by
  obtain ⟨e0, e1, _⟩ := places t
  refine funext fun a => Fin.ext ?_
  match a with
  | ⟨0, _⟩ => show win0_0.index t (0 : Fin 2) * 512 + 1 * i.val = t.val * 512 + i.val; omega
  | ⟨1, _⟩ => show win0_0.index t (1 : Fin 2) * 2048 + 1 * l.val = l.val; omega

theorem emb1 (t : Fin cfg0.N) (l : Fin 2048) : ((cfg0.win 1).blk t).view.emb (ix2 0 l) = ix2 0 l := by
  obtain ⟨_, _, e0, e1, _⟩ := places t
  refine funext fun a => Fin.ext ?_
  match a with
  | ⟨0, _⟩ => show win0_1.index t (0 : Fin 2) * 1 + 1 * 0 = 0; omega
  | ⟨1, _⟩ => show win0_1.index t (1 : Fin 2) * 2048 + 1 * l.val = l.val; omega

theorem emb2 (t : Fin cfg0.N) (i : Fin 512) (l : Fin 2048) : ((cfg0.win 2).blk t).view.emb (ix2 i l) = ix2 (row t i) l := by
  obtain ⟨_, _, _, _, e0, e1⟩ := places t
  refine funext fun a => Fin.ext ?_
  match a with
  | ⟨0, _⟩ => show win0_2.index t (0 : Fin 2) * 512 + 1 * i.val = t.val * 512 + i.val; omega
  | ⟨1, _⟩ => show win0_2.index t (1 : Fin 2) * 2048 + 1 * l.val = l.val; omega

theorem iblk0 (c : Dev nD) (t : Fin cfg0.N) (i : Fin 512) (l : Fin 2048) :
    iblk m c 0 t (ix2 i l) = m ((c : Thread nD τ).loc main_arg0) (ix2 (row t i) l) := by
  refine (congrArg (V m c main_arg0) (emb0 t i l)).trans ?_
  rw [V_main_arg0]

theorem iblk1 (c : Dev nD) (t : Fin cfg0.N) (l : Fin 2048) :
    iblk m c 1 t (ix2 0 l) = m ((c : Thread nD τ).loc main_arg1) (ix1 l) := by
  refine (congrArg (V m c main_v0) (emb1 t l)).trans ?_
  rw [read0]
  exact flat_apply _ l

/-- What a point writes back is its block of rows, normalised. -/
theorem flushed (c : Dev nD) (t : Fin cfg0.N) : (dats m 0 c).flushed 2 t = ((cfg0.win 2).blk t).view.read (Elt Ideal)
    (normed (m ((c : Thread nD τ).loc main_arg0)) (m ((c : Thread nD τ).loc main_arg1))) := by
  rw [flushed2, out_eq]
  funext x
  obtain ⟨i, j, rfl⟩ : ∃ (i : Fin 512) (j : Fin 2048), x = ix2 i j := ⟨x 0, x 1, eq_ix2 x⟩
  refine (pay_apply (iblk m c 0 t) (iblk m c 1 t) i j).trans ?_
  refine Eq.trans ?_ (congrArg (normed (m ((c : Thread nD τ).loc main_arg0)) (m ((c : Thread nD τ).loc main_arg1))) (emb2 t i j)).symm
  exact congrArg₂ (fun f g => Mix.rms f g j) (funext fun l => iblk0 m c t i l) (funext fun l => iblk1 m c t l)

/-- Every place of the result is in some point's block. -/
theorem covered (x : S8192x2048.Idx) : ∃ t : Fin cfg0.N, (cfg0.win 2).flush t = true ∧ x ∈ ((cfg0.win 2).blk t).view.set := by
  obtain ⟨i, l, rfl⟩ : ∃ (i : Fin 8192) (l : Fin 2048), x = ix2 i l := ⟨x 0, x 1, eq_ix2 x⟩
  have h : i.val / 512 < cfg0.N := by have : cfg0.N = 16 := N_0; omega
  refine ⟨⟨i.val / 512, h⟩, flush0_2 _, ?_⟩
  have e := ((cfg0.win 2).blk ⟨i.val / 512, h⟩).view.emb_mem_set (ix2 (⟨i.val % 512, by omega⟩ : Fin 512) l)
  rw [emb2] at e
  have hi : row ⟨i.val / 512, h⟩ (⟨i.val % 512, by omega⟩ : Fin 512) = i := Fin.ext (Nat.div_add_mod' i.val 512)
  rwa [hi] at e

/-- The result after the run: the argument's rows, normalised. -/
theorem final (c : Dev nD) : (dats m 0 c).arrAt 2 cfg0.N
    = normed (m ((c : Thread nD τ).loc main_arg0)) (m ((c : Thread nD τ).loc main_arg1)) :=
  (dats m 0 c).arrAt_eq_of_cover 2 _ (fun t _ => flushed m c t) covered

end Cert.Kernel5Ideal.Hand

namespace Cert.Reference5Ideal.Hand

open Cert.Reference5Ideal Cert.Reference5Ideal.Gen
open Idealize.ShloMosaic

/-- The reference's term: the rows scaled by the inverse root of their mean square, and by the gain. -/
def refN (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf
      (Host.divf (broadcastInDim S8192x1 ![0] bcast_S8192_S8192x1_0 (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

theorem refN_apply (x : FVec Ideal S8192x2048 .f32) (g : FVec Ideal S2048 .f32) (r : Fin 8192) (j : Fin 2048) :
    refN x g (ix2 r j) = Mix.rms (fun l => x (ix2 r l)) (fun l => g (ix1 l)) j := by
  pointwise [refN, Mix.rms]

end Cert.Reference5Ideal.Hand

namespace Cert.Proof

open Idealize.ShloMosaic Idealize.ShloMosaic.TcCoe Idealize.SL.Sem

theorem norm5_eq (x : FVec Ideal Cert.Kernel5Ideal.S8192x2048 .f32) (g : FVec Ideal Cert.Kernel5Ideal.S2048 .f32) :
    Cert.Reference5Ideal.Hand.refN x g = Cert.Kernel5Ideal.Hand.normed x g := by
  funext y
  obtain ⟨i, j, rfl⟩ : ∃ (i : Fin 8192) (j : Fin 2048), y = ix2 i j := ⟨y 0, y 1, eq_ix2 y⟩
  exact Cert.Reference5Ideal.Hand.refN_apply x g i j

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The call's result is the reference's, over the extended reals. -/
theorem algebraic5 : Cert.algebraic_Kernel5Ideal_Reference5Ideal := by
  intro m g m' g' _ hm
  refine ⟨fun c => Cert.Kernel5Ideal.Hand.normed (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun r h c => ?_) (Cert.Kernel5Ideal.Value.run_blocks (F := Ideal) m g)
    exact ⟨(h c).1.trans (Cert.Kernel5Ideal.Hand.final m c), (h c).2⟩
  · refine (θ_run Cert.Reference5Ideal.defs _ _).mono (fun r h c => ?_) (Cert.Reference5Ideal.Value.run (F := Ideal) m' g')
    obtain ⟨h0, ha⟩ := h c
    obtain ⟨e0, e1⟩ := hm c
    refine ⟨h0.trans ?_, ha⟩
    rw [e0, e1]
    exact norm5_eq _ _

end Cert.Proof
-- ==== Proof.NormMem.lean ====
/-
  The norm of the memory, a call of its own: the call's blocks read at an index, the array the run leaves, the reference's
  result, the two together, and the frames.
-/
module

public import proofs.«01_k».proof.Defs
public import proofs.«01_k».proof.Proof.MixSpec
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Quiescent

@[expose] public section

set_option maxRecDepth 16384

noncomputable section

namespace Cert.Kernel6Ideal.Hand

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ)

/-- The norm of the memory: every row normalised, with the gain. -/
def normed (x : FVec Ideal S1024x2048 .f32) (g : FVec Ideal S2048 .f32) : FVec Ideal S1024x2048 .bf16 :=
  fun y => Mix.rms (fun l => x (ix2 (y 0) l)) (fun l => g (ix1 l)) (y 1)

/-- The gain as a single row. -/
def flat (g : FVec Ideal S2048 .f32) : FVec Ideal S1x2048 .f32 := shapeCast S1x2048 g shapeCasts_S2048_S1x2048

theorem flat_apply (g : FVec Ideal S2048 .f32) (l : Fin 2048) : flat g (ix2 0 l) = g (ix1 l) := by
  pointwise [flat]

theorem read0 (c : Dev nD) : V m c main_v0 = flat (m ((c : Thread nD τ).loc main_arg1)) := by unfold V; after_results; rfl

theorem pay_apply (x : FVec Ideal S256x2048 .f32) (g : FVec Ideal S1x2048 .f32) (i : Fin 256) (j : Fin 2048) :
    k0_pay1 (F := Ideal) x g (ix2 i j) = Mix.rms (fun l => x (ix2 i l)) (fun l => g (ix2 0 l)) j := by
  pointwise [k0_pay1, Mix.rms]

theorem off2 : (![0, 0] : Fin 2 → Nat) = fun _ => 0 := funext fun a => by fin_cases a <;> rfl

theorem out_eq (x : FVec Ideal S256x2048 .f32) (g : FVec Ideal S1x2048 .f32) : out0_2 (F := Ideal) x g = k0_pay1 (F := Ideal) x g := by
  unfold out0_2
  rw [View.canon_unit_zero off2, View.ld_unit_zero off2, View.ld_unit_zero off2]

/-- The blocks' places in their arrays at each grid point. -/
theorem places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `i` of row block `t`. -/
def row (t : Fin cfg0.N) (i : Fin 256) : Fin 1024 := ⟨t.val * 256 + i.val, by have := t.isLt; have : cfg0.N = 4 := N_0; omega⟩

theorem emb0 (t : Fin cfg0.N) (i : Fin 256) (l : Fin 2048) : ((cfg0.win 0).blk t).view.emb (ix2 i l) = ix2 (row t i) l := by
  obtain ⟨e0, e1, _⟩ := places t
  refine funext fun a => Fin.ext ?_
  match a with
  | ⟨0, _⟩ => show win0_0.index t (0 : Fin 2) * 256 + 1 * i.val = t.val * 256 + i.val; omega
  | ⟨1, _⟩ => show win0_0.index t (1 : Fin 2) * 2048 + 1 * l.val = l.val; omega

theorem emb1 (t : Fin cfg0.N) (l : Fin 2048) : ((cfg0.win 1).blk t).view.emb (ix2 0 l) = ix2 0 l := by
  obtain ⟨_, _, e0, e1, _⟩ := places t
  refine funext fun a => Fin.ext ?_
  match a with
  | ⟨0, _⟩ => show win0_1.index t (0 : Fin 2) * 1 + 1 * 0 = 0; omega
  | ⟨1, _⟩ => show win0_1.index t (1 : Fin 2) * 2048 + 1 * l.val = l.val; omega

theorem emb2 (t : Fin cfg0.N) (i : Fin 256) (l : Fin 2048) : ((cfg0.win 2).blk t).view.emb (ix2 i l) = ix2 (row t i) l := by
  obtain ⟨_, _, _, _, e0, e1⟩ := places t
  refine funext fun a => Fin.ext ?_
  match a with
  | ⟨0, _⟩ => show win0_2.index t (0 : Fin 2) * 256 + 1 * i.val = t.val * 256 + i.val; omega
  | ⟨1, _⟩ => show win0_2.index t (1 : Fin 2) * 2048 + 1 * l.val = l.val; omega

theorem iblk0 (c : Dev nD) (t : Fin cfg0.N) (i : Fin 256) (l : Fin 2048) :
    iblk m c 0 t (ix2 i l) = m ((c : Thread nD τ).loc main_arg0) (ix2 (row t i) l) := by
  refine (congrArg (V m c main_arg0) (emb0 t i l)).trans ?_
  rw [V_main_arg0]

theorem iblk1 (c : Dev nD) (t : Fin cfg0.N) (l : Fin 2048) :
    iblk m c 1 t (ix2 0 l) = m ((c : Thread nD τ).loc main_arg1) (ix1 l) := by
  refine (congrArg (V m c main_v0) (emb1 t l)).trans ?_
  rw [read0]
  exact flat_apply _ l

/-- What a point writes back is its block of rows, normalised. -/
theorem flushed (c : Dev nD) (t : Fin cfg0.N) : (dats m 0 c).flushed 2 t = ((cfg0.win 2).blk t).view.read (Elt Ideal)
    (normed (m ((c : Thread nD τ).loc main_arg0)) (m ((c : Thread nD τ).loc main_arg1))) := by
  rw [flushed2, out_eq]
  funext x
  obtain ⟨i, j, rfl⟩ : ∃ (i : Fin 256) (j : Fin 2048), x = ix2 i j := ⟨x 0, x 1, eq_ix2 x⟩
  refine (pay_apply (iblk m c 0 t) (iblk m c 1 t) i j).trans ?_
  refine Eq.trans ?_ (congrArg (normed (m ((c : Thread nD τ).loc main_arg0)) (m ((c : Thread nD τ).loc main_arg1))) (emb2 t i j)).symm
  exact congrArg₂ (fun f g => Mix.rms f g j) (funext fun l => iblk0 m c t i l) (funext fun l => iblk1 m c t l)

/-- Every place of the result is in some point's block. -/
theorem covered (x : S1024x2048.Idx) : ∃ t : Fin cfg0.N, (cfg0.win 2).flush t = true ∧ x ∈ ((cfg0.win 2).blk t).view.set := by
  obtain ⟨i, l, rfl⟩ : ∃ (i : Fin 1024) (l : Fin 2048), x = ix2 i l := ⟨x 0, x 1, eq_ix2 x⟩
  have h : i.val / 256 < cfg0.N := by have : cfg0.N = 4 := N_0; omega
  refine ⟨⟨i.val / 256, h⟩, flush0_2 _, ?_⟩
  have e := ((cfg0.win 2).blk ⟨i.val / 256, h⟩).view.emb_mem_set (ix2 (⟨i.val % 256, by omega⟩ : Fin 256) l)
  rw [emb2] at e
  have hi : row ⟨i.val / 256, h⟩ (⟨i.val % 256, by omega⟩ : Fin 256) = i := Fin.ext (Nat.div_add_mod' i.val 256)
  rwa [hi] at e

/-- The result after the run: the argument's rows, normalised. -/
theorem final (c : Dev nD) : (dats m 0 c).arrAt 2 cfg0.N
    = normed (m ((c : Thread nD τ).loc main_arg0)) (m ((c : Thread nD τ).loc main_arg1)) :=
  (dats m 0 c).arrAt_eq_of_cover 2 _ (fun t _ => flushed m c t) covered

end Cert.Kernel6Ideal.Hand

namespace Cert.Reference6Ideal.Hand

open Cert.Reference6Ideal Cert.Reference6Ideal.Gen
open Idealize.ShloMosaic

/-- The reference's term: the rows scaled by the inverse root of their mean square, and by the gain. -/
def refN (x : FVec Ideal S1024x2048 .f32) (g : FVec Ideal S2048 .f32) : FVec Ideal S1024x2048 .bf16 :=
  truncf .bf16 (mulf (mulf x (broadcastInDim S1024x2048 ![0, 1] bcast_S1024x1_S1024x2048_0_1 (Host.rsqrt (addf
      (Host.divf (broadcastInDim S1024x1 ![0] bcast_S1024_S1024x1_0 (Host.reduceAdd (mulf x x) (constant S_ .f32 0x00000000#32) reducesTo_S1024x2048_S1024_d1 h_S_))
        (broadcastInDim S1024x1 ![] bcast_S_S1024x1 (constant S_ .f32 0x45000000#32)))
      (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))) bitsLt_bf16_f32

theorem refN_apply (x : FVec Ideal S1024x2048 .f32) (g : FVec Ideal S2048 .f32) (r : Fin 1024) (j : Fin 2048) :
    refN x g (ix2 r j) = Mix.rms (fun l => x (ix2 r l)) (fun l => g (ix1 l)) j := by
  pointwise [refN, Mix.rms]

end Cert.Reference6Ideal.Hand

namespace Cert.Proof

open Idealize.ShloMosaic Idealize.ShloMosaic.TcCoe Idealize.SL.Sem

theorem norm6_eq (x : FVec Ideal Cert.Kernel6Ideal.S1024x2048 .f32) (g : FVec Ideal Cert.Kernel6Ideal.S2048 .f32) :
    Cert.Reference6Ideal.Hand.refN x g = Cert.Kernel6Ideal.Hand.normed x g := by
  funext y
  obtain ⟨i, j, rfl⟩ : ∃ (i : Fin 1024) (j : Fin 2048), y = ix2 i j := ⟨y 0, y 1, eq_ix2 y⟩
  exact Cert.Reference6Ideal.Hand.refN_apply x g i j

theorem frame_kernel6 : Cert.quiescent_Kernel6 := fun m ρ _ => Cert.Kernel6.Gen.frame (F := Bits) m ρ

theorem frame_kernel6Ideal : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The call's result is the reference's, over the extended reals. -/
theorem algebraic6 : Cert.algebraic_Kernel6Ideal_Reference6Ideal := by
  intro m g m' g' _ hm
  refine ⟨fun c => Cert.Kernel6Ideal.Hand.normed (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m g)
    exact ⟨(h c).1.trans (Cert.Kernel6Ideal.Hand.final m c), (h c).2⟩
  · refine (θ_run Cert.Reference6Ideal.defs _ _).mono (fun r h c => ?_) (Cert.Reference6Ideal.Value.run (F := Ideal) m' g')
    obtain ⟨h0, ha⟩ := h c
    obtain ⟨e0, e1⟩ := hm c
    refine ⟨h0.trans ?_, ha⟩
    rw [e0, e1]
    exact norm6_eq _ _

end Cert.Proof
-- ==== Proof.FirstWords.lean ====
/-
  The first layer's feed-forward, whose normalised rows come out in bf16.

  The words of the feed-forward kernel's loop in closed form, and the names its slices go by.

  The kernel walks 128 trips, trip `k` working on row block `k / 8` against feature block `k % 8`. Its fifteen
  carried words are functions of `k`; every condition, offset and check the region prints is decided over the
  128 trips.
-/
module

public import proofs.«01_k».proof.Defs
public import proofs.«01_k».proof.Proof.Gen.Kernel7Ideal.Launch
public import proofs.«01_k».proof.Proof.Gen.Kernel7Ideal.Frame
public import proofs.«01_k».proof.Proof.Gen.Kernel7Ideal.Skeleton
public import proofs.«01_k».proof.Proof.Gen.Kernel7Ideal.Loops
public import proofs.«01_k».proof.Proof.Gen.Kernel7Ideal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The carried words before trip `k` -/

/-- The number of row blocks issued. -/
def w8 (k : ℕ) : BitVec 32 := BitVec.ofNat 32 (min (k / 8 + 1) 16)
/-- The row block at work. -/
def w9 (k : ℕ) : BitVec 32 := BitVec.ofNat 32 (k / 8)
/-- The number of feature blocks issued. -/
def w10 (k : ℕ) : BitVec 32 := BitVec.ofNat 32 (min (k + 2) 128)
/-- The feature block at work. -/
def w11 (k : ℕ) : BitVec 32 := BitVec.ofNat 32 k
/-- The number of row blocks copied out and waited. -/
def w18 (k : ℕ) : BitVec 32 := BitVec.ofNat 32 ((k - 1) / 8)
/-- The row index. -/
def w21 (k : ℕ) : BitVec 32 := BitVec.ofNat 32 ((k / 8) % 16)
/-- The feature index. -/
def w22 (k : ℕ) : BitVec 32 := BitVec.ofNat 32 (k % 8)

theorem trips_eq : k0_t1_loop.trips = 128 := by decide
theorem klt (k : Fin k0_t1_loop.trips) : k.val < 128 := trips_eq ▸ k.isLt

/-! ## The conditions -/

theorem cond3_iff : ∀ k : Fin k0_t1_loop.trips, k0_cond3 k (w21 k.val) (w22 k.val) = 1#1 ↔ (k.val % 8 = 7 ∧ k.val < 127) := by decide +kernel
theorem cond4_iff : ∀ k : Fin k0_t1_loop.trips, k0_cond4 k (w22 k.val) = 1#1 ↔ (k.val < 126) := by decide +kernel
theorem cond5_iff : ∀ k : Fin k0_t1_loop.trips, k0_cond5 k (w22 k.val) = 1#1 ↔ (k.val < 126) := by decide +kernel
theorem cond6_iff : ∀ k : Fin k0_t1_loop.trips, k0_cond6 k (w21 k.val) (w22 k.val) = 1#1 ↔ (k.val % 8 = 7 ∧ k.val < 127) := by decide +kernel
theorem cond7_iff : ∀ k : Fin k0_t1_loop.trips, k0_cond7 k (w21 k.val) (w22 k.val) = 1#1 ↔ (k.val % 8 = 0) := by decide +kernel
theorem cond8_iff : ∀ k : Fin k0_t1_loop.trips, k0_cond8 k (w22 k.val) = 1#1 ↔ (True) := by decide +kernel
theorem cond9_iff : ∀ k : Fin k0_t1_loop.trips, k0_cond9 k (w22 k.val) = 1#1 ↔ (True) := by decide +kernel
theorem cond10_iff : ∀ k : Fin k0_t1_loop.trips, k0_cond10 k (w21 k.val) (w22 k.val) = 1#1 ↔ (k.val % 8 = 0) := by decide +kernel
theorem cond13_iff : ∀ k : Fin k0_t1_loop.trips, k0_cond13 (w22 k.val) = 1#1 ↔ (k.val % 8 = 0) := by decide +kernel
theorem cond14_iff : ∀ k : Fin k0_t1_loop.trips, k0_cond14 (w22 k.val) = 1#1 ↔ (k.val % 8 = 7) := by decide +kernel
theorem cond19_iff : ∀ k : Fin k0_t1_loop.trips, k0_cond19 k (w21 k.val) (w22 k.val) = 1#1 ↔ (k.val % 8 = 7) := by decide +kernel
theorem cond20_iff : ∀ k : Fin k0_t1_loop.trips, k0_cond20 k (w21 k.val) (w22 k.val) = 1#1 ↔ (k.val % 8 = 7) := by decide +kernel
theorem cond25_iff : ∀ k : Fin k0_t1_loop.trips, k0_cond25 k (w21 k.val) (w22 k.val) = 1#1 ↔ (k.val % 8 = 0 ∧ 0 < k.val) := by decide +kernel
theorem cond26_iff : ∀ k : Fin k0_t1_loop.trips, k0_cond26 k (w21 k.val) (w22 k.val) = 1#1 ↔ (k.val % 8 = 0 ∧ 0 < k.val) := by decide +kernel

/-! ## The checks -/

theorem chk1_all : ∀ k : Fin k0_t1_loop.trips, k0_chk1 k (w8 k.val) (w9 k.val) (w10 k.val) (w11 k.val) (w10 k.val) (w11 k.val) (w8 k.val) (w9 k.val) (w9 k.val) (w18 k.val) (w9 k.val) (w18 k.val) (w21 k.val) (w22 k.val) := by decide +kernel
theorem chk2_all : ∀ k : Fin k0_t1_loop.trips, k0_chk2 (w9 k.val) := by decide +kernel
theorem chk3_all : ∀ k : Fin k0_t1_loop.trips, k0_chk3 (w11 k.val) := by decide +kernel
theorem chk4_all : ∀ k : Fin k0_t1_loop.trips, k0_chk4 (w9 k.val) := by decide +kernel
theorem chk5_all : ∀ k : Fin k0_t1_loop.trips, k0_chk5 (w11 k.val) := by decide +kernel
theorem chk6_end : k0_chk6 (w18 128) := by decide +kernel
theorem chk7_end : k0_chk7 (w22 128) (w21 128) := by decide +kernel
theorem chk8_end : k0_chk8 (w18 128) := by decide +kernel

/-! ## Canonical names -/

/-- The box of slot `s` in a buffer of slots. -/
abbrev slotOff {n : ℕ} (s : Fin n) : Fin 3 → Nat := ![s.val, 0, 0]
abbrev semOff {n : ℕ} (s : Fin n) : Fin 1 → Nat := ![s.val]
/-- The first row of a block of 512, and of 1024, rows. -/
abbrev rowOff (b : Fin 16) : Fin 2 → Nat := ![512 * b.val, 0]
abbrev featOff (b : Fin 8) : Fin 2 → Nat := ![1024 * b.val, 0]
instance {n : ℕ} (s : Fin n) : ClosedOff (slotOff s) := ⟨slotOff s, rfl⟩

abbrev uBuf : Memref sig .tc .vmem S2x512x2048 .bf16 := Memref.whole cc0_scoped0
abbrev uHbm : Memref sig .tc .hbm S8192x2048 .bf16 := Memref.whole main_arg0
theorem uslot_inb : ∀ (s : Fin 2), ∀ a, slotOff s a + S1x512x2048.size a ≤ S2x512x2048.size a := by decide +kernel
theorem usem_inb : ∀ (s : Fin 2), ∀ a, semOff s a + S1.size a ≤ S2.size a := by decide +kernel
theorem ublk_inb : ∀ (b : Fin 16), ∀ a, rowOff b a + S512x2048.size a ≤ S8192x2048.size a := by decide +kernel
def uslot (s : Fin 2) : Memref sig .tc .vmem S512x2048 .bf16 :=
  (uBuf.slice (Rect.unit (s := S2x512x2048) (slotOff s) S1x512x2048.size (uslot_inb s)) (fun _ => rfl)).squeeze S512x2048 squeezes_S1x512x2048_S512x2048
def usem (s : Fin 2) : DmaSems sig S_ := (cc0_scoped1.slice (Rect.unit (s := S2) (semOff s) S1.size (usem_inb s))).squeeze S_ squeezes_S1_S_
def ublk (b : Fin 16) : Memref sig .tc .hbm S512x2048 .bf16 :=
  uHbm.slice (Rect.unit (s := S8192x2048) (rowOff b) S512x2048.size (ublk_inb b)) (fun _ => rfl)
theorem ublk_congr {off : Fin 2 → Nat} {b : Fin 16} (e : off = rowOff b) (hh hs) :
    uHbm.slice (Rect.unit (s := S8192x2048) off S512x2048.size hh) hs = ublk b :=
  Memref.slice_unit_congr _ e _ _ _ (fun _ => rfl)
theorem uslot_congr {off : Fin 3 → Nat} {s : Fin 2} (e : off = slotOff s) (hh hs) :
    (uBuf.slice (Rect.unit (s := S2x512x2048) off S1x512x2048.size hh) hs).squeeze S512x2048 squeezes_S1x512x2048_S512x2048 = uslot s :=
  congrArg (fun A : Memref sig .tc .vmem S1x512x2048 .bf16 => A.squeeze S512x2048 squeezes_S1x512x2048_S512x2048) (Memref.slice_unit_congr _ e _ _ _ _)
theorem usem_congr {off : Fin 1 → Nat} {s : Fin 2} (e : off = semOff s) (hh) :
    (cc0_scoped1.slice (Rect.unit (s := S2) off S1.size hh)).squeeze S_ squeezes_S1_S_ = usem s :=
  congrArg (fun A : DmaSems sig S1 => A.squeeze S_ squeezes_S1_S_) (SemArray.slice_unit_congr _ e _ _)

@[sl_canon] theorem usemL0 (hh) : (cc0_scoped1.slice (Rect.unit (s := S2) ![0] S1.size hh)).squeeze S_ squeezes_S1_S_ = usem 0 := usem_congr (by decide) _
@[sl_canon] theorem uslotL0 (hh hs) : (uBuf.slice (Rect.unit (s := S2x512x2048) ![0, 0, 0] S1x512x2048.size hh) hs).squeeze S512x2048 squeezes_S1x512x2048_S512x2048 = uslot 0 := uslot_congr (by decide) _ _
@[sl_canon] theorem ublkL0 (hh hs) : uHbm.slice (Rect.unit (s := S8192x2048) ![0, 0] S512x2048.size hh) hs = ublk 0 := ublk_congr (by decide) _ _
theorem off12_eq : ∀ k : Fin k0_t1_loop.trips, k.val % 8 = 7 ∧ k.val < 127 → k0_off12 (w8 k.val) = semOff (Ring.sl 2 (k.val / 8 + 1)) := by decide +kernel
@[sl_canon] theorem usem_off12 (k : Fin k0_t1_loop.trips) (hk : k.val % 8 = 7 ∧ k.val < 127) (hh) : (cc0_scoped1.slice (Rect.unit (s := S2) (k0_off12 (w8 k.val)) S1.size hh)).squeeze S_ squeezes_S1_S_ = usem (Ring.sl 2 (k.val / 8 + 1)) := usem_congr (off12_eq k hk) _
theorem off13_eq : ∀ k : Fin k0_t1_loop.trips, k.val % 8 = 7 ∧ k.val < 127 → k0_off13 (w8 k.val) = slotOff (Ring.sl 2 (k.val / 8 + 1)) := by decide +kernel
@[sl_canon] theorem uslot_off13 (k : Fin k0_t1_loop.trips) (hk : k.val % 8 = 7 ∧ k.val < 127) (hh hs) : (uBuf.slice (Rect.unit (s := S2x512x2048) (k0_off13 (w8 k.val)) S1x512x2048.size hh) hs).squeeze S512x2048 squeezes_S1x512x2048_S512x2048 = uslot (Ring.sl 2 (k.val / 8 + 1)) := uslot_congr (off13_eq k hk) _ _
theorem off14_eq : ∀ k : Fin k0_t1_loop.trips, k.val % 8 = 7 ∧ k.val < 127 → k0_off14 (w21 k.val) (w22 k.val) = rowOff (Ring.sl 16 (k.val / 8 + 1)) := by decide +kernel
@[sl_canon] theorem ublk_off14 (k : Fin k0_t1_loop.trips) (hk : k.val % 8 = 7 ∧ k.val < 127) (hh hs) : uHbm.slice (Rect.unit (s := S8192x2048) (k0_off14 (w21 k.val) (w22 k.val)) S512x2048.size hh) hs = ublk (Ring.sl 16 (k.val / 8 + 1)) := ublk_congr (off14_eq k hk) _ _
theorem off24_eq : ∀ k : Fin k0_t1_loop.trips, k0_off24 (w9 k.val) = semOff (Ring.sl 2 (k.val / 8)) := by decide +kernel
@[sl_canon] theorem usem_off24 (k : Fin k0_t1_loop.trips)  (hh) : (cc0_scoped1.slice (Rect.unit (s := S2) (k0_off24 (w9 k.val)) S1.size hh)).squeeze S_ squeezes_S1_S_ = usem (Ring.sl 2 (k.val / 8)) := usem_congr (off24_eq k) _
theorem off25_eq : ∀ k : Fin k0_t1_loop.trips, k0_off25 (w9 k.val) = slotOff (Ring.sl 2 (k.val / 8)) := by decide +kernel
@[sl_canon] theorem uslot_off25 (k : Fin k0_t1_loop.trips)  (hh hs) : (uBuf.slice (Rect.unit (s := S2x512x2048) (k0_off25 (w9 k.val)) S1x512x2048.size hh) hs).squeeze S512x2048 squeezes_S1x512x2048_S512x2048 = uslot (Ring.sl 2 (k.val / 8)) := uslot_congr (off25_eq k) _ _
theorem off26_eq : ∀ k : Fin k0_t1_loop.trips, k0_off26 (w21 k.val) = rowOff (Ring.sl 16 (k.val / 8)) := by decide +kernel
@[sl_canon] theorem ublk_off26 (k : Fin k0_t1_loop.trips)  (hh hs) : uHbm.slice (Rect.unit (s := S8192x2048) (k0_off26 (w21 k.val)) S512x2048.size hh) hs = ublk (Ring.sl 16 (k.val / 8)) := ublk_congr (off26_eq k) _ _

abbrev wuBuf : Memref sig .tc .vmem S3x2048x1024 .bf16 := Memref.whole cc0_scoped2
abbrev wuHbm : Memref sig .tc .hbm S8x2048x1024 .bf16 := Memref.whole main_v2
theorem wuslot_inb : ∀ (s : Fin 3), ∀ a, slotOff s a + S1x2048x1024.size a ≤ S3x2048x1024.size a := by decide +kernel
theorem wusem_inb : ∀ (s : Fin 3), ∀ a, semOff s a + S1.size a ≤ S3.size a := by decide +kernel
theorem wublk_inb : ∀ (b : Fin 8), ∀ a, slotOff b a + S1x2048x1024.size a ≤ S8x2048x1024.size a := by decide +kernel
def wuslot (s : Fin 3) : Memref sig .tc .vmem S2048x1024 .bf16 :=
  (wuBuf.slice (Rect.unit (s := S3x2048x1024) (slotOff s) S1x2048x1024.size (wuslot_inb s)) (fun _ => rfl)).squeeze S2048x1024 squeezes_S1x2048x1024_S2048x1024
def wusem (s : Fin 3) : DmaSems sig S_ := (cc0_scoped3.slice (Rect.unit (s := S3) (semOff s) S1.size (wusem_inb s))).squeeze S_ squeezes_S1_S_
def wublk (b : Fin 8) : Memref sig .tc .hbm S2048x1024 .bf16 :=
  (wuHbm.slice (Rect.unit (s := S8x2048x1024) (slotOff b) S1x2048x1024.size (wublk_inb b)) (fun _ => rfl)).squeeze S2048x1024 squeezes_S1x2048x1024_S2048x1024
theorem wublk_congr {off : Fin 3 → Nat} {b : Fin 8} (e : off = slotOff b) (hh hs) :
    (wuHbm.slice (Rect.unit (s := S8x2048x1024) off S1x2048x1024.size hh) hs).squeeze S2048x1024 squeezes_S1x2048x1024_S2048x1024 = wublk b :=
  congrArg (fun A : Memref sig .tc .hbm S1x2048x1024 .bf16 => A.squeeze S2048x1024 squeezes_S1x2048x1024_S2048x1024) (Memref.slice_unit_congr _ e _ _ _ _)
theorem wuslot_congr {off : Fin 3 → Nat} {s : Fin 3} (e : off = slotOff s) (hh hs) :
    (wuBuf.slice (Rect.unit (s := S3x2048x1024) off S1x2048x1024.size hh) hs).squeeze S2048x1024 squeezes_S1x2048x1024_S2048x1024 = wuslot s :=
  congrArg (fun A : Memref sig .tc .vmem S1x2048x1024 .bf16 => A.squeeze S2048x1024 squeezes_S1x2048x1024_S2048x1024) (Memref.slice_unit_congr _ e _ _ _ _)
theorem wusem_congr {off : Fin 1 → Nat} {s : Fin 3} (e : off = semOff s) (hh) :
    (cc0_scoped3.slice (Rect.unit (s := S3) off S1.size hh)).squeeze S_ squeezes_S1_S_ = wusem s :=
  congrArg (fun A : DmaSems sig S1 => A.squeeze S_ squeezes_S1_S_) (SemArray.slice_unit_congr _ e _ _)

@[sl_canon] theorem wusemL0 (hh) : (cc0_scoped3.slice (Rect.unit (s := S3) ![0] S1.size hh)).squeeze S_ squeezes_S1_S_ = wusem 0 := wusem_congr (by decide) _
@[sl_canon] theorem wuslotL0 (hh hs) : (wuBuf.slice (Rect.unit (s := S3x2048x1024) ![0, 0, 0] S1x2048x1024.size hh) hs).squeeze S2048x1024 squeezes_S1x2048x1024_S2048x1024 = wuslot 0 := wuslot_congr (by decide) _ _
@[sl_canon] theorem wublkL0 (hh hs) : (wuHbm.slice (Rect.unit (s := S8x2048x1024) ![0, 0, 0] S1x2048x1024.size hh) hs).squeeze S2048x1024 squeezes_S1x2048x1024_S2048x1024 = wublk 0 := wublk_congr (by decide) _ _
@[sl_canon] theorem wusemL1 (hh) : (cc0_scoped3.slice (Rect.unit (s := S3) ![1] S1.size hh)).squeeze S_ squeezes_S1_S_ = wusem 1 := wusem_congr (by decide) _
@[sl_canon] theorem wuslotL1 (hh hs) : (wuBuf.slice (Rect.unit (s := S3x2048x1024) ![1, 0, 0] S1x2048x1024.size hh) hs).squeeze S2048x1024 squeezes_S1x2048x1024_S2048x1024 = wuslot 1 := wuslot_congr (by decide) _ _
@[sl_canon] theorem wublkL1 (hh hs) : (wuHbm.slice (Rect.unit (s := S8x2048x1024) ![1, 0, 0] S1x2048x1024.size hh) hs).squeeze S2048x1024 squeezes_S1x2048x1024_S2048x1024 = wublk 1 := wublk_congr (by decide) _ _
theorem off15_eq : ∀ k : Fin k0_t1_loop.trips, k.val < 126 → k0_off15 (w10 k.val) = semOff (Ring.sl 3 (k.val + 2)) := by decide +kernel
@[sl_canon] theorem wusem_off15 (k : Fin k0_t1_loop.trips) (hk : k.val < 126) (hh) : (cc0_scoped3.slice (Rect.unit (s := S3) (k0_off15 (w10 k.val)) S1.size hh)).squeeze S_ squeezes_S1_S_ = wusem (Ring.sl 3 (k.val + 2)) := wusem_congr (off15_eq k hk) _
theorem off16_eq : ∀ k : Fin k0_t1_loop.trips, k.val < 126 → k0_off16 (w10 k.val) = slotOff (Ring.sl 3 (k.val + 2)) := by decide +kernel
@[sl_canon] theorem wuslot_off16 (k : Fin k0_t1_loop.trips) (hk : k.val < 126) (hh hs) : (wuBuf.slice (Rect.unit (s := S3x2048x1024) (k0_off16 (w10 k.val)) S1x2048x1024.size hh) hs).squeeze S2048x1024 squeezes_S1x2048x1024_S2048x1024 = wuslot (Ring.sl 3 (k.val + 2)) := wuslot_congr (off16_eq k hk) _ _
theorem off17_eq : ∀ k : Fin k0_t1_loop.trips, k0_off17 (w22 k.val) = slotOff (Ring.sl 8 (k.val + 2)) := by decide +kernel
@[sl_canon] theorem wublk_off17 (k : Fin k0_t1_loop.trips)  (hh hs) : (wuHbm.slice (Rect.unit (s := S8x2048x1024) (k0_off17 (w22 k.val)) S1x2048x1024.size hh) hs).squeeze S2048x1024 squeezes_S1x2048x1024_S2048x1024 = wublk (Ring.sl 8 (k.val + 2)) := wublk_congr (off17_eq k) _ _
theorem off27_eq : ∀ k : Fin k0_t1_loop.trips, k0_off27 (w11 k.val) = semOff (Ring.sl 3 k.val) := by decide +kernel
@[sl_canon] theorem wusem_off27 (k : Fin k0_t1_loop.trips)  (hh) : (cc0_scoped3.slice (Rect.unit (s := S3) (k0_off27 (w11 k.val)) S1.size hh)).squeeze S_ squeezes_S1_S_ = wusem (Ring.sl 3 k.val) := wusem_congr (off27_eq k) _
theorem off28_eq : ∀ k : Fin k0_t1_loop.trips, k0_off28 (w11 k.val) = slotOff (Ring.sl 3 k.val) := by decide +kernel
@[sl_canon] theorem wuslot_off28 (k : Fin k0_t1_loop.trips)  (hh hs) : (wuBuf.slice (Rect.unit (s := S3x2048x1024) (k0_off28 (w11 k.val)) S1x2048x1024.size hh) hs).squeeze S2048x1024 squeezes_S1x2048x1024_S2048x1024 = wuslot (Ring.sl 3 k.val) := wuslot_congr (off28_eq k) _ _
theorem off29_eq : ∀ k : Fin k0_t1_loop.trips, k0_off29 (w22 k.val) = slotOff (Ring.sl 8 k.val) := by decide +kernel
@[sl_canon] theorem wublk_off29 (k : Fin k0_t1_loop.trips)  (hh hs) : (wuHbm.slice (Rect.unit (s := S8x2048x1024) (k0_off29 (w22 k.val)) S1x2048x1024.size hh) hs).squeeze S2048x1024 squeezes_S1x2048x1024_S2048x1024 = wublk (Ring.sl 8 k.val) := wublk_congr (off29_eq k) _ _

abbrev wdBuf : Memref sig .tc .vmem S3x1024x2048 .bf16 := Memref.whole cc0_scoped4
abbrev wdHbm : Memref sig .tc .hbm S8192x2048 .bf16 := Memref.whole main_v3
theorem wdslot_inb : ∀ (s : Fin 3), ∀ a, slotOff s a + S1x1024x2048.size a ≤ S3x1024x2048.size a := by decide +kernel
theorem wdsem_inb : ∀ (s : Fin 3), ∀ a, semOff s a + S1.size a ≤ S3.size a := by decide +kernel
theorem wdblk_inb : ∀ (b : Fin 8), ∀ a, featOff b a + S1024x2048.size a ≤ S8192x2048.size a := by decide +kernel
def wdslot (s : Fin 3) : Memref sig .tc .vmem S1024x2048 .bf16 :=
  (wdBuf.slice (Rect.unit (s := S3x1024x2048) (slotOff s) S1x1024x2048.size (wdslot_inb s)) (fun _ => rfl)).squeeze S1024x2048 squeezes_S1x1024x2048_S1024x2048
def wdsem (s : Fin 3) : DmaSems sig S_ := (cc0_scoped5.slice (Rect.unit (s := S3) (semOff s) S1.size (wdsem_inb s))).squeeze S_ squeezes_S1_S_
def wdblk (b : Fin 8) : Memref sig .tc .hbm S1024x2048 .bf16 :=
  wdHbm.slice (Rect.unit (s := S8192x2048) (featOff b) S1024x2048.size (wdblk_inb b)) (fun _ => rfl)
theorem wdblk_congr {off : Fin 2 → Nat} {b : Fin 8} (e : off = featOff b) (hh hs) :
    wdHbm.slice (Rect.unit (s := S8192x2048) off S1024x2048.size hh) hs = wdblk b :=
  Memref.slice_unit_congr _ e _ _ _ (fun _ => rfl)
theorem wdslot_congr {off : Fin 3 → Nat} {s : Fin 3} (e : off = slotOff s) (hh hs) :
    (wdBuf.slice (Rect.unit (s := S3x1024x2048) off S1x1024x2048.size hh) hs).squeeze S1024x2048 squeezes_S1x1024x2048_S1024x2048 = wdslot s :=
  congrArg (fun A : Memref sig .tc .vmem S1x1024x2048 .bf16 => A.squeeze S1024x2048 squeezes_S1x1024x2048_S1024x2048) (Memref.slice_unit_congr _ e _ _ _ _)
theorem wdsem_congr {off : Fin 1 → Nat} {s : Fin 3} (e : off = semOff s) (hh) :
    (cc0_scoped5.slice (Rect.unit (s := S3) off S1.size hh)).squeeze S_ squeezes_S1_S_ = wdsem s :=
  congrArg (fun A : DmaSems sig S1 => A.squeeze S_ squeezes_S1_S_) (SemArray.slice_unit_congr _ e _ _)

@[sl_canon] theorem wdsemL0 (hh) : (cc0_scoped5.slice (Rect.unit (s := S3) ![0] S1.size hh)).squeeze S_ squeezes_S1_S_ = wdsem 0 := wdsem_congr (by decide) _
@[sl_canon] theorem wdslotL0 (hh hs) : (wdBuf.slice (Rect.unit (s := S3x1024x2048) ![0, 0, 0] S1x1024x2048.size hh) hs).squeeze S1024x2048 squeezes_S1x1024x2048_S1024x2048 = wdslot 0 := wdslot_congr (by decide) _ _
@[sl_canon] theorem wdblkL0 (hh hs) : wdHbm.slice (Rect.unit (s := S8192x2048) ![0, 0] S1024x2048.size hh) hs = wdblk 0 := wdblk_congr (by decide) _ _
@[sl_canon] theorem wdsemL1 (hh) : (cc0_scoped5.slice (Rect.unit (s := S3) ![1] S1.size hh)).squeeze S_ squeezes_S1_S_ = wdsem 1 := wdsem_congr (by decide) _
@[sl_canon] theorem wdslotL1 (hh hs) : (wdBuf.slice (Rect.unit (s := S3x1024x2048) ![1, 0, 0] S1x1024x2048.size hh) hs).squeeze S1024x2048 squeezes_S1x1024x2048_S1024x2048 = wdslot 1 := wdslot_congr (by decide) _ _
@[sl_canon] theorem wdblkL1 (hh hs) : wdHbm.slice (Rect.unit (s := S8192x2048) ![1024, 0] S1024x2048.size hh) hs = wdblk 1 := wdblk_congr (by decide) _ _
theorem off18_eq : ∀ k : Fin k0_t1_loop.trips, k.val < 126 → k0_off18 (w10 k.val) = semOff (Ring.sl 3 (k.val + 2)) := by decide +kernel
@[sl_canon] theorem wdsem_off18 (k : Fin k0_t1_loop.trips) (hk : k.val < 126) (hh) : (cc0_scoped5.slice (Rect.unit (s := S3) (k0_off18 (w10 k.val)) S1.size hh)).squeeze S_ squeezes_S1_S_ = wdsem (Ring.sl 3 (k.val + 2)) := wdsem_congr (off18_eq k hk) _
theorem off19_eq : ∀ k : Fin k0_t1_loop.trips, k.val < 126 → k0_off19 (w10 k.val) = slotOff (Ring.sl 3 (k.val + 2)) := by decide +kernel
@[sl_canon] theorem wdslot_off19 (k : Fin k0_t1_loop.trips) (hk : k.val < 126) (hh hs) : (wdBuf.slice (Rect.unit (s := S3x1024x2048) (k0_off19 (w10 k.val)) S1x1024x2048.size hh) hs).squeeze S1024x2048 squeezes_S1x1024x2048_S1024x2048 = wdslot (Ring.sl 3 (k.val + 2)) := wdslot_congr (off19_eq k hk) _ _
theorem off20_eq : ∀ k : Fin k0_t1_loop.trips, k0_off20 (w22 k.val) = featOff (Ring.sl 8 (k.val + 2)) := by decide +kernel
@[sl_canon] theorem wdblk_off20 (k : Fin k0_t1_loop.trips)  (hh hs) : wdHbm.slice (Rect.unit (s := S8192x2048) (k0_off20 (w22 k.val)) S1024x2048.size hh) hs = wdblk (Ring.sl 8 (k.val + 2)) := wdblk_congr (off20_eq k) _ _
theorem off30_eq : ∀ k : Fin k0_t1_loop.trips, k0_off30 (w11 k.val) = semOff (Ring.sl 3 k.val) := by decide +kernel
@[sl_canon] theorem wdsem_off30 (k : Fin k0_t1_loop.trips)  (hh) : (cc0_scoped5.slice (Rect.unit (s := S3) (k0_off30 (w11 k.val)) S1.size hh)).squeeze S_ squeezes_S1_S_ = wdsem (Ring.sl 3 k.val) := wdsem_congr (off30_eq k) _
theorem off31_eq : ∀ k : Fin k0_t1_loop.trips, k0_off31 (w11 k.val) = slotOff (Ring.sl 3 k.val) := by decide +kernel
@[sl_canon] theorem wdslot_off31 (k : Fin k0_t1_loop.trips)  (hh hs) : (wdBuf.slice (Rect.unit (s := S3x1024x2048) (k0_off31 (w11 k.val)) S1x1024x2048.size hh) hs).squeeze S1024x2048 squeezes_S1x1024x2048_S1024x2048 = wdslot (Ring.sl 3 k.val) := wdslot_congr (off31_eq k) _ _
theorem off32_eq : ∀ k : Fin k0_t1_loop.trips, k0_off32 (w22 k.val) = featOff (Ring.sl 8 k.val) := by decide +kernel
@[sl_canon] theorem wdblk_off32 (k : Fin k0_t1_loop.trips)  (hh hs) : wdHbm.slice (Rect.unit (s := S8192x2048) (k0_off32 (w22 k.val)) S1024x2048.size hh) hs = wdblk (Ring.sl 8 k.val) := wdblk_congr (off32_eq k) _ _

abbrev hBuf : Memref sig .tc .vmem S2x512x2048 .f32 := Memref.whole cc0_scoped6
abbrev hHbm : Memref sig .tc .hbm S8192x2048 .f32 := Memref.whole main_arg3
theorem hslot_inb : ∀ (s : Fin 2), ∀ a, slotOff s a + S1x512x2048.size a ≤ S2x512x2048.size a := by decide +kernel
theorem hsem_inb : ∀ (s : Fin 2), ∀ a, semOff s a + S1.size a ≤ S2.size a := by decide +kernel
theorem hblk_inb : ∀ (b : Fin 16), ∀ a, rowOff b a + S512x2048.size a ≤ S8192x2048.size a := by decide +kernel
def hslot (s : Fin 2) : Memref sig .tc .vmem S512x2048 .f32 :=
  (hBuf.slice (Rect.unit (s := S2x512x2048) (slotOff s) S1x512x2048.size (hslot_inb s)) (fun _ => rfl)).squeeze S512x2048 squeezes_S1x512x2048_S512x2048
def hsem (s : Fin 2) : DmaSems sig S_ := (cc0_scoped7.slice (Rect.unit (s := S2) (semOff s) S1.size (hsem_inb s))).squeeze S_ squeezes_S1_S_
def hblk (b : Fin 16) : Memref sig .tc .hbm S512x2048 .f32 :=
  hHbm.slice (Rect.unit (s := S8192x2048) (rowOff b) S512x2048.size (hblk_inb b)) (fun _ => rfl)
theorem hblk_congr {off : Fin 2 → Nat} {b : Fin 16} (e : off = rowOff b) (hh hs) :
    hHbm.slice (Rect.unit (s := S8192x2048) off S512x2048.size hh) hs = hblk b :=
  Memref.slice_unit_congr _ e _ _ _ (fun _ => rfl)
theorem hslot_congr {off : Fin 3 → Nat} {s : Fin 2} (e : off = slotOff s) (hh hs) :
    (hBuf.slice (Rect.unit (s := S2x512x2048) off S1x512x2048.size hh) hs).squeeze S512x2048 squeezes_S1x512x2048_S512x2048 = hslot s :=
  congrArg (fun A : Memref sig .tc .vmem S1x512x2048 .f32 => A.squeeze S512x2048 squeezes_S1x512x2048_S512x2048) (Memref.slice_unit_congr _ e _ _ _ _)
theorem hsem_congr {off : Fin 1 → Nat} {s : Fin 2} (e : off = semOff s) (hh) :
    (cc0_scoped7.slice (Rect.unit (s := S2) off S1.size hh)).squeeze S_ squeezes_S1_S_ = hsem s :=
  congrArg (fun A : DmaSems sig S1 => A.squeeze S_ squeezes_S1_S_) (SemArray.slice_unit_congr _ e _ _)

@[sl_canon] theorem hsemL0 (hh) : (cc0_scoped7.slice (Rect.unit (s := S2) ![0] S1.size hh)).squeeze S_ squeezes_S1_S_ = hsem 0 := hsem_congr (by decide) _
@[sl_canon] theorem hslotL0 (hh hs) : (hBuf.slice (Rect.unit (s := S2x512x2048) ![0, 0, 0] S1x512x2048.size hh) hs).squeeze S512x2048 squeezes_S1x512x2048_S512x2048 = hslot 0 := hslot_congr (by decide) _ _
@[sl_canon] theorem hblkL0 (hh hs) : hHbm.slice (Rect.unit (s := S8192x2048) ![0, 0] S512x2048.size hh) hs = hblk 0 := hblk_congr (by decide) _ _
theorem off21_eq : ∀ k : Fin k0_t1_loop.trips, k.val % 8 = 7 ∧ k.val < 127 → k0_off21 (w8 k.val) = semOff (Ring.sl 2 (k.val / 8 + 1)) := by decide +kernel
@[sl_canon] theorem hsem_off21 (k : Fin k0_t1_loop.trips) (hk : k.val % 8 = 7 ∧ k.val < 127) (hh) : (cc0_scoped7.slice (Rect.unit (s := S2) (k0_off21 (w8 k.val)) S1.size hh)).squeeze S_ squeezes_S1_S_ = hsem (Ring.sl 2 (k.val / 8 + 1)) := hsem_congr (off21_eq k hk) _
theorem off22_eq : ∀ k : Fin k0_t1_loop.trips, k.val % 8 = 7 ∧ k.val < 127 → k0_off22 (w8 k.val) = slotOff (Ring.sl 2 (k.val / 8 + 1)) := by decide +kernel
@[sl_canon] theorem hslot_off22 (k : Fin k0_t1_loop.trips) (hk : k.val % 8 = 7 ∧ k.val < 127) (hh hs) : (hBuf.slice (Rect.unit (s := S2x512x2048) (k0_off22 (w8 k.val)) S1x512x2048.size hh) hs).squeeze S512x2048 squeezes_S1x512x2048_S512x2048 = hslot (Ring.sl 2 (k.val / 8 + 1)) := hslot_congr (off22_eq k hk) _ _
theorem off23_eq : ∀ k : Fin k0_t1_loop.trips, k.val % 8 = 7 ∧ k.val < 127 → k0_off23 (w21 k.val) (w22 k.val) = rowOff (Ring.sl 16 (k.val / 8 + 1)) := by decide +kernel
@[sl_canon] theorem hblk_off23 (k : Fin k0_t1_loop.trips) (hk : k.val % 8 = 7 ∧ k.val < 127) (hh hs) : hHbm.slice (Rect.unit (s := S8192x2048) (k0_off23 (w21 k.val) (w22 k.val)) S512x2048.size hh) hs = hblk (Ring.sl 16 (k.val / 8 + 1)) := hblk_congr (off23_eq k hk) _ _
theorem off33_eq : ∀ k : Fin k0_t1_loop.trips, k0_off33 (w9 k.val) = semOff (Ring.sl 2 (k.val / 8)) := by decide +kernel
@[sl_canon] theorem hsem_off33 (k : Fin k0_t1_loop.trips)  (hh) : (cc0_scoped7.slice (Rect.unit (s := S2) (k0_off33 (w9 k.val)) S1.size hh)).squeeze S_ squeezes_S1_S_ = hsem (Ring.sl 2 (k.val / 8)) := hsem_congr (off33_eq k) _
theorem off34_eq : ∀ k : Fin k0_t1_loop.trips, k0_off34 (w9 k.val) = slotOff (Ring.sl 2 (k.val / 8)) := by decide +kernel
@[sl_canon] theorem hslot_off34 (k : Fin k0_t1_loop.trips)  (hh hs) : (hBuf.slice (Rect.unit (s := S2x512x2048) (k0_off34 (w9 k.val)) S1x512x2048.size hh) hs).squeeze S512x2048 squeezes_S1x512x2048_S512x2048 = hslot (Ring.sl 2 (k.val / 8)) := hslot_congr (off34_eq k) _ _
theorem off35_eq : ∀ k : Fin k0_t1_loop.trips, k0_off35 (w21 k.val) = rowOff (Ring.sl 16 (k.val / 8)) := by decide +kernel
@[sl_canon] theorem hblk_off35 (k : Fin k0_t1_loop.trips)  (hh hs) : hHbm.slice (Rect.unit (s := S8192x2048) (k0_off35 (w21 k.val)) S512x2048.size hh) hs = hblk (Ring.sl 16 (k.val / 8)) := hblk_congr (off35_eq k) _ _

abbrev oBuf : Memref sig .tc .vmem S2x512x2048 .f32 := Memref.whole cc0_scoped9
abbrev oHbm : Memref sig .tc .hbm S8192x2048 .f32 := Memref.whole main_v5_0
theorem oslot_inb : ∀ (s : Fin 2), ∀ a, slotOff s a + S1x512x2048.size a ≤ S2x512x2048.size a := by decide +kernel
theorem osem_inb : ∀ (s : Fin 2), ∀ a, semOff s a + S1.size a ≤ S2.size a := by decide +kernel
theorem oblk_inb : ∀ (b : Fin 16), ∀ a, rowOff b a + S512x2048.size a ≤ S8192x2048.size a := by decide +kernel
def oslot (s : Fin 2) : Memref sig .tc .vmem S512x2048 .f32 :=
  (oBuf.slice (Rect.unit (s := S2x512x2048) (slotOff s) S1x512x2048.size (oslot_inb s)) (fun _ => rfl)).squeeze S512x2048 squeezes_S1x512x2048_S512x2048
def osem (s : Fin 2) : DmaSems sig S_ := (cc0_scoped10.slice (Rect.unit (s := S2) (semOff s) S1.size (osem_inb s))).squeeze S_ squeezes_S1_S_
def oblk (b : Fin 16) : Memref sig .tc .hbm S512x2048 .f32 :=
  oHbm.slice (Rect.unit (s := S8192x2048) (rowOff b) S512x2048.size (oblk_inb b)) (fun _ => rfl)
theorem oblk_congr {off : Fin 2 → Nat} {b : Fin 16} (e : off = rowOff b) (hh hs) :
    oHbm.slice (Rect.unit (s := S8192x2048) off S512x2048.size hh) hs = oblk b :=
  Memref.slice_unit_congr _ e _ _ _ (fun _ => rfl)
theorem oslot_congr {off : Fin 3 → Nat} {s : Fin 2} (e : off = slotOff s) (hh hs) :
    (oBuf.slice (Rect.unit (s := S2x512x2048) off S1x512x2048.size hh) hs).squeeze S512x2048 squeezes_S1x512x2048_S512x2048 = oslot s :=
  congrArg (fun A : Memref sig .tc .vmem S1x512x2048 .f32 => A.squeeze S512x2048 squeezes_S1x512x2048_S512x2048) (Memref.slice_unit_congr _ e _ _ _ _)
theorem osem_congr {off : Fin 1 → Nat} {s : Fin 2} (e : off = semOff s) (hh) :
    (cc0_scoped10.slice (Rect.unit (s := S2) off S1.size hh)).squeeze S_ squeezes_S1_S_ = osem s :=
  congrArg (fun A : DmaSems sig S1 => A.squeeze S_ squeezes_S1_S_) (SemArray.slice_unit_congr _ e _ _)

theorem off44_eq : ∀ k : Fin k0_t1_loop.trips, k0_off44 (w9 k.val) = semOff (Ring.sl 2 (k.val / 8)) := by decide +kernel
@[sl_canon] theorem osem_off44 (k : Fin k0_t1_loop.trips)  (hh) : (cc0_scoped10.slice (Rect.unit (s := S2) (k0_off44 (w9 k.val)) S1.size hh)).squeeze S_ squeezes_S1_S_ = osem (Ring.sl 2 (k.val / 8)) := osem_congr (off44_eq k) _
theorem off46_eq : ∀ k : Fin k0_t1_loop.trips, k0_off46 (w9 k.val) = slotOff (Ring.sl 2 (k.val / 8)) := by decide +kernel
@[sl_canon] theorem oslot_off46 (k : Fin k0_t1_loop.trips)  (hh hs) : (oBuf.slice (Rect.unit (s := S2x512x2048) (k0_off46 (w9 k.val)) S1x512x2048.size hh) hs).squeeze S512x2048 squeezes_S1x512x2048_S512x2048 = oslot (Ring.sl 2 (k.val / 8)) := oslot_congr (off46_eq k) _ _
theorem off45_eq : ∀ k : Fin k0_t1_loop.trips, k0_off45 (w21 k.val) = rowOff (Ring.sl 16 (k.val / 8)) := by decide +kernel
@[sl_canon] theorem oblk_off45 (k : Fin k0_t1_loop.trips)  (hh hs) : oHbm.slice (Rect.unit (s := S8192x2048) (k0_off45 (w21 k.val)) S512x2048.size hh) hs = oblk (Ring.sl 16 (k.val / 8)) := oblk_congr (off45_eq k) _ _
theorem off50_eq : ∀ k : Fin k0_t1_loop.trips, k.val % 8 = 0 ∧ 0 < k.val → k0_off50 (w18 k.val) = semOff (Ring.sl 2 (k.val / 8 - 1)) := by decide +kernel
@[sl_canon] theorem osem_off50 (k : Fin k0_t1_loop.trips) (hk : k.val % 8 = 0 ∧ 0 < k.val) (hh) : (cc0_scoped10.slice (Rect.unit (s := S2) (k0_off50 (w18 k.val)) S1.size hh)).squeeze S_ squeezes_S1_S_ = osem (Ring.sl 2 (k.val / 8 - 1)) := osem_congr (off50_eq k hk) _
theorem off52_eq : ∀ k : Fin k0_t1_loop.trips, k.val % 8 = 0 ∧ 0 < k.val → k0_off52 (w18 k.val) = slotOff (Ring.sl 2 (k.val / 8 - 1)) := by decide +kernel
@[sl_canon] theorem oslot_off52 (k : Fin k0_t1_loop.trips) (hk : k.val % 8 = 0 ∧ 0 < k.val) (hh hs) : (oBuf.slice (Rect.unit (s := S2x512x2048) (k0_off52 (w18 k.val)) S1x512x2048.size hh) hs).squeeze S512x2048 squeezes_S1x512x2048_S512x2048 = oslot (Ring.sl 2 (k.val / 8 - 1)) := oslot_congr (off52_eq k hk) _ _
theorem off51_eq : ∀ k : Fin k0_t1_loop.trips, k.val % 8 = 0 ∧ 0 < k.val → k0_off51 (w21 k.val) (w22 k.val) = rowOff (Ring.sl 16 (k.val / 8 - 1)) := by decide +kernel
@[sl_canon] theorem oblk_off51 (k : Fin k0_t1_loop.trips) (hk : k.val % 8 = 0 ∧ 0 < k.val) (hh hs) : oHbm.slice (Rect.unit (s := S8192x2048) (k0_off51 (w21 k.val) (w22 k.val)) S512x2048.size hh) hs = oblk (Ring.sl 16 (k.val / 8 - 1)) := oblk_congr (off51_eq k hk) _ _
@[sl_canon] theorem osemE (hh) : (cc0_scoped10.slice (Rect.unit (s := S2) (k0_off56 (w18 128)) S1.size hh)).squeeze S_ squeezes_S1_S_ = osem 1 := osem_congr (by decide +kernel) _
@[sl_canon] theorem oslotE (hh hs) : (oBuf.slice (Rect.unit (s := S2x512x2048) (k0_off58 (w18 128)) S1x512x2048.size hh) hs).squeeze S512x2048 squeezes_S1x512x2048_S512x2048 = oslot 1 := oslot_congr (by decide +kernel) _ _
@[sl_canon] theorem oblkE (hh hs) : oHbm.slice (Rect.unit (s := S8192x2048) (k0_off57 (w22 128) (w21 128)) S512x2048.size hh) hs = oblk 15 := oblk_congr (by decide +kernel) _ _

abbrev yBuf : Memref sig .tc .vmem S2x512x2048 .bf16 := Memref.whole cc0_scoped11
abbrev yHbm : Memref sig .tc .hbm S8192x2048 .bf16 := Memref.whole main_v5_1
theorem yslot_inb : ∀ (s : Fin 2), ∀ a, slotOff s a + S1x512x2048.size a ≤ S2x512x2048.size a := by decide +kernel
theorem ysem_inb : ∀ (s : Fin 2), ∀ a, semOff s a + S1.size a ≤ S2.size a := by decide +kernel
theorem yblk_inb : ∀ (b : Fin 16), ∀ a, rowOff b a + S512x2048.size a ≤ S8192x2048.size a := by decide +kernel
def yslot (s : Fin 2) : Memref sig .tc .vmem S512x2048 .bf16 :=
  (yBuf.slice (Rect.unit (s := S2x512x2048) (slotOff s) S1x512x2048.size (yslot_inb s)) (fun _ => rfl)).squeeze S512x2048 squeezes_S1x512x2048_S512x2048
def ysem (s : Fin 2) : DmaSems sig S_ := (cc0_scoped12.slice (Rect.unit (s := S2) (semOff s) S1.size (ysem_inb s))).squeeze S_ squeezes_S1_S_
def yblk (b : Fin 16) : Memref sig .tc .hbm S512x2048 .bf16 :=
  yHbm.slice (Rect.unit (s := S8192x2048) (rowOff b) S512x2048.size (yblk_inb b)) (fun _ => rfl)
theorem yblk_congr {off : Fin 2 → Nat} {b : Fin 16} (e : off = rowOff b) (hh hs) :
    yHbm.slice (Rect.unit (s := S8192x2048) off S512x2048.size hh) hs = yblk b :=
  Memref.slice_unit_congr _ e _ _ _ (fun _ => rfl)
theorem yslot_congr {off : Fin 3 → Nat} {s : Fin 2} (e : off = slotOff s) (hh hs) :
    (yBuf.slice (Rect.unit (s := S2x512x2048) off S1x512x2048.size hh) hs).squeeze S512x2048 squeezes_S1x512x2048_S512x2048 = yslot s :=
  congrArg (fun A : Memref sig .tc .vmem S1x512x2048 .bf16 => A.squeeze S512x2048 squeezes_S1x512x2048_S512x2048) (Memref.slice_unit_congr _ e _ _ _ _)
theorem ysem_congr {off : Fin 1 → Nat} {s : Fin 2} (e : off = semOff s) (hh) :
    (cc0_scoped12.slice (Rect.unit (s := S2) off S1.size hh)).squeeze S_ squeezes_S1_S_ = ysem s :=
  congrArg (fun A : DmaSems sig S1 => A.squeeze S_ squeezes_S1_S_) (SemArray.slice_unit_congr _ e _ _)

theorem off47_eq : ∀ k : Fin k0_t1_loop.trips, k0_off47 (w9 k.val) = semOff (Ring.sl 2 (k.val / 8)) := by decide +kernel
@[sl_canon] theorem ysem_off47 (k : Fin k0_t1_loop.trips)  (hh) : (cc0_scoped12.slice (Rect.unit (s := S2) (k0_off47 (w9 k.val)) S1.size hh)).squeeze S_ squeezes_S1_S_ = ysem (Ring.sl 2 (k.val / 8)) := ysem_congr (off47_eq k) _
theorem off49_eq : ∀ k : Fin k0_t1_loop.trips, k0_off49 (w9 k.val) = slotOff (Ring.sl 2 (k.val / 8)) := by decide +kernel
@[sl_canon] theorem yslot_off49 (k : Fin k0_t1_loop.trips)  (hh hs) : (yBuf.slice (Rect.unit (s := S2x512x2048) (k0_off49 (w9 k.val)) S1x512x2048.size hh) hs).squeeze S512x2048 squeezes_S1x512x2048_S512x2048 = yslot (Ring.sl 2 (k.val / 8)) := yslot_congr (off49_eq k) _ _
theorem off48_eq : ∀ k : Fin k0_t1_loop.trips, k0_off48 (w21 k.val) = rowOff (Ring.sl 16 (k.val / 8)) := by decide +kernel
@[sl_canon] theorem yblk_off48 (k : Fin k0_t1_loop.trips)  (hh hs) : yHbm.slice (Rect.unit (s := S8192x2048) (k0_off48 (w21 k.val)) S512x2048.size hh) hs = yblk (Ring.sl 16 (k.val / 8)) := yblk_congr (off48_eq k) _ _
theorem off53_eq : ∀ k : Fin k0_t1_loop.trips, k.val % 8 = 0 ∧ 0 < k.val → k0_off53 (w18 k.val) = semOff (Ring.sl 2 (k.val / 8 - 1)) := by decide +kernel
@[sl_canon] theorem ysem_off53 (k : Fin k0_t1_loop.trips) (hk : k.val % 8 = 0 ∧ 0 < k.val) (hh) : (cc0_scoped12.slice (Rect.unit (s := S2) (k0_off53 (w18 k.val)) S1.size hh)).squeeze S_ squeezes_S1_S_ = ysem (Ring.sl 2 (k.val / 8 - 1)) := ysem_congr (off53_eq k hk) _
theorem off55_eq : ∀ k : Fin k0_t1_loop.trips, k.val % 8 = 0 ∧ 0 < k.val → k0_off55 (w18 k.val) = slotOff (Ring.sl 2 (k.val / 8 - 1)) := by decide +kernel
@[sl_canon] theorem yslot_off55 (k : Fin k0_t1_loop.trips) (hk : k.val % 8 = 0 ∧ 0 < k.val) (hh hs) : (yBuf.slice (Rect.unit (s := S2x512x2048) (k0_off55 (w18 k.val)) S1x512x2048.size hh) hs).squeeze S512x2048 squeezes_S1x512x2048_S512x2048 = yslot (Ring.sl 2 (k.val / 8 - 1)) := yslot_congr (off55_eq k hk) _ _
theorem off54_eq : ∀ k : Fin k0_t1_loop.trips, k.val % 8 = 0 ∧ 0 < k.val → k0_off54 (w21 k.val) (w22 k.val) = rowOff (Ring.sl 16 (k.val / 8 - 1)) := by decide +kernel
@[sl_canon] theorem yblk_off54 (k : Fin k0_t1_loop.trips) (hk : k.val % 8 = 0 ∧ 0 < k.val) (hh hs) : yHbm.slice (Rect.unit (s := S8192x2048) (k0_off54 (w21 k.val) (w22 k.val)) S512x2048.size hh) hs = yblk (Ring.sl 16 (k.val / 8 - 1)) := yblk_congr (off54_eq k hk) _ _
@[sl_canon] theorem ysemE (hh) : (cc0_scoped12.slice (Rect.unit (s := S2) (k0_off59 (w18 128)) S1.size hh)).squeeze S_ squeezes_S1_S_ = ysem 1 := ysem_congr (by decide +kernel) _
@[sl_canon] theorem yslotE (hh hs) : (yBuf.slice (Rect.unit (s := S2x512x2048) (k0_off61 (w18 128)) S1x512x2048.size hh) hs).squeeze S512x2048 squeezes_S1x512x2048_S512x2048 = yslot 1 := yslot_congr (by decide +kernel) _ _
@[sl_canon] theorem yblkE (hh hs) : yHbm.slice (Rect.unit (s := S8192x2048) (k0_off60 (w22 128) (w21 128)) S512x2048.size hh) hs = yblk 15 := yblk_congr (by decide +kernel) _ _

/-! ## The boxes of the loads and stores -/

theorem off36_eq : ∀ k : Fin k0_t1_loop.trips, k0_off36 (w9 k.val) = slotOff (Ring.sl 2 (k.val / 8)) := by decide +kernel
instance closedOff36 (k : Fin k0_t1_loop.trips) : ClosedOff (k0_off36 (w9 k.val)) := ⟨slotOff (Ring.sl 2 (k.val / 8)), off36_eq k⟩
theorem off37_eq : ∀ k : Fin k0_t1_loop.trips, k0_off37 (w9 k.val) = slotOff (Ring.sl 2 (k.val / 8)) := by decide +kernel
instance closedOff37 (k : Fin k0_t1_loop.trips) : ClosedOff (k0_off37 (w9 k.val)) := ⟨slotOff (Ring.sl 2 (k.val / 8)), off37_eq k⟩
theorem off38_eq : ∀ k : Fin k0_t1_loop.trips, k0_off38 (w9 k.val) = slotOff (Ring.sl 2 (k.val / 8)) := by decide +kernel
instance closedOff38 (k : Fin k0_t1_loop.trips) : ClosedOff (k0_off38 (w9 k.val)) := ⟨slotOff (Ring.sl 2 (k.val / 8)), off38_eq k⟩
theorem off39_eq : ∀ k : Fin k0_t1_loop.trips, k0_off39 (w11 k.val) = slotOff (Ring.sl 3 k.val) := by decide +kernel
instance closedOff39 (k : Fin k0_t1_loop.trips) : ClosedOff (k0_off39 (w11 k.val)) := ⟨slotOff (Ring.sl 3 k.val), off39_eq k⟩
theorem off40_eq : ∀ k : Fin k0_t1_loop.trips, k0_off40 (w9 k.val) = slotOff (Ring.sl 2 (k.val / 8)) := by decide +kernel
instance closedOff40 (k : Fin k0_t1_loop.trips) : ClosedOff (k0_off40 (w9 k.val)) := ⟨slotOff (Ring.sl 2 (k.val / 8)), off40_eq k⟩
theorem off41_eq : ∀ k : Fin k0_t1_loop.trips, k0_off41 (w11 k.val) = slotOff (Ring.sl 3 k.val) := by decide +kernel
instance closedOff41 (k : Fin k0_t1_loop.trips) : ClosedOff (k0_off41 (w11 k.val)) := ⟨slotOff (Ring.sl 3 k.val), off41_eq k⟩
theorem off42_eq : ∀ k : Fin k0_t1_loop.trips, k0_off42 (w9 k.val) = slotOff (Ring.sl 2 (k.val / 8)) := by decide +kernel
instance closedOff42 (k : Fin k0_t1_loop.trips) : ClosedOff (k0_off42 (w9 k.val)) := ⟨slotOff (Ring.sl 2 (k.val / 8)), off42_eq k⟩
theorem off43_eq : ∀ k : Fin k0_t1_loop.trips, k0_off43 (w9 k.val) = slotOff (Ring.sl 2 (k.val / 8)) := by decide +kernel
instance closedOff43 (k : Fin k0_t1_loop.trips) : ClosedOff (k0_off43 (w9 k.val)) := ⟨slotOff (Ring.sl 2 (k.val / 8)), off43_eq k⟩

end Cert.Kernel7Ideal.Hand
-- ==== Proof.FirstPieces.lean ====
/-
  The first layer's feed-forward, whose normalised rows come out in bf16.

  What the kernel holds between two trips, slot by slot.

  Each of the four streamed inputs is lent to its slots by share: a slot at rest has its share of the whole input,
  a slot in flight has lent the window its transfer reads. The two outputs are held whole, except for the one row
  block that is being written at most.
-/
module

public import proofs.«01_k».proof.Proof.FirstWords

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The share of an input that each of two slots lends from. -/
def share2 (s : Fin 2) : PosShare TreeShare := if s = 0 then fullShare.left else fullShare.right
/-- The share of an input that each of three slots lends from. -/
def share3 (s : Fin 3) : PosShare TreeShare := Ring.shares3 fullShare s

omit [FloatOps F] in
theorem eq_of_bi {P Q : sProp 𝕄} (h : P ⊣⊢ Q) : P = Q := Idealize.SL.BI.Entails.antisymm h.1 h.2

section Pieces
variable (c : Dev nD)

abbrev uCell (s : Fin 2) : sProp 𝕄 := semVal ((c : Thread nD τ), SemLoc.dma (usem s).sem) 0
abbrev uSlotC (s : Fin 2) : Type := Buf (Elt F) ((uslot s).view.loc (c : Thread nD τ))
abbrev uSlotP (s : Fin 2) (f : uSlotC (F := F) c s) : sProp 𝕄 :=
  (uslot s).view.loc (c : Thread nD τ) ↦[(uslot s).view.set]{fullShare} f
abbrev uHbmC : Type := Buf (Elt F) (uHbm.view.loc (c : Thread nD τ))
/-- Slot `s`'s share of the whole input. -/
abbrev uTok (Xu : uHbmC (F := F) c) (s : Fin 2) : sProp 𝕄 :=
  uHbm.view.loc (c : Thread nD τ) ↦[uHbm.view.set]{share2 s} Xu
abbrev uWin (Xu : uHbmC (F := F) c) (s : Fin 2) (b : Fin 16) : sProp 𝕄 :=
  (ublk b).view.loc (c : Thread nD τ) ↦[(ublk b).view.set]{share2 s} Xu
abbrev uRest (Xu : uHbmC (F := F) c) (s : Fin 2) (b : Fin 16) : sProp 𝕄 :=
  uHbm.view.loc (c : Thread nD τ) ↦[uHbm.view.set \ (ublk b).view.set]{share2 s} Xu
/-- Block `b` as a transfer carries it. -/
abbrev uPay (Xu : uHbmC (F := F) c) (b : Fin 16) : S512x2048.Idx → Elt F .bf16 :=
  ReadAs.same.apply ((ublk b).view.read (Elt F) Xu)
/-- What block `b`'s transfer leaves in slot `s` over contents `f`. -/
abbrev uLanded (Xu : uHbmC (F := F) c) (s : Fin 2) (b : Fin 16) (f : uSlotC (F := F) c s) : uSlotC (F := F) c s :=
  (uslot s).view.writes (Elt F) f [⟨Rect.whole S512x2048, uPay c Xu b⟩]
abbrev uFlight (Xu : uHbmC (F := F) c) (s : Fin 2) (b : Fin 16) (f : uSlotC (F := F) c s) : sProp 𝕄 :=
  Transfers.Flight countersEmb (c : Thread nD τ) (SemLoc.dma (usem s).sem) () 65536 iprop(uSlotP c s f ∗ uWin c Xu s b)
/-- The slot holds block `b`. -/
abbrev uHolds (Xu : uHbmC (F := F) c) (s : Fin 2) (b : Fin 16) (f : uSlotC (F := F) c s) : Prop :=
  (uslot s).view.read (Elt F) f = (ublk b).view.read (Elt F) Xu
/-- The slot of turn `n` at rest. -/
def uFree (Xu : uHbmC (F := F) c) (s : Fin 2) : sProp 𝕄 :=
  iprop((∃ f, uSlotP c s f) ∗ uCell (F := F) c s ∗ uTok c Xu s)
/-- The slot of turn `n` in flight with that turn's block. -/
def uInfl (Xu : uHbmC (F := F) c) (n : ℕ) : sProp 𝕄 :=
  iprop(∃ f, uFlight c Xu (Ring.sl 2 n) (Ring.sl 16 n) f ∗ uRest c Xu (Ring.sl 2 n) (Ring.sl 16 n)
    ∗ ⌜uHolds c Xu (Ring.sl 2 n) (Ring.sl 16 n) f⌝)
/-- The slot of turn `n` holding that turn's block. -/
def uLand (Xu : uHbmC (F := F) c) (n : ℕ) : sProp 𝕄 :=
  iprop(∃ f, uSlotP c (Ring.sl 2 n) f ∗ uCell (F := F) c (Ring.sl 2 n) ∗ uTok c Xu (Ring.sl 2 n)
    ∗ ⌜uHolds c Xu (Ring.sl 2 n) (Ring.sl 16 n) f⌝)
omit [FloatOps F] in
theorem uHolds_landed (Xu : uHbmC (F := F) c) (s : Fin 2) (b : Fin 16) (f : uSlotC (F := F) c s) :
    uHolds c Xu s b (uLanded c Xu s b f) :=
  View.read_writes_whole _ _ _
omit [FloatOps F] in
theorem uTok_split (Xu : uHbmC (F := F) c) (s : Fin 2) (b : Fin 16) :
    uTok c Xu s = iprop(uWin c Xu s b ∗ uRest c Xu s b) :=
  eq_of_bi (pointsTo_split_subset (by rw [show uHbm.view.set = Finset.univ from View.set_whole _]; exact Finset.subset_univ _))

abbrev wuCell (s : Fin 3) : sProp 𝕄 := semVal ((c : Thread nD τ), SemLoc.dma (wusem s).sem) 0
abbrev wuSlotC (s : Fin 3) : Type := Buf (Elt F) ((wuslot s).view.loc (c : Thread nD τ))
abbrev wuSlotP (s : Fin 3) (f : wuSlotC (F := F) c s) : sProp 𝕄 :=
  (wuslot s).view.loc (c : Thread nD τ) ↦[(wuslot s).view.set]{fullShare} f
abbrev wuHbmC : Type := Buf (Elt F) (wuHbm.view.loc (c : Thread nD τ))
/-- Slot `s`'s share of the whole input. -/
abbrev wuTok (Xwu : wuHbmC (F := F) c) (s : Fin 3) : sProp 𝕄 :=
  wuHbm.view.loc (c : Thread nD τ) ↦[wuHbm.view.set]{share3 s} Xwu
abbrev wuWin (Xwu : wuHbmC (F := F) c) (s : Fin 3) (b : Fin 8) : sProp 𝕄 :=
  (wublk b).view.loc (c : Thread nD τ) ↦[(wublk b).view.set]{share3 s} Xwu
abbrev wuRest (Xwu : wuHbmC (F := F) c) (s : Fin 3) (b : Fin 8) : sProp 𝕄 :=
  wuHbm.view.loc (c : Thread nD τ) ↦[wuHbm.view.set \ (wublk b).view.set]{share3 s} Xwu
/-- Block `b` as a transfer carries it. -/
abbrev wuPay (Xwu : wuHbmC (F := F) c) (b : Fin 8) : S2048x1024.Idx → Elt F .bf16 :=
  ReadAs.same.apply ((wublk b).view.read (Elt F) Xwu)
/-- What block `b`'s transfer leaves in slot `s` over contents `f`. -/
abbrev wuLanded (Xwu : wuHbmC (F := F) c) (s : Fin 3) (b : Fin 8) (f : wuSlotC (F := F) c s) : wuSlotC (F := F) c s :=
  (wuslot s).view.writes (Elt F) f [⟨Rect.whole S2048x1024, wuPay c Xwu b⟩]
abbrev wuFlight (Xwu : wuHbmC (F := F) c) (s : Fin 3) (b : Fin 8) (f : wuSlotC (F := F) c s) : sProp 𝕄 :=
  Transfers.Flight countersEmb (c : Thread nD τ) (SemLoc.dma (wusem s).sem) () 131072 iprop(wuSlotP c s f ∗ wuWin c Xwu s b)
/-- The slot holds block `b`. -/
abbrev wuHolds (Xwu : wuHbmC (F := F) c) (s : Fin 3) (b : Fin 8) (f : wuSlotC (F := F) c s) : Prop :=
  (wuslot s).view.read (Elt F) f = (wublk b).view.read (Elt F) Xwu
/-- The slot of turn `n` at rest. -/
def wuFree (Xwu : wuHbmC (F := F) c) (s : Fin 3) : sProp 𝕄 :=
  iprop((∃ f, wuSlotP c s f) ∗ wuCell (F := F) c s ∗ wuTok c Xwu s)
/-- The slot of turn `n` in flight with that turn's block. -/
def wuInfl (Xwu : wuHbmC (F := F) c) (n : ℕ) : sProp 𝕄 :=
  iprop(∃ f, wuFlight c Xwu (Ring.sl 3 n) (Ring.sl 8 n) f ∗ wuRest c Xwu (Ring.sl 3 n) (Ring.sl 8 n)
    ∗ ⌜wuHolds c Xwu (Ring.sl 3 n) (Ring.sl 8 n) f⌝)
/-- The slot of turn `n` holding that turn's block. -/
def wuLand (Xwu : wuHbmC (F := F) c) (n : ℕ) : sProp 𝕄 :=
  iprop(∃ f, wuSlotP c (Ring.sl 3 n) f ∗ wuCell (F := F) c (Ring.sl 3 n) ∗ wuTok c Xwu (Ring.sl 3 n)
    ∗ ⌜wuHolds c Xwu (Ring.sl 3 n) (Ring.sl 8 n) f⌝)
omit [FloatOps F] in
theorem wuHolds_landed (Xwu : wuHbmC (F := F) c) (s : Fin 3) (b : Fin 8) (f : wuSlotC (F := F) c s) :
    wuHolds c Xwu s b (wuLanded c Xwu s b f) :=
  View.read_writes_whole _ _ _
omit [FloatOps F] in
theorem wuTok_split (Xwu : wuHbmC (F := F) c) (s : Fin 3) (b : Fin 8) :
    wuTok c Xwu s = iprop(wuWin c Xwu s b ∗ wuRest c Xwu s b) :=
  eq_of_bi (pointsTo_split_subset (by rw [show wuHbm.view.set = Finset.univ from View.set_whole _]; exact Finset.subset_univ _))

abbrev wdCell (s : Fin 3) : sProp 𝕄 := semVal ((c : Thread nD τ), SemLoc.dma (wdsem s).sem) 0
abbrev wdSlotC (s : Fin 3) : Type := Buf (Elt F) ((wdslot s).view.loc (c : Thread nD τ))
abbrev wdSlotP (s : Fin 3) (f : wdSlotC (F := F) c s) : sProp 𝕄 :=
  (wdslot s).view.loc (c : Thread nD τ) ↦[(wdslot s).view.set]{fullShare} f
abbrev wdHbmC : Type := Buf (Elt F) (wdHbm.view.loc (c : Thread nD τ))
/-- Slot `s`'s share of the whole input. -/
abbrev wdTok (Xwd : wdHbmC (F := F) c) (s : Fin 3) : sProp 𝕄 :=
  wdHbm.view.loc (c : Thread nD τ) ↦[wdHbm.view.set]{share3 s} Xwd
abbrev wdWin (Xwd : wdHbmC (F := F) c) (s : Fin 3) (b : Fin 8) : sProp 𝕄 :=
  (wdblk b).view.loc (c : Thread nD τ) ↦[(wdblk b).view.set]{share3 s} Xwd
abbrev wdRest (Xwd : wdHbmC (F := F) c) (s : Fin 3) (b : Fin 8) : sProp 𝕄 :=
  wdHbm.view.loc (c : Thread nD τ) ↦[wdHbm.view.set \ (wdblk b).view.set]{share3 s} Xwd
/-- Block `b` as a transfer carries it. -/
abbrev wdPay (Xwd : wdHbmC (F := F) c) (b : Fin 8) : S1024x2048.Idx → Elt F .bf16 :=
  ReadAs.same.apply ((wdblk b).view.read (Elt F) Xwd)
/-- What block `b`'s transfer leaves in slot `s` over contents `f`. -/
abbrev wdLanded (Xwd : wdHbmC (F := F) c) (s : Fin 3) (b : Fin 8) (f : wdSlotC (F := F) c s) : wdSlotC (F := F) c s :=
  (wdslot s).view.writes (Elt F) f [⟨Rect.whole S1024x2048, wdPay c Xwd b⟩]
abbrev wdFlight (Xwd : wdHbmC (F := F) c) (s : Fin 3) (b : Fin 8) (f : wdSlotC (F := F) c s) : sProp 𝕄 :=
  Transfers.Flight countersEmb (c : Thread nD τ) (SemLoc.dma (wdsem s).sem) () 131072 iprop(wdSlotP c s f ∗ wdWin c Xwd s b)
/-- The slot holds block `b`. -/
abbrev wdHolds (Xwd : wdHbmC (F := F) c) (s : Fin 3) (b : Fin 8) (f : wdSlotC (F := F) c s) : Prop :=
  (wdslot s).view.read (Elt F) f = (wdblk b).view.read (Elt F) Xwd
/-- The slot of turn `n` at rest. -/
def wdFree (Xwd : wdHbmC (F := F) c) (s : Fin 3) : sProp 𝕄 :=
  iprop((∃ f, wdSlotP c s f) ∗ wdCell (F := F) c s ∗ wdTok c Xwd s)
/-- The slot of turn `n` in flight with that turn's block. -/
def wdInfl (Xwd : wdHbmC (F := F) c) (n : ℕ) : sProp 𝕄 :=
  iprop(∃ f, wdFlight c Xwd (Ring.sl 3 n) (Ring.sl 8 n) f ∗ wdRest c Xwd (Ring.sl 3 n) (Ring.sl 8 n)
    ∗ ⌜wdHolds c Xwd (Ring.sl 3 n) (Ring.sl 8 n) f⌝)
/-- The slot of turn `n` holding that turn's block. -/
def wdLand (Xwd : wdHbmC (F := F) c) (n : ℕ) : sProp 𝕄 :=
  iprop(∃ f, wdSlotP c (Ring.sl 3 n) f ∗ wdCell (F := F) c (Ring.sl 3 n) ∗ wdTok c Xwd (Ring.sl 3 n)
    ∗ ⌜wdHolds c Xwd (Ring.sl 3 n) (Ring.sl 8 n) f⌝)
omit [FloatOps F] in
theorem wdHolds_landed (Xwd : wdHbmC (F := F) c) (s : Fin 3) (b : Fin 8) (f : wdSlotC (F := F) c s) :
    wdHolds c Xwd s b (wdLanded c Xwd s b f) :=
  View.read_writes_whole _ _ _
omit [FloatOps F] in
theorem wdTok_split (Xwd : wdHbmC (F := F) c) (s : Fin 3) (b : Fin 8) :
    wdTok c Xwd s = iprop(wdWin c Xwd s b ∗ wdRest c Xwd s b) :=
  eq_of_bi (pointsTo_split_subset (by rw [show wdHbm.view.set = Finset.univ from View.set_whole _]; exact Finset.subset_univ _))

abbrev hCell (s : Fin 2) : sProp 𝕄 := semVal ((c : Thread nD τ), SemLoc.dma (hsem s).sem) 0
abbrev hSlotC (s : Fin 2) : Type := Buf (Elt F) ((hslot s).view.loc (c : Thread nD τ))
abbrev hSlotP (s : Fin 2) (f : hSlotC (F := F) c s) : sProp 𝕄 :=
  (hslot s).view.loc (c : Thread nD τ) ↦[(hslot s).view.set]{fullShare} f
abbrev hHbmC : Type := Buf (Elt F) (hHbm.view.loc (c : Thread nD τ))
/-- Slot `s`'s share of the whole input. -/
abbrev hTok (Xh : hHbmC (F := F) c) (s : Fin 2) : sProp 𝕄 :=
  hHbm.view.loc (c : Thread nD τ) ↦[hHbm.view.set]{share2 s} Xh
abbrev hWin (Xh : hHbmC (F := F) c) (s : Fin 2) (b : Fin 16) : sProp 𝕄 :=
  (hblk b).view.loc (c : Thread nD τ) ↦[(hblk b).view.set]{share2 s} Xh
abbrev hRest (Xh : hHbmC (F := F) c) (s : Fin 2) (b : Fin 16) : sProp 𝕄 :=
  hHbm.view.loc (c : Thread nD τ) ↦[hHbm.view.set \ (hblk b).view.set]{share2 s} Xh
/-- Block `b` as a transfer carries it. -/
abbrev hPay (Xh : hHbmC (F := F) c) (b : Fin 16) : S512x2048.Idx → Elt F .f32 :=
  ReadAs.same.apply ((hblk b).view.read (Elt F) Xh)
/-- What block `b`'s transfer leaves in slot `s` over contents `f`. -/
abbrev hLanded (Xh : hHbmC (F := F) c) (s : Fin 2) (b : Fin 16) (f : hSlotC (F := F) c s) : hSlotC (F := F) c s :=
  (hslot s).view.writes (Elt F) f [⟨Rect.whole S512x2048, hPay c Xh b⟩]
abbrev hFlight (Xh : hHbmC (F := F) c) (s : Fin 2) (b : Fin 16) (f : hSlotC (F := F) c s) : sProp 𝕄 :=
  Transfers.Flight countersEmb (c : Thread nD τ) (SemLoc.dma (hsem s).sem) () 131072 iprop(hSlotP c s f ∗ hWin c Xh s b)
/-- The slot holds block `b`. -/
abbrev hHolds (Xh : hHbmC (F := F) c) (s : Fin 2) (b : Fin 16) (f : hSlotC (F := F) c s) : Prop :=
  (hslot s).view.read (Elt F) f = (hblk b).view.read (Elt F) Xh
/-- The slot of turn `n` at rest. -/
def hFree (Xh : hHbmC (F := F) c) (s : Fin 2) : sProp 𝕄 :=
  iprop((∃ f, hSlotP c s f) ∗ hCell (F := F) c s ∗ hTok c Xh s)
/-- The slot of turn `n` in flight with that turn's block. -/
def hInfl (Xh : hHbmC (F := F) c) (n : ℕ) : sProp 𝕄 :=
  iprop(∃ f, hFlight c Xh (Ring.sl 2 n) (Ring.sl 16 n) f ∗ hRest c Xh (Ring.sl 2 n) (Ring.sl 16 n)
    ∗ ⌜hHolds c Xh (Ring.sl 2 n) (Ring.sl 16 n) f⌝)
/-- The slot of turn `n` holding that turn's block. -/
def hLand (Xh : hHbmC (F := F) c) (n : ℕ) : sProp 𝕄 :=
  iprop(∃ f, hSlotP c (Ring.sl 2 n) f ∗ hCell (F := F) c (Ring.sl 2 n) ∗ hTok c Xh (Ring.sl 2 n)
    ∗ ⌜hHolds c Xh (Ring.sl 2 n) (Ring.sl 16 n) f⌝)
omit [FloatOps F] in
theorem hHolds_landed (Xh : hHbmC (F := F) c) (s : Fin 2) (b : Fin 16) (f : hSlotC (F := F) c s) :
    hHolds c Xh s b (hLanded c Xh s b f) :=
  View.read_writes_whole _ _ _
omit [FloatOps F] in
theorem hTok_split (Xh : hHbmC (F := F) c) (s : Fin 2) (b : Fin 16) :
    hTok c Xh s = iprop(hWin c Xh s b ∗ hRest c Xh s b) :=
  eq_of_bi (pointsTo_split_subset (by rw [show hHbm.view.set = Finset.univ from View.set_whole _]; exact Finset.subset_univ _))

abbrev oCell (s : Fin 2) : sProp 𝕄 := semVal ((c : Thread nD τ), SemLoc.dma (osem s).sem) 0
abbrev oSlotC (s : Fin 2) : Type := Buf (Elt F) ((oslot s).view.loc (c : Thread nD τ))
abbrev oSlotP (s : Fin 2) (f : oSlotC (F := F) c s) : sProp 𝕄 :=
  (oslot s).view.loc (c : Thread nD τ) ↦[(oslot s).view.set]{fullShare} f
abbrev oHbmC : Type := Buf (Elt F) (oHbm.view.loc (c : Thread nD τ))

abbrev yCell (s : Fin 2) : sProp 𝕄 := semVal ((c : Thread nD τ), SemLoc.dma (ysem s).sem) 0
abbrev ySlotC (s : Fin 2) : Type := Buf (Elt F) ((yslot s).view.loc (c : Thread nD τ))
abbrev ySlotP (s : Fin 2) (f : ySlotC (F := F) c s) : sProp 𝕄 :=
  (yslot s).view.loc (c : Thread nD τ) ↦[(yslot s).view.set]{fullShare} f
abbrev yHbmC : Type := Buf (Elt F) (yHbm.view.loc (c : Thread nD τ))

end Pieces
end Cert.Kernel7Ideal.Hand
-- ==== Proof.FirstState.lean ====
/-
  The first layer's feed-forward, whose normalised rows come out in bf16.

  The values the kernel computes, and what it holds before a trip.

  Row block `i` starts from the residual's block and takes one step per block of features: the input's rows times the
  block of the first weight, the negative part cut off, squared, times the block of the second weight, added on. After
  the last step the block is the first output's; its rows, scaled by the inverse root of their mean square and by the
  gain, are the second output's.
-/
module

public import proofs.«01_k».proof.Proof.FirstPieces
public import Idealize.ShloMosaic.Lib.Pipeline.Value

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev gBuf : Memref sig .tc .vmem S1x2048 .f32 := Memref.whole cc0_scoped8
abbrev gHbm : Memref sig .tc .hbm S1x2048 .f32 := Memref.whole main_v4

/-! ## Values -/

/-- The first product's positive part for one block of features. -/
def upPos (u : FVec F S512x2048 .bf16) (wu : FVec F S2048x1024 .bf16) : FVec F S512x1024 .f32 :=
  maximumf (matmul dot_S512x2048_S2048x1024_S512x1024_1_0_0_1_n_n none u wu (constant S512x1024 .f32 0x00000000#32))
    (broadcast S512x1024 (Scalar.ofBits .f32 0x00000000#32))

/-- One block of features: `acc + relu(u wu)² wd`. -/
def mlpStep (u : FVec F S512x2048 .bf16) (wu : FVec F S2048x1024 .bf16) (acc : FVec F S512x2048 .f32)
    (wd : FVec F S1024x2048 .bf16) : FVec F S512x2048 .f32 :=
  addf acc (matmul dot_S512x1024_S1024x2048_S512x2048_1_0_0_1_n_n none
    (truncf .bf16 (mulf (upPos u wu) (upPos u wu)) bitsLt_bf16_f32) wd (constant S512x2048 .f32 0x00000000#32))

/-- The rows of `x` scaled by the inverse root of their mean square, and by the gain. -/
def rmsRows (x : FVec F S512x2048 .f32) (g : FVec F S1x2048 .f32) : FVec F S512x2048 .f32 :=
  mulf (mulf x (broadcastTo S512x2048
      (rsqrt (addf (divf (shapeCast S512x1 (multiReduction .add [1] S512 (mulf x x) 0x00000000#32 reduces_S512x2048_S512 (.inl rfl) rfl) shapeCasts_S512_S512x1)
          (broadcast S512x1 (Scalar.ofBits .f32 0x45000000#32)))
        (broadcast S512x1 (Scalar.ofBits .f32 0x358637BD#32)))) broadcasts_S512x1_S512x2048))
    (broadcastTo S512x2048 g broadcasts_S1x2048_S512x2048)

/-- The scaled rows in bf16. -/
def roundRows (x : FVec F S512x2048 .f32) (g : FVec F S1x2048 .f32) : FVec F S512x2048 .bf16 := truncf .bf16 (rmsRows x g) bitsLt_bf16_f32

theorem k0_pay1_eq (v : Vec F S1x512x2048 .f32) :
    k0_pay1 (F := F) v = shapeCast S1x512x2048 (shapeCast S512x2048 v shapeCasts_S1x512x2048_S512x2048) shapeCasts_S512x2048_S1x512x2048 := rfl

theorem k0_pay2_eq (u : Vec F S1x512x2048 .bf16) (wu : Vec F S1x2048x1024 .bf16) (acc : Vec F S1x512x2048 .f32) (wd : Vec F S1x1024x2048 .bf16) :
    k0_pay2 (F := F) u wu acc wd = shapeCast S1x512x2048 (mlpStep (shapeCast S512x2048 u shapeCasts_S1x512x2048_S512x2048)
      (shapeCast S2048x1024 wu shapeCasts_S1x2048x1024_S2048x1024) (shapeCast S512x2048 acc shapeCasts_S1x512x2048_S512x2048)
      (shapeCast S1024x2048 wd shapeCasts_S1x1024x2048_S1024x2048)) shapeCasts_S512x2048_S1x512x2048 := rfl

theorem k0_pay3_eq (x : Vec F S1x512x2048 .f32) (g : Vec F S1x2048 .f32) :
    k0_pay3 (F := F) x g = shapeCast S1x512x2048 (roundRows (shapeCast S512x2048 x shapeCasts_S1x512x2048_S512x2048)
      (shapeCast S1x2048 g shapeCasts_S1x2048_S1x2048)) shapeCasts_S512x2048_S1x512x2048 := rfl

/-! ## Loads and stores at a slot -/

omit [FloatOps F] in
/-- A load of slot `s`'s box, its unit axis dropped, is the slot's contents. -/
theorem uslot_load {off : Fin 3 → Nat} {s : Fin 2} (e : off = slotOff s) (hh) (f : uBuf.view.ty.Contents (Elt F)) :
    shapeCast S512x2048 (uBuf.view.readAt (Elt F) (Rect.unit (s := S2x512x2048) off S1x512x2048.size hh).toLoadRect f) shapeCasts_S1x512x2048_S512x2048
      = (uslot s).view.read (Elt F) f := by
  subst e; rfl

omit [FloatOps F] in
/-- A load of slot `s`'s box, its unit axis dropped, is the slot's contents. -/
theorem wuslot_load {off : Fin 3 → Nat} {s : Fin 3} (e : off = slotOff s) (hh) (f : wuBuf.view.ty.Contents (Elt F)) :
    shapeCast S2048x1024 (wuBuf.view.readAt (Elt F) (Rect.unit (s := S3x2048x1024) off S1x2048x1024.size hh).toLoadRect f) shapeCasts_S1x2048x1024_S2048x1024
      = (wuslot s).view.read (Elt F) f := by
  subst e; rfl

omit [FloatOps F] in
/-- A load of slot `s`'s box, its unit axis dropped, is the slot's contents. -/
theorem wdslot_load {off : Fin 3 → Nat} {s : Fin 3} (e : off = slotOff s) (hh) (f : wdBuf.view.ty.Contents (Elt F)) :
    shapeCast S1024x2048 (wdBuf.view.readAt (Elt F) (Rect.unit (s := S3x1024x2048) off S1x1024x2048.size hh).toLoadRect f) shapeCasts_S1x1024x2048_S1024x2048
      = (wdslot s).view.read (Elt F) f := by
  subst e; rfl

omit [FloatOps F] in
/-- A load of slot `s`'s box, its unit axis dropped, is the slot's contents. -/
theorem hslot_load {off : Fin 3 → Nat} {s : Fin 2} (e : off = slotOff s) (hh) (f : hBuf.view.ty.Contents (Elt F)) :
    shapeCast S512x2048 (hBuf.view.readAt (Elt F) (Rect.unit (s := S2x512x2048) off S1x512x2048.size hh).toLoadRect f) shapeCasts_S1x512x2048_S512x2048
      = (hslot s).view.read (Elt F) f := by
  subst e; rfl

omit [FloatOps F] in
/-- A load of slot `s`'s box, its unit axis dropped, is the slot's contents. -/
theorem oslot_load {off : Fin 3 → Nat} {s : Fin 2} (e : off = slotOff s) (hh) (f : oBuf.view.ty.Contents (Elt F)) :
    shapeCast S512x2048 (oBuf.view.readAt (Elt F) (Rect.unit (s := S2x512x2048) off S1x512x2048.size hh).toLoadRect f) shapeCasts_S1x512x2048_S512x2048
      = (oslot s).view.read (Elt F) f := by
  subst e; rfl

omit [FloatOps F] in
/-- A store over slot `s`'s box leaves the stored block in the slot. -/
theorem oslot_store {off : Fin 3 → Nat} {s : Fin 2} (e : off = slotOff s) (hh) (f : oBuf.view.ty.Contents (Elt F))
    (v : S512x2048.Idx → Elt F .f32) :
    (oslot s).view.read (Elt F)
      (View.write (Elt F) (oBuf.access (Rect.unit (s := S2x512x2048) off S1x512x2048.size hh)) f (shapeCast S1x512x2048 v shapeCasts_S512x2048_S1x512x2048) Finset.univ) = v := by
  subst e
  have h := View.read_write_univ (Val := Elt F) (v := oBuf.access (Rect.unit (s := S2x512x2048) (slotOff s) S1x512x2048.size hh)) f (shapeCast S1x512x2048 v shapeCasts_S512x2048_S1x512x2048)
  calc _ = shapeCast S512x2048 ((oBuf.access (Rect.unit (s := S2x512x2048) (slotOff s) S1x512x2048.size hh)).read (Elt F) (View.write (Elt F) (oBuf.access (Rect.unit (s := S2x512x2048) (slotOff s) S1x512x2048.size hh)) f (shapeCast S1x512x2048 v shapeCasts_S512x2048_S1x512x2048) Finset.univ)) shapeCasts_S1x512x2048_S512x2048 := rfl
    _ = v := by rw [h]; exact shapeCast_shapeCast v _ _

omit [FloatOps F] in
/-- A load of slot `s`'s box, its unit axis dropped, is the slot's contents. -/
theorem yslot_load {off : Fin 3 → Nat} {s : Fin 2} (e : off = slotOff s) (hh) (f : yBuf.view.ty.Contents (Elt F)) :
    shapeCast S512x2048 (yBuf.view.readAt (Elt F) (Rect.unit (s := S2x512x2048) off S1x512x2048.size hh).toLoadRect f) shapeCasts_S1x512x2048_S512x2048
      = (yslot s).view.read (Elt F) f := by
  subst e; rfl

omit [FloatOps F] in
/-- A store over slot `s`'s box leaves the stored block in the slot. -/
theorem yslot_store {off : Fin 3 → Nat} {s : Fin 2} (e : off = slotOff s) (hh) (f : yBuf.view.ty.Contents (Elt F))
    (v : S512x2048.Idx → Elt F .bf16) :
    (yslot s).view.read (Elt F)
      (View.write (Elt F) (yBuf.access (Rect.unit (s := S2x512x2048) off S1x512x2048.size hh)) f (shapeCast S1x512x2048 v shapeCasts_S512x2048_S1x512x2048) Finset.univ) = v := by
  subst e
  have h := View.read_write_univ (Val := Elt F) (v := yBuf.access (Rect.unit (s := S2x512x2048) (slotOff s) S1x512x2048.size hh)) f (shapeCast S1x512x2048 v shapeCasts_S512x2048_S1x512x2048)
  calc _ = shapeCast S512x2048 ((yBuf.access (Rect.unit (s := S2x512x2048) (slotOff s) S1x512x2048.size hh)).read (Elt F) (View.write (Elt F) (yBuf.access (Rect.unit (s := S2x512x2048) (slotOff s) S1x512x2048.size hh)) f (shapeCast S1x512x2048 v shapeCasts_S512x2048_S1x512x2048) Finset.univ)) shapeCasts_S1x512x2048_S512x2048 := rfl
    _ = v := by rw [h]; exact shapeCast_shapeCast v _ _

/-! ## The two outputs -/

section Outs
variable (c : Dev nD)

abbrev oHome (X : oHbmC (F := F) c) : sProp 𝕄 := oHbm.view.loc (c : Thread nD τ) ↦[oHbm.view.set]{fullShare} X
abbrev oWin (X : oHbmC (F := F) c) (b : Fin 16) : sProp 𝕄 :=
  (oblk b).view.loc (c : Thread nD τ) ↦[(oblk b).view.set]{fullShare} X
abbrev oRest (X : oHbmC (F := F) c) (b : Fin 16) : sProp 𝕄 :=
  oHbm.view.loc (c : Thread nD τ) ↦[oHbm.view.set \ (oblk b).view.set]{fullShare} X
abbrev oFlight (X : oHbmC (F := F) c) (s : Fin 2) (b : Fin 16) (f : oSlotC (F := F) c s) : sProp 𝕄 :=
  Transfers.Flight countersEmb (c : Thread nD τ) (SemLoc.dma (osem s).sem) () 131072 iprop(oWin c X b ∗ oSlotP c s f)
omit [FloatOps F] in
theorem oHome_split (X : oHbmC (F := F) c) (b : Fin 16) : oHome c X = iprop(oWin c X b ∗ oRest c X b) :=
  eq_of_bi (pointsTo_split_subset (by rw [show oHbm.view.set = Finset.univ from View.set_whole _]; exact Finset.subset_univ _))

/-- Row blocks apart share no element. -/
theorem oblk_disj : ∀ b b' : Fin 16, b ≠ b' → Disjoint (oblk b).view.set (oblk b').view.set := by
  intro b b' h
  refine View.disjoint_slice_of_disj _ _ _ ?_
  revert b b'
  decide +kernel

omit [FloatOps F] in
/-- A written block and the rest, joined. -/
theorem oHome_join (X1 X2 : oHbmC (F := F) c) (b : Fin 16) : iprop(oWin c X1 b ∗ oRest c X2 b) ⊢
    ∃ X, iprop(oHome c X ∗ ⌜(oblk b).view.read (Elt F) X = (oblk b).view.read (Elt F) X1 ∧
      ∀ b', b' ≠ b → (oblk b').view.read (Elt F) X = (oblk b').view.read (Elt F) X2⌝) := by
  classical
  let X : oHbmC (F := F) c := fun i => if i ∈ (oblk b).view.set then X1 i else X2 i
  have e1 : oWin c X1 b = oWin c X b := pointsTo_congr (fun i hi => (if_pos hi).symm)
  have e2 : oRest c X2 b = oRest c X b := pointsTo_congr (fun i hi => (if_neg (Finset.mem_sdiff.mp hi).2).symm)
  rw [e1, e2, ← oHome_split]
  iintro H
  iexists X
  isplitl [H]
  · iexact H
  ipureintro
  refine ⟨?_, fun b' hb => ?_⟩
  · funext x
    exact congrArg _ (if_pos (View.emb_mem_set _ x))
  · funext x
    exact congrArg _ (if_neg (Finset.disjoint_left.mp (oblk_disj b' b hb) (View.emb_mem_set _ x)))

/-- The output at rest with `i` row blocks written. -/
def oIdle (V : ℕ → S512x2048.Idx → Elt F .f32) (i : ℕ) : sProp 𝕄 :=
  iprop(∃ X, oHome c X ∗ ⌜∀ b, b < i → (oblk (Ring.sl 16 b)).view.read (Elt F) X = V b⌝
    ∗ oCell (F := F) c (Ring.sl 2 i) ∗ oCell (F := F) c (Ring.sl 2 (i + 1)) ∗ ∃ f, oSlotP (F := F) c (Ring.sl 2 (i + 1)) f)
/-- Row block `i` on its way out. -/
def oBusy (V : ℕ → S512x2048.Idx → Elt F .f32) (i : ℕ) : sProp 𝕄 :=
  iprop(∃ X1 X2 f, oFlight c X1 (Ring.sl 2 i) (Ring.sl 16 i) f ∗ oRest c X2 (Ring.sl 16 i)
    ∗ ⌜(oblk (Ring.sl 16 i)).view.read (Elt F) X1 = V i ∧ ∀ b, b < i → (oblk (Ring.sl 16 b)).view.read (Elt F) X2 = V b⌝
    ∗ oCell (F := F) c (Ring.sl 2 (i + 1)))
omit [FloatOps F] in
theorem oIdle_of_done (V : ℕ → S512x2048.Idx → Elt F .f32) (i : ℕ) (hi : i < 16) (X1 X2 : oHbmC (F := F) c) (f : oSlotC (F := F) c (Ring.sl 2 i))
    (hX : (oblk (Ring.sl 16 i)).view.read (Elt F) X1 = V i ∧ ∀ b, b < i → (oblk (Ring.sl 16 b)).view.read (Elt F) X2 = V b) :
    iprop(oWin c X1 (Ring.sl 16 i) ∗ oRest c X2 (Ring.sl 16 i) ∗ oCell (F := F) c (Ring.sl 2 i) ∗ oCell (F := F) c (Ring.sl 2 (i + 1))
      ∗ oSlotP c (Ring.sl 2 i) f) ⊢ oIdle c V (i + 1) := by
  iintro ⟨H1, H2, Hc, Hc', Hs⟩
  ihave H := oHome_join c X1 X2 (Ring.sl 16 i) $$ [H1 H2]
  · iframe H1 H2
  icases H with ⟨%X, H, %h⟩
  unfold oIdle
  iexists X
  rw [show Ring.sl 2 (i + 1 + 1) = Ring.sl 2 i from Ring.sl_succ_add 2 i 1 rfl]
  iframe H Hc Hc'
  isplitl []
  · ipureintro
    intro b hb
    rcases Nat.lt_succ_iff_lt_or_eq.mp hb with h' | rfl
    · rw [h.2 _ (by intro e; have := congrArg Fin.val e; simp only [Ring.sl_val] at this; omega), hX.2 b h']
    · rw [h.1, hX.1]
  · iexists f; iexact Hs

abbrev yHome (X : yHbmC (F := F) c) : sProp 𝕄 := yHbm.view.loc (c : Thread nD τ) ↦[yHbm.view.set]{fullShare} X
abbrev yWin (X : yHbmC (F := F) c) (b : Fin 16) : sProp 𝕄 :=
  (yblk b).view.loc (c : Thread nD τ) ↦[(yblk b).view.set]{fullShare} X
abbrev yRest (X : yHbmC (F := F) c) (b : Fin 16) : sProp 𝕄 :=
  yHbm.view.loc (c : Thread nD τ) ↦[yHbm.view.set \ (yblk b).view.set]{fullShare} X
abbrev yFlight (X : yHbmC (F := F) c) (s : Fin 2) (b : Fin 16) (f : ySlotC (F := F) c s) : sProp 𝕄 :=
  Transfers.Flight countersEmb (c : Thread nD τ) (SemLoc.dma (ysem s).sem) () 65536 iprop(yWin c X b ∗ ySlotP c s f)
omit [FloatOps F] in
theorem yHome_split (X : yHbmC (F := F) c) (b : Fin 16) : yHome c X = iprop(yWin c X b ∗ yRest c X b) :=
  eq_of_bi (pointsTo_split_subset (by rw [show yHbm.view.set = Finset.univ from View.set_whole _]; exact Finset.subset_univ _))

/-- Row blocks apart share no element. -/
theorem yblk_disj : ∀ b b' : Fin 16, b ≠ b' → Disjoint (yblk b).view.set (yblk b').view.set := by
  intro b b' h
  refine View.disjoint_slice_of_disj _ _ _ ?_
  revert b b'
  decide +kernel

omit [FloatOps F] in
/-- A written block and the rest, joined. -/
theorem yHome_join (X1 X2 : yHbmC (F := F) c) (b : Fin 16) : iprop(yWin c X1 b ∗ yRest c X2 b) ⊢
    ∃ X, iprop(yHome c X ∗ ⌜(yblk b).view.read (Elt F) X = (yblk b).view.read (Elt F) X1 ∧
      ∀ b', b' ≠ b → (yblk b').view.read (Elt F) X = (yblk b').view.read (Elt F) X2⌝) := by
  classical
  let X : yHbmC (F := F) c := fun i => if i ∈ (yblk b).view.set then X1 i else X2 i
  have e1 : yWin c X1 b = yWin c X b := pointsTo_congr (fun i hi => (if_pos hi).symm)
  have e2 : yRest c X2 b = yRest c X b := pointsTo_congr (fun i hi => (if_neg (Finset.mem_sdiff.mp hi).2).symm)
  rw [e1, e2, ← yHome_split]
  iintro H
  iexists X
  isplitl [H]
  · iexact H
  ipureintro
  refine ⟨?_, fun b' hb => ?_⟩
  · funext x
    exact congrArg _ (if_pos (View.emb_mem_set _ x))
  · funext x
    exact congrArg _ (if_neg (Finset.disjoint_left.mp (yblk_disj b' b hb) (View.emb_mem_set _ x)))

/-- The output at rest with `i` row blocks written. -/
def yIdle (V : ℕ → S512x2048.Idx → Elt F .bf16) (i : ℕ) : sProp 𝕄 :=
  iprop(∃ X, yHome c X ∗ ⌜∀ b, b < i → (yblk (Ring.sl 16 b)).view.read (Elt F) X = V b⌝
    ∗ yCell (F := F) c (Ring.sl 2 i) ∗ yCell (F := F) c (Ring.sl 2 (i + 1)) ∗ ∃ f, ySlotP (F := F) c (Ring.sl 2 (i + 1)) f)
/-- Row block `i` on its way out. -/
def yBusy (V : ℕ → S512x2048.Idx → Elt F .bf16) (i : ℕ) : sProp 𝕄 :=
  iprop(∃ X1 X2 f, yFlight c X1 (Ring.sl 2 i) (Ring.sl 16 i) f ∗ yRest c X2 (Ring.sl 16 i)
    ∗ ⌜(yblk (Ring.sl 16 i)).view.read (Elt F) X1 = V i ∧ ∀ b, b < i → (yblk (Ring.sl 16 b)).view.read (Elt F) X2 = V b⌝
    ∗ yCell (F := F) c (Ring.sl 2 (i + 1)))
omit [FloatOps F] in
theorem yIdle_of_done (V : ℕ → S512x2048.Idx → Elt F .bf16) (i : ℕ) (hi : i < 16) (X1 X2 : yHbmC (F := F) c) (f : ySlotC (F := F) c (Ring.sl 2 i))
    (hX : (yblk (Ring.sl 16 i)).view.read (Elt F) X1 = V i ∧ ∀ b, b < i → (yblk (Ring.sl 16 b)).view.read (Elt F) X2 = V b) :
    iprop(yWin c X1 (Ring.sl 16 i) ∗ yRest c X2 (Ring.sl 16 i) ∗ yCell (F := F) c (Ring.sl 2 i) ∗ yCell (F := F) c (Ring.sl 2 (i + 1))
      ∗ ySlotP c (Ring.sl 2 i) f) ⊢ yIdle c V (i + 1) := by
  iintro ⟨H1, H2, Hc, Hc', Hs⟩
  ihave H := yHome_join c X1 X2 (Ring.sl 16 i) $$ [H1 H2]
  · iframe H1 H2
  icases H with ⟨%X, H, %h⟩
  unfold yIdle
  iexists X
  rw [show Ring.sl 2 (i + 1 + 1) = Ring.sl 2 i from Ring.sl_succ_add 2 i 1 rfl]
  iframe H Hc Hc'
  isplitl []
  · ipureintro
    intro b hb
    rcases Nat.lt_succ_iff_lt_or_eq.mp hb with h' | rfl
    · rw [h.2 _ (by intro e; have := congrArg Fin.val e; simp only [Ring.sl_val] at this; omega), hX.2 b h']
    · rw [h.1, hX.1]
  · iexists f; iexact Hs

end Outs

/-! ## Before a trip -/

section States
variable (c : Dev nD) (Xu : uHbmC (F := F) c) (Xwu : wuHbmC (F := F) c) (Xwd : wdHbmC (F := F) c) (Xh : hHbmC (F := F) c)
  (Xg : Buf (Elt F) (gBuf.view.loc (c : Thread nD τ)))

/-- Row block `i` after `f` steps. -/
def accV (i : ℕ) : ℕ → FVec F S512x2048 .f32
  | 0 => (hblk (Ring.sl 16 i)).view.read (Elt F) Xh
  | f + 1 => mlpStep ((ublk (Ring.sl 16 i)).view.read (Elt F) Xu) ((wublk (Ring.sl 8 f)).view.read (Elt F) Xwu) (accV i f)
      ((wdblk (Ring.sl 8 f)).view.read (Elt F) Xwd)
/-- Row block `i` of the first output. -/
abbrev hV (i : ℕ) : FVec F S512x2048 .f32 := accV c Xu Xwu Xwd Xh i 8
/-- Row block `i` of the second output. -/
def yV (i : ℕ) : FVec F S512x2048 .bf16 := roundRows (hV c Xu Xwu Xwd Xh i) (gBuf.view.read (Elt F) Xg)

def uSt (X : uHbmC (F := F) c) (k : ℕ) : sProp 𝕄 :=
  if k % 8 = 0 then iprop((if k < 128 then uInfl c X (k / 8) else uFree c X (Ring.sl 2 (k / 8))) ∗ uFree c X (Ring.sl 2 (k / 8 + 1)))
  else iprop(uLand c X (k / 8) ∗ uFree c X (Ring.sl 2 (k / 8 + 1)))

def hSt (X : hHbmC (F := F) c) (k : ℕ) : sProp 𝕄 :=
  if k % 8 = 0 then iprop((if k < 128 then hInfl c X (k / 8) else hFree c X (Ring.sl 2 (k / 8))) ∗ hFree c X (Ring.sl 2 (k / 8 + 1)))
  else iprop(hLand c X (k / 8) ∗ hFree c X (Ring.sl 2 (k / 8 + 1)))

def wuAt (X : wuHbmC (F := F) c) (n : ℕ) : sProp 𝕄 := if n < 128 then wuInfl c X n else wuFree c X (Ring.sl 3 n)
def wuSt (X : wuHbmC (F := F) c) (k : ℕ) : sProp 𝕄 := iprop(wuAt c X k ∗ wuAt c X (k + 1) ∗ wuFree c X (Ring.sl 3 (k + 2)))

def wdAt (X : wdHbmC (F := F) c) (n : ℕ) : sProp 𝕄 := if n < 128 then wdInfl c X n else wdFree c X (Ring.sl 3 n)
def wdSt (X : wdHbmC (F := F) c) (k : ℕ) : sProp 𝕄 := iprop(wdAt c X k ∗ wdAt c X (k + 1) ∗ wdFree c X (Ring.sl 3 (k + 2)))

def oSt (k : ℕ) : sProp 𝕄 :=
  if k % 8 = 0 then iprop((if k = 0 then oIdle c (hV c Xu Xwu Xwd Xh) 0 else oBusy c (hV c Xu Xwu Xwd Xh) (k / 8 - 1)) ∗ ∃ f, oSlotP (F := F) c (Ring.sl 2 (k / 8)) f)
  else iprop(oIdle c (hV c Xu Xwu Xwd Xh) (k / 8) ∗ ∃ f, oSlotP c (Ring.sl 2 (k / 8)) f
    ∗ ⌜(oslot (Ring.sl 2 (k / 8))).view.read (Elt F) f = accV c Xu Xwu Xwd Xh (k / 8) (k % 8)⌝)
def ySt (k : ℕ) : sProp 𝕄 :=
  iprop((if k % 8 = 0 ∧ k ≠ 0 then yBusy c (yV c Xu Xwu Xwd Xh Xg) (k / 8 - 1) else yIdle c (yV c Xu Xwu Xwd Xh Xg) (k / 8))
    ∗ ∃ f, ySlotP (F := F) c (Ring.sl 2 (k / 8)) f)
/-- The gain's buffer. -/
abbrev gOwn : sProp 𝕄 := gBuf.view.loc (c : Thread nD τ) ↦[gBuf.view.set]{fullShare} Xg
/-- All that the loop holds before trip `k`. -/
def tripSt (k : ℕ) : sProp 𝕄 :=
  iprop((∃ W, owes (c : Thread nD τ) 0 W) ∗ uSt c Xu k ∗ hSt c Xh k ∗ wuSt c Xwu k ∗ wdSt c Xwd k
    ∗ gOwn c Xg ∗ oSt c Xu Xwu Xwd Xh k ∗ ySt c Xu Xwu Xwd Xh Xg k)
end States

/-- Trip `k` on the carried words `acc`. The words `z` are those the prologue leaves, which no trip reads. -/
abbrev tripG (z0 z1 z2 z3 z4 z5 z6 z7 z8 z9 z10 z11 z12 : BitVec 32) (k : Fin k0_t1_loop.trips)
    (acc : BitVec 32 × BitVec 32 × BitVec 32 × BitVec 32 × BitVec 32 × BitVec 32 × BitVec 32 × BitVec 32 × BitVec 32 × BitVec 32 × BitVec 32 × BitVec 32 × BitVec 32 × BitVec 32 × BitVec 32) :=
  k0_t1_body (F := F) uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13 z0 z1 z2 z3 z4 z5 z6 z7 z8 z9 z10 z11 z12 k acc

/-- The carried words before trip `k`. -/
abbrev accW (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (w8 k, w9 k, w10 k, w11 k, w10 k, w11 k, w8 k, w9 k, (if k = 128 then 1#32 else 0#32), w9 k, w18 k, w9 k, w18 k, w21 k, w22 k)

end Cert.Kernel7Ideal.Hand
-- ==== Proof.FirstSteps.lean ====
/-
  The first layer's feed-forward, whose normalised rows come out in bf16.

  What one trip's loads and stores do to the slots, and the states before a trip case by case.
-/
module

public import proofs.«01_k».proof.Proof.FirstState
public import Idealize.ShloMosaic.Lib.VecWindow

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

theorem off_inb {n : ℕ} {off : Fin 3 → Nat} {s : Fin n} {sz big : Fin 3 → Nat} (e : off = slotOff s) (h : ∀ a, slotOff s a + sz a ≤ big a) :
    ∀ a, off a + sz a ≤ big a := e ▸ h

omit [FloatOps F] in
theorem ent_of_eq {P Q : sProp 𝕄} (h : P = Q) : P ⊢ Q := by rw [h]

theorem sl8_mod (k : ℕ) : Ring.sl 8 (k % 8) = Ring.sl 8 k := Fin.ext (by simp only [Ring.sl_val]; omega)

theorem mlpStep_congr {u u' : FVec F S512x2048 .bf16} {a a' : FVec F S2048x1024 .bf16} {o o' : FVec F S512x2048 .f32}
    {d d' : FVec F S1024x2048 .bf16} (hu : u = u') (ha : a = a') (ho : o = o') (hd : d = d') :
    mlpStep u a o d = mlpStep u' a' o' d' := by subst hu ha ho hd; rfl
theorem roundRows_congr {x x' : FVec F S512x2048 .f32} {g g' : FVec F S1x2048 .f32} (hx : x = x') (hg : g = g') :
    roundRows x g = roundRows x' g' := by subst hx hg; rfl

/-- The first trip of a row block stores the residual's block. -/
theorem start_store (k : Fin k0_t1_loop.trips) (fh : hSlotC (F := F) c (Ring.sl 2 (k.val / 8))) (fo : oBuf.view.ty.Contents (Elt F))
    (hh : hHolds c Xh (Ring.sl 2 (k.val / 8)) (Ring.sl 16 (k.val / 8)) fh) (hl hs) :
    (oslot (Ring.sl 2 (k.val / 8))).view.read (Elt F)
      (View.write (Elt F) (oBuf.access (Rect.unit (s := S2x512x2048) (k0_off37 (w9 k.val)) S1x512x2048.size hs)) fo
        (k0_pay1 (F := F) (hBuf.view.readAt (Elt F) (Rect.unit (s := S2x512x2048) (k0_off36 (w9 k.val)) S1x512x2048.size hl).toLoadRect fh)) Finset.univ)
      = accV c Xu Xwu Xwd Xh (k.val / 8) 0 := by
  rw [k0_pay1_eq]
  refine (oslot_store (off37_eq k) _ _ _).trans ?_
  exact (hslot_load (off36_eq k) _ _).trans hh

/-- Each trip stores one step. -/
theorem step_store (k : Fin k0_t1_loop.trips) (fu : uSlotC (F := F) c (Ring.sl 2 (k.val / 8))) (fa : wuSlotC (F := F) c (Ring.sl 3 k.val))
    (fd : wdSlotC (F := F) c (Ring.sl 3 k.val)) (fo : oBuf.view.ty.Contents (Elt F))
    (hu : uHolds c Xu (Ring.sl 2 (k.val / 8)) (Ring.sl 16 (k.val / 8)) fu) (ha : wuHolds c Xwu (Ring.sl 3 k.val) (Ring.sl 8 k.val) fa)
    (hd : wdHolds c Xwd (Ring.sl 3 k.val) (Ring.sl 8 k.val) fd)
    (ho : (oslot (Ring.sl 2 (k.val / 8))).view.read (Elt F) fo = accV c Xu Xwu Xwd Xh (k.val / 8) (k.val % 8)) (h38 h39 h40 h40' h41) :
    (oslot (Ring.sl 2 (k.val / 8))).view.read (Elt F)
      (View.write (Elt F) (oBuf.access (Rect.unit (s := S2x512x2048) (k0_off40 (w9 k.val)) S1x512x2048.size h40)) fo
        (k0_pay2 (F := F) (uBuf.view.readAt (Elt F) (Rect.unit (s := S2x512x2048) (k0_off38 (w9 k.val)) S1x512x2048.size h38).toLoadRect fu)
          (wuBuf.view.readAt (Elt F) (Rect.unit (s := S3x2048x1024) (k0_off39 (w11 k.val)) S1x2048x1024.size h39).toLoadRect fa)
          (oBuf.view.readAt (Elt F) (Rect.unit (s := S2x512x2048) (k0_off40 (w9 k.val)) S1x512x2048.size h40').toLoadRect fo)
          (wdBuf.view.readAt (Elt F) (Rect.unit (s := S3x1024x2048) (k0_off41 (w11 k.val)) S1x1024x2048.size h41).toLoadRect fd)) Finset.univ)
      = accV c Xu Xwu Xwd Xh (k.val / 8) (k.val % 8 + 1) := by
  rw [k0_pay2_eq]
  refine (oslot_store (off40_eq k) _ _ _).trans ?_
  rw [accV, sl8_mod]
  exact mlpStep_congr ((uslot_load (off38_eq k) _ _).trans hu) ((wuslot_load (off39_eq k) _ _).trans ha)
    ((oslot_load (off40_eq k) _ _).trans ho) ((wdslot_load (off41_eq k) _ _).trans hd)

/-- The last trip of a row block stores the scaled rows. -/
theorem rms_store (k : Fin k0_t1_loop.trips) (fo : oBuf.view.ty.Contents (Elt F)) (fy : yBuf.view.ty.Contents (Elt F))
    (ho : (oslot (Ring.sl 2 (k.val / 8))).view.read (Elt F) fo = hV c Xu Xwu Xwd Xh (k.val / 8)) (hg : ∀ a, (![0, 0] : Fin 2 → Nat) a + S1x2048.size a ≤ S1x2048.size a) (h42 h43) :
    (yslot (Ring.sl 2 (k.val / 8))).view.read (Elt F)
      (View.write (Elt F) (yBuf.access (Rect.unit (s := S2x512x2048) (k0_off43 (w9 k.val)) S1x512x2048.size h43)) fy
        (k0_pay3 (F := F) (oBuf.view.readAt (Elt F) (Rect.unit (s := S2x512x2048) (k0_off42 (w9 k.val)) S1x512x2048.size h42).toLoadRect fo)
          (gBuf.view.readAt (Elt F) (Rect.unit (s := S1x2048) ![0, 0] S1x2048.size hg).toLoadRect Xg)) Finset.univ)
      = yV c Xu Xwu Xwd Xh Xg (k.val / 8) := by
  rw [k0_pay3_eq]
  refine (yslot_store (off43_eq k) _ _ _).trans ?_
  exact roundRows_congr ((oslot_load (off42_eq k) _ _).trans ho)
    ((shapeCast_self _ _).trans (View.readAt_full (s := S1x2048) gBuf.view Xg hg))

omit [FloatOps F] in
theorem uSt_infl (Xu : uHbmC (F := F) c) (k : ℕ) (h : k % 8 = 0) (h' : k < 128) :
    uSt c Xu k = iprop(uInfl c Xu (k / 8) ∗ uFree c Xu (Ring.sl 2 (k / 8 + 1))) := by unfold uSt; rw [if_pos h, if_pos h']
omit [FloatOps F] in
theorem uSt_end (Xu : uHbmC (F := F) c) (k : ℕ) (h : k % 8 = 0) (h' : ¬ k < 128) :
    uSt c Xu k = iprop(uFree c Xu (Ring.sl 2 (k / 8)) ∗ uFree c Xu (Ring.sl 2 (k / 8 + 1))) := by unfold uSt; rw [if_pos h, if_neg h']
omit [FloatOps F] in
theorem uSt_land (Xu : uHbmC (F := F) c) (k : ℕ) (h : ¬ k % 8 = 0) :
    uSt c Xu k = iprop(uLand c Xu (k / 8) ∗ uFree c Xu (Ring.sl 2 (k / 8 + 1))) := by unfold uSt; rw [if_neg h]

omit [FloatOps F] in
theorem hSt_infl (Xh : hHbmC (F := F) c) (k : ℕ) (h : k % 8 = 0) (h' : k < 128) :
    hSt c Xh k = iprop(hInfl c Xh (k / 8) ∗ hFree c Xh (Ring.sl 2 (k / 8 + 1))) := by unfold hSt; rw [if_pos h, if_pos h']
omit [FloatOps F] in
theorem hSt_end (Xh : hHbmC (F := F) c) (k : ℕ) (h : k % 8 = 0) (h' : ¬ k < 128) :
    hSt c Xh k = iprop(hFree c Xh (Ring.sl 2 (k / 8)) ∗ hFree c Xh (Ring.sl 2 (k / 8 + 1))) := by unfold hSt; rw [if_pos h, if_neg h']
omit [FloatOps F] in
theorem hSt_land (Xh : hHbmC (F := F) c) (k : ℕ) (h : ¬ k % 8 = 0) :
    hSt c Xh k = iprop(hLand c Xh (k / 8) ∗ hFree c Xh (Ring.sl 2 (k / 8 + 1))) := by unfold hSt; rw [if_neg h]

omit [FloatOps F] in
theorem wuAt_infl (Xwu : wuHbmC (F := F) c) (n : ℕ) (h : n < 128) : wuAt c Xwu n = wuInfl c Xwu n := if_pos h
omit [FloatOps F] in
theorem wuAt_free (Xwu : wuHbmC (F := F) c) (n : ℕ) (h : ¬ n < 128) : wuAt c Xwu n = wuFree c Xwu (Ring.sl 3 n) := if_neg h

omit [FloatOps F] in
theorem wdAt_infl (Xwd : wdHbmC (F := F) c) (n : ℕ) (h : n < 128) : wdAt c Xwd n = wdInfl c Xwd n := if_pos h
omit [FloatOps F] in
theorem wdAt_free (Xwd : wdHbmC (F := F) c) (n : ℕ) (h : ¬ n < 128) : wdAt c Xwd n = wdFree c Xwd (Ring.sl 3 n) := if_neg h

theorem oSt_first (k : ℕ) (h : k = 0) :
    oSt c Xu Xwu Xwd Xh k = iprop(oIdle c (hV c Xu Xwu Xwd Xh) (k / 8) ∗ ∃ f, oSlotP (F := F) c (Ring.sl 2 (k / 8)) f) := by subst h; rfl
theorem oSt_busy (k : ℕ) (h : k % 8 = 0 ∧ 0 < k) :
    oSt c Xu Xwu Xwd Xh k = iprop(oBusy c (hV c Xu Xwu Xwd Xh) (k / 8 - 1) ∗ ∃ f, oSlotP (F := F) c (Ring.sl 2 (k / 8)) f) := by
  unfold oSt; rw [if_pos h.1, if_neg (by omega)]
theorem oSt_mid (k : ℕ) (h : ¬ k % 8 = 0) :
    oSt c Xu Xwu Xwd Xh k = iprop(oIdle c (hV c Xu Xwu Xwd Xh) (k / 8) ∗ ∃ f, oSlotP c (Ring.sl 2 (k / 8)) f
      ∗ ⌜(oslot (Ring.sl 2 (k / 8))).view.read (Elt F) f = accV c Xu Xwu Xwd Xh (k / 8) (k % 8)⌝) := by unfold oSt; rw [if_neg h]
theorem ySt_idle (k : ℕ) (h : ¬ (k % 8 = 0 ∧ 0 < k)) :
    ySt c Xu Xwu Xwd Xh Xg k = iprop(yIdle c (yV c Xu Xwu Xwd Xh Xg) (k / 8) ∗ ∃ f, ySlotP (F := F) c (Ring.sl 2 (k / 8)) f) := by
  unfold ySt; rw [if_neg (by omega)]
theorem ySt_busy (k : ℕ) (h : k % 8 = 0 ∧ 0 < k) :
    ySt c Xu Xwu Xwd Xh Xg k = iprop(yBusy c (yV c Xu Xwu Xwd Xh Xg) (k / 8 - 1) ∗ ∃ f, ySlotP (F := F) c (Ring.sl 2 (k / 8)) f) := by
  unfold ySt; rw [if_pos (by omega)]
end T
end Cert.Kernel7Ideal.Hand
-- ==== Proof.FirstTripA.lean ====
/-
  The first layer's feed-forward, whose normalised rows come out in bf16.

  The first trip.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The first trip. -/
theorem trip_first (z0 z1 z2 z3 z4 z5 z6 z7 z8 z9 z10 z11 z12 : BitVec 32) (k : Fin k0_t1_loop.trips) (h0 : k.val = 0) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).mpr (by omega)
  have c8 := (cond8_iff k).mpr trivial
  have c9 := (cond9_iff k).mpr trivial
  have c10 := (cond10_iff k).mpr (by omega)
  have c13 := (cond13_iff k).mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_infl c Xu k.val (by omega) (by omega), hSt_infl c Xh k.val (by omega) (by omega), wuSt, wdSt, wuAt_infl c Xwu k.val (by omega), wdAt_infl c Xwd k.val (by omega), oSt_first c Xu Xwu Xwd Xh k.val (by omega), ySt_idle c Xu Xwu Xwd Xh Xg k.val (by omega)]
  unfold uInfl hInfl wuInfl wdInfl wuFree wdFree
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Hur, %hu⟩, HuF⟩, ⟨⟨%fh, Hh, Hhr, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨HoI, ⟨%fo, Ho⟩⟩, ⟨HyI, ⟨%fy, Hy⟩⟩⟩
  dsimp only [tripG, accW]
  sl_unfold [k0_t1_body]
  sl_exec
  sl_step
  isplitl []
  · ipureintro
    simp only [Prod.mk.injEq]
    clear * - h0
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu_dst Hu_src Hu Hur HuF]
  · rw [uSt_land c Xu _ hn, e8]
    isplitl [Hu_dst Hu_src Hu Hur]
    · unfold uLand
      iexists fu
      rw [uTok_split c Xu (Ring.sl 2 (k.val / 8)) (Ring.sl 16 (k.val / 8))]
      iframe Hu_dst Hu Hu_src Hur
      ipureintro; exact hu
    · iexact HuF
  isplitl [Hh_dst Hh_src Hh Hhr HhF]
  · rw [hSt_land c Xh _ hn, e8]
    isplitl [Hh_dst Hh_src Hh Hhr]
    · unfold hLand
      iexists fh
      rw [hTok_split c Xh (Ring.sl 2 (k.val / 8)) (Ring.sl 16 (k.val / 8))]
      iframe Hh_dst Hh Hh_src Hhr
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd (by rw [show k.val % 8 = 0 from by omega]; exact start_store c Xu Xwu Xwd Xh k fh fo hh _ _) _ _ _ _ _
  rw [ySt_idle c Xu Xwu Xwd Xh Xg _ (fun h => hn h.1), e8]
  isplitl [HyI]
  · iexact HyI
  iexists fy; iexact Hy
end T
end Cert.Kernel7Ideal.Hand
-- ==== Proof.FirstTripB.lean ====
/-
  The first layer's feed-forward, whose normalised rows come out in bf16.

  The first trip of a later row block: the block before goes out.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The first trip of a later row block: the block before goes out. -/
theorem trip_start (z0 z1 z2 z3 z4 z5 z6 z7 z8 z9 z10 z11 z12 : BitVec 32) (k : Fin k0_t1_loop.trips) (h1 : k.val % 8 = 0) (h0 : 0 < k.val) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).mpr (by omega)
  have c8 := (cond8_iff k).mpr trivial
  have c9 := (cond9_iff k).mpr trivial
  have c10 := (cond10_iff k).mpr (by omega)
  have c13 := (cond13_iff k).mpr (by omega)
  have c14 := (cond14_iff k).not.mpr (by omega)
  have c19 := (cond19_iff k).not.mpr (by omega)
  have c20 := (cond20_iff k).not.mpr (by omega)
  have c25 := (cond25_iff k).mpr (by omega)
  have c26 := (cond26_iff k).mpr (by omega)
  have hc1 := chk1_all k
  have hc2 := chk2_all k
  have hc3 := chk3_all k
  have hc4 := chk4_all k
  have hc5 := chk5_all k
  have hbusy : k.val % 8 = 0 ∧ 0 < k.val := ⟨h1, h0⟩
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_infl c Xu k.val (by omega) (by omega), hSt_infl c Xh k.val (by omega) (by omega), wuSt, wdSt, wuAt_infl c Xwu k.val (by omega), wdAt_infl c Xwd k.val (by omega), oSt_busy c Xu Xwu Xwd Xh k.val hbusy, ySt_busy c Xu Xwu Xwd Xh Xg k.val hbusy]
  unfold uInfl hInfl wuInfl wdInfl wuFree wdFree oBusy yBusy
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Hur, %hu⟩, HuF⟩, ⟨⟨%fh, Hh, Hhr, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨⟨%Xo1, %Xo2, %fob, Hob, Hor, %hob, Hoc⟩, ⟨%fo, Ho⟩⟩, ⟨⟨%Xy1, %Xy2, %fyb, Hyb, Hyr, %hyb, Hyc⟩, ⟨%fy, Hy⟩⟩⟩
  dsimp only [tripG, accW]
  sl_unfold [k0_t1_body]
  sl_exec
  sl_step
  isplitl []
  · ipureintro
    simp only [Prod.mk.injEq]
    clear * - h0 h1
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu_dst Hu_src Hu Hur HuF]
  · rw [uSt_land c Xu _ hn, e8]
    isplitl [Hu_dst Hu_src Hu Hur]
    · unfold uLand
      iexists fu
      rw [uTok_split c Xu (Ring.sl 2 (k.val / 8)) (Ring.sl 16 (k.val / 8))]
      iframe Hu_dst Hu Hu_src Hur
      ipureintro; exact hu
    · iexact HuF
  isplitl [Hh_dst Hh_src Hh Hhr HhF]
  · rw [hSt_land c Xh _ hn, e8]
    isplitl [Hh_dst Hh_src Hh Hhr]
    · unfold hLand
      iexists fh
      rw [hTok_split c Xh (Ring.sl 2 (k.val / 8)) (Ring.sl 16 (k.val / 8))]
      iframe Hh_dst Hh Hh_src Hhr
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  ihave HoD := oIdle_of_done c (hV c Xu Xwu Xwd Xh) (k.val / 8 - 1) (by omega) Xo1 Xo2 fob hob $$ [Hob_dst Hor Hob Hoc Hob_src]
  · iframe Hob_dst Hor Hob Hoc Hob_src
  ihave HoI := (ent_of_eq (congrArg (oIdle c (hV c Xu Xwu Xwd Xh)) (show k.val / 8 - 1 + 1 = k.val / 8 by omega))) $$ HoD
  ihave HyD := yIdle_of_done c (yV c Xu Xwu Xwd Xh Xg) (k.val / 8 - 1) (by omega) Xy1 Xy2 fyb hyb $$ [Hyb_dst Hyr Hyb Hyc Hyb_src]
  · iframe Hyb_dst Hyr Hyb Hyc Hyb_src
  ihave HyI := (ent_of_eq (congrArg (yIdle c (yV c Xu Xwu Xwd Xh Xg)) (show k.val / 8 - 1 + 1 = k.val / 8 by omega))) $$ HyD
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd (by rw [show k.val % 8 = 0 from by omega]; exact start_store c Xu Xwu Xwd Xh k fh fo hh _ _) _ _ _ _ _
  rw [ySt_idle c Xu Xwu Xwd Xh Xg _ (fun h => hn h.1), e8]
  isplitl [HyI]
  · iexact HyI
  iexists fy; iexact Hy
end T
end Cert.Kernel7Ideal.Hand
-- ==== Proof.FirstTripC.lean ====
/-
  The first layer's feed-forward, whose normalised rows come out in bf16.

  A trip inside a row block.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- A trip inside a row block. -/
theorem trip_mid (z0 z1 z2 z3 z4 z5 z6 z7 z8 z9 z10 z11 z12 : BitVec 32) (k : Fin k0_t1_loop.trips) (h1 : ¬ k.val % 8 = 0) (h2 : ¬ k.val % 8 = 7) (h3 : k.val < 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).mpr (by omega)
  have c5 := (cond5_iff k).mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hw : k.val < 126 := by omega
  have e8 : (k.val + 1) / 8 = k.val / 8 := by omega
  have em : (k.val + 1) % 8 = k.val % 8 + 1 := by omega
  have hn : ¬ (k.val + 1) % 8 = 0 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl wuFree wdFree
  rw [wuTok_split c Xwu (Ring.sl 3 (k.val + 2)) (Ring.sl 8 (k.val + 2)), wdTok_split c Xwd (Ring.sl 3 (k.val + 2)) (Ring.sl 8 (k.val + 2))]
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨HoI, ⟨%fo, Ho, %ho⟩⟩, ⟨HyI, ⟨%fy, Hy⟩⟩⟩
  dsimp only [tripG, accW]
  sl_unfold [k0_t1_body]
  sl_exec
  sl_step
  isplitl []
  · ipureintro
    simp only [Prod.mk.injEq]
    clear * - h1 h2 h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_land c Xu _ hn, e8]
    isplitl [Hu Huc Hut]
    · unfold uLand
      iexists fu
      iframe Hu Huc Hut
      ipureintro; exact hu
    · iexact HuF
  isplitl [Hh Hhc Hht HhF]
  · rw [hSt_land c Xh _ hn, e8]
    isplitl [Hh Hhc Hht]
    · unfold hLand
      iexists fh
      iframe Hh Hhc Hht
      ipureintro; exact hh
    · iexact HhF
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd ho _ _ _ _ _
  rw [ySt_idle c Xu Xwu Xwd Xh Xg _ (fun h => hn h.1), e8]
  isplitl [HyI]
  · iexact HyI
  iexists fy; iexact Hy
end T
end Cert.Kernel7Ideal.Hand
-- ==== Proof.FirstTripD.lean ====
/-
  The first layer's feed-forward, whose normalised rows come out in bf16.

  The last trip but one, with no weights left to fetch.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip but one, with no weights left to fetch. -/
theorem trip_late (z0 z1 z2 z3 z4 z5 z6 z7 z8 z9 z10 z11 z12 : BitVec 32) (k : Fin k0_t1_loop.trips) (h3 : k.val = 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).not.mpr (by omega)
  have c5 := (cond5_iff k).not.mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).not.mpr (by omega)
  have c19 := (cond19_iff k).not.mpr (by omega)
  have c20 := (cond20_iff k).not.mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have e8 : (k.val + 1) / 8 = k.val / 8 := by omega
  have em : (k.val + 1) % 8 = k.val % 8 + 1 := by omega
  have hn : ¬ (k.val + 1) % 8 = 0 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, HbF⟩, ⟨⟨%fd, Hd, Hdr, %hd⟩, HdN, HeF⟩, Hg, ⟨HoI, ⟨%fo, Ho, %ho⟩⟩, ⟨HyI, ⟨%fy, Hy⟩⟩⟩
  dsimp only [tripG, accW]
  sl_unfold [k0_t1_body]
  sl_exec
  sl_step
  isplitl []
  · ipureintro
    simp only [Prod.mk.injEq]
    clear * - h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_land c Xu _ hn, e8]
    isplitl [Hu Huc Hut]
    · unfold uLand
      iexists fu
      iframe Hu Huc Hut
      ipureintro; exact hu
    · iexact HuF
  isplitl [Hh Hhc Hht HhF]
  · rw [hSt_land c Xh _ hn, e8]
    isplitl [Hh Hhc Hht]
    · unfold hLand
      iexists fh
      iframe Hh Hhc Hht
      ipureintro; exact hh
    · iexact HhF
  isplitl [Ha_dst Ha_src Ha Har HaN HbF]
  · rw [wuSt, s3, show k.val + 1 + 1 = k.val + 2 from rfl]
    isplitl [HaN]
    · iexact HaN
    isplitl [HbF]
    · rw [wuAt_free c Xwu _ (by omega)]
      iexact HbF
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN HeF]
  · rw [wdSt, s3, show k.val + 1 + 1 = k.val + 2 from rfl]
    isplitl [HdN]
    · iexact HdN
    isplitl [HeF]
    · rw [wdAt_free c Xwd _ (by omega)]
      iexact HeF
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  isplitl [HoI Ho]
  · rw [oSt_mid c Xu Xwu Xwd Xh _ hn, e8, em]
    isplitl [HoI]
    · iexact HoI
    iexists _
    isplitl [Ho]
    · iexact Ho
    ipureintro
    exact step_store c Xu Xwu Xwd Xh k fu fa fd _ hu ha hd ho _ _ _ _ _
  rw [ySt_idle c Xu Xwu Xwd Xh Xg _ (fun h => hn h.1), e8]
  isplitl [HyI]
  · iexact HyI
  iexists fy; iexact Hy
end T
end Cert.Kernel7Ideal.Hand
-- ==== Proof.FirstTripE.lean ====
/-
  The first layer's feed-forward, whose normalised rows come out in bf16.

  The last trip of a row block: its block is sent out and the next rows are fetched.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip of a row block: its block is sent out and the next rows are fetched. -/
theorem trip_finish (z0 z1 z2 z3 z4 z5 z6 z7 z8 z9 z10 z11 z12 : BitVec 32) (k : Fin k0_t1_loop.trips) (h2 : k.val % 8 = 7) (h3 : k.val < 126) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).mpr (by omega)
  have c4 := (cond4_iff k).mpr (by omega)
  have c5 := (cond5_iff k).mpr (by omega)
  have c6 := (cond6_iff k).mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).mpr (by omega)
  have c19 := (cond19_iff k).mpr (by omega)
  have c20 := (cond20_iff k).mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have hiss : k.val % 8 = 7 ∧ k.val < 127 := ⟨h2, by omega⟩
  have hw : k.val < 126 := by omega
  have e8 : (k.val + 1) / 8 = k.val / 8 + 1 := by omega
  have hz : (k.val + 1) % 8 = 0 ∧ 0 < k.val + 1 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl wuFree wdFree uFree hFree oIdle yIdle
  rw [wuTok_split c Xwu (Ring.sl 3 (k.val + 2)) (Ring.sl 8 (k.val + 2)), wdTok_split c Xwd (Ring.sl 3 (k.val + 2)) (Ring.sl 8 (k.val + 2)), uTok_split c Xu (Ring.sl 2 (k.val / 8 + 1)) (Ring.sl 16 (k.val / 8 + 1)), hTok_split c Xh (Ring.sl 2 (k.val / 8 + 1)) (Ring.sl 16 (k.val / 8 + 1))]
  iintro ⟨⟨%W, HW⟩, ⟨⟨%fu, Hu, Huc, Hut, %hu⟩, ⟨⟨%fu_n, Hun⟩, Hunc, ⟨Hunt, Hunr⟩⟩⟩, ⟨⟨%fh, Hh, Hhc, Hht, %hh⟩, ⟨⟨%fh_n, Hhn⟩, Hhnc, ⟨Hhnt, Hhnr⟩⟩⟩, ⟨⟨%fa, Ha, Har, %ha⟩, HaN, ⟨⟨%fb, Hb⟩, Hbc, ⟨Hbt, Hbr⟩⟩⟩, ⟨⟨%fd, Hd, Hdr, %hd⟩, HdN, ⟨⟨%fe, He⟩, Hec, ⟨Het, Her⟩⟩⟩, Hg, ⟨⟨%Xo, HoX, %hob, Hoc, Hoc', ⟨%fo_n, Hon⟩⟩, ⟨%fo, Ho, %ho⟩⟩, ⟨⟨%Xy, HyX, %hyb, Hyc, Hyc', ⟨%fy_n, Hyn⟩⟩, ⟨%fy, Hy⟩⟩⟩
  ihave ⟨HoW, HoR⟩ := (ent_of_eq (oHome_split c Xo (Ring.sl 16 (k.val / 8)))) $$ HoX
  ihave ⟨HyW, HyR⟩ := (ent_of_eq (yHome_split c Xy (Ring.sl 16 (k.val / 8)))) $$ HyX
  dsimp only [tripG, accW]
  sl_unfold [k0_t1_body]
  sl_exec
  sl_step
  isplitl []
  · ipureintro
    simp only [Prod.mk.injEq]
    clear * - h2 h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut Hunc Hunr]
  · rw [uSt_infl c Xu _ hz.1 (by omega), e8, s2]
    isplitl [Hunc Hunr]
    · unfold uInfl
      iexists uLanded c Xu (Ring.sl 2 (k.val / 8 + 1)) (Ring.sl 16 (k.val / 8 + 1)) fu_n
      isplitl [Hunc]
      · iexact Hunc
      isplitl [Hunr]
      · iexact Hunr
      ipureintro; exact uHolds_landed c Xu _ _ _
    unfold uFree
    isplitl [Hu]
    · iexists fu; iexact Hu
    iframe Huc Hut
  isplitl [Hh Hhc Hht Hhnc Hhnr]
  · rw [hSt_infl c Xh _ hz.1 (by omega), e8, s2]
    isplitl [Hhnc Hhnr]
    · unfold hInfl
      iexists hLanded c Xh (Ring.sl 2 (k.val / 8 + 1)) (Ring.sl 16 (k.val / 8 + 1)) fh_n
      isplitl [Hhnc]
      · iexact Hhnc
      isplitl [Hhnr]
      · iexact Hhnr
      ipureintro; exact hHolds_landed c Xh _ _ _
    unfold hFree
    isplitl [Hh]
    · iexists fh; iexact Hh
    iframe Hhc Hht
  isplitl [Ha_dst Ha_src Ha Har HaN Hbc Hbr]
  · rw [wuSt, s3, show k.val + 1 + 1 = k.val + 2 from rfl]
    isplitl [HaN]
    · iexact HaN
    isplitl [Hbc Hbr]
    · rw [wuAt_infl c Xwu _ (by omega)]
      unfold wuInfl
      iexists wuLanded c Xwu (Ring.sl 3 (k.val + 2)) (Ring.sl 8 (k.val + 2)) fb
      isplitl [Hbc]
      · iexact Hbc
      isplitl [Hbr]
      · iexact Hbr
      ipureintro; exact wuHolds_landed c Xwu _ _ _
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN Hec Her]
  · rw [wdSt, s3, show k.val + 1 + 1 = k.val + 2 from rfl]
    isplitl [HdN]
    · iexact HdN
    isplitl [Hec Her]
    · rw [wdAt_infl c Xwd _ (by omega)]
      unfold wdInfl
      iexists wdLanded c Xwd (Ring.sl 3 (k.val + 2)) (Ring.sl 8 (k.val + 2)) fe
      isplitl [Hec]
      · iexact Hec
      isplitl [Her]
      · iexact Her
      ipureintro; exact wdHolds_landed c Xwd _ _ _
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  have hso := step_store c Xu Xwu Xwd Xh k fu fa fd fo hu ha hd ho (off_inb (off38_eq k) (uslot_inb _)) (off_inb (off39_eq k) (wuslot_inb _)) (off_inb (off40_eq k) (oslot_inb _)) (off_inb (off40_eq k) (oslot_inb _)) (off_inb (off41_eq k) (wdslot_inb _))
  rw [show k.val % 8 + 1 = 8 from by omega] at hso
  isplitl [Hoc HoR Hoc' Hon]
  · rw [oSt_busy c Xu Xwu Xwd Xh _ hz, e8, Nat.add_sub_cancel]
    isplitl [Hoc HoR Hoc']
    · unfold oBusy
      iexists _, Xo, _
      isplitl [Hoc]
      · iexact Hoc
      isplitl [HoR]
      · iexact HoR
      isplitl []
      · ipureintro
        exact ⟨(View.read_writes_whole _ _ _).trans hso, hob⟩
      iexact Hoc'
    iexists fo_n; iexact Hon
  rw [ySt_busy c Xu Xwu Xwd Xh Xg _ hz, e8, Nat.add_sub_cancel]
  isplitl [Hyc HyR Hyc']
  · unfold yBusy
    iexists _, Xy, _
    isplitl [Hyc]
    · iexact Hyc
    isplitl [HyR]
    · iexact HyR
    isplitl []
    · ipureintro
      exact ⟨(View.read_writes_whole _ _ _).trans (rms_store c Xu Xwu Xwd Xh Xg k _ fy hso _ _ _), hyb⟩
    iexact Hyc'
  iexists fy_n; iexact Hyn
end T
end Cert.Kernel7Ideal.Hand
-- ==== Proof.FirstTripG.lean ====
/-
  The first layer's feed-forward, whose normalised rows come out in bf16.

  The last trip.
-/
module

public import proofs.«01_k».proof.Proof.FirstSteps

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

set_option maxHeartbeats 8000000 in
/-- The last trip. -/
theorem trip_last (z0 z1 z2 z3 z4 z5 z6 z7 z8 z9 z10 z11 z12 : BitVec 32) (k : Fin k0_t1_loop.trips) (h3 : k.val = 127) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hklt := klt k
  have c3 := (cond3_iff k).not.mpr (by omega)
  have c4 := (cond4_iff k).not.mpr (by omega)
  have c5 := (cond5_iff k).not.mpr (by omega)
  have c6 := (cond6_iff k).not.mpr (by omega)
  have c7 := (cond7_iff k).not.mpr (by omega)
  have c8 := (cond8_iff k).mpr trivial
  have c9 := (cond9_iff k).mpr trivial
  have c10 := (cond10_iff k).not.mpr (by omega)
  have c13 := (cond13_iff k).not.mpr (by omega)
  have c14 := (cond14_iff k).mpr (by omega)
  have c19 := (cond19_iff k).mpr (by omega)
  have c20 := (cond20_iff k).mpr (by omega)
  have c25 := (cond25_iff k).not.mpr (by omega)
  have c26 := (cond26_iff k).not.mpr (by omega)
  have hc1 := chk1_all k
  have hc2 := chk2_all k
  have hc3 := chk3_all k
  have hc4 := chk4_all k
  have hc5 := chk5_all k
  have e8 : (k.val + 1) / 8 = k.val / 8 + 1 := by omega
  have hz : (k.val + 1) % 8 = 0 ∧ 0 < k.val + 1 := by omega
  rw [tripSt, uSt_land c Xu k.val (by omega), hSt_land c Xh k.val (by omega), wuSt, wdSt, wuAt_infl c Xwu k.val (by omega), wdAt_infl c Xwd k.val (by omega), oSt_mid c Xu Xwu Xwd Xh k.val (by omega), ySt_idle c Xu Xwu Xwd Xh Xg k.val (by omega)]
  unfold uLand hLand wuInfl wdInfl oIdle yIdle
  iintro ⟨⟨%W, HW⟩, ⟨⟨%fu, Hu, Huc, Hut, %hu⟩, HuF⟩, ⟨⟨%fh, Hh, Hhc, Hht, %hh⟩, HhF⟩, ⟨⟨%fa, Ha, Har, %ha⟩, HaN, HbF⟩, ⟨⟨%fd, Hd, Hdr, %hd⟩, HdN, HeF⟩, Hg, ⟨⟨%Xo, HoX, %hob, Hoc, Hoc', ⟨%fo_n, Hon⟩⟩, ⟨%fo, Ho, %ho⟩⟩, ⟨⟨%Xy, HyX, %hyb, Hyc, Hyc', ⟨%fy_n, Hyn⟩⟩, ⟨%fy, Hy⟩⟩⟩
  ihave ⟨HoW, HoR⟩ := (ent_of_eq (oHome_split c Xo (Ring.sl 16 (k.val / 8)))) $$ HoX
  ihave ⟨HyW, HyR⟩ := (ent_of_eq (yHome_split c Xy (Ring.sl 16 (k.val / 8)))) $$ HyX
  dsimp only [tripG, accW]
  sl_unfold [k0_t1_body]
  sl_exec
  sl_step
  isplitl []
  · ipureintro
    simp only [Prod.mk.injEq]
    clear * - h3
    revert k
    decide +kernel
  rw [tripSt]
  isplitl [HW]
  · iexists _; iexact HW
  have s2 : Ring.sl 2 (k.val / 8 + 1 + 1) = Ring.sl 2 (k.val / 8) := Ring.sl_succ_add 2 _ 1 rfl
  have s3 : Ring.sl 3 (k.val + 1 + 2) = Ring.sl 3 k.val := Ring.sl_succ_add 3 _ 2 rfl
  isplitl [Hu Huc Hut HuF]
  · rw [uSt_end c Xu _ hz.1 (by omega), e8, s2]
    isplitl [HuF]
    · iexact HuF
    unfold uFree
    isplitl [Hu]
    · iexists fu; iexact Hu
    iframe Huc Hut
  isplitl [Hh Hhc Hht HhF]
  · rw [hSt_end c Xh _ hz.1 (by omega), e8, s2]
    isplitl [HhF]
    · iexact HhF
    unfold hFree
    isplitl [Hh]
    · iexists fh; iexact Hh
    iframe Hhc Hht
  isplitl [Ha_dst Ha_src Ha Har HaN HbF]
  · rw [wuSt, s3, show k.val + 1 + 1 = k.val + 2 from rfl]
    isplitl [HaN]
    · iexact HaN
    isplitl [HbF]
    · rw [wuAt_free c Xwu _ (by omega)]
      iexact HbF
    unfold wuFree
    isplitl [Ha_dst]
    · iexists fa; iexact Ha_dst
    rw [wuTok_split c Xwu (Ring.sl 3 k.val) (Ring.sl 8 k.val)]
    iframe Ha Ha_src Har
  isplitl [Hd_dst Hd_src Hd Hdr HdN HeF]
  · rw [wdSt, s3, show k.val + 1 + 1 = k.val + 2 from rfl]
    isplitl [HdN]
    · iexact HdN
    isplitl [HeF]
    · rw [wdAt_free c Xwd _ (by omega)]
      iexact HeF
    unfold wdFree
    isplitl [Hd_dst]
    · iexists fd; iexact Hd_dst
    rw [wdTok_split c Xwd (Ring.sl 3 k.val) (Ring.sl 8 k.val)]
    iframe Hd Hd_src Hdr
  isplitl [Hg]
  · iexact Hg
  have hso := step_store c Xu Xwu Xwd Xh k fu fa fd fo hu ha hd ho (off_inb (off38_eq k) (uslot_inb _)) (off_inb (off39_eq k) (wuslot_inb _)) (off_inb (off40_eq k) (oslot_inb _)) (off_inb (off40_eq k) (oslot_inb _)) (off_inb (off41_eq k) (wdslot_inb _))
  rw [show k.val % 8 + 1 = 8 from by omega] at hso
  isplitl [Hoc HoR Hoc' Hon]
  · rw [oSt_busy c Xu Xwu Xwd Xh _ hz, e8, Nat.add_sub_cancel]
    isplitl [Hoc HoR Hoc']
    · unfold oBusy
      iexists _, Xo, _
      isplitl [Hoc]
      · iexact Hoc
      isplitl [HoR]
      · iexact HoR
      isplitl []
      · ipureintro
        exact ⟨(View.read_writes_whole _ _ _).trans hso, hob⟩
      iexact Hoc'
    iexists fo_n; iexact Hon
  rw [ySt_busy c Xu Xwu Xwd Xh Xg _ hz, e8, Nat.add_sub_cancel]
  isplitl [Hyc HyR Hyc']
  · unfold yBusy
    iexists _, Xy, _
    isplitl [Hyc]
    · iexact Hyc
    isplitl [HyR]
    · iexact HyR
    isplitl []
    · ipureintro
      exact ⟨(View.read_writes_whole _ _ _).trans (rms_store c Xu Xwu Xwd Xh Xg k _ fy hso _ _ _), hyb⟩
    iexact Hyc'
  iexists fy_n; iexact Hyn
end T
end Cert.Kernel7Ideal.Hand
-- ==== Proof.FirstBody.lean ====
/-
  The first layer's feed-forward, whose normalised rows come out in bf16.

  The kernel's whole run: the transfers started before the loop, the loop by its invariant, the last two waits.
-/
module

public import proofs.«01_k».proof.Proof.FirstTripA
public import proofs.«01_k».proof.Proof.FirstTripB
public import proofs.«01_k».proof.Proof.FirstTripC
public import proofs.«01_k».proof.Proof.FirstTripD
public import proofs.«01_k».proof.Proof.FirstTripE
public import proofs.«01_k».proof.Proof.FirstTripG

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section T
variable (c : Dev nD) (Xu : uHbmC (F := F) c) (Xwu : wuHbmC (F := F) c) (Xwd : wdHbmC (F := F) c) (Xh : hHbmC (F := F) c)
  (Xg : Buf (Elt F) (gBuf.view.loc (c : Thread nD τ)))

/-- Any trip: from the state before it to the state after it. -/
theorem trip_any (z0 z1 z2 z3 z4 z5 z6 z7 z8 z9 z10 z11 z12 : BitVec 32) (k : Fin k0_t1_loop.trips) :
    tripSt c Xu Xwu Xwd Xh Xg k.val
    ⊢ wp frame (wpE (defs₀ (F := F)) 𝒱₀ (c : Thread nD τ) none) Set.univ (tripG z0 z1 z2 z3 z4 z5 z6 z7 z8 z9 z10 z11 z12 k (accW k.val))
      (fun r => iprop(⌜r = accW (k.val + 1)⌝ ∗ tripSt c Xu Xwu Xwd Xh Xg (k.val + 1))) := by
  have hk := klt k
  by_cases h0 : k.val = 0
  · exact trip_first c Xu Xwu Xwd Xh Xg z0 z1 z2 z3 z4 z5 z6 z7 z8 z9 z10 z11 z12 k h0
  by_cases h1 : k.val % 8 = 0
  · exact trip_start c Xu Xwu Xwd Xh Xg z0 z1 z2 z3 z4 z5 z6 z7 z8 z9 z10 z11 z12 k h1 (by omega)
  by_cases h3 : k.val < 126
  · by_cases h2 : k.val % 8 = 7
    · exact trip_finish c Xu Xwu Xwd Xh Xg z0 z1 z2 z3 z4 z5 z6 z7 z8 z9 z10 z11 z12 k h2 h3
    · exact trip_mid c Xu Xwu Xwd Xh Xg z0 z1 z2 z3 z4 z5 z6 z7 z8 z9 z10 z11 z12 k h1 h2 h3
  by_cases h4 : k.val = 126
  · exact trip_late c Xu Xwu Xwd Xh Xg z0 z1 z2 z3 z4 z5 z6 z7 z8 z9 z10 z11 z12 k h4
  · exact trip_last c Xu Xwu Xwd Xh Xg z0 z1 z2 z3 z4 z5 z6 z7 z8 z9 z10 z11 z12 k (by omega)

set_option warn.classDefReducibility false in
/-- What the loop keeps. -/
@[sl_loop] def loopInv1 (z0 z1 z2 z3 z4 z5 z6 z7 z8 z9 z10 z11 z12 : BitVec 32) :
    LoopInvTy_k0_t1 (F := F) Unit ℕ (UU nD τ) ℕ 𝒱₀ c none Set.univ uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13 z0 z1 z2 z3 z4 z5 z6 z7 z8 z9 z10 z11 z12 (accW 0) where
  inv k acc := iprop(⌜acc = accW k⌝ ∗ tripSt c Xu Xwu Xwd Xh Xg k)
  step k acc := by
    iintro ⟨%h, H⟩
    subst h
    iapply (trip_any c Xu Xwu Xwd Xh Xg z0 z1 z2 z3 z4 z5 z6 z7 z8 z9 z10 z11 z12 k)
    iexact H

abbrev gCell : sProp 𝕄 := semVal ((c : Thread nD τ), SemLoc.dma (cc0_scoped13 : DmaSems sig S_).sem) 0
abbrev gHome (X4 : Buf (Elt F) (gHbm.view.loc (c : Thread nD τ))) : sProp 𝕄 := gHbm.view.loc (c : Thread nD τ) ↦[gHbm.view.set]{fullShare} X4
abbrev bodyG := cc0_mlp_relu2 (F := F) uHbm (Memref.isWhole_whole _) wuHbm (Memref.isWhole_whole _) wdHbm (Memref.isWhole_whole _) hHbm (Memref.isWhole_whole _) gHbm (Memref.isWhole_whole _) oHbm (Memref.isWhole_whole _) yHbm (Memref.isWhole_whole _) uBuf (Memref.isWhole_whole _) cc0_scoped1 wuBuf (Memref.isWhole_whole _) cc0_scoped3 wdBuf (Memref.isWhole_whole _) cc0_scoped5 hBuf (Memref.isWhole_whole _) cc0_scoped7 gBuf (Memref.isWhole_whole _) oBuf (Memref.isWhole_whole _) cc0_scoped10 yBuf (Memref.isWhole_whole _) cc0_scoped12 cc0_scoped13

/-- All that the kernel runs on, besides the outputs. -/
def inSt (X4 : Buf (Elt F) (gHbm.view.loc (c : Thread nD τ))) : sProp 𝕄 :=
  iprop((∃ W, owes (c : Thread nD τ) 0 W) ∗ (uFree c Xu 0 ∗ uFree c Xu 1) ∗ (hFree c Xh 0 ∗ hFree c Xh 1)
    ∗ (wuFree c Xwu 0 ∗ wuFree c Xwu 1 ∗ wuFree c Xwu 2) ∗ (wdFree c Xwd 0 ∗ wdFree c Xwd 1 ∗ wdFree c Xwd 2)
    ∗ gHome c X4 ∗ gCell (F := F) c ∗ ∃ f, gOwn (F := F) c f)

/-- The gain's buffer once loaded. -/
abbrev gLoaded (X4 : Buf (Elt F) (gHbm.view.loc (c : Thread nD τ))) : Buf (Elt F) (gBuf.view.loc (c : Thread nD τ)) :=
  gBuf.view.writes (Elt F) gBuf.view.junk [⟨Rect.whole S1x2048, ReadAs.same.apply (gHbm.view.read (Elt F) X4)⟩]

theorem pack0 :
    iprop((∃ W, owes (c : Thread nD τ) 0 W) ∗ (uInfl c Xu 0 ∗ uFree c Xu 1) ∗ (hInfl c Xh 0 ∗ hFree c Xh 1)
      ∗ (wuInfl c Xwu 0 ∗ wuInfl c Xwu 1 ∗ wuFree c Xwu 2) ∗ (wdInfl c Xwd 0 ∗ wdInfl c Xwd 1 ∗ wdFree c Xwd 2)
      ∗ gOwn c Xg ∗ (oIdle c (hV c Xu Xwu Xwd Xh) 0 ∗ ∃ f, oSlotP (F := F) c (Ring.sl 2 0) f)
      ∗ (yIdle c (yV c Xu Xwu Xwd Xh Xg) 0 ∗ ∃ f, ySlotP (F := F) c (Ring.sl 2 0) f))
    ⊢ tripSt c Xu Xwu Xwd Xh Xg 0 := by
  rw [tripSt, uSt_infl c Xu 0 (by omega) (by omega), hSt_infl c Xh 0 (by omega) (by omega), wuSt, wdSt,
    wuAt_infl c Xwu 0 (by omega), wuAt_infl c Xwu (0 + 1) (by omega), wdAt_infl c Xwd 0 (by omega), wdAt_infl c Xwd (0 + 1) (by omega),
    oSt_first c Xu Xwu Xwd Xh 0 rfl, ySt_idle c Xu Xwu Xwd Xh Xg 0 (by omega)]
  exact Entails.rfl

theorem inSt_open (X4 : Buf (Elt F) (gHbm.view.loc (c : Thread nD τ))) : inSt c Xu Xwu Xwd Xh X4 ⊢
    iprop((∃ W, owes (c : Thread nD τ) 0 W) ∗ (((∃ f, uSlotP c 0 f) ∗ uCell (F := F) c 0 ∗ uWin c Xu 0 0 ∗ uRest c Xu 0 0) ∗ uFree c Xu 1)
      ∗ (((∃ f, hSlotP c 0 f) ∗ hCell (F := F) c 0 ∗ hWin c Xh 0 0 ∗ hRest c Xh 0 0) ∗ hFree c Xh 1)
      ∗ (((∃ f, wuSlotP c 0 f) ∗ wuCell (F := F) c 0 ∗ wuWin c Xwu 0 0 ∗ wuRest c Xwu 0 0) ∗ ((∃ f, wuSlotP c 1 f) ∗ wuCell (F := F) c 1 ∗ wuWin c Xwu 1 1 ∗ wuRest c Xwu 1 1) ∗ wuFree c Xwu 2)
      ∗ (((∃ f, wdSlotP c 0 f) ∗ wdCell (F := F) c 0 ∗ wdWin c Xwd 0 0 ∗ wdRest c Xwd 0 0) ∗ ((∃ f, wdSlotP c 1 f) ∗ wdCell (F := F) c 1 ∗ wdWin c Xwd 1 1 ∗ wdRest c Xwd 1 1) ∗ wdFree c Xwd 2)
      ∗ gHome c X4 ∗ gCell (F := F) c ∗ ∃ f, gOwn (F := F) c f) := by
  rw [← uTok_split, ← hTok_split, ← wuTok_split, ← wuTok_split, ← wdTok_split, ← wdTok_split]
  exact Entails.rfl

theorem unpack128 : tripSt c Xu Xwu Xwd Xh Xg 128 ⊢
    iprop((∃ W, owes (c : Thread nD τ) 0 W) ∗ (uFree c Xu 0 ∗ uFree c Xu 1) ∗ (hFree c Xh 0 ∗ hFree c Xh 1)
      ∗ (wuFree c Xwu 2 ∗ wuFree c Xwu 0 ∗ wuFree c Xwu 1) ∗ (wdFree c Xwd 2 ∗ wdFree c Xwd 0 ∗ wdFree c Xwd 1)
      ∗ gOwn c Xg ∗ (oBusy c (hV c Xu Xwu Xwd Xh) 15 ∗ ∃ f, oSlotP (F := F) c 0 f)
      ∗ (yBusy c (yV c Xu Xwu Xwd Xh Xg) 15 ∗ ∃ f, ySlotP (F := F) c 0 f)) := by
  rw [tripSt, uSt_end c Xu 128 (by omega) (by omega), hSt_end c Xh 128 (by omega) (by omega), wuSt, wdSt,
    wuAt_free c Xwu 128 (by omega), wuAt_free c Xwu (128 + 1) (by omega), wdAt_free c Xwd 128 (by omega), wdAt_free c Xwd (128 + 1) (by omega),
    oSt_busy c Xu Xwu Xwd Xh 128 (by omega), ySt_busy c Xu Xwu Xwd Xh Xg 128 (by omega),
    show Ring.sl 2 (128 / 8) = 0 by decide, show Ring.sl 2 (128 / 8 + 1) = 1 by decide, show Ring.sl 3 128 = 2 by decide,
    show Ring.sl 3 (128 + 1) = 0 by decide, show Ring.sl 3 (128 + 2) = 1 by decide]

attribute [local irreducible] tripSt in
set_option maxHeartbeats 8000000 in
/-- The kernel run, from its inputs and any outputs to the outputs computed. -/
theorem bodyRun (X4 : Buf (Elt F) (gHbm.view.loc (c : Thread nD τ))) (Q : PUnit → sProp 𝕄) :
    iprop((inSt c Xu Xwu Xwd Xh X4 ∗ (oIdle c (hV c Xu Xwu Xwd Xh) 0 ∗ ∃ f, oSlotP (F := F) c (Ring.sl 2 0) f)
        ∗ (yIdle c (yV c Xu Xwu Xwd Xh (gLoaded c X4)) 0 ∗ ∃ f, ySlotP (F := F) c (Ring.sl 2 0) f))
      ∗ ((inSt c Xu Xwu Xwd Xh X4 ∗ (oIdle c (hV c Xu Xwu Xwd Xh) 16 ∗ ∃ f, oSlotP (F := F) c (Ring.sl 2 0) f)
        ∗ (yIdle c (yV c Xu Xwu Xwd Xh (gLoaded c X4)) 16 ∗ ∃ f, ySlotP (F := F) c (Ring.sl 2 0) f)) -∗ Q ⟨⟩))
    ⊢ wp frame (wpE (defs₀ (F := F)) 𝒱₀ (c : Thread nD τ) none) Set.univ (bodyG (F := F)) Q := by
  iintro ⟨⟨Hin, Ho, Hy⟩, Hk⟩
  ihave Hin2 := inSt_open c Xu Xwu Xwd Xh X4 $$ Hin
  icases Hin2 with ⟨⟨%W, HW⟩, ⟨⟨⟨%fu, Hu⟩, Huc, Hut, Hur⟩, HuF⟩, ⟨⟨⟨%fh, Hh⟩, Hhc, Hht, Hhr⟩, HhF⟩,
    ⟨⟨⟨%fa, Ha⟩, Hac, Hat, Har⟩, ⟨⟨%fb, Hb⟩, Hbc, Hbt, Hbr⟩, HaF⟩,
    ⟨⟨⟨%fd, Hd⟩, Hdc, Hdt, Hdr⟩, ⟨⟨%fe, He⟩, Hec, Het, Her⟩, HdF⟩, HgX, Hgc, ⟨%fg, Hg⟩⟩
  dsimp only [bodyG]
  sl_unfold [cc0_mlp_relu2]
  sl_exec
  ihave HT := pack0 c Xu Xwu Xwd Xh (gLoaded c X4) $$ [HW Huc Hur HuF Hhc Hhr HhF Hac Har Hbc Hbr HaF Hdc Hdr Hec Her HdF Hg Ho Hy]
  · isplitl [HW]
    · iexists _; iexact HW
    isplitl [Huc Hur HuF]
    · isplitl [Huc Hur]
      · unfold uInfl
        iexists uLanded c Xu 0 0 fu
        isplitl [Huc]
        · iexact Huc
        isplitl [Hur]
        · iexact Hur
        ipureintro; exact uHolds_landed c Xu _ _ _
      · iexact HuF
    isplitl [Hhc Hhr HhF]
    · isplitl [Hhc Hhr]
      · unfold hInfl
        iexists hLanded c Xh 0 0 fh
        isplitl [Hhc]
        · iexact Hhc
        isplitl [Hhr]
        · iexact Hhr
        ipureintro; exact hHolds_landed c Xh _ _ _
      · iexact HhF
    isplitl [Hac Har Hbc Hbr HaF]
    · unfold wuInfl
      isplitl [Hac Har]
      · iexists wuLanded c Xwu 0 0 fa
        isplitl [Hac]
        · iexact Hac
        isplitl [Har]
        · iexact Har
        ipureintro; exact wuHolds_landed c Xwu _ _ _
      isplitl [Hbc Hbr]
      · iexists wuLanded c Xwu 1 1 fb
        isplitl [Hbc]
        · iexact Hbc
        isplitl [Hbr]
        · iexact Hbr
        ipureintro; exact wuHolds_landed c Xwu _ _ _
      iexact HaF
    isplitl [Hdc Hdr Hec Her HdF]
    · unfold wdInfl
      isplitl [Hdc Hdr]
      · iexists wdLanded c Xwd 0 0 fd
        isplitl [Hdc]
        · iexact Hdc
        isplitl [Hdr]
        · iexact Hdr
        ipureintro; exact wdHolds_landed c Xwd _ _ _
      isplitl [Hec Her]
      · iexists wdLanded c Xwd 1 1 fe
        isplitl [Hec]
        · iexact Hec
        isplitl [Her]
        · iexact Her
        ipureintro; exact wdHolds_landed c Xwd _ _ _
      iexact HdF
    isplitl [Hg]
    · iexact Hg
    isplitl [Ho]
    · iexact Ho
    iexact Hy
  sl_exec
  ihave HT2 := (show tripSt c Xu Xwu Xwd Xh (gLoaded c X4) (Scf.trips k0_t1_loop.lb k0_t1_loop.ub k0_t1_loop.st) ⊢ _ from unpack128 c Xu Xwu Xwd Xh (gLoaded c X4)) $$ HT
  unfold oBusy yBusy
  icases HT2 with ⟨HW, HuF, HhF, ⟨Ha2, Ha0, Ha1⟩, ⟨Hd2, Hd0, Hd1⟩, Hg, ⟨⟨%X1, %X2, %fo, Hob, Hor, %hob, Hoc⟩, Hos⟩, ⟨⟨%Y1, %Y2, %fy, Hyb, Hyr, %hyb, Hyc⟩, Hys⟩⟩
  icases HW with ⟨%W', HW⟩
  sl_exec
  sl_step
  ihave HoD := oIdle_of_done c (hV c Xu Xwu Xwd Xh) 15 (by omega) X1 X2 fo hob $$ [Hob_dst Hor Hob Hoc Hob_src]
  · iframe Hob_dst Hor Hob Hoc Hob_src
  ihave HyD := yIdle_of_done c (yV c Xu Xwu Xwd Xh (gLoaded c X4)) 15 (by omega) Y1 Y2 fy hyb $$ [Hyb_dst Hyr Hyb Hyc Hyb_src]
  · iframe Hyb_dst Hyr Hyb Hyc Hyb_src
  iapply Hk
  isplitl [HW HuF HhF Ha2 Ha0 Ha1 Hd2 Hd0 Hd1 HgX Hgc Hg]
  · unfold inSt
    isplitl [HW]
    · iexists _; iexact HW
    iframe HuF HhF Ha0 Ha1 Ha2 Hd0 Hd1 Hd2 HgX Hgc
    iexists _; iexact Hg
  isplitl [HoD Hos]
  · isplitl [HoD]
    · iexact HoD
    iexact Hos
  isplitl [HyD]
  · iexact HyD
  iexact Hys
end T
end Cert.Kernel7Ideal.Hand
-- ==== Proof.FirstRun.lean ====
/-
  The first layer's feed-forward, whose normalised rows come out in bf16.

  The kernel launched: the buffers and semaphores it is given cut into what its slots hold, its run, and what is left
  at the end.
-/
module

public import proofs.«01_k».proof.Proof.FirstBody
public import proofs.«01_k».proof.Proof.Gen.Kernel7Ideal.Frame
public import Idealize.ShloMosaic.Lib.Pipeline.KitQuiescent

@[expose] public section

noncomputable section

namespace Cert.Kernel7Ideal.Hand

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## A buffer is its slots -/

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem mem_S2x512x2048 (hh : ∀ s : Fin 2, ∀ i, slotOff s i + S1x512x2048.size i ≤ S2x512x2048.size i) (s : Fin 2) (y : S2x512x2048.Idx) :
    y ∈ (Rect.unit (s := S2x512x2048) (slotOff s) S1x512x2048.size (hh s)).set ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 2048; omega
theorem disj_S2x512x2048 (hh : ∀ s : Fin 2, ∀ i, slotOff s i + S1x512x2048.size i ≤ S2x512x2048.size i) : ∀ s s' : Fin 2, s ≠ s' →
    Disjoint (Rect.unit (s := S2x512x2048) (slotOff s) S1x512x2048.size (hh s)).set (Rect.unit (s := S2x512x2048) (slotOff s') S1x512x2048.size (hh s')).set := by
  intro s s' hne; rw [Finset.disjoint_left]; intro y hy hy'; rw [mem_S2x512x2048] at hy hy'; exact hne (Fin.ext (hy.symm.trans hy'))
theorem cover_S2x512x2048 (hh : ∀ s : Fin 2, ∀ i, slotOff s i + S1x512x2048.size i ≤ S2x512x2048.size i) :
    (Finset.univ : Finset (Fin 2)).biUnion (fun s => (Rect.unit (s := S2x512x2048) (slotOff s) S1x512x2048.size (hh s)).set) = Finset.univ := by
  ext y; simp only [Finset.mem_biUnion, Finset.mem_univ, true_and, iff_true]; exact ⟨(y 0).cast (by decide), by rw [mem_S2x512x2048]; rfl⟩

theorem mem_S3x2048x1024 (hh : ∀ s : Fin 3, ∀ i, slotOff s i + S1x2048x1024.size i ≤ S3x2048x1024.size i) (s : Fin 3) (y : S3x2048x1024.Idx) :
    y ∈ (Rect.unit (s := S3x2048x1024) (slotOff s) S1x2048x1024.size (hh s)).set ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem disj_S3x2048x1024 (hh : ∀ s : Fin 3, ∀ i, slotOff s i + S1x2048x1024.size i ≤ S3x2048x1024.size i) : ∀ s s' : Fin 3, s ≠ s' →
    Disjoint (Rect.unit (s := S3x2048x1024) (slotOff s) S1x2048x1024.size (hh s)).set (Rect.unit (s := S3x2048x1024) (slotOff s') S1x2048x1024.size (hh s')).set := by
  intro s s' hne; rw [Finset.disjoint_left]; intro y hy hy'; rw [mem_S3x2048x1024] at hy hy'; exact hne (Fin.ext (hy.symm.trans hy'))
theorem cover_S3x2048x1024 (hh : ∀ s : Fin 3, ∀ i, slotOff s i + S1x2048x1024.size i ≤ S3x2048x1024.size i) :
    (Finset.univ : Finset (Fin 3)).biUnion (fun s => (Rect.unit (s := S3x2048x1024) (slotOff s) S1x2048x1024.size (hh s)).set) = Finset.univ := by
  ext y; simp only [Finset.mem_biUnion, Finset.mem_univ, true_and, iff_true]; exact ⟨(y 0).cast (by decide), by rw [mem_S3x2048x1024]; rfl⟩

theorem mem_S3x1024x2048 (hh : ∀ s : Fin 3, ∀ i, slotOff s i + S1x1024x2048.size i ≤ S3x1024x2048.size i) (s : Fin 3) (y : S3x1024x2048.Idx) :
    y ∈ (Rect.unit (s := S3x1024x2048) (slotOff s) S1x1024x2048.size (hh s)).set ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem disj_S3x1024x2048 (hh : ∀ s : Fin 3, ∀ i, slotOff s i + S1x1024x2048.size i ≤ S3x1024x2048.size i) : ∀ s s' : Fin 3, s ≠ s' →
    Disjoint (Rect.unit (s := S3x1024x2048) (slotOff s) S1x1024x2048.size (hh s)).set (Rect.unit (s := S3x1024x2048) (slotOff s') S1x1024x2048.size (hh s')).set := by
  intro s s' hne; rw [Finset.disjoint_left]; intro y hy hy'; rw [mem_S3x1024x2048] at hy hy'; exact hne (Fin.ext (hy.symm.trans hy'))
theorem cover_S3x1024x2048 (hh : ∀ s : Fin 3, ∀ i, slotOff s i + S1x1024x2048.size i ≤ S3x1024x2048.size i) :
    (Finset.univ : Finset (Fin 3)).biUnion (fun s => (Rect.unit (s := S3x1024x2048) (slotOff s) S1x1024x2048.size (hh s)).set) = Finset.univ := by
  ext y; simp only [Finset.mem_biUnion, Finset.mem_univ, true_and, iff_true]; exact ⟨(y 0).cast (by decide), by rw [mem_S3x1024x2048]; rfl⟩

omit [FloatOps F] in
theorem uSlotP_eq (c : Dev nD) (s : Fin 2) (f) : uSlotP c s f = (((c : Thread nD τ).loc cc0_scoped0) ↦[(Rect.unit (s := S2x512x2048) (slotOff s) S1x512x2048.size (uslot_inb s)).set]{fullShare} f : sProp 𝕄) :=
  congrArg (fun S => (_ ↦[S]{fullShare} f : sProp 𝕄)) ((View.set_reshape _ _).trans (View.set_slice_whole _ _))
theorem uBuf_split (c : Dev nD) :
    iprop(∃ f : Buf (Elt F) ((c : Thread nD τ).loc cc0_scoped0), ((c : Thread nD τ).loc cc0_scoped0) ↦{fullShare} f)
      ⊢ (iprop((∃ f, uSlotP (F := F) c 0 f) ∗ (∃ f, uSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped0) _ (disj_S2x512x2048 uslot_inb) (cover_S2x512x2048 uslot_inb) f).trans (bigSep_fin2 _))) $$ H
  icases H2 with ⟨H0, H1⟩
  isplitl [H0]
  · iexists f; iapply (ent_of_eq (uSlotP_eq c 0 f).symm); iexact H0
  iexists f; iapply (ent_of_eq (uSlotP_eq c 1 f).symm); iexact H1
theorem uBuf_join (c : Dev nD) :
    (iprop((∃ f, uSlotP (F := F) c 0 f) ∗ (∃ f, uSlotP (F := F) c 1 f)) : sProp 𝕄)
      ⊢ iprop(∃ f : Buf (Elt F) ((c : Thread nD τ).loc cc0_scoped0), ((c : Thread nD τ).loc cc0_scoped0) ↦{fullShare} f) := by
  iintro ⟨⟨%f0, H0⟩, ⟨%f1, H1⟩⟩
  iapply (Ring.pointsTo_blocks_join_exists (ℓ := (c : Thread nD τ).loc cc0_scoped0) _ (disj_S2x512x2048 uslot_inb) (cover_S2x512x2048 uslot_inb) f0)
  irw [bigSep_fin2]
  isplitl [H0]
  · iexists f0; iapply (ent_of_eq (uSlotP_eq c 0 f0)); iexact H0
  iexists f1; iapply (ent_of_eq (uSlotP_eq c 1 f1)); iexact H1
omit [FloatOps F] in
theorem wuSlotP_eq (c : Dev nD) (s : Fin 3) (f) : wuSlotP c s f = (((c : Thread nD τ).loc cc0_scoped2) ↦[(Rect.unit (s := S3x2048x1024) (slotOff s) S1x2048x1024.size (wuslot_inb s)).set]{fullShare} f : sProp 𝕄) :=
  congrArg (fun S => (_ ↦[S]{fullShare} f : sProp 𝕄)) ((View.set_reshape _ _).trans (View.set_slice_whole _ _))
theorem wuBuf_split (c : Dev nD) :
    iprop(∃ f : Buf (Elt F) ((c : Thread nD τ).loc cc0_scoped2), ((c : Thread nD τ).loc cc0_scoped2) ↦{fullShare} f)
      ⊢ (iprop((∃ f, wuSlotP (F := F) c 0 f) ∗ (∃ f, wuSlotP (F := F) c 1 f) ∗ (∃ f, wuSlotP (F := F) c 2 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped2) _ (disj_S3x2048x1024 wuslot_inb) (cover_S3x2048x1024 wuslot_inb) f).trans (bigSep_fin3 _))) $$ H
  icases H2 with ⟨H0, H1, H2⟩
  isplitl [H0]
  · iexists f; iapply (ent_of_eq (wuSlotP_eq c 0 f).symm); iexact H0
  isplitl [H1]
  · iexists f; iapply (ent_of_eq (wuSlotP_eq c 1 f).symm); iexact H1
  iexists f; iapply (ent_of_eq (wuSlotP_eq c 2 f).symm); iexact H2
theorem wuBuf_join (c : Dev nD) :
    (iprop((∃ f, wuSlotP (F := F) c 0 f) ∗ (∃ f, wuSlotP (F := F) c 1 f) ∗ (∃ f, wuSlotP (F := F) c 2 f)) : sProp 𝕄)
      ⊢ iprop(∃ f : Buf (Elt F) ((c : Thread nD τ).loc cc0_scoped2), ((c : Thread nD τ).loc cc0_scoped2) ↦{fullShare} f) := by
  iintro ⟨⟨%f0, H0⟩, ⟨%f1, H1⟩, ⟨%f2, H2⟩⟩
  iapply (Ring.pointsTo_blocks_join_exists (ℓ := (c : Thread nD τ).loc cc0_scoped2) _ (disj_S3x2048x1024 wuslot_inb) (cover_S3x2048x1024 wuslot_inb) f0)
  irw [bigSep_fin3]
  isplitl [H0]
  · iexists f0; iapply (ent_of_eq (wuSlotP_eq c 0 f0)); iexact H0
  isplitl [H1]
  · iexists f1; iapply (ent_of_eq (wuSlotP_eq c 1 f1)); iexact H1
  iexists f2; iapply (ent_of_eq (wuSlotP_eq c 2 f2)); iexact H2
omit [FloatOps F] in
theorem wdSlotP_eq (c : Dev nD) (s : Fin 3) (f) : wdSlotP c s f = (((c : Thread nD τ).loc cc0_scoped4) ↦[(Rect.unit (s := S3x1024x2048) (slotOff s) S1x1024x2048.size (wdslot_inb s)).set]{fullShare} f : sProp 𝕄) :=
  congrArg (fun S => (_ ↦[S]{fullShare} f : sProp 𝕄)) ((View.set_reshape _ _).trans (View.set_slice_whole _ _))
theorem wdBuf_split (c : Dev nD) :
    iprop(∃ f : Buf (Elt F) ((c : Thread nD τ).loc cc0_scoped4), ((c : Thread nD τ).loc cc0_scoped4) ↦{fullShare} f)
      ⊢ (iprop((∃ f, wdSlotP (F := F) c 0 f) ∗ (∃ f, wdSlotP (F := F) c 1 f) ∗ (∃ f, wdSlotP (F := F) c 2 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped4) _ (disj_S3x1024x2048 wdslot_inb) (cover_S3x1024x2048 wdslot_inb) f).trans (bigSep_fin3 _))) $$ H
  icases H2 with ⟨H0, H1, H2⟩
  isplitl [H0]
  · iexists f; iapply (ent_of_eq (wdSlotP_eq c 0 f).symm); iexact H0
  isplitl [H1]
  · iexists f; iapply (ent_of_eq (wdSlotP_eq c 1 f).symm); iexact H1
  iexists f; iapply (ent_of_eq (wdSlotP_eq c 2 f).symm); iexact H2
theorem wdBuf_join (c : Dev nD) :
    (iprop((∃ f, wdSlotP (F := F) c 0 f) ∗ (∃ f, wdSlotP (F := F) c 1 f) ∗ (∃ f, wdSlotP (F := F) c 2 f)) : sProp 𝕄)
      ⊢ iprop(∃ f : Buf (Elt F) ((c : Thread nD τ).loc cc0_scoped4), ((c : Thread nD τ).loc cc0_scoped4) ↦{fullShare} f) := by
  iintro ⟨⟨%f0, H0⟩, ⟨%f1, H1⟩, ⟨%f2, H2⟩⟩
  iapply (Ring.pointsTo_blocks_join_exists (ℓ := (c : Thread nD τ).loc cc0_scoped4) _ (disj_S3x1024x2048 wdslot_inb) (cover_S3x1024x2048 wdslot_inb) f0)
  irw [bigSep_fin3]
  isplitl [H0]
  · iexists f0; iapply (ent_of_eq (wdSlotP_eq c 0 f0)); iexact H0
  isplitl [H1]
  · iexists f1; iapply (ent_of_eq (wdSlotP_eq c 1 f1)); iexact H1
  iexists f2; iapply (ent_of_eq (wdSlotP_eq c 2 f2)); iexact H2
omit [FloatOps F] in
theorem hSlotP_eq (c : Dev nD) (s : Fin 2) (f) : hSlotP c s f = (((c : Thread nD τ).loc cc0_scoped6) ↦[(Rect.unit (s := S2x512x2048) (slotOff s) S1x512x2048.size (hslot_inb s)).set]{fullShare} f : sProp 𝕄) :=
  congrArg (fun S => (_ ↦[S]{fullShare} f : sProp 𝕄)) ((View.set_reshape _ _).trans (View.set_slice_whole _ _))
theorem hBuf_split (c : Dev nD) :
    iprop(∃ f : Buf (Elt F) ((c : Thread nD τ).loc cc0_scoped6), ((c : Thread nD τ).loc cc0_scoped6) ↦{fullShare} f)
      ⊢ (iprop((∃ f, hSlotP (F := F) c 0 f) ∗ (∃ f, hSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped6) _ (disj_S2x512x2048 hslot_inb) (cover_S2x512x2048 hslot_inb) f).trans (bigSep_fin2 _))) $$ H
  icases H2 with ⟨H0, H1⟩
  isplitl [H0]
  · iexists f; iapply (ent_of_eq (hSlotP_eq c 0 f).symm); iexact H0
  iexists f; iapply (ent_of_eq (hSlotP_eq c 1 f).symm); iexact H1
theorem hBuf_join (c : Dev nD) :
    (iprop((∃ f, hSlotP (F := F) c 0 f) ∗ (∃ f, hSlotP (F := F) c 1 f)) : sProp 𝕄)
      ⊢ iprop(∃ f : Buf (Elt F) ((c : Thread nD τ).loc cc0_scoped6), ((c : Thread nD τ).loc cc0_scoped6) ↦{fullShare} f) := by
  iintro ⟨⟨%f0, H0⟩, ⟨%f1, H1⟩⟩
  iapply (Ring.pointsTo_blocks_join_exists (ℓ := (c : Thread nD τ).loc cc0_scoped6) _ (disj_S2x512x2048 hslot_inb) (cover_S2x512x2048 hslot_inb) f0)
  irw [bigSep_fin2]
  isplitl [H0]
  · iexists f0; iapply (ent_of_eq (hSlotP_eq c 0 f0)); iexact H0
  iexists f1; iapply (ent_of_eq (hSlotP_eq c 1 f1)); iexact H1
omit [FloatOps F] in
theorem oSlotP_eq (c : Dev nD) (s : Fin 2) (f) : oSlotP c s f = (((c : Thread nD τ).loc cc0_scoped9) ↦[(Rect.unit (s := S2x512x2048) (slotOff s) S1x512x2048.size (oslot_inb s)).set]{fullShare} f : sProp 𝕄) :=
  congrArg (fun S => (_ ↦[S]{fullShare} f : sProp 𝕄)) ((View.set_reshape _ _).trans (View.set_slice_whole _ _))
theorem oBuf_split (c : Dev nD) :
    iprop(∃ f : Buf (Elt F) ((c : Thread nD τ).loc cc0_scoped9), ((c : Thread nD τ).loc cc0_scoped9) ↦{fullShare} f)
      ⊢ (iprop((∃ f, oSlotP (F := F) c 0 f) ∗ (∃ f, oSlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped9) _ (disj_S2x512x2048 oslot_inb) (cover_S2x512x2048 oslot_inb) f).trans (bigSep_fin2 _))) $$ H
  icases H2 with ⟨H0, H1⟩
  isplitl [H0]
  · iexists f; iapply (ent_of_eq (oSlotP_eq c 0 f).symm); iexact H0
  iexists f; iapply (ent_of_eq (oSlotP_eq c 1 f).symm); iexact H1
theorem oBuf_join (c : Dev nD) :
    (iprop((∃ f, oSlotP (F := F) c 0 f) ∗ (∃ f, oSlotP (F := F) c 1 f)) : sProp 𝕄)
      ⊢ iprop(∃ f : Buf (Elt F) ((c : Thread nD τ).loc cc0_scoped9), ((c : Thread nD τ).loc cc0_scoped9) ↦{fullShare} f) := by
  iintro ⟨⟨%f0, H0⟩, ⟨%f1, H1⟩⟩
  iapply (Ring.pointsTo_blocks_join_exists (ℓ := (c : Thread nD τ).loc cc0_scoped9) _ (disj_S2x512x2048 oslot_inb) (cover_S2x512x2048 oslot_inb) f0)
  irw [bigSep_fin2]
  isplitl [H0]
  · iexists f0; iapply (ent_of_eq (oSlotP_eq c 0 f0)); iexact H0
  iexists f1; iapply (ent_of_eq (oSlotP_eq c 1 f1)); iexact H1
omit [FloatOps F] in
theorem ySlotP_eq (c : Dev nD) (s : Fin 2) (f) : ySlotP c s f = (((c : Thread nD τ).loc cc0_scoped11) ↦[(Rect.unit (s := S2x512x2048) (slotOff s) S1x512x2048.size (yslot_inb s)).set]{fullShare} f : sProp 𝕄) :=
  congrArg (fun S => (_ ↦[S]{fullShare} f : sProp 𝕄)) ((View.set_reshape _ _).trans (View.set_slice_whole _ _))
theorem yBuf_split (c : Dev nD) :
    iprop(∃ f : Buf (Elt F) ((c : Thread nD τ).loc cc0_scoped11), ((c : Thread nD τ).loc cc0_scoped11) ↦{fullShare} f)
      ⊢ (iprop((∃ f, ySlotP (F := F) c 0 f) ∗ (∃ f, ySlotP (F := F) c 1 f)) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped11) _ (disj_S2x512x2048 yslot_inb) (cover_S2x512x2048 yslot_inb) f).trans (bigSep_fin2 _))) $$ H
  icases H2 with ⟨H0, H1⟩
  isplitl [H0]
  · iexists f; iapply (ent_of_eq (ySlotP_eq c 0 f).symm); iexact H0
  iexists f; iapply (ent_of_eq (ySlotP_eq c 1 f).symm); iexact H1
theorem yBuf_join (c : Dev nD) :
    (iprop((∃ f, ySlotP (F := F) c 0 f) ∗ (∃ f, ySlotP (F := F) c 1 f)) : sProp 𝕄)
      ⊢ iprop(∃ f : Buf (Elt F) ((c : Thread nD τ).loc cc0_scoped11), ((c : Thread nD τ).loc cc0_scoped11) ↦{fullShare} f) := by
  iintro ⟨⟨%f0, H0⟩, ⟨%f1, H1⟩⟩
  iapply (Ring.pointsTo_blocks_join_exists (ℓ := (c : Thread nD τ).loc cc0_scoped11) _ (disj_S2x512x2048 yslot_inb) (cover_S2x512x2048 yslot_inb) f0)
  irw [bigSep_fin2]
  isplitl [H0]
  · iexists f0; iapply (ent_of_eq (ySlotP_eq c 0 f0)); iexact H0
  iexists f1; iapply (ent_of_eq (ySlotP_eq c 1 f1)); iexact H1

/-! ## The inputs' shares -/

omit [FloatOps F] in
theorem uHome_tok (c : Dev nD) (X : uHbmC (F := F) c) : (((c : Thread nD τ).loc main_arg0) ↦{fullShare} X : sProp 𝕄) = iprop(uTok c X 0 ∗ uTok c X 1) := by
  have e : uHbm.view.set = Finset.univ := View.set_whole _
  unfold uTok share2
  rw [e]
  exact eq_of_bi (pointsTo_share (PosShare.mem_left_op_right fullShare))
omit [FloatOps F] in
theorem wuHome_tok (c : Dev nD) (X : wuHbmC (F := F) c) : (((c : Thread nD τ).loc main_v2) ↦{fullShare} X : sProp 𝕄) = iprop(wuTok c X 0 ∗ wuTok c X 1 ∗ wuTok c X 2) := by
  have e : wuHbm.view.set = Finset.univ := View.set_whole _
  unfold wuTok share3
  rw [e]
  exact eq_of_bi (Ring.pointsTo_thirds fullShare X)
omit [FloatOps F] in
theorem wdHome_tok (c : Dev nD) (X : wdHbmC (F := F) c) : (((c : Thread nD τ).loc main_v3) ↦{fullShare} X : sProp 𝕄) = iprop(wdTok c X 0 ∗ wdTok c X 1 ∗ wdTok c X 2) := by
  have e : wdHbm.view.set = Finset.univ := View.set_whole _
  unfold wdTok share3
  rw [e]
  exact eq_of_bi (Ring.pointsTo_thirds fullShare X)
omit [FloatOps F] in
theorem hHome_tok (c : Dev nD) (X : hHbmC (F := F) c) : (((c : Thread nD τ).loc main_arg3) ↦{fullShare} X : sProp 𝕄) = iprop(hTok c X 0 ∗ hTok c X 1) := by
  have e : hHbm.view.set = Finset.univ := View.set_whole _
  unfold hTok share2
  rw [e]
  exact eq_of_bi (pointsTo_share (PosShare.mem_left_op_right fullShare))
omit [FloatOps F] in
theorem gHome_whole (c : Dev nD) (X) : gHome (F := F) c X = (((c : Thread nD τ).loc main_v4) ↦{fullShare} X) :=
  congrArg (fun S => (_ ↦[S]{fullShare} X : sProp 𝕄)) (View.set_whole _)
omit [FloatOps F] in
theorem gOwn_whole (c : Dev nD) (X) : gOwn (F := F) c X = (((c : Thread nD τ).loc cc0_scoped8) ↦{fullShare} X) :=
  congrArg (fun S => (_ ↦[S]{fullShare} X : sProp 𝕄)) (View.set_whole _)
omit [FloatOps F] in
theorem oHome_whole (c : Dev nD) (X) : oHome (F := F) c X = (((c : Thread nD τ).loc main_v5_0) ↦{fullShare} X) :=
  congrArg (fun S => (_ ↦[S]{fullShare} X : sProp 𝕄)) (View.set_whole _)
omit [FloatOps F] in
theorem yHome_whole (c : Dev nD) (X) : yHome (F := F) c X = (((c : Thread nD τ).loc main_v5_1) ↦{fullShare} X) :=
  congrArg (fun S => (_ ↦[S]{fullShare} X : sProp 𝕄)) (View.set_whole _)

/-! ## The kernel's own semaphores -/

/-- The kernel's semaphores, slot by slot. -/
abbrev ksem : Fin 15 → SemLoc sig := ![.dma (usem 0).sem, .dma (usem 1).sem, .dma (wusem 0).sem, .dma (wusem 1).sem, .dma (wusem 2).sem, .dma (wdsem 0).sem, .dma (wdsem 1).sem, .dma (wdsem 2).sem, .dma (hsem 0).sem, .dma (hsem 1).sem, .dma (osem 0).sem, .dma (osem 1).sem, .dma (ysem 0).sem, .dma (ysem 1).sem, .dma (cc0_scoped13 : DmaSems sig S_).sem]
theorem ownSemFacts : Pipeline.OwnSemFacts cfg0.spec ksem := by decide +kernel
omit [FloatOps F] in
theorem ownSems0_eq (c : Dev nD) : (Pipeline.ownSems0 (Ix := Unit) (Name := ℕ) (U := UU nD τ) (Lvl := ℕ) (Val := Elt F) (τ := τ) ksem c : sProp 𝕄)
    = iprop(uCell (F := F) c 0 ∗ uCell (F := F) c 1 ∗ wuCell (F := F) c 0 ∗ wuCell (F := F) c 1 ∗ wuCell (F := F) c 2 ∗ wdCell (F := F) c 0 ∗ wdCell (F := F) c 1 ∗ wdCell (F := F) c 2 ∗ hCell (F := F) c 0 ∗ hCell (F := F) c 1 ∗ oCell (F := F) c 0 ∗ oCell (F := F) c 1 ∗ yCell (F := F) c 0 ∗ yCell (F := F) c 1 ∗ gCell (F := F) c) := by
  unfold Pipeline.ownSems0
  exact bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) _

/-! ## The run -/

section Launch
variable (m : (ℓ : Loc nD τ sig) → Buf (Elt F) ℓ) (ρ : Dev nD → PrngReg)

/-- Row block `b` of the first output. -/
abbrev hOut (c : Dev nD) : ℕ → S512x2048.Idx → Elt F .f32 := hV c (Gen.V m c main_arg0) (Gen.V m c main_v2) (Gen.V m c main_v3) (Gen.V m c main_arg3)
/-- Row block `b` of the second output. -/
abbrev yOut (c : Dev nD) : ℕ → S512x2048.Idx → Elt F .bf16 :=
  yV c (Gen.V m c main_arg0) (Gen.V m c main_v2) (Gen.V m c main_v3) (Gen.V m c main_arg3) (gLoaded c (Gen.V m c main_v4))

/-- The kernel's memory with `n` row blocks of either output written. -/
def atRows (c : Dev nD) (n : ℕ) : sProp 𝕄 :=
  iprop(((uFree c (Gen.V m c main_arg0) 0 ∗ uFree c (Gen.V m c main_arg0) 1) ∗ (hFree c (Gen.V m c main_arg3) 0 ∗ hFree c (Gen.V m c main_arg3) 1)
    ∗ (wuFree c (Gen.V m c main_v2) 0 ∗ wuFree c (Gen.V m c main_v2) 1 ∗ wuFree c (Gen.V m c main_v2) 2)
    ∗ (wdFree c (Gen.V m c main_v3) 0 ∗ wdFree c (Gen.V m c main_v3) 1 ∗ wdFree c (Gen.V m c main_v3) 2)
    ∗ gHome c (Gen.V m c main_v4) ∗ gCell (F := F) c ∗ ∃ f, gOwn (F := F) c f)
    ∗ (oIdle c (hOut m c) n ∗ ∃ f, oSlotP (F := F) c (Ring.sl 2 0) f)
    ∗ (yIdle c (yOut m c) n ∗ ∃ f, ySlotP (F := F) c (Ring.sl 2 0) f))

def dats (_ : Fin 1) (c : Dev nD) : Dat τ (Elt F) Unit ℕ (UU nD τ) ℕ cfg0 c where
  A w := Gen.V m c (Pipeline.arrRef cfg0.spec w)
  after w t := w.elim0
  Φ t := atRows m c (if t.val = 0 then 0 else 16)
  q _ := fullShare
  owed _ := 0

theorem defs_tc : (defs₀ (F := F)) .tc cfg0.body = fun _ => bodyG (F := F) := rfl

set_option backward.isDefEq.respectTransparency.types false in
theorem body_obligation (c : Dev nD) : BodyObligation (dats (F := F) m 0 c) (defs₀ (F := F)) 𝒱₀ () Set.univ := fun t => by
  have ht : t.val = 0 := congrArg Fin.val (fin_N0 t)
  rw [show (dats m 0 c).Φ t.castSucc = atRows m c 0 from congrArg (atRows m c) (if_pos ht),
    show (dats m 0 c).Φ t.succ = atRows m c 16 from congrArg (atRows m c) (if_neg (Nat.succ_ne_zero _)), defs_tc]
  unfold Dat.owesAt Pipeline.owesWithin
  rw [show (dats m 0 c).owed t.castSucc = 0 from rfl, show (dats m 0 c).owed t.succ = 0 from rfl]
  unfold atRows
  iintro ⟨⟨Hin, Ho, Hy⟩, ⟨%W, -, HW⟩, Hnone⟩
  iapply (bodyRun c (Gen.V m c main_arg0) (Gen.V m c main_v2) (Gen.V m c main_v3) (Gen.V m c main_arg3) (Gen.V m c main_v4))
  isplitl [Hin Ho Hy HW]
  · isplitl [Hin HW]
    · unfold inSt
      isplitl [HW]
      · iexists W; iexact HW
      iexact Hin
    isplitl [Ho]
    · iexact Ho
    iexact Hy
  · unfold inSt
    iintro ⟨⟨⟨%W', HW⟩, Hin⟩, Ho, Hy⟩
    isplitl [Hin Ho Hy]
    · isplitl [Hin]
      · iexact Hin
      isplitl [Ho]
      · iexact Ho
      iexact Hy
    isplitl [HW]
    · iexists W'; isplitr; · ipureintro; exact fun _ _ => Or.inl trivial
      iexact HW
    iexact Hnone

/-- What the region takes from the program: the buffers the kernel reads and writes, and its semaphores. -/
def intoK (c : Dev nD) : sProp 𝕄 :=
  iprop(((((c : Thread nD τ).loc main_arg0) ↦{fullShare} Gen.V m c main_arg0) ∗ (((c : Thread nD τ).loc main_arg3) ↦{fullShare} Gen.V m c main_arg3) ∗ (((c : Thread nD τ).loc main_v2) ↦{fullShare} Gen.V m c main_v2) ∗ (((c : Thread nD τ).loc main_v3) ↦{fullShare} Gen.V m c main_v3) ∗ (((c : Thread nD τ).loc main_v4) ↦{fullShare} Gen.V m c main_v4) ∗ (((c : Thread nD τ).loc main_v5_0) ↦{fullShare} Gen.V m c main_v5_0) ∗ (((c : Thread nD τ).loc main_v5_1) ↦{fullShare} Gen.V m c main_v5_1)) ∗ Pipeline.ownSems0 ksem c)
/-- What it gives back: the inputs as they were, the outputs row block by row block. -/
def outOfK (c : Dev nD) : sProp 𝕄 :=
  iprop((((c : Thread nD τ).loc main_arg0) ↦{fullShare} Gen.V m c main_arg0) ∗ (((c : Thread nD τ).loc main_arg3) ↦{fullShare} Gen.V m c main_arg3)
    ∗ (∃ X, oHome (F := F) c X ∗ ⌜∀ b, b < 16 → (oblk (Ring.sl 16 b)).view.read (Elt F) X = hOut m c b⌝)
    ∗ (∃ X, yHome (F := F) c X ∗ ⌜∀ b, b < 16 → (yblk (Ring.sl 16 b)).view.read (Elt F) X = yOut m c b⌝))
/-- The arguments the kernel does not touch. -/
def aside (c : Dev nD) : sProp 𝕄 := iprop((((c : Thread nD τ).loc main_arg1) ↦{fullShare} Gen.V m c main_arg1) ∗ (((c : Thread nD τ).loc main_arg2) ↦{fullShare} Gen.V m c main_arg2) ∗ (((c : Thread nD τ).loc main_arg4) ↦{fullShare} Gen.V m c main_arg4))
def u₀ : UU nD τ := (initOf (Pipeline.cells cfgs Gen.cellOf_inj) (Pipeline.launchToks cfgs Gen.cellOf_inj), 1)

/-- What the final memory of core `c` holds. -/
def QY (c : Dev nD) (s : MemSt nD τ sig (Elt F)) : Prop :=
  (∀ b, b < 16 → (oblk (Ring.sl 16 b)).view.read (Elt F) (s.mem ((c : Thread nD τ).loc main_v5_0)) = hOut m c b)
  ∧ (∀ b, b < 16 → (yblk (Ring.sl 16 b)).view.read (Elt F) (s.mem ((c : Thread nD τ).loc main_v5_1)) = yOut m c b)
  ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4)

theorem enter (c : Dev nD) : iprop(intoK m c ∗ Pipeline.scopedRest (Ix := Unit) (Name := ℕ) (U := UU nD τ) (Lvl := ℕ) (Val := Elt F) cfg0.spec c) ⊢ atRows m c 0 := by
  rw [scopedRest0_eq]
  unfold intoK atRows oIdle yIdle uFree hFree wuFree wdFree
  rw [ownSems0_eq, uHome_tok, wuHome_tok, wdHome_tok, hHome_tok]
  iintro ⟨⟨⟨⟨Tu0, Tu1⟩, ⟨Th0, Th1⟩, ⟨Twu0, Twu1, Twu2⟩, ⟨Twd0, Twd1, Twd2⟩, Hg, Ho, Hy⟩, Ku0, Ku1, Kwu0, Kwu1, Kwu2, Kwd0, Kwd1, Kwd2, Kh0, Kh1, Ko0, Ko1, Ky0, Ky1, Kg⟩, Bu, Bwu, Bwd, Bh, Bg, Bo, By⟩
  ihave Su := (uBuf_split c) $$ Bu
  icases Su with ⟨Su0, Su1⟩
  ihave Swu := (wuBuf_split c) $$ Bwu
  icases Swu with ⟨Swu0, Swu1, Swu2⟩
  ihave Swd := (wdBuf_split c) $$ Bwd
  icases Swd with ⟨Swd0, Swd1, Swd2⟩
  ihave Sh := (hBuf_split c) $$ Bh
  icases Sh with ⟨Sh0, Sh1⟩
  ihave So := (oBuf_split c) $$ Bo
  icases So with ⟨So0, So1⟩
  ihave Sy := (yBuf_split c) $$ By
  icases Sy with ⟨Sy0, Sy1⟩
  icases Bg with ⟨%fg, Bg⟩
  isplitl [Tu0 Tu1 Th0 Th1 Twu0 Twu1 Twu2 Twd0 Twd1 Twd2 Hg Ku0 Ku1 Kwu0 Kwu1 Kwu2 Kwd0 Kwd1 Kwd2 Kh0 Kh1 Kg Su0 Su1 Swu0 Swu1 Swu2 Swd0 Swd1 Swd2 Sh0 Sh1 Bg]
  · iframe Su0 Su1 Swu0 Swu1 Swu2 Swd0 Swd1 Swd2 Sh0 Sh1 Ku0 Ku1 Kwu0 Kwu1 Kwu2 Kwd0 Kwd1 Kwd2 Kh0 Kh1 Tu0 Tu1 Th0 Th1 Twu0 Twu1 Twu2 Twd0 Twd1 Twd2
    isplitl [Hg]
    · iapply (ent_of_eq (gHome_whole c (Gen.V m c main_v4)).symm); iexact Hg
    isplitl [Kg]
    · iexact Kg
    iexists fg
    iapply (ent_of_eq (gOwn_whole c fg).symm); iexact Bg
  isplitl [Ho Ko0 Ko1 So0 So1]
  · isplitl [Ho Ko0 Ko1 So1]
    · iexists (Gen.V m c main_v5_0)
      isplitl [Ho]
      · iapply (ent_of_eq (oHome_whole c _).symm); iexact Ho
      isplitr
      · ipureintro; exact fun b hb => absurd hb (Nat.not_lt_zero _)
      isplitl [Ko0]
      · iexact Ko0
      isplitl [Ko1]
      · iexact Ko1
      iexact So1
    iexact So0
  isplitl [Hy Ky0 Ky1 Sy1]
  · iexists (Gen.V m c main_v5_1)
    isplitl [Hy]
    · iapply (ent_of_eq (yHome_whole c _).symm); iexact Hy
    isplitr
    · ipureintro; exact fun b hb => absurd hb (Nat.not_lt_zero _)
    isplitl [Ky0]
    · iexact Ky0
    isplitl [Ky1]
    · iexact Ky1
    iexact Sy1
  iexact Sy0

theorem leave (c : Dev nD) : atRows m c 16 ⊢ iprop(outOfK m c ∗ Pipeline.ownSems0 ksem c ∗ Pipeline.scopedRest (Ix := Unit) (Name := ℕ) (U := UU nD τ) (Lvl := ℕ) (Val := Elt F) cfg0.spec c) := by
  rw [scopedRest0_eq]
  unfold outOfK atRows oIdle yIdle uFree hFree wuFree wdFree
  rw [ownSems0_eq, uHome_tok, hHome_tok, show Ring.sl 2 16 = 0 by decide, show Ring.sl 2 (16 + 1) = 1 by decide, show Ring.sl 2 0 = 0 by decide]
  iintro ⟨⟨⟨⟨Su0, Ku0, Tu0⟩, ⟨Su1, Ku1, Tu1⟩⟩, ⟨⟨Sh0, Kh0, Th0⟩, ⟨Sh1, Kh1, Th1⟩⟩, ⟨⟨Swu0, Kwu0, -⟩, ⟨Swu1, Kwu1, -⟩, ⟨Swu2, Kwu2, -⟩⟩,
    ⟨⟨Swd0, Kwd0, -⟩, ⟨Swd1, Kwd1, -⟩, ⟨Swd2, Kwd2, -⟩⟩, -, Kg, ⟨%fg, Bg⟩⟩,
    ⟨⟨%Xo, Ho, %ho, Ko0, Ko1, So1⟩, So0⟩, ⟨⟨%Xy, Hy, %hy, Ky0, Ky1, Sy1⟩, Sy0⟩⟩
  isplitl [Tu0 Tu1 Th0 Th1 Ho Hy]
  · iframe Tu0 Tu1 Th0 Th1
    isplitl [Ho]
    · iexists Xo; isplitl [Ho]; · iexact Ho
      ipureintro; exact ho
    iexists Xy; isplitl [Hy]; · iexact Hy
    ipureintro; exact hy
  isplitl [Ku0 Ku1 Kwu0 Kwu1 Kwu2 Kwd0 Kwd1 Kwd2 Kh0 Kh1 Ko0 Ko1 Ky0 Ky1 Kg]
  · iframe Ku0 Ku1 Kwu0 Kwu1 Kwu2 Kwd0 Kwd1 Kwd2 Kh0 Kh1 Ko0 Ko1 Ky0 Ky1 Kg
  isplitl [Su0 Su1]
  · iapply (uBuf_join c); isplitl [Su0]; · iexact Su0
    iexact Su1
  isplitl [Swu0 Swu1 Swu2]
  · iapply (wuBuf_join c); isplitl [Swu0]; · iexact Swu0
    isplitl [Swu1]; · iexact Swu1
    iexact Swu2
  isplitl [Swd0 Swd1 Swd2]
  · iapply (wdBuf_join c); isplitl [Swd0]; · iexact Swd0
    isplitl [Swd1]; · iexact Swd1
    iexact Swd2
  isplitl [Sh0 Sh1]
  · iapply (hBuf_join c); isplitl [Sh0]; · iexact Sh0
    iexact Sh1
  isplitl [Bg]
  · iexists fg
    iapply (ent_of_eq (gOwn_whole c fg)); iexact Bg
  isplitl [So0 So1]
  · iapply (oBuf_join c); isplitl [So0]; · iexact So0
    iexact So1
  iapply (yBuf_join c); isplitl [Sy0]; · iexact Sy0
  iexact Sy1

set_option backward.isDefEq.respectTransparency.types false in
/-- From any memory with zero counters: every fair execution of the program ends, the outputs hold the row blocks
    computed, the arguments are as they were and every counter is zero again. -/
theorem run_main : θ_run defs (onTc (τ := τ) (main (F := F))) (s₀ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c w => w.elim0)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := Gen.V m)
    (hmain := Pipeline.hmain_prefix cfgs 0 defs₀ 𝒱₀ m main hostOps0 hostOps0_sub hostOps0_fresh main_chain)
    (hA := fun _ w => w.elim0)
    (X := intoK m) (Y := outOfK m) (Z := aside m)
    (hX := fun c => by
      rw [unscopedRest0_eq]
      unfold intoK aside
      iintro ⟨⟨A0, A1, A2, A3, A4, -, -, V2, V3, V4, O, Y⟩, HS, -, -, -⟩; imodintro
      isplitl [A0 A3 V2 V3 V4 O Y HS]
      · isplitl [A0 A3 V2 V3 V4 O Y]
        · iframe A0 A3 V2 V3 V4 O Y
        iexact HS
      iframe A1 A2 A4)
    (hin := fun c => enter m c)
    (hout := fun c => leave m c)
    (QY := QY m)
    (hY := fun c s' => by
      unfold outOfK aside oHome yHome
      rw [show oHbm.view.set = Finset.univ from View.set_whole _, show yHbm.view.set = Finset.univ from View.set_whole _]
      iintro ⟨⟨A0, A3, ⟨%X, O, %hO⟩, ⟨%Y, Y, %hY⟩⟩, ⟨A1, A2, A4⟩, HSI⟩
      icombine HSI A0 gives %h0
      icombine HSI A1 gives %h1
      icombine HSI A2 gives %h2
      icombine HSI A3 gives %h3
      icombine HSI A4 gives %h4
      icombine HSI O gives %hX
      icombine HSI Y gives %hZ
      imodintro
      isplitr
      · ipureintro
        have eX : s'.mem.mem ((c : Thread nD τ).loc main_v5_0) = X := Buf.eq_of_forall_mem_univ hX
        have eZ : s'.mem.mem ((c : Thread nD τ).loc main_v5_1) = Y := Buf.eq_of_forall_mem_univ hZ
        exact ⟨fun b hb => (congrArg _ eX).trans (hO b hb), fun b hb => (congrArg _ eZ).trans (hY b hb),
          (Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c)⟩
      iexact HSI)
    (hQ := fun _ hh hz => ⟨fun c => (hh c).2, hz⟩)

end Launch
end Cert.Kernel7Ideal.Hand
-- ==== Proof.FirstFrames.lean ====
/-
  The first layer's feed-forward, whose normalised rows come out in bf16.

  The frame claims: the kernel's run read at the arguments, the reference's run likewise.
-/
module

public import proofs.«01_k».proof.Defs
public import proofs.«01_k».proof.Proof.FirstRun
public import proofs.«01_k».proof.Proof.Gen.Kernel7
public import proofs.«01_k».proof.Proof.Gen.Reference7Ideal.Run
public import Idealize.ShloMosaic.Lib.Quiescent

@[expose] public section

noncomputable section

namespace Cert.Proof

open Idealize.ShloMosaic Idealize.ShloMosaic.TcCoe Idealize.SL.Sem

theorem frame_kernel7 : Cert.quiescent_Kernel7 := fun m ρ _ =>
  (θ_run Cert.Kernel7Ideal.defs _ _).mono (fun _ h => ⟨fun c => (h.1 c).2.2, h.2⟩) (Cert.Kernel7Ideal.Hand.run_main (F := Bits) m ρ)

theorem frame_kernel7Ideal : Cert.quiescent_Kernel7Ideal := fun m ρ _ =>
  (θ_run Cert.Kernel7Ideal.defs _ _).mono (fun _ h => ⟨fun c => (h.1 c).2.2, h.2⟩) (Cert.Kernel7Ideal.Hand.run_main (F := Ideal) m ρ)

theorem frame_reference7 : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

end Cert.Proof
-- ==== Proof.FirstRead.lean ====
/-
  The first layer's feed-forward, whose normalised rows come out in bf16.

  The kernel's blocks read at an index: a block of rows of an array is the array at the block's rows, and the arrays
  the host makes before the call are the arguments laid out afresh.
-/
module

public import proofs.«01_k».proof.Proof.FirstState
public import Idealize.ShloMosaic.Lib.Pointwise
public import Idealize.ShloMosaic.Lib.StableHlo.Run

@[expose] public section

set_option maxRecDepth 16384

noncomputable section

namespace Cert.Kernel7Ideal.Hand

open Cert.Kernel7Ideal Cert.Kernel7Ideal.Gen
open Idealize.ShloMosaic
open Idealize.ShloMosaic.TcCoe Idealize.ShloMosaic.Tactic
open Idealize.ShloMosaic.StableHlo

variable {F : FTy → Type} [FloatOps F]

/-- Row `i` of row block `b`. -/
def rowAt (b : Fin 16) (i : Fin 512) : Fin 8192 := ⟨512 * b.val + i.val, by omega⟩
/-- Feature `k` of feature block `f`. -/
def featAt (f : Fin 8) (k : Fin 1024) : Fin 8192 := ⟨f.val * 1024 + k.val, by omega⟩

omit [FloatOps F] in
theorem ublk_read (b : Fin 16) (X : uHbm.view.ty.Contents (Elt F)) (i : Fin 512) (j : Fin 2048) :
    (ublk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem hblk_read (b : Fin 16) (X : hHbm.view.ty.Contents (Elt F)) (i : Fin 512) (j : Fin 2048) :
    (hblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem oblk_read (b : Fin 16) (X : oHbm.view.ty.Contents (Elt F)) (i : Fin 512) (j : Fin 2048) :
    (oblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem yblk_read (b : Fin 16) (X : yHbm.view.ty.Contents (Elt F)) (i : Fin 512) (j : Fin 2048) :
    (yblk b).view.read (Elt F) X (ix2 i j) = X (ix2 (rowAt b i) j) := by
  refine congrArg X (funext fun a => Fin.ext ?_)
  match a with
  | ⟨0, _⟩ => exact congrArg (512 * b.val + ·) (Nat.one_mul _)
  | ⟨1, _⟩ => exact (Nat.zero_add _).trans (Nat.one_mul _)

omit [FloatOps F] in
theorem wdblk_read (f : Fin 8) (X : wdHbm.view.ty.Contents (Elt F)) (k : Fin 1024) (j : Fin 2048) :
    (wdblk f).view.read (Elt F) X (ix2 k j) = X (ix2 (featAt f k) j) := by
  refine congrArg X (funext fun a => Fin.ext ?_)
  match a with
  | ⟨0, _⟩ => exact congrArg₂ (· + ·) (Nat.mul_comm 1024 f.val) (Nat.one_mul _)
  | ⟨1, _⟩ => exact (Nat.zero_add _).trans (Nat.one_mul _)

/-- A matrix with a leading axis of one, that axis dropped. -/
theorem drop_apply {α : Type} (Y : S1x2048x1024.Idx → α) (d : Fin 2048) (k : Fin 1024) :
    shapeCast S2048x1024 Y shapeCasts_S1x2048x1024_S2048x1024 (ix2 d k) = Y (ix3 0 d k) := by
  pointwise

omit [FloatOps F] in
theorem wublk_read (f : Fin 8) (X : wuHbm.view.ty.Contents (Elt F)) (d : Fin 2048) (k : Fin 1024) :
    (wublk f).view.read (Elt F) X (ix2 d k) = X (ix3 f d k) := by
  have e : (wublk f).view.read (Elt F) X = shapeCast S2048x1024 (wuHbm.view.readAt (Elt F)
      (Rect.unit (s := S8x2048x1024) (slotOff f) S1x2048x1024.size (wublk_inb f)).toLoadRect X) shapeCasts_S1x2048x1024_S2048x1024 := rfl
  rw [e]
  refine (drop_apply _ d k).trans ?_
  refine congrArg X (funext fun a => Fin.ext ?_)
  match a with
  | ⟨0, _⟩ => rfl
  | ⟨1, _⟩ => exact (Nat.zero_add _).trans (Nat.one_mul _)
  | ⟨2, _⟩ => exact (Nat.zero_add _).trans (Nat.one_mul _)

variable (m : (ℓ : Loc nD τ sig) → Buf (Elt F) ℓ) (c : Dev nD)

theorem V_v2 : Gen.V m c main_v2 = transpose S8x2048x1024 [1, 0, 2]
    (shapeCast S2048x8x1024 (truncf .bf16 (m ((c : Thread nD τ).loc main_arg1)) bitsLt_bf16_f32) shapeCasts_S2048x8192_S2048x8x1024)
    transposes_S2048x8x1024_S8x2048x1024_1_0_2 := by
  unfold Gen.V
  after_results
  rfl
theorem V_v3 : Gen.V m c main_v3 = truncf .bf16 (m ((c : Thread nD τ).loc main_arg2)) bitsLt_bf16_f32 := by
  unfold Gen.V
  after_results
theorem V_v4 : Gen.V m c main_v4 = shapeCast S1x2048 (m ((c : Thread nD τ).loc main_arg4)) shapeCasts_S2048_S1x2048 := by
  unfold Gen.V
  after_results
  rfl

/-- The first weight laid out by blocks of features. -/
theorem wu_apply {α : Type} (X : S2048x8192.Idx → α) (f : Fin 8) (d : Fin 2048) (k : Fin 1024) :
    transpose S8x2048x1024 [1, 0, 2] (shapeCast S2048x8x1024 X shapeCasts_S2048x8192_S2048x8x1024)
      transposes_S2048x8x1024_S8x2048x1024_1_0_2 (ix3 f d k) = X (ix2 d (featAt f k)) := by
  pointwise
  rfl

/-- A vector as a matrix of one row. -/
theorem gain_apply {α : Type} (x : S2048.Idx → α) (j : Fin 2048) : shapeCast S1x2048 x shapeCasts_S2048_S1x2048 (ix2 0 j) = x (ix1 j) := by
  pointwise

end Cert.Kernel7Ideal.Hand
-- ==== Proof.FirstRefRead.lean ====
/-
  The first layer's feed-forward, whose normalised rows come out in bf16.

  The reference's two results over the extended reals, read at an index.
-/
module

public import proofs.«01_k».proof.Proof.Gen.Reference7Ideal.Run
public import Idealize.ShloMosaic.Lib.Pointwise

@[expose] public section

set_option maxRecDepth 16384

noncomputable section

namespace Cert.Reference7Ideal.Hand

open Cert.Reference7Ideal Cert.Reference7Ideal.Gen
open Idealize.ShloMosaic

/-- The feed-forward: the residual plus the product of the squared positive part. -/
def refH (U : FVec Ideal S8192x2048 .bf16) (W1 : FVec Ideal S2048x8192 .f32) (W2 H : FVec Ideal S8192x2048 .f32) : FVec Ideal S8192x2048 .f32 :=
  addf H (Host.dotGeneral dot_S8192x8192_S8192x2048_S8192x2048_1_0_0_1_n_n none
    (mulf
      (maximumf (Host.dotGeneral dot_S8192x2048_S2048x8192_S8192x8192_1_0_0_1_n_n none (extf .f32 U bitsLt_bf16_f32) W1)
        (broadcastInDim S8192x8192 ![] bcast_S_S8192x8192 (constant S_ .f32 0x00000000#32)))
      (maximumf (Host.dotGeneral dot_S8192x2048_S2048x8192_S8192x8192_1_0_0_1_n_n none (extf .f32 U bitsLt_bf16_f32) W1)
        (broadcastInDim S8192x8192 ![] bcast_S_S8192x8192 (constant S_ .f32 0x00000000#32)))) W2)

/-- The rows scaled by the inverse root of their mean square, and by the gain, in bf16. -/
def refY (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf
      (Host.divf (broadcastInDim S8192x1 ![0] bcast_S8192_S8192x1_0 (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))) bitsLt_bf16_f32

/-- The positive part of row `r` of `U` times column `n` of `W`. -/
def feat (U : FVec Ideal S8192x2048 .bf16) (W : FVec Ideal S2048x8192 .f32) (r n : Fin 8192) : EReal :=
  max (∑ d : Fin 2048, U (ix2 r d) * W (ix2 d n)) 0

theorem refH_apply (U : FVec Ideal S8192x2048 .bf16) (W1 : FVec Ideal S2048x8192 .f32) (W2 H : FVec Ideal S8192x2048 .f32) (r : Fin 8192) (j : Fin 2048) :
    refH U W1 W2 H (ix2 r j) = H (ix2 r j) + ∑ n : Fin 8192, feat U W1 r n * feat U W1 r n * W2 (ix2 n j) := by
  pointwise [refH, feat]

theorem refY_apply (x : FVec Ideal S8192x2048 .f32) (g : FVec Ideal S2048 .f32) (r : Fin 8192) (j : Fin 2048) :
    refY x g (ix2 r j) = x (ix2 r j) * Ideal.rsqrt (Ideal.div (∑ l : Fin 2048, x (ix2 r l) * x (ix2 r l)) (Ideal.ofBits .f32 0x45000000#32) + Ideal.ofBits .f32 0x358637BD#32) * g (ix1 j) := by
  pointwise [refY]

end Cert.Reference7Ideal.Hand
-- ==== Proof.FirstValue.lean ====
/-
  The first layer's feed-forward, whose normalised rows come out in bf16.

  What the kernel computes over the extended reals, read at an index: row `r` of the first output is the residual's row
  plus the squared positive part of the first product times the second weight, the sum over the features taken eight
  blocks at a time; row `r` of the second is the first's, scaled. Both are the reference's terms.
-/
module

public import proofs.«01_k».proof.Proof.FirstRead
public import proofs.«01_k».proof.Proof.FirstRun
public import proofs.«01_k».proof.Proof.FirstRefRead

@[expose] public section

set_option maxRecDepth 16384

noncomputable section

namespace Cert.Kernel7Ideal.Hand

open Cert.Kernel7Ideal Cert.Kernel7Ideal.Gen
open Idealize.ShloMosaic
open Idealize.ShloMosaic.TcCoe Idealize.ShloMosaic.Tactic

/-! ## One step at an index -/

/-- The positive part of row `i` of `u` times column `k` of `wu`. -/
theorem upPos_apply (u : FVec Ideal S512x2048 .bf16) (wu : FVec Ideal S2048x1024 .bf16) (i : Fin 512) (k : Fin 1024) :
    upPos u wu (ix2 i k) = max (∑ d : Fin 2048, u (ix2 i d) * wu (ix2 d k)) 0 := by
  pointwise [upPos]

theorem mlpStep_apply (u : FVec Ideal S512x2048 .bf16) (wu : FVec Ideal S2048x1024 .bf16) (acc : FVec Ideal S512x2048 .f32)
    (wd : FVec Ideal S1024x2048 .bf16) (i : Fin 512) (j : Fin 2048) :
    mlpStep u wu acc wd (ix2 i j) = acc (ix2 i j) + ∑ k : Fin 1024, upPos u wu (ix2 i k) * upPos u wu (ix2 i k) * wd (ix2 k j) := by
  pointwise [mlpStep]

theorem rmsRows_apply (x : FVec Ideal S512x2048 .f32) (g : FVec Ideal S1x2048 .f32) (i : Fin 512) (j : Fin 2048) :
    rmsRows x g (ix2 i j) = x (ix2 i j) * Ideal.rsqrt (Ideal.div (∑ l : Fin 2048, x (ix2 i l) * x (ix2 i l)) (Ideal.ofBits .f32 0x45000000#32) + Ideal.ofBits .f32 0x358637BD#32) * g (ix2 0 j) := by
  pointwise [rmsRows]

/-! ## The feed-forward's blocks added up -/

open Cert.Reference7Ideal.Hand (feat)

section Sums
variable (m : (ℓ : Loc nD τ sig) → Buf (Elt Ideal) ℓ) (c : Dev nD)

/-- The arguments' launch contents. -/
abbrev arg0 : FVec Ideal S8192x2048 .bf16 := m ((c : Thread nD τ).loc main_arg0)
abbrev arg1 : FVec Ideal S2048x8192 .f32 := m ((c : Thread nD τ).loc main_arg1)
abbrev arg2 : FVec Ideal S8192x2048 .f32 := m ((c : Thread nD τ).loc main_arg2)
abbrev arg3 : FVec Ideal S8192x2048 .f32 := m ((c : Thread nD τ).loc main_arg3)
abbrev arg4 : FVec Ideal S2048 .f32 := m ((c : Thread nD τ).loc main_arg4)

/-- The first product's positive part, block by block, is the reference's. -/
theorem upPos_blocks (b : Fin 16) (f : Fin 8) (i : Fin 512) (k : Fin 1024) :
    upPos (F := Ideal) ((ublk b).view.read (Elt Ideal) (Gen.V m c main_arg0)) ((wublk f).view.read (Elt Ideal) (Gen.V m c main_v2)) (ix2 i k)
      = feat (arg0 m c) (arg1 m c) (rowAt b i) (featAt f k) := by
  rw [upPos_apply]
  unfold feat
  refine congrArg (max · 0) (Finset.sum_congr rfl fun d _ => ?_)
  rw [ublk_read, wublk_read, V_v2, wu_apply, V_main_arg0]
  rfl

theorem accV_apply (b : Fin 16) (i : Fin 512) (j : Fin 2048) (n : ℕ) (hn : n ≤ 8) :
    accV (F := Ideal) c (Gen.V m c main_arg0) (Gen.V m c main_v2) (Gen.V m c main_v3) (Gen.V m c main_arg3) b.val n (ix2 i j)
      = arg3 m c (ix2 (rowAt b i) j) + ∑ f ∈ Finset.range n, ∑ k : Fin 1024,
        feat (arg0 m c) (arg1 m c) (rowAt b i) (featAt (Ring.sl 8 f) k)
          * feat (arg0 m c) (arg1 m c) (rowAt b i) (featAt (Ring.sl 8 f) k)
          * arg2 m c (ix2 (featAt (Ring.sl 8 f) k) j) := by
  have hb : Ring.sl 16 b.val = b := Fin.ext (Nat.mod_eq_of_lt b.isLt)
  induction n with
  | zero =>
    rw [Finset.range_zero, Finset.sum_empty, add_zero]
    show (hblk (Ring.sl 16 b.val)).view.read (Elt Ideal) _ (ix2 i j) = _
    rw [hb, hblk_read, V_main_arg3]
  | succ n ih =>
    rw [Finset.sum_range_succ, ← add_assoc, ← ih (by omega)]
    show mlpStep _ _ _ _ (ix2 i j) = _
    rw [mlpStep_apply]
    refine congrArg _ (Finset.sum_congr rfl fun k _ => ?_)
    rw [hb, upPos_blocks, wdblk_read, V_v3]
    rfl

/-- A row block of the first output is the reference's rows. -/
theorem hOut_apply (b : Fin 16) (i : Fin 512) (j : Fin 2048) :
    hOut m c b.val (ix2 i j) = Cert.Reference7Ideal.Hand.refH (arg0 m c) (arg1 m c)
      (arg2 m c) (arg3 m c) (ix2 (rowAt b i) j) := by
  refine (accV_apply m c b i j 8 le_rfl).trans ?_
  rw [Cert.Reference7Ideal.Hand.refH_apply, Fin.sum_univ_tiles 8 1024 rfl, Finset.sum_range]
  refine congrArg _ (Finset.sum_congr rfl fun f _ => ?_)
  rw [show Ring.sl 8 f.val = f from Fin.ext (Nat.mod_eq_of_lt f.isLt)]
  rfl

/-- A row block of the second output is the reference's rows. -/
theorem yOut_apply (b : Fin 16) (i : Fin 512) (j : Fin 2048) :
    yOut m c b.val (ix2 i j) = Cert.Reference7Ideal.Hand.refY (Cert.Reference7Ideal.Hand.refH (arg0 m c) (arg1 m c)
      (arg2 m c) (arg3 m c)) (arg4 m c) (ix2 (rowAt b i) j) := by
  show rmsRows (hOut m c b.val) (gBuf.view.read (Elt Ideal) (gLoaded (F := Ideal) c (Gen.V m c main_v4))) (ix2 i j) = _
  have hg : gBuf.view.read (Elt Ideal) (gLoaded (F := Ideal) c (Gen.V m c main_v4)) = gHbm.view.read (Elt Ideal) (Gen.V m c main_v4) :=
    View.read_writes_whole ..
  have h4 : gHbm.view.read (Elt Ideal) (Gen.V m c main_v4) (ix2 0 j) = arg4 m c (ix1 j) := by
    show Gen.V m c main_v4 (ix2 0 j) = _
    rw [V_v4]
    exact gain_apply _ j
  have e : ∀ l : Fin 2048, hOut m c b.val (ix2 i l) = Cert.Reference7Ideal.Hand.refH (arg0 m c) (arg1 m c) (arg2 m c) (arg3 m c) (ix2 (rowAt b i) l) :=
    hOut_apply m c b i
  generalize hOut m c b.val = x at e ⊢
  rw [hg, rmsRows_apply, Cert.Reference7Ideal.Hand.refY_apply, h4, e j, Finset.sum_congr rfl fun l _ => by rw [e l]]

/-- An array whose row blocks are the rows of another is that array. -/
theorem eq_of_blocks (X Y : S8192x2048.Idx → EReal) (h : ∀ (b : Fin 16) (i : Fin 512) (j : Fin 2048), X (ix2 (rowAt b i) j) = Y (ix2 (rowAt b i) j)) :
    X = Y := by
  funext x
  obtain ⟨r, j, rfl⟩ : ∃ (r : Fin 8192) (j : Fin 2048), x = ix2 r j := ⟨x 0, x 1, eq_ix2 x⟩
  have hr : rowAt ⟨r.val / 512, by omega⟩ ⟨r.val % 512, by omega⟩ = r := Fin.ext (Nat.div_add_mod r.val 512)
  rw [← hr]
  exact h _ _ _

end Sums

end Cert.Kernel7Ideal.Hand
-- ==== Proof.FirstAlgebraic.lean ====
/-
  The first layer's feed-forward, whose normalised rows come out in bf16.

  The value claim: over the extended reals the kernel's two outputs are the reference's two results.
-/
module

public import proofs.«01_k».proof.Defs
public import proofs.«01_k».proof.Proof.FirstValue
public import proofs.«01_k».proof.Proof.Gen.Reference7Ideal.Run

@[expose] public section

noncomputable section

namespace Cert.Proof

open Idealize.ShloMosaic Idealize.ShloMosaic.TcCoe Idealize.SL.Sem
open Cert.Kernel7Ideal.Hand Cert.Reference7Ideal.Hand

/-- Both programs end with the reference's terms of the launch contents: the kernel's outputs row block by row block. -/
theorem algebraic7 : Cert.algebraic_Kernel7Ideal_Reference7Ideal := by
  intro m g m' g' _ hm
  refine ⟨fun c => refH (arg0 m c) (arg1 m c) (arg2 m c) (arg3 m c),
    fun c => refY (refH (arg0 m c) (arg1 m c) (arg2 m c) (arg3 m c)) (arg4 m c), ?_, ?_⟩
  · refine (θ_run Cert.Kernel7Ideal.defs _ _).mono (fun r h c => ?_) (run_main (F := Ideal) m g)
    obtain ⟨ho, hy, ha⟩ := h.1 c
    refine ⟨?_, ?_, ha⟩
    · refine eq_of_blocks _ _ fun b i j => ?_
      refine Eq.trans ?_ (hOut_apply m c b i j)
      have e := congrFun (ho b.val b.isLt) (ix2 i j)
      rw [show Ring.sl 16 b.val = b from Fin.ext (Nat.mod_eq_of_lt b.isLt), oblk_read] at e
      exact e
    · refine eq_of_blocks _ _ fun b i j => ?_
      refine Eq.trans ?_ (yOut_apply m c b i j)
      have e := congrFun (hy b.val b.isLt) (ix2 i j)
      rw [show Ring.sl 16 b.val = b from Fin.ext (Nat.mod_eq_of_lt b.isLt), yblk_read] at e
      exact e
  · refine (θ_run Cert.Reference7Ideal.defs _ _).mono (fun r h c => ?_) (Cert.Reference7Ideal.Value.run (F := Ideal) m' g')
    obtain ⟨h0, h1, ha⟩ := h c
    obtain ⟨e0, e1, e2, e3, e4⟩ := hm c
    refine ⟨h0.trans ?_, h1.trans ?_, ha⟩
    · rw [e0, e1, e2, e3]; rfl
    · rw [e0, e1, e2, e3, e4]; rfl

end Cert.Proof
-- ==== Proof.FramesNext.lean ====
/-
  The frame claims of the second layer's two projections: each run's last memory read at the arguments, with every semaphore at zero.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import Idealize.ShloMosaic.Lib.Quiescent

@[expose] public section

noncomputable section

namespace Cert.Proof

open Idealize.ShloMosaic Idealize.ShloMosaic.TcCoe Idealize.SL.Sem

theorem frame_kernel8 : Cert.quiescent_Kernel8 := fun m ρ _ => Cert.Kernel8.Gen.frame (F := Bits) m ρ

theorem frame_kernel8Ideal : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem frame_kernel9 : Cert.quiescent_Kernel9 := fun m ρ _ => Cert.Kernel9.Gen.frame (F := Bits) m ρ

theorem frame_kernel9Ideal : Cert.quiescent_Kernel9Ideal := fun m ρ _ => Cert.Kernel9Ideal.Gen.frame (F := Ideal) m ρ

theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

end Cert.Proof
-- ==== Proof.InProjRefNext.lean ====
/-
  The second layer's input projection's reference over the extended reals, read at an index.
-/
module

public import proofs.«01_k».proof.Proof.Gen.Reference8Ideal.Run
public import Idealize.ShloMosaic.Lib.Pointwise

@[expose] public section

set_option maxRecDepth 16384

noncomputable section

namespace Cert.Reference8Ideal.Hand

open Cert.Reference8Ideal Cert.Reference8Ideal.Gen
open Idealize.ShloMosaic

/-- The input times layer 1's weights. -/
def prod (A : FVec Ideal S8192x2048 .bf16) (W : FVec Ideal S2x2048x6144 .f32) : FVec Ideal S8192x6144 .f32 :=
  Host.dotGeneral dot_S8192x2048_S2048x6144_S8192x6144_1_0_0_1_n_n none (extf .f32 A bitsLt_bf16_f32)
    (shapeCast S2048x6144 (extractStridedSlice S1x2048x6144 ![1, 0, 0] W slices_S2x2048x6144_S1x2048x6144_1_0_0) shapeCasts_S1x2048x6144_S2048x6144)

theorem prod_apply (A : FVec Ideal S8192x2048 .bf16) (W : FVec Ideal S2x2048x6144 .f32) (r : Fin 8192) (j : Fin 6144) :
    prod A W (ix2 r j) = ∑ d : Fin 2048, A (ix2 r d) * W (ix3 1 d j) := by
  pointwise [prod]

/-- A sixth of the columns, scaled by the word `w`. -/
def scaled (X : FVec Ideal S8192x1024 .f32) (w : BitVec 32) : FVec Ideal S8192x1024 .f32 :=
  mulf X (broadcastInDim S8192x1024 ![] bcast_S_S8192x1024 (constant S_ .f32 w))

theorem scaled_apply (X : FVec Ideal S8192x1024 .f32) (w : BitVec 32) (r : Fin 8192) (q : Fin 1024) :
    scaled X w (ix2 r q) = X (ix2 r q) * Ideal.ofBits .f32 w := by
  pointwise [scaled]

/-- The six parts side by side, the first and the fourth scaled. -/
def parts (Y : FVec Ideal S8192x6144 .f32) : FVec Ideal S8192x6144 .f32 :=
  concatenate S8192x6144 1
    [⟨S8192x1024, scaled (extractStridedSlice S8192x1024 ![0, 0] Y slices_S8192x6144_S8192x1024_0_0) 0x3E38AA3B#32⟩,
      ⟨S8192x1024, extractStridedSlice S8192x1024 ![0, 1024] Y slices_S8192x6144_S8192x1024_0_1024⟩,
      ⟨S8192x1024, extractStridedSlice S8192x1024 ![0, 2048] Y slices_S8192x6144_S8192x1024_0_2048⟩,
      ⟨S8192x1024, scaled (extractStridedSlice S8192x1024 ![0, 3072] Y slices_S8192x6144_S8192x1024_0_3072) 0x3E0293EE#32⟩,
      ⟨S8192x1024, extractStridedSlice S8192x1024 ![0, 4096] Y slices_S8192x6144_S8192x1024_0_4096⟩,
      ⟨S8192x1024, extractStridedSlice S8192x1024 ![0, 5120] Y slices_S8192x6144_S8192x1024_0_5120⟩]
    concatenates_S8192x1024_S8192x1024_S8192x1024_S8192x1024_S8192x1024_S8192x1024_S8192x6144_d1

/-- The reference's term. -/
def refIn (A : FVec Ideal S8192x2048 .bf16) (W : FVec Ideal S2x2048x6144 .f32) : FVec Ideal S8192x6144 .bf16 :=
  truncf .bf16 (parts (prod A W)) bitsLt_bf16_f32

/-- The scale of column `j`: a word for the first sixth, another for the fourth, one elsewhere. -/
theorem parts_apply (Y : FVec Ideal S8192x6144 .f32) (r : Fin 8192) (j : Fin 6144) :
    parts Y (ix2 r j) = Y (ix2 r j) * (if j.val < 1024 then Ideal.ofBits .f32 0x3E38AA3B#32
      else if 3072 ≤ j.val ∧ j.val < 4096 then Ideal.ofBits .f32 0x3E0293EE#32 else 1) := by
  have e : ∀ k (hk : k < 6144), k = j.val → Y (ix2 r ⟨k, hk⟩) = Y (ix2 r j) := fun k hk h => by subst h; rfl
  pointwise [parts, scaled]
  split_ifs <;> first
    | omega
    | (have h : ¬(3072 ≤ j.val ∧ j.val < 4096) := by omega
       rw [if_neg h]; refine Eq.trans (e _ _ ?_) (mul_one _).symm; omega)
    | (have h : 3072 ≤ j.val ∧ j.val < 4096 := by omega
       rw [if_pos h]; refine congrArg (· * _) (e _ _ ?_); omega)
    | rfl

theorem refIn_apply (A : FVec Ideal S8192x2048 .bf16) (W : FVec Ideal S2x2048x6144 .f32) (r : Fin 8192) (j : Fin 6144) :
    refIn A W (ix2 r j) = (∑ d : Fin 2048, A (ix2 r d) * W (ix3 1 d j)) * (if j.val < 1024 then Ideal.ofBits .f32 0x3E38AA3B#32
      else if 3072 ≤ j.val ∧ j.val < 4096 then Ideal.ofBits .f32 0x3E0293EE#32 else 1) := by
  refine Eq.trans (b := parts (prod A W) (ix2 r j)) rfl ?_
  rw [parts_apply, prod_apply]

end Cert.Reference8Ideal.Hand
-- ==== Proof.InProjNext.lean ====
/-
  The second layer's input projection: the call's blocks read at an index, the table of scales, the array the run leaves, and that it
  is the reference's.
-/
module

public import proofs.«01_k».proof.Defs
public import proofs.«01_k».proof.Proof.Gen.Kernel8Ideal.Value
public import proofs.«01_k».proof.Proof.InProjRefNext
public import Idealize.ShloMosaic.Lib.Pointwise
public import Idealize.ShloMosaic.Lib.StableHlo.Run

@[expose] public section

set_option maxRecDepth 16384

noncomputable section

namespace Cert.Kernel8Ideal.Hand

open Cert.Kernel8Ideal Cert.Kernel8Ideal.Gen Cert.Kernel8Ideal.Value
open Idealize.ShloMosaic Idealize.ShloMosaic.TcCoe Idealize.SL.Sem
open Idealize.ShloMosaic.StableHlo Idealize.ShloMosaic.Tactic

/-- The word at column `j` of the table of scales. -/
def colWord (j : Nat) : BitVec 32 := if j < 1024 then 0x3E38AA3B#32 else if 3072 ≤ j ∧ j < 4096 then 0x3E0293EE#32 else 0x3F800000#32

theorem table_eq : ∀ j : Fin 6144, lit0 j = colWord j.val := by decide +kernel

/-- The scale of column `j`: a word for the first sixth, another for the fourth, one elsewhere. -/
def colScale (j : Fin 6144) : EReal := if j.val < 1024 then Ideal.ofBits .f32 0x3E38AA3B#32
  else if 3072 ≤ j.val ∧ j.val < 4096 then Ideal.ofBits .f32 0x3E0293EE#32 else 1

theorem word_eq (j : Fin 6144) : Ideal.ofBits .f32 (colWord j.val) = colScale j := by
  unfold colWord colScale
  split_ifs
  · rfl
  · rfl
  · exact Ideal.ofBits_one_f32

variable (m : (ℓ : Loc nD τ sig) → Buf (Elt Ideal) ℓ)

/-- The scales the host lays out before the call, as one row. -/
theorem scale_read (c : Dev nD) (j : Fin 6144) : V m c main_cst (ix2 0 j) = colScale j := by
  have e : V m c main_cst = fun x : S1x6144.Idx => (Ideal.ofBits .f32 (lit0 (S1x6144.rowMajor x)) : EReal) := by
    unfold V; after_results; rfl
  have hj : S1x6144.rowMajor (ix2 0 j) = j := Fin.ext (by
    refine (Shape.rowMajor_val_succ (ix2 0 j)).trans ?_
    rw [Shape.rowMajor_val_one]
    exact (congrArg (· + j.val) (Nat.zero_mul _)).trans (Nat.zero_add _))
  rw [e]
  show Ideal.ofBits .f32 (lit0 (S1x6144.rowMajor (ix2 0 j))) = _
  rw [hj, table_eq, word_eq]

/-- Row `x 0` of the input times column `x 1` of layer 1's weights, times the column's scale. -/
def inp (A : FVec Ideal S8192x2048 .bf16) (W : FVec Ideal S2x2048x6144 .f32) : FVec Ideal S8192x6144 .bf16 :=
  fun x => (∑ d : Fin 2048, A (ix2 (x 0) d) * W (ix3 1 d (x 1))) * colScale (x 1)

/-- What the body writes, at an index: the row of the left block times the column of the right one, scaled. -/
theorem pay_apply (A : FVec Ideal S1024x2048 .bf16) (W : FVec Ideal S1x2048x1024 .f32) (s : FVec Ideal S1x1024 .f32) (i j : Fin 1024) :
    k0_pay1 (F := Ideal) A W s (ix2 i j) = (∑ d : Fin 2048, A (ix2 i d) * W (ix3 0 d j)) * s (ix2 0 j) := by
  pointwise [k0_pay1]

theorem off2 : (![0, 0] : Fin 2 → Nat) = fun _ => 0 := funext fun a => by fin_cases a <;> rfl
theorem off3 : (![0, 0, 0] : Fin 3 → Nat) = fun _ => 0 := funext fun a => by fin_cases a <;> rfl

theorem out_eq (A : FVec Ideal S1024x2048 .bf16) (W : FVec Ideal S1x2048x1024 .f32) (s : FVec Ideal S1x1024 .f32) :
    out0_3 (F := Ideal) A W s = k0_pay1 (F := Ideal) A W s := by
  unfold out0_3
  rw [View.canon_unit_zero off2, View.ld_unit_zero off2, View.ld_unit_zero off3, View.ld_unit_zero off2]

/-- The blocks' places in their arrays at each grid point: eight row blocks for each of six column blocks. -/
theorem places : ∀ t : Fin cfg0.N, win0_0.index t (0 : Fin 2) = t.val % 8 ∧ win0_0.index t (1 : Fin 2) = 0
    ∧ win0_1.index t (0 : Fin 3) = 1 ∧ win0_1.index t (1 : Fin 3) = 0 ∧ win0_1.index t (2 : Fin 3) = t.val / 8
    ∧ win0_2.index t (0 : Fin 2) = 0 ∧ win0_2.index t (1 : Fin 2) = t.val / 8
    ∧ win0_3.index t (0 : Fin 2) = t.val % 8 ∧ win0_3.index t (1 : Fin 2) = t.val / 8 :=
  (by decide +kernel : ∀ t : Fin grid0.N, _)

/-- Row `i` of the point's row block. -/
def row (t : Fin cfg0.N) (i : Fin 1024) : Fin 8192 := ⟨t.val % 8 * 1024 + i.val, by omega⟩
/-- Column `j` of the point's column block. -/
def col (t : Fin cfg0.N) (j : Fin 1024) : Fin 6144 := ⟨t.val / 8 * 1024 + j.val, by have := t.isLt; have : cfg0.N = 48 := N_0; omega⟩

theorem emb0 (t : Fin cfg0.N) (i : Fin 1024) (d : Fin 2048) : ((cfg0.win 0).blk t).view.emb (ix2 i d) = ix2 (row t i) d := by
  obtain ⟨e0, e1, _⟩ := places t
  refine funext fun a => Fin.ext ?_
  match a with
  | ⟨0, _⟩ => show win0_0.index t (0 : Fin 2) * 1024 + 1 * i.val = t.val % 8 * 1024 + i.val; omega
  | ⟨1, _⟩ => show win0_0.index t (1 : Fin 2) * 2048 + 1 * d.val = d.val; omega

theorem emb1 (t : Fin cfg0.N) (d : Fin 2048) (j : Fin 1024) : ((cfg0.win 1).blk t).view.emb (ix3 0 d j) = ix3 1 d (col t j) := by
  obtain ⟨_, _, e0, e1, e2, _⟩ := places t
  refine funext fun a => Fin.ext ?_
  match a with
  | ⟨0, _⟩ => show win0_1.index t (0 : Fin 3) * 1 + 1 * 0 = 1; omega
  | ⟨1, _⟩ => show win0_1.index t (1 : Fin 3) * 2048 + 1 * d.val = d.val; omega
  | ⟨2, _⟩ => show win0_1.index t (2 : Fin 3) * 1024 + 1 * j.val = t.val / 8 * 1024 + j.val; omega

theorem emb2 (t : Fin cfg0.N) (j : Fin 1024) : ((cfg0.win 2).blk t).view.emb (ix2 0 j) = ix2 0 (col t j) := by
  obtain ⟨_, _, _, _, _, e0, e1, _⟩ := places t
  refine funext fun a => Fin.ext ?_
  match a with
  | ⟨0, _⟩ => show win0_2.index t (0 : Fin 2) * 1 + 1 * 0 = 0; omega
  | ⟨1, _⟩ => show win0_2.index t (1 : Fin 2) * 1024 + 1 * j.val = t.val / 8 * 1024 + j.val; omega

theorem emb3 (t : Fin cfg0.N) (i j : Fin 1024) : ((cfg0.win 3).blk t).view.emb (ix2 i j) = ix2 (row t i) (col t j) := by
  obtain ⟨_, _, _, _, _, _, _, e0, e1⟩ := places t
  refine funext fun a => Fin.ext ?_
  match a with
  | ⟨0, _⟩ => show win0_3.index t (0 : Fin 2) * 1024 + 1 * i.val = t.val % 8 * 1024 + i.val; omega
  | ⟨1, _⟩ => show win0_3.index t (1 : Fin 2) * 1024 + 1 * j.val = t.val / 8 * 1024 + j.val; omega

theorem iblk0 (c : Dev nD) (t : Fin cfg0.N) (i : Fin 1024) (d : Fin 2048) : iblk m c 0 t (ix2 i d) = V m c main_arg0 (ix2 (row t i) d) :=
  congrArg (V m c main_arg0) (emb0 t i d)

theorem iblk1 (c : Dev nD) (t : Fin cfg0.N) (d : Fin 2048) (j : Fin 1024) :
    iblk m c 1 t (ix3 0 d j) = V m c main_arg1 (ix3 1 d (col t j)) :=
  congrArg (V m c main_arg1) (emb1 t d j)

theorem iblk2 (c : Dev nD) (t : Fin cfg0.N) (j : Fin 1024) : iblk m c 2 t (ix2 0 j) = colScale (col t j) :=
  (congrArg (V m c main_cst) (emb2 t j)).trans (scale_read m c (col t j))

/-- What a point writes back is its block of the scaled projection. -/
theorem flushed (c : Dev nD) (t : Fin cfg0.N) :
    (dats m 0 c).flushed 3 t = ((cfg0.win 3).blk t).view.read (Elt Ideal) (inp (V m c main_arg0) (V m c main_arg1)) := by
  rw [flushed3, out_eq]
  funext x
  obtain ⟨i, j, rfl⟩ : ∃ (i j : Fin 1024), x = ix2 i j := ⟨x 0, x 1, eq_ix2 x⟩
  refine (pay_apply (iblk m c 0 t) (iblk m c 1 t) (iblk m c 2 t) i j).trans ?_
  refine Eq.trans ?_ (congrArg (inp (V m c main_arg0) (V m c main_arg1)) (emb3 t i j)).symm
  exact congrArg₂ (· * ·) (Finset.sum_congr rfl fun d _ => by rw [iblk0, iblk1]; rfl) (iblk2 m c t j)

/-- Every place of the result is in some point's block. -/
theorem covered (x : S8192x6144.Idx) : ∃ t : Fin cfg0.N, (cfg0.win 3).flush t = true ∧ x ∈ ((cfg0.win 3).blk t).view.set := by
  obtain ⟨r, l, rfl⟩ : ∃ (r : Fin 8192) (l : Fin 6144), x = ix2 r l := ⟨x 0, x 1, eq_ix2 x⟩
  have h : l.val / 1024 * 8 + r.val / 1024 < cfg0.N := by have : cfg0.N = 48 := N_0; omega
  refine ⟨⟨l.val / 1024 * 8 + r.val / 1024, h⟩, flush0_3 _, ?_⟩
  have e := ((cfg0.win 3).blk ⟨l.val / 1024 * 8 + r.val / 1024, h⟩).view.emb_mem_set
    (ix2 (⟨r.val % 1024, by omega⟩ : Fin 1024) (⟨l.val % 1024, by omega⟩ : Fin 1024))
  rw [emb3] at e
  have hr : row ⟨l.val / 1024 * 8 + r.val / 1024, h⟩ (⟨r.val % 1024, by omega⟩ : Fin 1024) = r :=
    Fin.ext (by show (l.val / 1024 * 8 + r.val / 1024) % 8 * 1024 + r.val % 1024 = r.val; omega)
  have hl : col ⟨l.val / 1024 * 8 + r.val / 1024, h⟩ (⟨l.val % 1024, by omega⟩ : Fin 1024) = l :=
    Fin.ext (by show (l.val / 1024 * 8 + r.val / 1024) / 8 * 1024 + l.val % 1024 = l.val; omega)
  rwa [hr, hl] at e

/-- The result after the run: the scaled projection of the arguments. -/
theorem final (c : Dev nD) : (dats m 0 c).arrAt 3 cfg0.N
    = inp (m ((c : Thread nD τ).loc main_arg0)) (m ((c : Thread nD τ).loc main_arg1)) :=
  ((dats m 0 c).arrAt_eq_of_cover 3 (inp (V m c main_arg0) (V m c main_arg1)) (fun t _ => flushed m c t) covered).trans
    (by rw [V_main_arg0, V_main_arg1])

end Cert.Kernel8Ideal.Hand

namespace Cert.Proof

open Idealize.ShloMosaic Idealize.ShloMosaic.TcCoe Idealize.SL.Sem

theorem inp8_eq (A : FVec Ideal Cert.Kernel8Ideal.S8192x2048 .bf16) (W : FVec Ideal Cert.Kernel8Ideal.S2x2048x6144 .f32) :
    Cert.Reference8Ideal.Hand.refIn A W = Cert.Kernel8Ideal.Hand.inp A W := by
  funext x
  obtain ⟨i, j, rfl⟩ : ∃ (i : Fin 8192) (j : Fin 6144), x = ix2 i j := ⟨x 0, x 1, eq_ix2 x⟩
  exact Cert.Reference8Ideal.Hand.refIn_apply A W i j

/-- The call's result is the reference's, over the extended reals. -/
theorem algebraic8 : Cert.algebraic_Kernel8Ideal_Reference8Ideal := by
  intro m g m' g' _ hm
  refine ⟨fun c => Cert.Kernel8Ideal.Hand.inp (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m g)
    exact ⟨(h c).1.trans (Cert.Kernel8Ideal.Hand.final m c), (h c).2⟩
  · refine (θ_run Cert.Reference8Ideal.defs _ _).mono (fun r h c => ?_) (Cert.Reference8Ideal.Value.run (F := Ideal) m' g')
    obtain ⟨h0, ha⟩ := h c
    obtain ⟨e0, e1⟩ := hm c
    refine ⟨h0.trans ?_, ha⟩
    rw [e0, e1]
    exact inp8_eq _ _

end Cert.Proof
-- ==== Proof.KvProjNext.lean ====
/-
  The second layer's cross-attention's key and value projection: the call's blocks read at an index, the array the run leaves, the
  reference's result, and the two together.
-/
module

public import proofs.«01_k».proof.Defs
public import proofs.«01_k».proof.Proof.Gen.Kernel9Ideal.Value
public import proofs.«01_k».proof.Proof.Gen.Reference9Ideal.Run
public import Idealize.ShloMosaic.Lib.Pointwise

@[expose] public section

set_option maxRecDepth 16384

noncomputable section

namespace Cert.Kernel9Ideal.Hand

open Cert.Kernel9Ideal Cert.Kernel9Ideal.Gen Cert.Kernel9Ideal.Value
open Idealize.ShloMosaic Idealize.ShloMosaic.TcCoe Idealize.SL.Sem

variable (m : (ℓ : Loc nD τ sig) → Buf (Elt Ideal) ℓ)

/-- Row `x 0` of the memory times column `x 1` of layer 1's weights. -/
def kv (A : FVec Ideal S1024x2048 .bf16) (W : FVec Ideal S2x2048x4096 .f32) : FVec Ideal S1024x4096 .bf16 :=
  fun x => ∑ d : Fin 2048, A (ix2 (x 0) d) * W (ix3 1 d (x 1))

/-- What the body writes, at an index: the row of the left block times the column of the right one. -/
theorem pay_apply (A : FVec Ideal S1024x2048 .bf16) (W : FVec Ideal S1x2048x1024 .f32) (i j : Fin 1024) :
    k0_pay1 (F := Ideal) A W (ix2 i j) = ∑ d : Fin 2048, A (ix2 i d) * W (ix3 0 d j) := by
  pointwise [k0_pay1]

theorem off2 : (![0, 0] : Fin 2 → Nat) = fun _ => 0 := funext fun a => by fin_cases a <;> rfl
theorem off3 : (![0, 0, 0] : Fin 3 → Nat) = fun _ => 0 := funext fun a => by fin_cases a <;> rfl

theorem out_eq (A : FVec Ideal S1024x2048 .bf16) (W : FVec Ideal S1x2048x1024 .f32) :
    out0_2 (F := Ideal) A W = k0_pay1 (F := Ideal) A W := by
  unfold out0_2
  rw [View.canon_unit_zero off2, View.ld_unit_zero off2, View.ld_unit_zero off3]

/-- The blocks' places in their arrays at each grid point. -/
theorem places : ∀ t : Fin cfg0.N, win0_0.index t (0 : Fin 2) = 0 ∧ win0_0.index t (1 : Fin 2) = 0
    ∧ win0_1.index t (0 : Fin 3) = 1 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-- Column `j` of column block `t`. -/
def col (t : Fin cfg0.N) (j : Fin 1024) : Fin 4096 := ⟨t.val * 1024 + j.val, by have := t.isLt; have : cfg0.N = 4 := N_0; omega⟩

theorem emb0 (t : Fin cfg0.N) (i : Fin 1024) (d : Fin 2048) : ((cfg0.win 0).blk t).view.emb (ix2 i d) = ix2 i d := by
  obtain ⟨e0, e1, _⟩ := places t
  refine funext fun a => Fin.ext ?_
  match a with
  | ⟨0, _⟩ => show win0_0.index t (0 : Fin 2) * 1024 + 1 * i.val = i.val; omega
  | ⟨1, _⟩ => show win0_0.index t (1 : Fin 2) * 2048 + 1 * d.val = d.val; omega

theorem emb1 (t : Fin cfg0.N) (d : Fin 2048) (j : Fin 1024) : ((cfg0.win 1).blk t).view.emb (ix3 0 d j) = ix3 1 d (col t j) := by
  obtain ⟨_, _, e0, e1, e2, _⟩ := places t
  refine funext fun a => Fin.ext ?_
  match a with
  | ⟨0, _⟩ => show win0_1.index t (0 : Fin 3) * 1 + 1 * 0 = 1; omega
  | ⟨1, _⟩ => show win0_1.index t (1 : Fin 3) * 2048 + 1 * d.val = d.val; omega
  | ⟨2, _⟩ => show win0_1.index t (2 : Fin 3) * 1024 + 1 * j.val = t.val * 1024 + j.val; omega

theorem emb2 (t : Fin cfg0.N) (i j : Fin 1024) : ((cfg0.win 2).blk t).view.emb (ix2 i j) = ix2 i (col t j) := by
  obtain ⟨_, _, _, _, _, e0, e1⟩ := places t
  refine funext fun a => Fin.ext ?_
  match a with
  | ⟨0, _⟩ => show win0_2.index t (0 : Fin 2) * 1024 + 1 * i.val = i.val; omega
  | ⟨1, _⟩ => show win0_2.index t (1 : Fin 2) * 1024 + 1 * j.val = t.val * 1024 + j.val; omega

theorem iblk0 (c : Dev nD) (t : Fin cfg0.N) (i : Fin 1024) (d : Fin 2048) : iblk m c 0 t (ix2 i d) = V m c main_arg0 (ix2 i d) :=
  congrArg (V m c main_arg0) (emb0 t i d)

theorem iblk1 (c : Dev nD) (t : Fin cfg0.N) (d : Fin 2048) (j : Fin 1024) :
    iblk m c 1 t (ix3 0 d j) = V m c main_arg1 (ix3 1 d (col t j)) :=
  congrArg (V m c main_arg1) (emb1 t d j)

/-- What a point writes back is its block of the projection. -/
theorem flushed (c : Dev nD) (t : Fin cfg0.N) :
    (dats m 0 c).flushed 2 t = ((cfg0.win 2).blk t).view.read (Elt Ideal) (kv (V m c main_arg0) (V m c main_arg1)) := by
  rw [flushed2, out_eq]
  funext x
  obtain ⟨i, j, rfl⟩ : ∃ (i j : Fin 1024), x = ix2 i j := ⟨x 0, x 1, eq_ix2 x⟩
  refine (pay_apply (iblk m c 0 t) (iblk m c 1 t) i j).trans ?_
  refine Eq.trans ?_ (congrArg (kv (V m c main_arg0) (V m c main_arg1)) (emb2 t i j)).symm
  exact Finset.sum_congr rfl fun d _ => by rw [iblk0, iblk1]; rfl

/-- Every place of the result is in some point's block. -/
theorem covered (x : S1024x4096.Idx) : ∃ t : Fin cfg0.N, (cfg0.win 2).flush t = true ∧ x ∈ ((cfg0.win 2).blk t).view.set := by
  obtain ⟨i, l, rfl⟩ : ∃ (i : Fin 1024) (l : Fin 4096), x = ix2 i l := ⟨x 0, x 1, eq_ix2 x⟩
  have h : l.val / 1024 < cfg0.N := by have : cfg0.N = 4 := N_0; omega
  refine ⟨⟨l.val / 1024, h⟩, flush0_2 _, ?_⟩
  have e := ((cfg0.win 2).blk ⟨l.val / 1024, h⟩).view.emb_mem_set (ix2 i (⟨l.val % 1024, by omega⟩ : Fin 1024))
  rw [emb2] at e
  have hl : col ⟨l.val / 1024, h⟩ (⟨l.val % 1024, by omega⟩ : Fin 1024) = l := Fin.ext (Nat.div_add_mod' l.val 1024)
  rwa [hl] at e

/-- The result after the run: the projection of the arguments. -/
theorem final (c : Dev nD) : (dats m 0 c).arrAt 2 cfg0.N
    = kv (m ((c : Thread nD τ).loc main_arg0)) (m ((c : Thread nD τ).loc main_arg1)) :=
  ((dats m 0 c).arrAt_eq_of_cover 2 (kv (V m c main_arg0) (V m c main_arg1)) (fun t _ => flushed m c t) covered).trans
    (by rw [V_main_arg0, V_main_arg1])

end Cert.Kernel9Ideal.Hand

namespace Cert.Reference9Ideal.Hand

open Cert.Reference9Ideal Cert.Reference9Ideal.Gen
open Idealize.ShloMosaic

/-- The reference's term: the memory times layer 1's weights. -/
def refKv (A : FVec Ideal S1024x2048 .bf16) (W : FVec Ideal S2x2048x4096 .f32) : FVec Ideal S1024x4096 .bf16 :=
  truncf .bf16 (Host.dotGeneral dot_S1024x2048_S2048x4096_S1024x4096_1_0_0_1_n_n none (extf .f32 A bitsLt_bf16_f32)
    (shapeCast S2048x4096 (extractStridedSlice S1x2048x4096 ![1, 0, 0] W slices_S2x2048x4096_S1x2048x4096_1_0_0) shapeCasts_S1x2048x4096_S2048x4096)) bitsLt_bf16_f32

theorem refKv_apply (A : FVec Ideal S1024x2048 .bf16) (W : FVec Ideal S2x2048x4096 .f32) (i : Fin 1024) (j : Fin 4096) :
    refKv A W (ix2 i j) = ∑ d : Fin 2048, A (ix2 i d) * W (ix3 1 d j) := by
  pointwise [refKv]

end Cert.Reference9Ideal.Hand

namespace Cert.Proof

open Idealize.ShloMosaic Idealize.ShloMosaic.TcCoe Idealize.SL.Sem

theorem kv9_eq (A : FVec Ideal Cert.Kernel9Ideal.S1024x2048 .bf16) (W : FVec Ideal Cert.Kernel9Ideal.S2x2048x4096 .f32) :
    Cert.Reference9Ideal.Hand.refKv A W = Cert.Kernel9Ideal.Hand.kv A W := by
  funext x
  obtain ⟨i, j, rfl⟩ : ∃ (i : Fin 1024) (j : Fin 4096), x = ix2 i j := ⟨x 0, x 1, eq_ix2 x⟩
  exact Cert.Reference9Ideal.Hand.refKv_apply A W i j

/-- The call's result is the reference's, over the extended reals. -/
theorem algebraic9 : Cert.algebraic_Kernel9Ideal_Reference9Ideal := by
  intro m g m' g' _ hm
  refine ⟨fun c => Cert.Kernel9Ideal.Hand.kv (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), ?_, ?_⟩
  · refine (θ_run Cert.Kernel9Ideal.defs _ _).mono (fun r h c => ?_) (Cert.Kernel9Ideal.Value.run_blocks (F := Ideal) m g)
    exact ⟨(h c).1.trans (Cert.Kernel9Ideal.Hand.final m c), (h c).2⟩
  · refine (θ_run Cert.Reference9Ideal.defs _ _).mono (fun r h c => ?_) (Cert.Reference9Ideal.Value.run (F := Ideal) m' g')
    obtain ⟨h0, ha⟩ := h c
    obtain ⟨e0, e1⟩ := hm c
    refine ⟨h0.trans ?_, ha⟩
    rw [e0, e1]
    exact kv9_eq _ _

end Cert.Proof
-- ==== Proof.lean ====
/-
  The claims, from the kernels' runs, the references' runs and the values computed.
-/
module

public import proofs.«01_k».proof.Defs
public import proofs.«01_k».proof.Proof.Frames
public import proofs.«01_k».proof.Proof.Algebraic
public import proofs.«01_k».proof.Proof.Frames2
public import proofs.«01_k».proof.Proof.InProj
public import proofs.«01_k».proof.Proof.KvProj
public import proofs.«01_k».proof.Proof.Frames4
public import proofs.«01_k».proof.Proof.Mix
public import proofs.«01_k».proof.Proof.Norm
public import proofs.«01_k».proof.Proof.NormMem
public import proofs.«01_k».proof.Proof.FirstFrames
public import proofs.«01_k».proof.Proof.FirstAlgebraic
public import proofs.«01_k».proof.Proof.FramesNext
public import proofs.«01_k».proof.Proof.InProjNext
public import proofs.«01_k».proof.Proof.KvProjNext
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Frame
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Pre_finite_arguments
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite_arguments.Gen.facts,
    frame_kernel, frame_kernelIdeal, frame_reference,
    frame_kernel2, frame_kernel2Ideal, frame_reference2,
    frame_kernel3, frame_kernel3Ideal, frame_reference3,
    frame_kernel4, frame_kernel4Ideal, frame_kernel4Ideal_finite, frame_reference4, frame_reference4_finite,
    frame_kernel5, frame_kernel5Ideal, frame_reference5, frame_kernel6, frame_kernel6Ideal, frame_reference6,
    frame_kernel7, frame_kernel7Ideal, frame_reference7, frame_kernel8, frame_kernel8Ideal, frame_reference8,
    frame_kernel9, frame_kernel9Ideal, frame_reference9,
    trivial, algebraic, trivial, algebraic2, trivial, algebraic3, preserves4, algebraic4, trivial, algebraic5, trivial, algebraic6,
    trivial, algebraic7, trivial, algebraic8, trivial, algebraic9⟩

end Cert.Proof
